-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "scale" .f32 0x3E0293EE#32 (((Real.sqrt 128)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "scale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "masked" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite6 : Cert.Pre_finite6.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite6.lean ====
abbrev S8192x2048 : Shape := ⟨2, ![8192, 2048]⟩
abbrev S1x2048 : Shape := ⟨2, ![1, 2048]⟩
abbrev S1x2048x10256 : Shape := ⟨3, ![1, 2048, 10256]⟩
abbrev S1x16 : Shape := ⟨2, ![1, 16]⟩
abbrev S_ : Shape := ⟨0, ![]⟩
abbrev S2048x10256 : Shape := ⟨2, ![2048, 10256]⟩
abbrev S2048x16 : Shape := ⟨2, ![2048, 16]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  shapeCasts_S1x2048x10256_S2048x10256 : S1x2048x10256.ShapeCasts S2048x10256
  slices_S2048x10256_S2048x16_0_6144 : S2048x10256.Slices ![0, 6144] S2048x16
  bcast_S_S2048x16 : S_.BroadcastsInDim S2048x16 (![] : Fin 0 → Fin S2048x16.rank)

variable [Facts]

def fn {F : FTy → Type} [FloatOps F] (main_arg0 : FVec F S8192x2048 .f32) (main_arg1 : FVec F S1x2048 .f32) (main_arg2 : FVec F S1x2048x10256 .f32) (main_arg3 : FVec F S1x16 .f32) : IVec S8192x2048 1 × IVec S1x2048 1 × IVec S2048x16 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x10256 .f32 := shapeCast S2048x10256 main_arg2 shapeCasts_S1x2048x10256_S2048x10256
  let main_v7 : FVec F S2048x16 .f32 := (extractStridedSlice S2048x16 ![0, 6144] · slices_S2048x10256_S2048x16_0_6144) main_v6
  let main_v8 : FVec F S2048x16 .f32 := Host.absf main_v7
  let main_cst_1 : FVec F S_ .f32 := constant S_ .f32 0x7F800000#32
  let main_v9 : FVec F S2048x16 .f32 := broadcastInDim S2048x16 ![] bcast_S_S2048x16 main_cst_1
  let main_v10 : IVec S2048x16 1 := cmpf .olt main_v8 main_v9
  (main_v2, main_v5, main_v10)
-- ==== Pre_finite7.lean ====
abbrev S8192x2048 : Shape := ⟨2, ![8192, 2048]⟩
abbrev S32x2048 : Shape := ⟨2, ![32, 2048]⟩
abbrev S2x16x128 : Shape := ⟨3, ![2, 16, 128]⟩
abbrev S2x16x4096 : Shape := ⟨3, ![2, 16, 4096]⟩
abbrev S8192x4096 : Shape := ⟨2, ![8192, 4096]⟩
abbrev S_ : Shape := ⟨0, ![]⟩
abbrev S8192x512 : Shape := ⟨2, ![8192, 512]⟩
abbrev S32x512 : Shape := ⟨2, ![32, 512]⟩
abbrev S16x512 : Shape := ⟨2, ![16, 512]⟩
abbrev S2x16x16 : Shape := ⟨3, ![2, 16, 16]⟩

class Facts : Prop where
  bitsLt_bf16_f32 : FTy.bits .bf16 < FTy.bits .f32
  bcast_S_S8192x2048 : S_.BroadcastsInDim S8192x2048 (![] : Fin 0 → Fin S8192x2048.rank)
  slices_S8192x2048_S8192x512_0_1024 : S8192x2048.Slices ![0, 1024] S8192x512
  bcast_S_S8192x512 : S_.BroadcastsInDim S8192x512 (![] : Fin 0 → Fin S8192x512.rank)
  slices_S32x2048_S32x512_0_1024 : S32x2048.Slices ![0, 1024] S32x512
  slices_S32x512_S16x512_0_0 : S32x512.Slices ![0, 0] S16x512
  bcast_S_S16x512 : S_.BroadcastsInDim S16x512 (![] : Fin 0 → Fin S16x512.rank)
  slices_S2x16x128_S2x16x16_0_0_0 : S2x16x128.Slices ![0, 0, 0] S2x16x16
  bcast_S_S2x16x16 : S_.BroadcastsInDim S2x16x16 (![] : Fin 0 → Fin S2x16x16.rank)
  bcast_S_S2x16x4096 : S_.BroadcastsInDim S2x16x4096 (![] : Fin 0 → Fin S2x16x4096.rank)

variable [Facts]

def fn_part1 {F : FTy → Type} [FloatOps F] (main_v3 : IVec S8192x2048 1) (main_v8 : IVec S8192x512 1) (main_v14 : IVec S16x512 1) (main_v18 : IVec S2x16x16 1) (main_v19 : FVec F S2x16x4096 .f32) : IVec S8192x2048 1 × IVec S8192x512 1 × IVec S16x512 1 × IVec S2x16x16 1 × IVec S2x16x4096 1 :=
  let main_cst_3 : FVec F S_ .f32 := constant S_ .f32 0x7F800000#32
  let main_v20 : FVec F S2x16x4096 .f32 := broadcastInDim S2x16x4096 ![] bcast_S_S2x16x4096 main_cst_3
  let main_v21 : IVec S2x16x4096 1 := cmpf .olt main_v19 main_v20
  (main_v3, main_v8, main_v14, main_v18, main_v21)

def fn {F : FTy → Type} [FloatOps F] (main_arg0 : FVec F S8192x2048 .bf16) (main_arg1 : FVec F S8192x2048 .bf16) (main_arg2 : FVec F S32x2048 .bf16) (main_arg3 : FVec F S2x16x128 .f32) (main_arg4 : FVec F S2x16x4096 .f32) (main_arg5 : FVec F S8192x4096 .bf16) (main_arg6 : FVec F S8192x2048 .bf16) : IVec S8192x2048 1 × IVec S8192x512 1 × IVec S16x512 1 × IVec S2x16x16 1 × IVec S2x16x4096 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x512 .bf16 := (extractStridedSlice S8192x512 ![0, 1024] · slices_S8192x2048_S8192x512_0_1024) main_arg1
  let main_v5 : FVec F S8192x512 .f32 := (extf .f32 · bitsLt_bf16_f32) main_v4
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : FVec F S32x512 .bf16 := (extractStridedSlice S32x512 ![0, 1024] · slices_S32x2048_S32x512_0_1024) main_arg2
  let main_v10 : FVec F S16x512 .bf16 := (extractStridedSlice S16x512 ![0, 0] · slices_S32x512_S16x512_0_0) main_v9
  let main_v11 : FVec F S16x512 .f32 := (extf .f32 · bitsLt_bf16_f32) main_v10
  let main_v12 : FVec F S16x512 .f32 := Host.absf main_v11
  let main_cst_1 : FVec F S_ .f32 := constant S_ .f32 0x7F800000#32
  let main_v13 : FVec F S16x512 .f32 := broadcastInDim S16x512 ![] bcast_S_S16x512 main_cst_1
  let main_v14 : IVec S16x512 1 := cmpf .olt main_v12 main_v13
  let main_v15 : FVec F S2x16x16 .f32 := (extractStridedSlice S2x16x16 ![0, 0, 0] · slices_S2x16x128_S2x16x16_0_0_0) main_arg3
  let main_v16 : FVec F S2x16x16 .f32 := Host.absf main_v15
  let main_cst_2 : FVec F S_ .f32 := constant S_ .f32 0x7F800000#32
  let main_v17 : FVec F S2x16x16 .f32 := broadcastInDim S2x16x16 ![] bcast_S_S2x16x16 main_cst_2
  let main_v18 : IVec S2x16x16 1 := cmpf .olt main_v16 main_v17
  let main_v19 : FVec F S2x16x4096 .f32 := Host.absf main_arg4
  fn_part1 (F := F) main_v3 main_v8 main_v14 main_v18 main_v19
-- ==== Pre_finite8.lean ====
abbrev S32x2048 : Shape := ⟨2, ![32, 2048]⟩
abbrev S1x2048 : Shape := ⟨2, ![1, 2048]⟩
abbrev S1x2048x10256 : Shape := ⟨3, ![1, 2048, 10256]⟩
abbrev S1x16 : Shape := ⟨2, ![1, 16]⟩
abbrev S_ : Shape := ⟨0, ![]⟩
abbrev S2048x10256 : Shape := ⟨2, ![2048, 10256]⟩
abbrev S2048x16 : Shape := ⟨2, ![2048, 16]⟩

class Facts : Prop where
  bcast_S_S32x2048 : S_.BroadcastsInDim S32x2048 (![] : Fin 0 → Fin S32x2048.rank)
  bcast_S_S1x2048 : S_.BroadcastsInDim S1x2048 (![] : Fin 0 → Fin S1x2048.rank)
  shapeCasts_S1x2048x10256_S2048x10256 : S1x2048x10256.ShapeCasts S2048x10256
  slices_S2048x10256_S2048x16_0_6144 : S2048x10256.Slices ![0, 6144] S2048x16
  bcast_S_S2048x16 : S_.BroadcastsInDim S2048x16 (![] : Fin 0 → Fin S2048x16.rank)

variable [Facts]

def fn {F : FTy → Type} [FloatOps F] (main_arg0 : FVec F S32x2048 .f32) (main_arg1 : FVec F S1x2048 .f32) (main_arg2 : FVec F S1x2048x10256 .f32) (main_arg3 : FVec F S1x16 .f32) : IVec S32x2048 1 × IVec S1x2048 1 × IVec S2048x16 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x10256 .f32 := shapeCast S2048x10256 main_arg2 shapeCasts_S1x2048x10256_S2048x10256
  let main_v7 : FVec F S2048x16 .f32 := (extractStridedSlice S2048x16 ![0, 6144] · slices_S2048x10256_S2048x16_0_6144) main_v6
  let main_v8 : FVec F S2048x16 .f32 := Host.absf main_v7
  let main_cst_1 : FVec F S_ .f32 := constant S_ .f32 0x7F800000#32
  let main_v9 : FVec F S2048x16 .f32 := broadcastInDim S2048x16 ![] bcast_S_S2048x16 main_cst_1
  let main_v10 : IVec S2048x16 1 := cmpf .olt main_v8 main_v9
  (main_v2, main_v5, main_v10)
-- ==== Kernel.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S10256x2048 : Shape := ⟨2, ![10256, 2048]⟩
abbrev S8192x4096 : Shape := ⟨2, ![8192, 4096]⟩
abbrev S4x32x4096 : Shape := ⟨3, ![4, 32, 4096]⟩
abbrev S2048x2048 : Shape := ⟨2, ![2048, 2048]⟩
abbrev S512x2048 : Shape := ⟨2, ![512, 2048]⟩
abbrev S2048x512 : Shape := ⟨2, ![2048, 512]⟩
abbrev S1x32x512 : Shape := ⟨3, ![1, 32, 512]⟩
abbrev S256x2048 : Shape := ⟨2, ![256, 2048]⟩
abbrev S256x512 : Shape := ⟨2, ![256, 512]⟩
abbrev S32x512 : Shape := ⟨2, ![32, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S2048x10256, .f32⟩
  | .hbm, ⟨5, _⟩ => ⟨S10256x2048, .f32⟩
  | .hbm, ⟨6, _⟩ => ⟨S8192x4096, .bf16⟩
  | .hbm, ⟨7, _⟩ => ⟨S4x32x4096, .bf16⟩
  | .local _ .vmem, ⟨0, _⟩ => ⟨S2048x2048, .bf16⟩
  | .local _ .vmem, ⟨1, _⟩ => ⟨S2048x2048, .bf16⟩
  | .local _ .vmem, ⟨2, _⟩ => ⟨S32x2048, .bf16⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S2048x512, .bf16⟩
  | .local _ .vmem, ⟨7, _⟩ => ⟨S2048x512, .bf16⟩
  | .local _ .vmem, ⟨8, _⟩ => ⟨S1x32x512, .bf16⟩
  | .local _ .vmem, ⟨9, _⟩ => ⟨S1x32x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c6160_i32 : BitVec 32 := 6160#32
  let arg1 : BitVec 32 := BitVec.ofNat 32 (i 1).val
  let c512_i32 : BitVec 32 := 512#32
  let v0 : BitVec 32 := Scalar.muli arg1 c512_i32
  let v1 : BitVec 32 := Scalar.addi c6160_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6160_i32 : BitVec 32 := 6160#32
  let v1 : BitVec 32 := Scalar.addi c6160_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S2048x4096 : Shape := ⟨2, ![2048, 4096]⟩
abbrev S8192x4096 : Shape := ⟨2, ![8192, 4096]⟩
abbrev S_ : Shape := ⟨0, ![]⟩
abbrev S32x4096 : Shape := ⟨2, ![32, 4096]⟩
abbrev S1x32x4096 : Shape := ⟨3, ![1, 32, 4096]⟩
abbrev S4x32x4096 : Shape := ⟨3, ![4, 32, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S2048x10256, .f32⟩
  | .hbm, ⟨5, _⟩ => ⟨S2048x4096, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .bf16⟩
  | .hbm, ⟨17, _⟩ => ⟨S32x2048, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S_, .f32⟩
  | .hbm, ⟨22, _⟩ => ⟨S32x4096, .f32⟩
  | .hbm, ⟨23, _⟩ => ⟨S32x4096, .f32⟩
  | .hbm, ⟨24, _⟩ => ⟨S_, .f32⟩
  | .hbm, ⟨25, _⟩ => ⟨S32x4096, .f32⟩
  | .hbm, ⟨26, _⟩ => ⟨S32x4096, .f32⟩
  | .hbm, ⟨27, _⟩ => ⟨S32x4096, .bf16⟩
  | .hbm, ⟨28, _⟩ => ⟨S1x32x4096, .bf16⟩
  | .hbm, ⟨29, _⟩ => ⟨S4x32x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S8192x2048 : Shape := ⟨2, ![8192, 2048]⟩
abbrev S32x2048 : Shape := ⟨2, ![32, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S1024x1024 : Shape := ⟨2, ![1024, 1024]⟩
abbrev S32x1024 : Shape := ⟨2, ![32, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S1x2048x8192, .f32⟩
  | .hbm, ⟨4, _⟩ => ⟨S1x8192x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S32x2048, .f32⟩
  | .local _ .vmem, ⟨0, _⟩ => ⟨S1024x2048, .f32⟩
  | .local _ .vmem, ⟨1, _⟩ => ⟨S1024x2048, .f32⟩
  | .local _ .vmem, ⟨2, _⟩ => ⟨S32x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | .local _ .vmem, ⟨9, _⟩ => ⟨S1024x2048, .f32⟩
  | .local _ .vmem, ⟨10, _⟩ => ⟨S32x2048, .f32⟩
  | .local _ .vmem, ⟨11, _⟩ => ⟨S1024x2048, .bf16⟩
  | .local _ .vmem, ⟨12, _⟩ => ⟨S32x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_15 : BitVec 32 := 0#32
  let v23 : BitVec 1 := Scalar.cmpi .eq arg0 c0_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8192x2048 : Shape := ⟨2, ![8192, 2048]⟩
abbrev S32x2048 : Shape := ⟨2, ![32, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩
abbrev S32 : Shape := ⟨1, ![32]⟩
abbrev S32x1 : Shape := ⟨2, ![32, 1]⟩
abbrev S32x8192 : Shape := ⟨2, ![32, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048, .f32⟩
  | .hbm, ⟨32, _⟩ => ⟨S32x2048, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S_, .f32⟩
  | .hbm, ⟨37, _⟩ => ⟨S32x1, .f32⟩
  | .hbm, ⟨38, _⟩ => ⟨S32x1, .f32⟩
  | .hbm, ⟨39, _⟩ => ⟨S_, .f32⟩
  | .hbm, ⟨40, _⟩ => ⟨S32x1, .f32⟩
  | .hbm, ⟨41, _⟩ => ⟨S32x1, .f32⟩
  | .hbm, ⟨42, _⟩ => ⟨S32x1, .f32⟩
  | .hbm, ⟨43, _⟩ => ⟨S32x2048, .f32⟩
  | .hbm, ⟨44, _⟩ => ⟨S32x2048, .f32⟩
  | .hbm, ⟨45, _⟩ => ⟨S1x2048, .f32⟩
  | .hbm, ⟨46, _⟩ => ⟨S32x2048, .f32⟩
  | .hbm, ⟨47, _⟩ => ⟨S32x2048, .f32⟩
  | .hbm, ⟨48, _⟩ => ⟨S2048x8192, .f32⟩
  | .hbm, ⟨49, _⟩ => ⟨S32x8192, .f32⟩
  | .hbm, ⟨50, _⟩ => ⟨S_, .f32⟩
  | .hbm, ⟨51, _⟩ => ⟨S32x8192, .f32⟩
  | .hbm, ⟨52, _⟩ => ⟨S32x8192, .f32⟩
  | .hbm, ⟨53, _⟩ => ⟨S32x8192, .f32⟩
  | .hbm, ⟨54, _⟩ => ⟨S8192x2048, .f32⟩
  | .hbm, ⟨55, _⟩ => ⟨S32x2048, .f32⟩
  | .hbm, ⟨56, _⟩ => ⟨S32x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call1_cst : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S8192x2048 : Shape := ⟨2, ![8192, 2048]⟩
abbrev S32x2048 : Shape := ⟨2, ![32, 2048]⟩
abbrev S1x2048x2048 : Shape := ⟨3, ![1, 2048, 2048]⟩
abbrev S2048x2048 : Shape := ⟨2, ![2048, 2048]⟩
abbrev S4x32x2048 : Shape := ⟨3, ![4, 32, 2048]⟩
abbrev S2048x512 : Shape := ⟨2, ![2048, 512]⟩
abbrev S32x512 : Shape := ⟨2, ![32, 512]⟩
abbrev S1x32x512 : Shape := ⟨3, ![1, 32, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x2048, .f32⟩
  | .hbm, ⟨3, _⟩ => ⟨S8192x2048, .f32⟩
  | .hbm, ⟨4, _⟩ => ⟨S32x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .hbm, ⟨8, _⟩ => ⟨S4x32x2048, .f32⟩
  | .local _ .vmem, ⟨0, _⟩ => ⟨S2048x2048, .bf16⟩
  | .local _ .vmem, ⟨1, _⟩ => ⟨S2048x2048, .bf16⟩
  | .local _ .vmem, ⟨2, _⟩ => ⟨S32x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | .local _ .vmem, ⟨6, _⟩ => ⟨S2048x512, .f32⟩
  | .local _ .vmem, ⟨7, _⟩ => ⟨S32x512, .f32⟩
  | .local _ .vmem, ⟨8, _⟩ => ⟨S32x512, .f32⟩
  | .local _ .vmem, ⟨9, _⟩ => ⟨S2048x512, .f32⟩
  | .local _ .vmem, ⟨10, _⟩ => ⟨S2048x512, .f32⟩
  | .local _ .vmem, ⟨11, _⟩ => ⟨S1x32x512, .f32⟩
  | .local _ .vmem, ⟨12, _⟩ => ⟨S1x32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S32x2048 : Shape := ⟨2, ![32, 2048]⟩
abbrev S1x2048x2048 : Shape := ⟨3, ![1, 2048, 2048]⟩
abbrev S2048x2048 : Shape := ⟨2, ![2048, 2048]⟩
abbrev S1x32x2048 : Shape := ⟨3, ![1, 32, 2048]⟩
abbrev S4x32x2048 : Shape := ⟨3, ![4, 32, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x2048, .f32⟩
  | .hbm, ⟨3, _⟩ => ⟨S8192x2048, .f32⟩
  | .hbm, ⟨4, _⟩ => ⟨S32x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S32x2048, .f32⟩
  | .hbm, ⟨10, _⟩ => ⟨S2048x2048, .f32⟩
  | .hbm, ⟨11, _⟩ => ⟨S32x2048, .f32⟩
  | .hbm, ⟨12, _⟩ => ⟨S32x2048, .f32⟩
  | .hbm, ⟨13, _⟩ => ⟨S1x32x2048, .f32⟩
  | .hbm, ⟨14, _⟩ => ⟨S4x32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S10256x2048 : Shape := ⟨2, ![10256, 2048]⟩
abbrev S4x32x2048 : Shape := ⟨3, ![4, 32, 2048]⟩
abbrev S2048x2048 : Shape := ⟨2, ![2048, 2048]⟩
abbrev S512x2048 : Shape := ⟨2, ![512, 2048]⟩
abbrev S2048x512 : Shape := ⟨2, ![2048, 512]⟩
abbrev S1x32x512 : Shape := ⟨3, ![1, 32, 512]⟩
abbrev S256x2048 : Shape := ⟨2, ![256, 2048]⟩
abbrev S256x512 : Shape := ⟨2, ![256, 512]⟩
abbrev S32x512 : Shape := ⟨2, ![32, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S2048x10256, .f32⟩
  | .hbm, ⟨5, _⟩ => ⟨S10256x2048, .f32⟩
  | .hbm, ⟨6, _⟩ => ⟨S8192x2048, .bf16⟩
  | .hbm, ⟨7, _⟩ => ⟨S4x32x2048, .bf16⟩
  | .local _ .vmem, ⟨0, _⟩ => ⟨S2048x2048, .bf16⟩
  | .local _ .vmem, ⟨1, _⟩ => ⟨S2048x2048, .bf16⟩
  | .local _ .vmem, ⟨2, _⟩ => ⟨S32x2048, .bf16⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S2048x512, .bf16⟩
  | .local _ .vmem, ⟨7, _⟩ => ⟨S2048x512, .bf16⟩
  | .local _ .vmem, ⟨8, _⟩ => ⟨S1x32x512, .bf16⟩
  | .local _ .vmem, ⟨9, _⟩ => ⟨S1x32x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "scale" => some (((Real.sqrt 128)⁻¹ * (Real.log 2)⁻¹ : ℝ) : EReal)
  | _ => none
-- ==== Reference4Ideal.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S2048x2048 : Shape := ⟨2, ![2048, 2048]⟩
abbrev S_ : Shape := ⟨0, ![]⟩
abbrev S1x32x2048 : Shape := ⟨3, ![1, 32, 2048]⟩
abbrev S4x32x2048 : Shape := ⟨3, ![4, 32, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S8192x2048, .f32⟩
  | .hbm, ⟨5, _⟩ => ⟨S2048x10256, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .bf16⟩
  | .hbm, ⟨17, _⟩ => ⟨S32x2048, .f32⟩
  | .hbm, ⟨18, _⟩ => ⟨S2048x10256, .f32⟩
  | .hbm, ⟨19, _⟩ => ⟨S2048x2048, .f32⟩
  | .hbm, ⟨20, _⟩ => ⟨S32x2048, .f32⟩
  | .hbm, ⟨21, _⟩ => ⟨S_, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S_, .f32⟩
  | .hbm, ⟨26, _⟩ => ⟨S_, .f32⟩
  | .hbm, ⟨27, _⟩ => ⟨S32x2048, .f32⟩
  | .hbm, ⟨28, _⟩ => ⟨S32x2048, .f32⟩
  | .hbm, ⟨29, _⟩ => ⟨S32x2048, .bf16⟩
  | .hbm, ⟨30, _⟩ => ⟨S1x32x2048, .bf16⟩
  | .hbm, ⟨31, _⟩ => ⟨S4x32x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S10256x2048 : Shape := ⟨2, ![10256, 2048]⟩
abbrev S4x32x2048 : Shape := ⟨3, ![4, 32, 2048]⟩
abbrev S2048x2048 : Shape := ⟨2, ![2048, 2048]⟩
abbrev S512x2048 : Shape := ⟨2, ![512, 2048]⟩
abbrev S2048x512 : Shape := ⟨2, ![2048, 512]⟩
abbrev S1x32x512 : Shape := ⟨3, ![1, 32, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S32x512 : Shape := ⟨2, ![32, 512]⟩
abbrev S32x128 : Shape := ⟨2, ![32, 128]⟩
abbrev S32 : Shape := ⟨1, ![32]⟩
abbrev S32x1 : Shape := ⟨2, ![32, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S2048x10256, .f32⟩
  | .hbm, ⟨5, _⟩ => ⟨S10256x2048, .f32⟩
  | .hbm, ⟨6, _⟩ => ⟨S8192x2048, .bf16⟩
  | .hbm, ⟨7, _⟩ => ⟨S4x32x2048, .bf16⟩
  | .local _ .vmem, ⟨0, _⟩ => ⟨S2048x2048, .bf16⟩
  | .local _ .vmem, ⟨1, _⟩ => ⟨S2048x2048, .bf16⟩
  | .local _ .vmem, ⟨2, _⟩ => ⟨S32x2048, .bf16⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S2048x512, .bf16⟩
  | .local _ .vmem, ⟨7, _⟩ => ⟨S2048x512, .bf16⟩
  | .local _ .vmem, ⟨8, _⟩ => ⟨S1x32x512, .bf16⟩
  | .local _ .vmem, ⟨9, _⟩ => ⟨S1x32x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "scale" => some (((Real.sqrt 128)⁻¹ * (Real.log 2)⁻¹ : ℝ) : EReal)
  | _ => none
-- ==== Reference5Ideal.lean ====
abbrev S8192x2048 : Shape := ⟨2, ![8192, 2048]⟩
abbrev S32x2048 : Shape := ⟨2, ![32, 2048]⟩
abbrev S1x2048x10256 : Shape := ⟨3, ![1, 2048, 10256]⟩
abbrev S1x128 : Shape := ⟨2, ![1, 128]⟩
abbrev S2048x10256 : Shape := ⟨2, ![2048, 10256]⟩
abbrev S2048x2048 : Shape := ⟨2, ![2048, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S32x16x128 : Shape := ⟨3, ![32, 16, 128]⟩
abbrev S32x16 : Shape := ⟨2, ![32, 16]⟩
abbrev S32x16x1 : Shape := ⟨3, ![32, 16, 1]⟩
abbrev S1x32x2048 : Shape := ⟨3, ![1, 32, 2048]⟩
abbrev S4x32x2048 : Shape := ⟨3, ![4, 32, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x2048x10256, .f32⟩
  | .hbm, ⟨3, _⟩ => ⟨S1x128, .f32⟩
  | .hbm, ⟨4, _⟩ => ⟨S8192x2048, .f32⟩
  | .hbm, ⟨5, _⟩ => ⟨S2048x10256, .f32⟩
  | .hbm, ⟨6, _⟩ => ⟨S2048x2048, .f32⟩
  | .hbm, ⟨7, _⟩ => ⟨S8192x2048, .f32⟩
  | .hbm, ⟨8, _⟩ => ⟨S8192x16x128, .f32⟩
  | .hbm, ⟨9, _⟩ => ⟨S128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x128, .f32⟩
  | .hbm, ⟨22, _⟩ => ⟨S8192x16x128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S8192x2048, .f32⟩
  | .hbm, ⟨27, _⟩ => ⟨S_, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S32x2048, .f32⟩
  | .hbm, ⟨37, _⟩ => ⟨S2048x10256, .f32⟩
  | .hbm, ⟨38, _⟩ => ⟨S2048x2048, .f32⟩
  | .hbm, ⟨39, _⟩ => ⟨S32x2048, .f32⟩
  | .hbm, ⟨40, _⟩ => ⟨S32x16x128, .f32⟩
  | .hbm, ⟨41, _⟩ => ⟨S128, .f32⟩
  | .hbm, ⟨42, _⟩ => ⟨S32x16x128, .f32⟩
  | .hbm, ⟨43, _⟩ => ⟨S_, .f32⟩
  | .hbm, ⟨44, _⟩ => ⟨S32x16, .f32⟩
  | .hbm, ⟨45, _⟩ => ⟨S32x16x1, .f32⟩
  | .hbm, ⟨46, _⟩ => ⟨S_, .f32⟩
  | .hbm, ⟨47, _⟩ => ⟨S32x16x1, .f32⟩
  | .hbm, ⟨48, _⟩ => ⟨S32x16x1, .f32⟩
  | .hbm, ⟨49, _⟩ => ⟨S_, .f32⟩
  | .hbm, ⟨50, _⟩ => ⟨S32x16x1, .f32⟩
  | .hbm, ⟨51, _⟩ => ⟨S32x16x1, .f32⟩
  | .hbm, ⟨52, _⟩ => ⟨S32x16x1, .f32⟩
  | .hbm, ⟨53, _⟩ => ⟨S32x16x128, .f32⟩
  | .hbm, ⟨54, _⟩ => ⟨S32x16x128, .f32⟩
  | .hbm, ⟨55, _⟩ => ⟨S1x1x128, .f32⟩
  | .hbm, ⟨56, _⟩ => ⟨S32x16x128, .f32⟩
  | .hbm, ⟨57, _⟩ => ⟨S32x16x128, .f32⟩
  | .hbm, ⟨58, _⟩ => ⟨S32x2048, .f32⟩
  | .hbm, ⟨59, _⟩ => ⟨S_, .f32⟩
  | .hbm, ⟨60, _⟩ => ⟨S_, .f32⟩
  | .hbm, ⟨61, _⟩ => ⟨S32x2048, .f32⟩
  | .hbm, ⟨62, _⟩ => ⟨S32x2048, .f32⟩
  | .hbm, ⟨63, _⟩ => ⟨S_, .f32⟩
  | .hbm, ⟨64, _⟩ => ⟨S_, .f32⟩
  | .hbm, ⟨65, _⟩ => ⟨S32x2048, .f32⟩
  | .hbm, ⟨66, _⟩ => ⟨S32x2048, .f32⟩
  | .hbm, ⟨67, _⟩ => ⟨S32x2048, .bf16⟩
  | .hbm, ⟨68, _⟩ => ⟨S1x32x2048, .bf16⟩
  | .hbm, ⟨69, _⟩ => ⟨S4x32x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel6.lean ====
abbrev S8192x2048 : Shape := ⟨2, ![8192, 2048]⟩
abbrev S1x2048 : Shape := ⟨2, ![1, 2048]⟩
abbrev S1x2048x10256 : Shape := ⟨3, ![1, 2048, 10256]⟩
abbrev S1x16 : Shape := ⟨2, ![1, 16]⟩
abbrev S2048x10256 : Shape := ⟨2, ![2048, 10256]⟩
abbrev S10256x2048 : Shape := ⟨2, ![10256, 2048]⟩
abbrev S16x2048 : Shape := ⟨2, ![16, 2048]⟩
abbrev S_ : Shape := ⟨0, ![]⟩
abbrev S128x2048 : Shape := ⟨2, ![128, 2048]⟩
abbrev S8192x16 : Shape := ⟨2, ![8192, 16]⟩
abbrev S512x2048 : Shape := ⟨2, ![512, 2048]⟩
abbrev S512x16 : Shape := ⟨2, ![512, 16]⟩
abbrev S512 : Shape := ⟨1, ![512]⟩
abbrev S512x1 : Shape := ⟨2, ![512, 1]⟩
abbrev S512x128 : Shape := ⟨2, ![512, 128]⟩

abbrev nBuf : Space → Nat
  | .hbm => 16
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x10256, .f32⟩
  | .hbm, ⟨3, _⟩ => ⟨S1x16, .f32⟩
  | .hbm, ⟨4, _⟩ => ⟨S2048x10256, .f32⟩
  | .hbm, ⟨5, _⟩ => ⟨S10256x2048, .f32⟩
  | .hbm, ⟨6, _⟩ => ⟨S16x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S128x2048, .f32⟩
  | .hbm, ⟨12, _⟩ => ⟨S128x2048, .f32⟩
  | .hbm, ⟨13, _⟩ => ⟨S128x2048, .bf16⟩
  | .hbm, ⟨14, _⟩ => ⟨S8192x2048, .bf16⟩
  | .hbm, ⟨15, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | .local _ .vmem, ⟨5, _⟩ => ⟨S1x16, .f32⟩
  | .local _ .vmem, ⟨6, _⟩ => ⟨S512x2048, .bf16⟩
  | .local _ .vmem, ⟨7, _⟩ => ⟨S512x2048, .bf16⟩
  | .local _ .vmem, ⟨8, _⟩ => ⟨S512x16, .f32⟩
  | .local _ .vmem, ⟨9, _⟩ => ⟨S512x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x2048 : Shape := ⟨2, ![8192, 2048]⟩
abbrev S1x2048 : Shape := ⟨2, ![1, 2048]⟩
abbrev S1x2048x10256 : Shape := ⟨3, ![1, 2048, 10256]⟩
abbrev S1x16 : Shape := ⟨2, ![1, 16]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x10256 : Shape := ⟨2, ![2048, 10256]⟩
abbrev S2048x16 : Shape := ⟨2, ![2048, 16]⟩
abbrev S8192x16 : Shape := ⟨2, ![8192, 16]⟩
abbrev S16 : Shape := ⟨1, ![16]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x10256, .f32⟩
  | .hbm, ⟨3, _⟩ => ⟨S1x16, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x10256, .f32⟩
  | .hbm, ⟨22, _⟩ => ⟨S2048x16, .f32⟩
  | .hbm, ⟨23, _⟩ => ⟨S8192x16, .f32⟩
  | .hbm, ⟨24, _⟩ => ⟨S8192x2048, .bf16⟩
  | .hbm, ⟨25, _⟩ => ⟨S16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .i1⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Kernel7.lean ====
abbrev S8192x2048 : Shape := ⟨2, ![8192, 2048]⟩
abbrev S32x2048 : Shape := ⟨2, ![32, 2048]⟩
abbrev S2x16x128 : Shape := ⟨3, ![2, 16, 128]⟩
abbrev S2x16x4096 : Shape := ⟨3, ![2, 16, 4096]⟩
abbrev S8192x4096 : Shape := ⟨2, ![8192, 4096]⟩
abbrev S32x512 : Shape := ⟨2, ![32, 512]⟩
abbrev S2x4x4x128 : Shape := ⟨4, ![2, 4, 4, 128]⟩
abbrev S2x4x4x4096 : Shape := ⟨4, ![2, 4, 4, 4096]⟩
abbrev S16x512 : Shape := ⟨2, ![16, 512]⟩
abbrev S_ : Shape := ⟨0, ![]⟩
abbrev S128x512 : Shape := ⟨2, ![128, 512]⟩
abbrev S512x512 : Shape := ⟨2, ![512, 512]⟩
abbrev S4096x128 : Shape := ⟨2, ![4096, 128]⟩
abbrev S1x1x4x4096 : Shape := ⟨4, ![1, 1, 4, 4096]⟩
abbrev S128x128 : Shape := ⟨2, ![128, 128]⟩
abbrev S1x1x4x128 : Shape := ⟨4, ![1, 1, 4, 128]⟩
abbrev S2048x128 : Shape := ⟨2, ![2048, 128]⟩
abbrev S2048x256 : Shape := ⟨2, ![2048, 256]⟩
abbrev S512x128 : Shape := ⟨2, ![512, 128]⟩
abbrev S1x1x4x512 : Shape := ⟨4, ![1, 1, 4, 512]⟩
abbrev S4x512 : Shape := ⟨2, ![4, 512]⟩
abbrev S512x256 : Shape := ⟨2, ![512, 256]⟩
abbrev S256x128 : Shape := ⟨2, ![256, 128]⟩
abbrev S256x256 : Shape := ⟨2, ![256, 256]⟩
abbrev S1x256 : Shape := ⟨2, ![1, 256]⟩
abbrev S1x256x256 : Shape := ⟨3, ![1, 256, 256]⟩
abbrev S1x1x256 : Shape := ⟨3, ![1, 1, 256]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S1x256x512 : Shape := ⟨3, ![1, 256, 512]⟩
abbrev S1x1x512 : Shape := ⟨3, ![1, 1, 512]⟩
abbrev S1024x128 : Shape := ⟨2, ![1024, 128]⟩
abbrev S1x1x4x1024 : Shape := ⟨4, ![1, 1, 4, 1024]⟩
abbrev S4x1024 : Shape := ⟨2, ![4, 1024]⟩
abbrev S1024x256 : Shape := ⟨2, ![1024, 256]⟩
abbrev S512x1024 : Shape := ⟨2, ![512, 1024]⟩
abbrev S1x1024 : Shape := ⟨2, ![1, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩
abbrev S1x512x512 : Shape := ⟨3, ![1, 512, 512]⟩
abbrev S4x128 : Shape := ⟨2, ![4, 128]⟩
abbrev S128x256 : Shape := ⟨2, ![128, 256]⟩
abbrev S1x128 : Shape := ⟨2, ![1, 128]⟩
abbrev S1x512x128 : Shape := ⟨3, ![1, 512, 128]⟩
abbrev S1x1x128 : Shape := ⟨3, ![1, 1, 128]⟩

abbrev nBuf : Space → Nat
  | .hbm => 22
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x2048, .bf16⟩
  | .hbm, ⟨3, _⟩ => ⟨S2x16x128, .f32⟩
  | .hbm, ⟨4, _⟩ => ⟨S2x16x4096, .f32⟩
  | .hbm, ⟨5, _⟩ => ⟨S8192x4096, .bf16⟩
  | .hbm, ⟨6, _⟩ => ⟨S8192x2048, .bf16⟩
  | .hbm, ⟨7, _⟩ => ⟨S32x512, .bf16⟩
  | .hbm, ⟨8, _⟩ => ⟨S32x512, .bf16⟩
  | .hbm, ⟨9, _⟩ => ⟨S32x512, .bf16⟩
  | .hbm, ⟨10, _⟩ => ⟨S32x512, .bf16⟩
  | .hbm, ⟨11, _⟩ => ⟨S2x4x4x128, .f32⟩
  | .hbm, ⟨12, _⟩ => ⟨S2x4x4x4096, .f32⟩
  | .hbm, ⟨13, _⟩ => ⟨S16x512, .bf16⟩
  | .hbm, ⟨14, _⟩ => ⟨S_, .i32⟩
  | .hbm, ⟨15, _⟩ => ⟨S_, .bf16⟩
  | .hbm, ⟨16, _⟩ => ⟨S128x512, .bf16⟩
  | .hbm, ⟨17, _⟩ => ⟨S16x512, .bf16⟩
  | .hbm, ⟨18, _⟩ => ⟨S_, .i32⟩
  | .hbm, ⟨19, _⟩ => ⟨S_, .bf16⟩
  | .hbm, ⟨20, _⟩ => ⟨S128x512, .bf16⟩
  | .hbm, ⟨21, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x4x4096, .f32⟩
  | .local _ .vmem, ⟨7, _⟩ => ⟨S1x1x4x4096, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S1x1x4x128, .f32⟩
  | .local _ .vmem, ⟨13, _⟩ => ⟨S1x1x4x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S2048x128, .f32⟩
  | .local _ .vmem, ⟨21, _⟩ => ⟨S2048x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v14 : BitVec 32 := Scalar.muli arg2 c512_i32
  v14
def k0_off1 (i : grid0.Coords) : Fin 2 → Nat :=
  let arg2 : BitVec 32 := BitVec.ofNat 32 (i 2).val
  let c512_i32 : BitVec 32 := 512#32
  let v14 : BitVec 32 := Scalar.muli arg2 c512_i32
  let v15 : BitVec 32 := v14
  let v16 : Index := Scalar.indexCast v15
  let c0_6 : Index := 0#32
  ![v16.toNat, 0]
def k0_off2 (i : grid0.Coords) : Fin 4 → Nat :=
  let c0_8 : Index := 0#32
  let c0_9 : Index := 0#32
  let c0_10 : Index := 0#32
  let arg2 : BitVec 32 := BitVec.ofNat 32 (i 2).val
  let c512_i32 : BitVec 32 := 512#32
  let v14 : BitVec 32 := Scalar.muli arg2 c512_i32
  let v15 : BitVec 32 := v14
  let v20 : Index := Scalar.indexCast v15
  ![0, 0, 0, v20.toNat]
@[reducible] def k0_t1_loop (i : grid0.Coords) : Scf.Loop 32 :=
  let c0_i32_156 : BitVec 32 := 0#32
  let arg2 : BitVec 32 := BitVec.ofNat 32 (i 2).val
  let c0_i32_149 : BitVec 32 := 0#32
  let v458 : BitVec 1 := Scalar.cmpi .sgt arg2 c0_i32_149
  let v459 : BitVec 32 := Scalar.extui v458
  let c0_i32_150 : BitVec 32 := 0#32
  let v460 : BitVec 1 := Scalar.cmpi .slt arg2 c0_i32_150
  let v461 : BitVec 32 := Scalar.extui v460
  let v462 : BitVec 32 := Scalar.subi v459 v461
  let c2_i32 : BitVec 32 := 2#32
  let c0_i32_151 : BitVec 32 := 0#32
  let v463 : BitVec 1 := Scalar.cmpi .sgt c2_i32 c0_i32_151
  let v464 : BitVec 32 := Scalar.extui v463
  let c0_i32_152 : BitVec 32 := 0#32
  let v465 : BitVec 1 := Scalar.cmpi .slt c2_i32 c0_i32_152
  let v466 : BitVec 32 := Scalar.extui v465
  let v467 : BitVec 32 := Scalar.subi v464 v466
  let v468 : BitVec 1 := Scalar.cmpi .ne v462 v467
  let v469 : BitVec 32 := Scalar.remsi arg2 c2_i32
  let c0_i32_153 : BitVec 32 := 0#32
  let v470 : BitVec 1 := Scalar.cmpi .ne v469 c0_i32_153
  let v471 : BitVec 1 := Scalar.andi v468 v470
  let v457 : BitVec 32 := Scalar.divsi arg2 c2_i32
  let c1_i32_154 : BitVec 32 := 1#32
  let v472 : BitVec 32 := Scalar.subi v457 c1_i32_154
  let v473 : BitVec 32 := Scalar.select v471 v472 v457
  let v474 : BitVec 32 := Scalar.subi v473 c0_i32_156
  let c1_i32_157 : BitVec 32 := 1#32
  let v476 : BitVec 32 := Scalar.divsi v474 c1_i32_157
  let v477 : BitVec 32 := Scalar.muli v476 c1_i32_157
  let v478 : BitVec 32 := Scalar.addi c0_i32_156 v477
  let c1_i32_158 : BitVec 32 := 1#32
  ⟨c0_i32_156, v478, c1_i32_158⟩
def k0_mult2 (i : grid0.Coords) (k0_t1 : Fin (k0_t1_loop i).trips) : BitVec 32 :=
  let c0_i32_156 : BitVec 32 := 0#32
  let c1_i32_158 : BitVec 32 := 1#32
  let arg15 : BitVec 32 := Scf.iv c0_i32_156 c1_i32_158 k0_t1
  let c1024_i32_252 : BitVec 32 := 1024#32
  let v676 : BitVec 32 := Scalar.muli arg15 c1024_i32_252
  v676
def k0_off3 (i : grid0.Coords) (k0_t1 : Fin (k0_t1_loop i).trips) : Fin 2 → Nat :=
  let c0_i32_156 : BitVec 32 := 0#32
  let c1_i32_158 : BitVec 32 := 1#32
  let arg15 : BitVec 32 := Scf.iv c0_i32_156 c1_i32_158 k0_t1
  let c1024_i32_252 : BitVec 32 := 1024#32
  let v676 : BitVec 32 := Scalar.muli arg15 c1024_i32_252
  let v677 : BitVec 32 := v676
  let v678 : Index := Scalar.indexCast v677
  let c0_253 : Index := 0#32
  ![v678.toNat, 0]
def k0_off4 (i : grid0.Coords) (k0_t1 : Fin (k0_t1_loop i).trips) : Fin 4 → Nat :=
  let c0_255 : Index := 0#32
  let c0_256 : Index := 0#32
  let c0_257 : Index := 0#32
  let c0_i32_156 : BitVec 32 := 0#32
  let c1_i32_158 : BitVec 32 := 1#32
  let arg15 : BitVec 32 := Scf.iv c0_i32_156 c1_i32_158 k0_t1
  let c1024_i32_252 : BitVec 32 := 1024#32
  let v676 : BitVec 32 := Scalar.muli arg15 c1024_i32_252
  let v677 : BitVec 32 := v676
  let v682 : Index := Scalar.indexCast v677
  ![0, 0, 0, v682.toNat]
@[reducible] def k0_t2_loop (i : grid0.Coords) : Scf.Loop 32 :=
  let c0_i32_156 : BitVec 32 := 0#32
  let arg2 : BitVec 32 := BitVec.ofNat 32 (i 2).val
  let c0_i32_149 : BitVec 32 := 0#32
  let v458 : BitVec 1 := Scalar.cmpi .sgt arg2 c0_i32_149
  let v459 : BitVec 32 := Scalar.extui v458
  let c0_i32_150 : BitVec 32 := 0#32
  let v460 : BitVec 1 := Scalar.cmpi .slt arg2 c0_i32_150
  let v461 : BitVec 32 := Scalar.extui v460
  let v462 : BitVec 32 := Scalar.subi v459 v461
  let c2_i32 : BitVec 32 := 2#32
  let c0_i32_151 : BitVec 32 := 0#32
  let v463 : BitVec 1 := Scalar.cmpi .sgt c2_i32 c0_i32_151
  let v464 : BitVec 32 := Scalar.extui v463
  let c0_i32_152 : BitVec 32 := 0#32
  let v465 : BitVec 1 := Scalar.cmpi .slt c2_i32 c0_i32_152
  let v466 : BitVec 32 := Scalar.extui v465
  let v467 : BitVec 32 := Scalar.subi v464 v466
  let v468 : BitVec 1 := Scalar.cmpi .ne v462 v467
  let v469 : BitVec 32 := Scalar.remsi arg2 c2_i32
  let c0_i32_153 : BitVec 32 := 0#32
  let v470 : BitVec 1 := Scalar.cmpi .ne v469 c0_i32_153
  let v471 : BitVec 1 := Scalar.andi v468 v470
  let v457 : BitVec 32 := Scalar.divsi arg2 c2_i32
  let c1_i32_154 : BitVec 32 := 1#32
  let v472 : BitVec 32 := Scalar.subi v457 c1_i32_154
  let v473 : BitVec 32 := Scalar.select v471 v472 v457
  let v474 : BitVec 32 := Scalar.subi v473 c0_i32_156
  let c1_i32_157 : BitVec 32 := 1#32
  let v476 : BitVec 32 := Scalar.divsi v474 c1_i32_157
  let v477 : BitVec 32 := Scalar.muli v476 c1_i32_157
  let v478 : BitVec 32 := Scalar.addi c0_i32_156 v477
  let v475 : BitVec 32 := Scalar.addi c0_i32_156 v474
  let c1_i32_159 : BitVec 32 := 1#32
  ⟨v478, v475, c1_i32_159⟩
def k0_mult3 (i : grid0.Coords) (k0_t2 : Fin (k0_t2_loop i).trips) : BitVec 32 :=
  let c0_i32_156 : BitVec 32 := 0#32
  let arg2 : BitVec 32 := BitVec.ofNat 32 (i 2).val
  let c0_i32_149 : BitVec 32 := 0#32
  let v458 : BitVec 1 := Scalar.cmpi .sgt arg2 c0_i32_149
  let v459 : BitVec 32 := Scalar.extui v458
  let c0_i32_150 : BitVec 32 := 0#32
  let v460 : BitVec 1 := Scalar.cmpi .slt arg2 c0_i32_150
  let v461 : BitVec 32 := Scalar.extui v460
  let v462 : BitVec 32 := Scalar.subi v459 v461
  let c2_i32 : BitVec 32 := 2#32
  let c0_i32_151 : BitVec 32 := 0#32
  let v463 : BitVec 1 := Scalar.cmpi .sgt c2_i32 c0_i32_151
  let v464 : BitVec 32 := Scalar.extui v463
  let c0_i32_152 : BitVec 32 := 0#32
  let v465 : BitVec 1 := Scalar.cmpi .slt c2_i32 c0_i32_152
  let v466 : BitVec 32 := Scalar.extui v465
  let v467 : BitVec 32 := Scalar.subi v464 v466
  let v468 : BitVec 1 := Scalar.cmpi .ne v462 v467
  let v469 : BitVec 32 := Scalar.remsi arg2 c2_i32
  let c0_i32_153 : BitVec 32 := 0#32
  let v470 : BitVec 1 := Scalar.cmpi .ne v469 c0_i32_153
  let v471 : BitVec 1 := Scalar.andi v468 v470
  let v457 : BitVec 32 := Scalar.divsi arg2 c2_i32
  let c1_i32_154 : BitVec 32 := 1#32
  let v472 : BitVec 32 := Scalar.subi v457 c1_i32_154
  let v473 : BitVec 32 := Scalar.select v471 v472 v457
  let v474 : BitVec 32 := Scalar.subi v473 c0_i32_156
  let c1_i32_157 : BitVec 32 := 1#32
  let v476 : BitVec 32 := Scalar.divsi v474 c1_i32_157
  let v477 : BitVec 32 := Scalar.muli v476 c1_i32_157
  let v478 : BitVec 32 := Scalar.addi c0_i32_156 v477
  let c1_i32_159 : BitVec 32 := 1#32
  let arg15 : BitVec 32 := Scf.iv v478 c1_i32_159 k0_t2
  let c1024_i32_252 : BitVec 32 := 1024#32
  let v676 : BitVec 32 := Scalar.muli arg15 c1024_i32_252
  v676
def k0_off5 (i : grid0.Coords) (k0_t2 : Fin (k0_t2_loop i).trips) : Fin 2 → Nat :=
  let c0_i32_156 : BitVec 32 := 0#32
  let arg2 : BitVec 32 := BitVec.ofNat 32 (i 2).val
  let c0_i32_149 : BitVec 32 := 0#32
  let v458 : BitVec 1 := Scalar.cmpi .sgt arg2 c0_i32_149
  let v459 : BitVec 32 := Scalar.extui v458
  let c0_i32_150 : BitVec 32 := 0#32
  let v460 : BitVec 1 := Scalar.cmpi .slt arg2 c0_i32_150
  let v461 : BitVec 32 := Scalar.extui v460
  let v462 : BitVec 32 := Scalar.subi v459 v461
  let c2_i32 : BitVec 32 := 2#32
  let c0_i32_151 : BitVec 32 := 0#32
  let v463 : BitVec 1 := Scalar.cmpi .sgt c2_i32 c0_i32_151
  let v464 : BitVec 32 := Scalar.extui v463
  let c0_i32_152 : BitVec 32 := 0#32
  let v465 : BitVec 1 := Scalar.cmpi .slt c2_i32 c0_i32_152
  let v466 : BitVec 32 := Scalar.extui v465
  let v467 : BitVec 32 := Scalar.subi v464 v466
  let v468 : BitVec 1 := Scalar.cmpi .ne v462 v467
  let v469 : BitVec 32 := Scalar.remsi arg2 c2_i32
  let c0_i32_153 : BitVec 32 := 0#32
  let v470 : BitVec 1 := Scalar.cmpi .ne v469 c0_i32_153
  let v471 : BitVec 1 := Scalar.andi v468 v470
  let v457 : BitVec 32 := Scalar.divsi arg2 c2_i32
  let c1_i32_154 : BitVec 32 := 1#32
  let v472 : BitVec 32 := Scalar.subi v457 c1_i32_154
  let v473 : BitVec 32 := Scalar.select v471 v472 v457
  let v474 : BitVec 32 := Scalar.subi v473 c0_i32_156
  let c1_i32_157 : BitVec 32 := 1#32
  let v476 : BitVec 32 := Scalar.divsi v474 c1_i32_157
  let v477 : BitVec 32 := Scalar.muli v476 c1_i32_157
  let v478 : BitVec 32 := Scalar.addi c0_i32_156 v477
  let c1_i32_159 : BitVec 32 := 1#32
  let arg15 : BitVec 32 := Scf.iv v478 c1_i32_159 k0_t2
  let c1024_i32_252 : BitVec 32 := 1024#32
  let v676 : BitVec 32 := Scalar.muli arg15 c1024_i32_252
  let v677 : BitVec 32 := v676
  let v678 : Index := Scalar.indexCast v677
  let c0_253 : Index := 0#32
  ![v678.toNat, 0]
def k0_off6 (i : grid0.Coords) (k0_t2 : Fin (k0_t2_loop i).trips) : Fin 4 → Nat :=
  let c0_255 : Index := 0#32
  let c0_256 : Index := 0#32
  let c0_257 : Index := 0#32
  let c0_i32_156 : BitVec 32 := 0#32
  let arg2 : BitVec 32 := BitVec.ofNat 32 (i 2).val
  let c0_i32_149 : BitVec 32 := 0#32
  let v458 : BitVec 1 := Scalar.cmpi .sgt arg2 c0_i32_149
  let v459 : BitVec 32 := Scalar.extui v458
  let c0_i32_150 : BitVec 32 := 0#32
  let v460 : BitVec 1 := Scalar.cmpi .slt arg2 c0_i32_150
  let v461 : BitVec 32 := Scalar.extui v460
  let v462 : BitVec 32 := Scalar.subi v459 v461
  let c2_i32 : BitVec 32 := 2#32
  let c0_i32_151 : BitVec 32 := 0#32
  let v463 : BitVec 1 := Scalar.cmpi .sgt c2_i32 c0_i32_151
  let v464 : BitVec 32 := Scalar.extui v463
  let c0_i32_152 : BitVec 32 := 0#32
  let v465 : BitVec 1 := Scalar.cmpi .slt c2_i32 c0_i32_152
  let v466 : BitVec 32 := Scalar.extui v465
  let v467 : BitVec 32 := Scalar.subi v464 v466
  let v468 : BitVec 1 := Scalar.cmpi .ne v462 v467
  let v469 : BitVec 32 := Scalar.remsi arg2 c2_i32
  let c0_i32_153 : BitVec 32 := 0#32
  let v470 : BitVec 1 := Scalar.cmpi .ne v469 c0_i32_153
  let v471 : BitVec 1 := Scalar.andi v468 v470
  let v457 : BitVec 32 := Scalar.divsi arg2 c2_i32
  let c1_i32_154 : BitVec 32 := 1#32
  let v472 : BitVec 32 := Scalar.subi v457 c1_i32_154
  let v473 : BitVec 32 := Scalar.select v471 v472 v457
  let v474 : BitVec 32 := Scalar.subi v473 c0_i32_156
  let c1_i32_157 : BitVec 32 := 1#32
  let v476 : BitVec 32 := Scalar.divsi v474 c1_i32_157
  let v477 : BitVec 32 := Scalar.muli v476 c1_i32_157
  let v478 : BitVec 32 := Scalar.addi c0_i32_156 v477
  let c1_i32_159 : BitVec 32 := 1#32
  let arg15 : BitVec 32 := Scf.iv v478 c1_i32_159 k0_t2
  let c1024_i32_252 : BitVec 32 := 1024#32
  let v676 : BitVec 32 := Scalar.muli arg15 c1024_i32_252
  let v677 : BitVec 32 := v676
  let v682 : Index := Scalar.indexCast v677
  ![0, 0, 0, v682.toNat]
def k0_cond1 (i : grid0.Coords) : BitVec 1 :=
  let arg2 : BitVec 32 := BitVec.ofNat 32 (i 2).val
  let c2_i32_160 : BitVec 32 := 2#32
  let c0_i32_161 : BitVec 32 := 0#32
  let v479 : BitVec 1 := Scalar.cmpi .eq c2_i32_160 c0_i32_161
  let c1_i32_162 : BitVec 32 := 1#32
  let v480 : BitVec 32 := Scalar.select v479 c1_i32_162 c2_i32_160
  let v481 : BitVec 32 := Scalar.remsi arg2 v480
  let c0_i32_164 : BitVec 32 := 0#32
  let v483 : BitVec 1 := Scalar.cmpi .slt v481 c0_i32_164
  let c0_i32_165 : BitVec 32 := 0#32
  let v484 : BitVec 1 := Scalar.cmpi .slt v480 c0_i32_165
  let v485 : BitVec 1 := Scalar.xori v483 v484
  let c0_i32_163 : BitVec 32 := 0#32
  let v482 : BitVec 1 := Scalar.cmpi .ne v481 c0_i32_163
  let v486 : BitVec 1 := Scalar.andi v485 v482
  let v487 : BitVec 32 := Scalar.addi v481 v480
  let v488 : BitVec 32 := Scalar.select v486 v487 v481
  let c0_i32_166 : BitVec 32 := 0#32
  let v489 : BitVec 1 := Scalar.cmpi .sgt v488 c0_i32_166
  let v490 : BitVec 32 := Scalar.extui v489
  let c0_i32_167 : BitVec 32 := 0#32
  let v491 : BitVec 1 := Scalar.cmpi .ne v490 c0_i32_167
  v491

def k0_mult4 (i : grid0.Coords) : BitVec 32 :=
  let arg2 : BitVec 32 := BitVec.ofNat 32 (i 2).val
  let c2_i32_252 : BitVec 32 := 2#32
  let c0_i32_253 : BitVec 32 := 0#32
  let v676 : BitVec 1 := Scalar.cmpi .eq c2_i32_252 c0_i32_253
  let c1_i32_254 : BitVec 32 := 1#32
  let v677 : BitVec 32 := Scalar.select v676 c1_i32_254 c2_i32_252
  let v678 : BitVec 32 := Scalar.remsi arg2 v677
  let c0_i32_256 : BitVec 32 := 0#32
  let v680 : BitVec 1 := Scalar.cmpi .slt v678 c0_i32_256
  let c0_i32_257 : BitVec 32 := 0#32
  let v681 : BitVec 1 := Scalar.cmpi .slt v677 c0_i32_257
  let v682 : BitVec 1 := Scalar.xori v680 v681
  let c0_i32_255 : BitVec 32 := 0#32
  let v679 : BitVec 1 := Scalar.cmpi .ne v678 c0_i32_255
  let v683 : BitVec 1 := Scalar.andi v682 v679
  let v684 : BitVec 32 := Scalar.addi v678 v677
  let v685 : BitVec 32 := Scalar.select v683 v684 v678
  let v686 : BitVec 32 := Scalar.subi arg2 v685
  let c0_i32_258 : BitVec 32 := 0#32
  let v687 : BitVec 32 := Scalar.addi v686 c0_i32_258
  let c512_i32_259 : BitVec 32 := 512#32
  let v688 : BitVec 32 := Scalar.muli v687 c512_i32_259
  v688
def k0_off7 (i : grid0.Coords) : Fin 2 → Nat :=
  let arg2 : BitVec 32 := BitVec.ofNat 32 (i 2).val
  let c2_i32_252 : BitVec 32 := 2#32
  let c0_i32_253 : BitVec 32 := 0#32
  let v676 : BitVec 1 := Scalar.cmpi .eq c2_i32_252 c0_i32_253
  let c1_i32_254 : BitVec 32 := 1#32
  let v677 : BitVec 32 := Scalar.select v676 c1_i32_254 c2_i32_252
  let v678 : BitVec 32 := Scalar.remsi arg2 v677
  let c0_i32_256 : BitVec 32 := 0#32
  let v680 : BitVec 1 := Scalar.cmpi .slt v678 c0_i32_256
  let c0_i32_257 : BitVec 32 := 0#32
  let v681 : BitVec 1 := Scalar.cmpi .slt v677 c0_i32_257
  let v682 : BitVec 1 := Scalar.xori v680 v681
  let c0_i32_255 : BitVec 32 := 0#32
  let v679 : BitVec 1 := Scalar.cmpi .ne v678 c0_i32_255
  let v683 : BitVec 1 := Scalar.andi v682 v679
  let v684 : BitVec 32 := Scalar.addi v678 v677
  let v685 : BitVec 32 := Scalar.select v683 v684 v678
  let v686 : BitVec 32 := Scalar.subi arg2 v685
  let c0_i32_258 : BitVec 32 := 0#32
  let v687 : BitVec 32 := Scalar.addi v686 c0_i32_258
  let c512_i32_259 : BitVec 32 := 512#32
  let v688 : BitVec 32 := Scalar.muli v687 c512_i32_259
  let v689 : BitVec 32 := v688
  let v690 : Index := Scalar.indexCast v689
  let c0_260 : Index := 0#32
  ![v690.toNat, 0]
def k0_off8 (i : grid0.Coords) : Fin 4 → Nat :=
  let c0_262 : Index := 0#32
  let c0_263 : Index := 0#32
  let c0_264 : Index := 0#32
  let arg2 : BitVec 32 := BitVec.ofNat 32 (i 2).val
  let c2_i32_252 : BitVec 32 := 2#32
  let c0_i32_253 : BitVec 32 := 0#32
  let v676 : BitVec 1 := Scalar.cmpi .eq c2_i32_252 c0_i32_253
  let c1_i32_254 : BitVec 32 := 1#32
  let v677 : BitVec 32 := Scalar.select v676 c1_i32_254 c2_i32_252
  let v678 : BitVec 32 := Scalar.remsi arg2 v677
  let c0_i32_256 : BitVec 32 := 0#32
  let v680 : BitVec 1 := Scalar.cmpi .slt v678 c0_i32_256
  let c0_i32_257 : BitVec 32 := 0#32
  let v681 : BitVec 1 := Scalar.cmpi .slt v677 c0_i32_257
  let v682 : BitVec 1 := Scalar.xori v680 v681
  let c0_i32_255 : BitVec 32 := 0#32
  let v679 : BitVec 1 := Scalar.cmpi .ne v678 c0_i32_255
  let v683 : BitVec 1 := Scalar.andi v682 v679
  let v684 : BitVec 32 := Scalar.addi v678 v677
  let v685 : BitVec 32 := Scalar.select v683 v684 v678
  let v686 : BitVec 32 := Scalar.subi arg2 v685
  let c0_i32_258 : BitVec 32 := 0#32
  let v687 : BitVec 32 := Scalar.addi v686 c0_i32_258
  let c512_i32_259 : BitVec 32 := 512#32
  let v688 : BitVec 32 := Scalar.muli v687 c512_i32_259
  let v689 : BitVec 32 := v688
  let v694 : Index := Scalar.indexCast v689
  ![0, 0, 0, v694.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel7Ideal.lean ====
variable {F : FTy → Type} [FloatOps F] [Named F]
def κ : String → Option EReal := fun
  | "masked" => some ⊥
  | _ => none
-- ==== Reference7Ideal.lean ====
abbrev S8192x2048 : Shape := ⟨2, ![8192, 2048]⟩
abbrev S32x2048 : Shape := ⟨2, ![32, 2048]⟩
abbrev S2x16x128 : Shape := ⟨3, ![2, 16, 128]⟩
abbrev S2x16x4096 : Shape := ⟨3, ![2, 16, 4096]⟩
abbrev S8192x4096 : Shape := ⟨2, ![8192, 4096]⟩
abbrev S16x512 : Shape := ⟨2, ![16, 512]⟩
abbrev S1x16x512 : Shape := ⟨3, ![1, 16, 512]⟩
abbrev S2x16x512 : Shape := ⟨3, ![2, 16, 512]⟩
abbrev S8192x512 : Shape := ⟨2, ![8192, 512]⟩
abbrev S2x4096x512 : Shape := ⟨3, ![2, 4096, 512]⟩
abbrev S2x4112x512 : Shape := ⟨3, ![2, 4112, 512]⟩
abbrev S2x4112x4x128 : Shape := ⟨4, ![2, 4112, 4, 128]⟩
abbrev S2x4096x4x4x128 : Shape := ⟨5, ![2, 4096, 4, 4, 128]⟩
abbrev S2x16x16 : Shape := ⟨3, ![2, 16, 16]⟩
abbrev S2x16x4112 : Shape := ⟨3, ![2, 16, 4112]⟩
abbrev S2x4x4x4112 : Shape := ⟨4, ![2, 4, 4, 4112]⟩
abbrev S2x4x4x4096 : Shape := ⟨4, ![2, 4, 4, 4096]⟩
abbrev S2x4x4x4096x1 : Shape := ⟨5, ![2, 4, 4, 4096, 1]⟩
abbrev S2x4x4x1x4112 : Shape := ⟨5, ![2, 4, 4, 1, 4112]⟩
abbrev S2x4x4112x4096x4 : Shape := ⟨5, ![2, 4, 4112, 4096, 4]⟩
abbrev S2x4x4x4096x4112 : Shape := ⟨5, ![2, 4, 4, 4096, 4112]⟩
abbrev S_ : Shape := ⟨0, ![]⟩
abbrev S4112 : Shape := ⟨1, ![4112]⟩
abbrev S4096 : Shape := ⟨1, ![4096]⟩
abbrev S1x4112 : Shape := ⟨2, ![1, 4112]⟩
abbrev S4096x1 : Shape := ⟨2, ![4096, 1]⟩
abbrev S4096x4112 : Shape := ⟨2, ![4096, 4112]⟩
abbrev S2x4x128x4x4096 : Shape := ⟨5, ![2, 4, 128, 4, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x2048, .bf16⟩
  | .hbm, ⟨3, _⟩ => ⟨S2x16x128, .f32⟩
  | .hbm, ⟨4, _⟩ => ⟨S2x16x4096, .f32⟩
  | .hbm, ⟨5, _⟩ => ⟨S8192x4096, .bf16⟩
  | .hbm, ⟨6, _⟩ => ⟨S8192x2048, .bf16⟩
  | .hbm, ⟨7, _⟩ => ⟨S16x512, .bf16⟩
  | .hbm, ⟨8, _⟩ => ⟨S1x16x512, .bf16⟩
  | .hbm, ⟨9, _⟩ => ⟨S2x16x512, .bf16⟩
  | .hbm, ⟨10, _⟩ => ⟨S8192x512, .bf16⟩
  | .hbm, ⟨11, _⟩ => ⟨S2x4096x512, .bf16⟩
  | .hbm, ⟨12, _⟩ => ⟨S2x4112x512, .bf16⟩
  | .hbm, ⟨13, _⟩ => ⟨S2x4112x512, .f32⟩
  | .hbm, ⟨14, _⟩ => ⟨S2x4112x4x128, .f32⟩
  | .hbm, ⟨15, _⟩ => ⟨S16x512, .bf16⟩
  | .hbm, ⟨16, _⟩ => ⟨S1x16x512, .bf16⟩
  | .hbm, ⟨17, _⟩ => ⟨S2x16x512, .bf16⟩
  | .hbm, ⟨18, _⟩ => ⟨S8192x512, .bf16⟩
  | .hbm, ⟨19, _⟩ => ⟨S2x4096x512, .bf16⟩
  | .hbm, ⟨20, _⟩ => ⟨S2x4112x512, .bf16⟩
  | .hbm, ⟨21, _⟩ => ⟨S2x4112x512, .f32⟩
  | .hbm, ⟨22, _⟩ => ⟨S2x4112x4x128, .f32⟩
  | .hbm, ⟨23, _⟩ => ⟨S8192x2048, .f32⟩
  | .hbm, ⟨24, _⟩ => ⟨S2x4096x4x4x128, .f32⟩
  | .hbm, ⟨25, _⟩ => ⟨S2x16x16, .f32⟩
  | .hbm, ⟨26, _⟩ => ⟨S2x16x4112, .f32⟩
  | .hbm, ⟨27, _⟩ => ⟨S2x4x4x4112, .f32⟩
  | .hbm, ⟨28, _⟩ => ⟨S2x4x4x4096, .f32⟩
  | .hbm, ⟨29, _⟩ => ⟨S2x4x4x4096x1, .f32⟩
  | .hbm, ⟨30, _⟩ => ⟨S2x4x4x1x4112, .f32⟩
  | .hbm, ⟨31, _⟩ => ⟨S2x4x4112x4096x4, .f32⟩
  | .hbm, ⟨32, _⟩ => ⟨S2x4x4x4096x4112, .f32⟩
  | .hbm, ⟨33, _⟩ => ⟨S2x4x4x4096x4112, .f32⟩
  | .hbm, ⟨34, _⟩ => ⟨S2x4x4x4096x4112, .f32⟩
  | .hbm, ⟨35, _⟩ => ⟨S2x4x4x4096x4112, .f32⟩
  | .hbm, ⟨36, _⟩ => ⟨S2x4x4x4096x4112, .f32⟩
  | .hbm, ⟨37, _⟩ => ⟨S_, .f32⟩
  | .hbm, ⟨38, _⟩ => ⟨S_, .f32⟩
  | .hbm, ⟨39, _⟩ => ⟨S2x4x4x4096x4112, .f32⟩
  | .hbm, ⟨40, _⟩ => ⟨S2x4x4x4096x4112, .f32⟩
  | .hbm, ⟨41, _⟩ => ⟨S4112, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S1x4112, .i32⟩
  | .hbm, ⟨47, _⟩ => ⟨S4096x1, .i32⟩
  | .hbm, ⟨48, _⟩ => ⟨S4096x4112, .i32⟩
  | .hbm, ⟨49, _⟩ => ⟨S4096x4112, .i32⟩
  | .hbm, ⟨50, _⟩ => ⟨S4096x4112, .i1⟩
  | .hbm, ⟨51, _⟩ => ⟨S_, .f32⟩
  | .hbm, ⟨52, _⟩ => ⟨S_, .f32⟩
  | .hbm, ⟨53, _⟩ => ⟨S2x4x4x4096x4112, .i1⟩
  | .hbm, ⟨54, _⟩ => ⟨S2x4x4x4096x4112, .f32⟩
  | .hbm, ⟨55, _⟩ => ⟨S2x4x4x4096x4112, .f32⟩
  | .hbm, ⟨56, _⟩ => ⟨S_, .f32⟩
  | .hbm, ⟨57, _⟩ => ⟨S2x4x4x4096, .f32⟩
  | .hbm, ⟨58, _⟩ => ⟨S_, .f32⟩
  | .hbm, ⟨59, _⟩ => ⟨S2x4x4x4096, .f32⟩
  | .hbm, ⟨60, _⟩ => ⟨S2x4x4x4096, .f32⟩
  | .hbm, ⟨61, _⟩ => ⟨S2x4x4x4096x1, .f32⟩
  | .hbm, ⟨62, _⟩ => ⟨S2x4x4x4096x4112, .f32⟩
  | .hbm, ⟨63, _⟩ => ⟨S2x4x4x4096x4112, .f32⟩
  | .hbm, ⟨64, _⟩ => ⟨S2x4x4x4096x4112, .f32⟩
  | .hbm, ⟨65, _⟩ => ⟨S_, .f32⟩
  | .hbm, ⟨66, _⟩ => ⟨S2x4x4x4096, .f32⟩
  | .hbm, ⟨67, _⟩ => ⟨S2x4x4x4096x1, .f32⟩
  | .hbm, ⟨68, _⟩ => ⟨S2x4x4x4096x4112, .f32⟩
  | .hbm, ⟨69, _⟩ => ⟨S2x4x4x4096x4112, .f32⟩
  | .hbm, ⟨70, _⟩ => ⟨S2x4x128x4x4096, .f32⟩
  | .hbm, ⟨71, _⟩ => ⟨S2x4096x4x4x128, .f32⟩
  | .hbm, ⟨72, _⟩ => ⟨S8192x2048, .f32⟩
  | .hbm, ⟨73, _⟩ => ⟨S8192x2048, .bf16⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Kernel8.lean ====
abbrev S32x2048 : Shape := ⟨2, ![32, 2048]⟩
abbrev S1x2048 : Shape := ⟨2, ![1, 2048]⟩
abbrev S1x2048x10256 : Shape := ⟨3, ![1, 2048, 10256]⟩
abbrev S1x16 : Shape := ⟨2, ![1, 16]⟩
abbrev S2048x10256 : Shape := ⟨2, ![2048, 10256]⟩
abbrev S10256x2048 : Shape := ⟨2, ![10256, 2048]⟩
abbrev S16x2048 : Shape := ⟨2, ![16, 2048]⟩
abbrev S_ : Shape := ⟨0, ![]⟩
abbrev S128x2048 : Shape := ⟨2, ![128, 2048]⟩
abbrev S32x16 : Shape := ⟨2, ![32, 16]⟩
abbrev S32 : Shape := ⟨1, ![32]⟩
abbrev S32x1 : Shape := ⟨2, ![32, 1]⟩
abbrev S32x128 : Shape := ⟨2, ![32, 128]⟩

abbrev nBuf : Space → Nat
  | .hbm => 16
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x10256, .f32⟩
  | .hbm, ⟨3, _⟩ => ⟨S1x16, .f32⟩
  | .hbm, ⟨4, _⟩ => ⟨S2048x10256, .f32⟩
  | .hbm, ⟨5, _⟩ => ⟨S10256x2048, .f32⟩
  | .hbm, ⟨6, _⟩ => ⟨S16x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S128x2048, .f32⟩
  | .hbm, ⟨12, _⟩ => ⟨S128x2048, .f32⟩
  | .hbm, ⟨13, _⟩ => ⟨S128x2048, .bf16⟩
  | .hbm, ⟨14, _⟩ => ⟨S32x2048, .bf16⟩
  | .hbm, ⟨15, _⟩ => ⟨S32x16, .f32⟩
  | .local _ .vmem, ⟨0, _⟩ => ⟨S32x2048, .f32⟩
  | .local _ .vmem, ⟨1, _⟩ => ⟨S1x2048, .f32⟩
  | .local _ .vmem, ⟨2, _⟩ => ⟨S128x2048, .bf16⟩
  | .local _ .vmem, ⟨3, _⟩ => ⟨S128x2048, .bf16⟩
  | .local _ .vmem, ⟨4, _⟩ => ⟨S1x16, .f32⟩
  | .local _ .vmem, ⟨5, _⟩ => ⟨S32x2048, .bf16⟩
  | .local _ .vmem, ⟨6, _⟩ => ⟨S32x16, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S32x2048 : Shape := ⟨2, ![32, 2048]⟩
abbrev S1x2048 : Shape := ⟨2, ![1, 2048]⟩
abbrev S1x2048x10256 : Shape := ⟨3, ![1, 2048, 10256]⟩
abbrev S1x16 : Shape := ⟨2, ![1, 16]⟩
abbrev S2048 : Shape := ⟨1, ![2048]⟩
abbrev S_ : Shape := ⟨0, ![]⟩
abbrev S32 : Shape := ⟨1, ![32]⟩
abbrev S32x1 : Shape := ⟨2, ![32, 1]⟩
abbrev S2048x10256 : Shape := ⟨2, ![2048, 10256]⟩
abbrev S2048x16 : Shape := ⟨2, ![2048, 16]⟩
abbrev S32x16 : Shape := ⟨2, ![32, 16]⟩
abbrev S16 : Shape := ⟨1, ![16]⟩

abbrev nBuf : Space → Nat
  | .hbm => 45
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x10256, .f32⟩
  | .hbm, ⟨3, _⟩ => ⟨S1x16, .f32⟩
  | .hbm, ⟨4, _⟩ => ⟨S2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S2048x10256, .f32⟩
  | .hbm, ⟨22, _⟩ => ⟨S2048x16, .f32⟩
  | .hbm, ⟨23, _⟩ => ⟨S32x16, .f32⟩
  | .hbm, ⟨24, _⟩ => ⟨S32x2048, .bf16⟩
  | .hbm, ⟨25, _⟩ => ⟨S16, .f32⟩
  | .hbm, ⟨26, _⟩ => ⟨S1x16, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S32x16, .f32⟩
  | .hbm, ⟨35, _⟩ => ⟨S32x16, .i1⟩
  | .hbm, ⟨36, _⟩ => ⟨S32x16, .f32⟩
  | .hbm, ⟨37, _⟩ => ⟨S32x16, .f32⟩
  | .hbm, ⟨38, _⟩ => ⟨S32x16, .f32⟩
  | .hbm, ⟨39, _⟩ => ⟨S32x16, .f32⟩
  | .hbm, ⟨40, _⟩ => ⟨S32x16, .f32⟩
  | .hbm, ⟨41, _⟩ => ⟨S32x16, .f32⟩
  | .hbm, ⟨42, _⟩ => ⟨S32x16, .f32⟩
  | .hbm, ⟨43, _⟩ => ⟨S32x16, .f32⟩
  | .hbm, ⟨44, _⟩ => ⟨S32x16, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.FoxRef.lean ====
/- The reference's attention, read entry by entry: keys, logits, softmax and result. -/
module

public import proofs.«01_k».proof.Proof.Gen.Reference7Ideal.Run
public import Idealize.ShloMosaic.Lib.Pipeline.ValueKit
public import Idealize.ShloMosaic.Lib.KernelVsHost
public import Idealize.ShloMosaic.Lib.Pointwise
public import Idealize.ShloMosaic.Lib.Tactic

@[expose] public section

set_option maxRecDepth 16384

noncomputable section

namespace Cert.Reference7Ideal.Fox

open Idealize.ShloMosaic Idealize.ShloMosaic.TcCoe Cert.Reference7Ideal Cert.Reference7Ideal.Gen

/-- The keys of both batches: 16 shared rows, then the batch's own. -/
theorem keys_apply (kv : FVec Ideal S8192x2048 .bf16) (aux : FVec Ideal S32x2048 .bf16) (b : Fin 2) (k : Fin 4112) (n : Fin 4) (d : Fin 128) :
    ((shapeCast S2x4112x4x128 (extf .f32 (concatenate S2x4112x512 1 [⟨S2x16x512, (broadcastInDim S2x16x512 ![0, 1, 2] bcast_S1x16x512_S2x16x512_0_1_2 (broadcastInDim S1x16x512 ![1, 2] bcast_S16x512_S1x16x512_1_2 (extractStridedSlice S16x512 ![0, 1024] aux slices_S32x2048_S16x512_0_1024)))⟩, ⟨S2x4096x512, (shapeCast _ (extractStridedSlice S8192x512 ![0, 1024] kv slices_S8192x2048_S8192x512_0_1024) shapeCasts_S8192x512_S2x4096x512)⟩] concatenates_S2x16x512_S2x4096x512_S2x4112x512_d1) bitsLt_bf16_f32) shapeCasts_S2x4112x512_S2x4112x4x128) : FVec Ideal S2x4112x4x128 .f32) (ix4 b k n d) =
      if h : k.val < 16 then aux (ix2 ⟨k.val, by omega⟩ ⟨1024 + (n.val * 128 + d.val), by omega⟩)
        else kv (ix2 ⟨b.val * 4096 + (k.val - 16), by omega⟩ ⟨1024 + (n.val * 128 + d.val), by omega⟩) := by
  pointwise

/-- The values of both batches. -/
theorem values_apply (kv : FVec Ideal S8192x2048 .bf16) (aux : FVec Ideal S32x2048 .bf16) (b : Fin 2) (k : Fin 4112) (n : Fin 4) (d : Fin 128) :
    ((shapeCast S2x4112x4x128 (extf .f32 (concatenate S2x4112x512 1 [⟨S2x16x512, (broadcastInDim S2x16x512 ![0, 1, 2] bcast_S1x16x512_S2x16x512_0_1_2 (broadcastInDim S1x16x512 ![1, 2] bcast_S16x512_S1x16x512_1_2 (extractStridedSlice S16x512 ![0, 1536] aux slices_S32x2048_S16x512_0_1536)))⟩, ⟨S2x4096x512, (shapeCast _ (extractStridedSlice S8192x512 ![0, 1536] kv slices_S8192x2048_S8192x512_0_1536) shapeCasts_S8192x512_S2x4096x512)⟩] concatenates_S2x16x512_S2x4096x512_S2x4112x512_d1) bitsLt_bf16_f32) shapeCasts_S2x4112x512_S2x4112x4x128) : FVec Ideal S2x4112x4x128 .f32) (ix4 b k n d) =
      if h : k.val < 16 then aux (ix2 ⟨k.val, by omega⟩ ⟨1536 + (n.val * 128 + d.val), by omega⟩)
        else kv (ix2 ⟨b.val * 4096 + (k.val - 16), by omega⟩ ⟨1536 + (n.val * 128 + d.val), by omega⟩) := by
  pointwise

/-- The cumulated forget logits of all keys. -/
theorem cums_apply (cm : FVec Ideal S2x16x128 .f32) (ck : FVec Ideal S2x16x4096 .f32) (b : Fin 2) (n g : Fin 4) (k : Fin 4112) :
    ((shapeCast S2x4x4x4112 (concatenate S2x16x4112 2 [⟨S2x16x16, (extractStridedSlice S2x16x16 ![0, 0, 0] cm slices_S2x16x128_S2x16x16_0_0_0)⟩, ⟨S2x16x4096, ck⟩] concatenates_S2x16x16_S2x16x4096_S2x16x4112_d2) shapeCasts_S2x16x4112_S2x4x4x4112) : FVec Ideal S2x4x4x4112 .f32) (ix4 b n g k) =
      if h : k.val < 16 then cm (ix3 b ⟨n.val * 4 + g.val, by omega⟩ ⟨k.val, by omega⟩)
        else ck (ix3 b ⟨n.val * 4 + g.val, by omega⟩ ⟨k.val - 16, by omega⟩) := by
  pointwise

/-- The mask picks the keys up to the row's own. -/
theorem mask_eq (j p : ℕ) (hj : j < 8192) (hp : p < 4096) (x y : EReal) :
    Scalar.select (IntOp.cmpi CmpIPredicate.sle (BitVec.ofNat 32 j) (IntOp.addi (16#32) (BitVec.ofNat 32 p))) x y = if j ≤ 16 + p then x else y := by
  have e1 : IntOp.addi (16#32) (BitVec.ofNat 32 p) = BitVec.ofNat 32 (16 + p) := by
    show 16#32 + BitVec.ofNat 32 p = _
    rw [BitVec.ofNat_add]
  have e : (BitVec.ofNat 32 j).sle (BitVec.ofNat 32 (16 + p)) = decide (j ≤ 16 + p) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  rw [e1]
  show Scalar.select (BitVec.ofBool ((BitVec.ofNat 32 j).sle (BitVec.ofNat 32 (16 + p)))) x y = _
  rw [e]
  by_cases h : j ≤ 16 + p
  · rw [if_pos h, decide_eq_true h]; rfl
  · rw [if_neg h, decide_eq_false h]; rfl

/-- A logit after the mask. -/
theorem logit_apply (k : FVec Ideal S2x4112x4x128 .f32) (q : FVec Ideal S8192x2048 .bf16) (cc : FVec Ideal S2x4x4x4112 .f32)
    (b : Fin 2) (n g : Fin 4) (p : Fin 4096) (j : Fin 4112) :
    ((select (broadcastInDim S2x4x4x4096x4112 ![3, 4] bcast_S4096x4112_S2x4x4x4096x4112_3_4 (cmpi .sle (broadcastInDim S4096x4112 ![0, 1] bcast_S1x4112_S4096x4112_0_1 (broadcastInDim S1x4112 ![1] bcast_S4112_S1x4112_1 (iotaInDim S4112 32 0))) (broadcastInDim S4096x4112 ![0, 1] bcast_S4096x1_S4096x4112_0_1 (broadcastInDim S4096x1 ![0] bcast_S4096_S4096x1_0 (addi (broadcastInDim S4096 ![] bcast_S_S4096 (constantI S_ 32 16#32)) (iotaInDim S4096 32 0)))))) (mulf (subf (addf (transpose S2x4x4x4096x4112 [0, 1, 4, 3, 2] (Host.dotGeneral dot_S2x4112x4x128_S2x4096x4x4x128_S2x4x4112x4096x4_3_4_1_13_02_02 none k (shapeCast _ (extf .f32 q bitsLt_bf16_f32) shapeCasts_S8192x2048_S2x4096x4x4x128)) transposes_S2x4x4112x4096x4_S2x4x4x4096x4112_0_1_4_3_2) (broadcastInDim S2x4x4x4096x4112 ![0, 1, 2, 3, 4] bcast_S2x4x4x4096x1_S2x4x4x4096x4112_0_1_2_3_4 (broadcastInDim S2x4x4x4096x1 ![0, 1, 2, 3] bcast_S2x4x4x4096_S2x4x4x4096x1_0_1_2_3 (extractStridedSlice S2x4x4x4096 ![0, 0, 0, 16] cc slices_S2x4x4x4112_S2x4x4x4096_0_0_0_16)))) (broadcastInDim S2x4x4x4096x4112 ![0, 1, 2, 3, 4] bcast_S2x4x4x1x4112_S2x4x4x4096x4112_0_1_2_3_4 (broadcastInDim S2x4x4x1x4112 ![0, 1, 2, 4] bcast_S2x4x4x4112_S2x4x4x1x4112_0_1_2_4 cc))) (broadcastInDim S2x4x4x4096x4112 ![] bcast_S_S2x4x4x4096x4112 (Host.log (constant S_ .f32 0x40000000#32)))) (broadcastInDim S2x4x4x4096x4112 ![] bcast_S_S2x4x4x4096x4112 (id (constant S_ .f32 0xFF800000#32)))) : FVec Ideal S2x4x4x4096x4112 .f32) (ix5 b n g p j) =
      if j.val ≤ 16 + p.val then (((∑ d, k (ix4 b j n d) * q (ix2 ⟨b.val * 4096 + p.val, by omega⟩ ⟨n.val * 512 + g.val * 128 + d.val, by omega⟩))
        + cc (ix4 b n g ⟨16 + p.val, by omega⟩)) - cc (ix4 b n g j)) * Ideal.log (Ideal.ofBits .f32 0x40000000#32) else Ideal.ofBits .f32 0xFF800000#32 := by
  pointwise
  exact mask_eq j.val p.val (by omega) (by omega) _ _

/-- The greatest logit of a row. -/
def top (z : FVec Ideal S2x4x4x4096x4112 .f32) : FVec Ideal S2x4x4x4096 .f32 :=
  (maximumf (broadcastInDim S2x4x4x4096 ![] bcast_S_S2x4x4x4096 (constant S_ .f32 0xFF800000#32)) (Host.reduce FloatOps.maximumf z (constant S_ .f32 0xFF800000#32) reducesTo_S2x4x4x4096x4112_S2x4x4x4096_d4 h_S_))

theorem red : S2x4x4x4096x4112.Reduces [4] S2x4x4x4096 := by decide

theorem lift_eq (h : S2x4x4x4096x4112.Reduces [4] S2x4x4x4096) (b : Fin 2) (n g : Fin 4) (p : Fin 4096) (k : Fin 4112) :
    h.lift (ix4 b n g p : S2x4x4x4096.Idx) k = (ix5 b n g p k : S2x4x4x4096x4112.Idx) := by
  funext a
  apply Fin.ext
  match a with
  | ⟨0, _⟩ => rfl
  | ⟨1, _⟩ => rfl
  | ⟨2, _⟩ => rfl
  | ⟨3, _⟩ => rfl
  | ⟨4, _⟩ => rfl

/-- A fold of `max` from −∞ is −∞ or an element, and no element is above it. -/
theorem fold_max {ι : Type} (s : Finset ι) (f : ι → EReal) : (∀ j ∈ s, f j ≤ s.fold max ⊥ f) ∧ (s.fold max ⊥ f = ⊥ ∨ ∃ j, s.fold max ⊥ f = f j) := by
  classical
  induction s using Finset.induction_on with
  | empty => simp
  | insert x s hx ih =>
    rw [Finset.fold_insert hx]
    refine ⟨fun j hj => ?_, ?_⟩
    · rcases Finset.mem_insert.mp hj with rfl | h
      · exact le_max_left _ _
      · exact (ih.1 j h).trans (le_max_right _ _)
    · rcases max_choice (f x) (s.fold max ⊥ f) with h | h
      · exact Or.inr ⟨x, h⟩
      · rw [h]; exact ih.2

theorem bot_word : (FloatOps.ofBits .f32 0xFF800000#32 : Ideal .f32) = (⊥ : EReal) := by
  show Ideal.ofBits .f32 0xFF800000#32 = ⊥
  simp [Ideal.ofBits, Ideal.ieee]

/-- The host's maximum along one axis: no element along it is above, and it is −∞ or one of them. -/
theorem reduce_top {s t u : Shape} {a : Fin s.rank} (z : FVec Ideal s .f32) (h : s.ReducesTo [a] t) (hu : 0 < u.numel) (h' : s.Reduces [a] t) (j : t.Idx) (M : EReal)
    (hM : M = Host.reduce FloatOps.maximumf z (constant u .f32 0xFF800000#32) h hu j) :
    (∀ k : Fin (s.size a), z (h'.lift j k) ≤ M) ∧ (M = ⊥ ∨ ∃ k : Fin (s.size a), M = z (h'.lift j k)) := by
  rw [hostReduce_maximumf_eq_multiReduction z 0xFF800000#32 h hu h' (Or.inl rfl) (by decide), Ideal.multiReduction_maximumf_single, bot_word] at hM
  have := fold_max (Finset.univ : Finset (Fin (s.size a))) (z ∘ h'.lift j)
  rw [hM]
  exact ⟨fun j => this.1 j (Finset.mem_univ _), this.2⟩

theorem max_top {s t : Shape} {dims : Fin s.rank → Fin t.rank} (h0 : s.BroadcastsInDim t dims) (x : FVec Ideal t .f32) (j : t.Idx) :
    maximumf (broadcastInDim t dims h0 (constant s .f32 0xFF800000#32)) x j = x j := by
  show max (FloatOps.ofBits .f32 0xFF800000#32 : Ideal .f32) (x j) = x j
  rw [bot_word]
  exact max_eq_right bot_le

theorem top_eq (z : FVec Ideal S2x4x4x4096x4112 .f32) (i : S2x4x4x4096.Idx) :
    top z i = Host.reduce FloatOps.maximumf z (constant S_ .f32 0xFF800000#32) reducesTo_S2x4x4x4096x4112_S2x4x4x4096_d4 h_S_ i :=
  max_top (s := S_) bcast_S_S2x4x4x4096 _ i

theorem top_apply (z : FVec Ideal S2x4x4x4096x4112 .f32) (b : Fin 2) (n g : Fin 4) (p : Fin 4096) :
    (∀ j, z (ix5 b n g p j) ≤ top z (ix4 b n g p)) ∧ (top z (ix4 b n g p) = ⊥ ∨ ∃ j, top z (ix4 b n g p) = z (ix5 b n g p j)) := by
  have h := reduce_top z reducesTo_S2x4x4x4096x4112_S2x4x4x4096_d4 h_S_ red (ix4 b n g p) _ (top_eq z (ix4 b n g p))
  generalize top z (ix4 b n g p) = M at h ⊢
  refine ⟨fun k => ?_, h.2.imp id fun ⟨k, hk⟩ => ⟨k, ?_⟩⟩
  · have := h.1 k
    rw [lift_eq red b n g p k] at this
    exact this
  · have e := lift_eq red b n g p k
    rw [e] at hk
    exact hk

/-- The result from logits, greatest logits and values. -/
theorem out_apply (z : FVec Ideal S2x4x4x4096x4112 .f32) (x : FVec Ideal S2x4x4x4096 .f32) (v : FVec Ideal S2x4112x4x128 .f32)
    (gates : FVec Ideal S8192x4096 .bf16) (sb : FVec Ideal S8192x2048 .bf16) (b : Fin 2) (n g : Fin 4) (p : Fin 4096) (d : Fin 128) :
    (truncf .bf16 (addf (mulf (shapeCast S8192x2048 (transpose S2x4096x4x4x128 [0, 4, 1, 3, 2] (Host.dotGeneral dot_S2x4112x4x128_S2x4x4x4096x4112_S2x4x128x4x4096_1_4_3_23_02_01 none v (Host.divf (Host.exp (subf z (broadcastInDim S2x4x4x4096x4112 ![0, 1, 2, 3, 4] bcast_S2x4x4x4096x1_S2x4x4x4096x4112_0_1_2_3_4 (broadcastInDim S2x4x4x4096x1 ![0, 1, 2, 3] bcast_S2x4x4x4096_S2x4x4x4096x1_0_1_2_3 x)))) (broadcastInDim S2x4x4x4096x4112 ![0, 1, 2, 3, 4] bcast_S2x4x4x4096x1_S2x4x4x4096x4112_0_1_2_3_4 (broadcastInDim S2x4x4x4096x1 ![0, 1, 2, 3] bcast_S2x4x4x4096_S2x4x4x4096x1_0_1_2_3 (Host.reduceAdd (Host.exp (subf z (broadcastInDim S2x4x4x4096x4112 ![0, 1, 2, 3, 4] bcast_S2x4x4x4096x1_S2x4x4x4096x4112_0_1_2_3_4 (broadcastInDim S2x4x4x4096x1 ![0, 1, 2, 3] bcast_S2x4x4x4096_S2x4x4x4096x1_0_1_2_3 x)))) (constant S_ .f32 0x00000000#32) reducesTo_S2x4x4x4096x4112_S2x4x4x4096_d4 h_S_))))) transposes_S2x4x128x4x4096_S2x4096x4x4x128_0_4_1_3_2) shapeCasts_S2x4096x4x4x128_S8192x2048) (extf .f32 (extractStridedSlice S8192x2048 ![0, 2048] gates slices_S8192x4096_S8192x2048_0_2048) bitsLt_bf16_f32)) (extf .f32 sb bitsLt_bf16_f32)) bitsLt_bf16_f32 : FVec Ideal S8192x2048 .bf16) (ix2 ⟨b.val * 4096 + p.val, by omega⟩ ⟨n.val * 512 + g.val * 128 + d.val, by omega⟩) =
      (∑ j, v (ix4 b j n d) * Ideal.div (Ideal.exp (z (ix5 b n g p j) - x (ix4 b n g p))) (∑ j, Ideal.exp (z (ix5 b n g p j) - x (ix4 b n g p))))
        * gates (ix2 ⟨b.val * 4096 + p.val, by omega⟩ ⟨2048 + (n.val * 512 + g.val * 128 + d.val), by omega⟩)
        + sb (ix2 ⟨b.val * 4096 + p.val, by omega⟩ ⟨n.val * 512 + g.val * 128 + d.val, by omega⟩) := by
  pointwise

end Cert.Reference7Ideal.Fox

end
-- ==== Proof.Finite.lean ====
/-
  Finite entries: what the checked words of a precondition say of the values they are about.
-/
module

public import Idealize.ShloMosaic.Lib.Pipeline.ValueKit
public import Idealize.ShloMosaic.Lib.Pointwise
public import Idealize.ShloMosaic.Lib.Tactic

@[expose] public section

noncomputable section

namespace Cert.Finite

open Idealize.ShloMosaic Idealize.ShloMosaic.TcCoe

/-- The word of a magnitude's comparison with the infinity, when it is set. -/
theorem real_of_word (x : EReal) (h : Ideal.cmp .olt (max x (-x)) (Ideal.ofBits .f32 0x7F800000#32) = 1#1) : ∃ r : ℝ, x = (r : EReal) := by
  have e : Ideal.ofBits .f32 0x7F800000#32 = ⊤ := by
    simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

/-- A sum of reals is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a t ha ih => rw [Finset.sum_insert ha, Finset.sum_insert ha, ih, EReal.coe_add]

/-- What is left of a real after all of it is taken away. -/
theorem sub_self_coe (r : ℝ) : (r : EReal) - (r : EReal) = 0 := by
  rw [← EReal.coe_sub, sub_self, EReal.coe_zero]

end Cert.Finite

end
-- ==== Proof.FoxRow.lean ====
/- One row of the attention that keeps a running maximum: the arithmetic over the reals with infinities, no program. -/
module

public import proofs.«01_k».proof.Proof.Finite

@[expose] public section

noncomputable section

namespace Cert.FoxRow

open Idealize.ShloMosaic

/-- Base-two power of a real, as an extended real. -/
def pw (r : ℝ) : EReal := ((Real.rpow 2 r : ℝ) : EReal)

/-- A row that has seen the keys in `S`, whose logits are `a` and whose value columns are `w`: its maximum is in every lane
    of `m`, its sums in `acc`, each weighed relative to that maximum. -/
def Seen (a : ℕ → ℝ) (w : ℕ → Fin 256 → EReal) (S : Finset ℕ) (m : Fin 128 → EReal) (acc : Fin 256 → EReal) : Prop :=
  (S = ∅ ∧ (∀ l, m l = ⊥) ∧ ∀ d, acc d = 0) ∨
  (S.Nonempty ∧ ∃ M : ℝ, (∀ l, m l = M) ∧ ∀ d, acc d = ∑ k ∈ S, pw (a k - M) * w k d)

/-- A nonnegative real factor goes into a sum. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert x s hx ih =>
    rw [Finset.sum_insert hx, Finset.sum_insert hx, ← ih]
    exact EReal.right_distrib_of_nonneg_of_ne_top (by exact_mod_cast hc) (EReal.coe_ne_top c) _ _

theorem exp2_sub_coe (x y : ℝ) : Ideal.exp2 ((x : EReal) - (y : EReal)) = pw (x - y) := by
  rw [← EReal.coe_sub]; rfl

theorem exp2_bot_sub (y : ℝ) : Ideal.exp2 ((⊥ : EReal) - (y : EReal)) = 0 := by
  rw [EReal.bot_sub]; exact Ideal.exp2_bot

theorem exp2_bot_sub_bot : Ideal.exp2 ((⊥ : EReal) - (⊥ : EReal)) = 0 := by
  rw [EReal.bot_sub]; exact Ideal.exp2_bot

theorem pw_mul (x y : ℝ) : pw x * pw y = pw (x + y) := by
  unfold pw
  rw [← EReal.coe_mul]
  exact congrArg _ (Real.rpow_add (by norm_num : (0:ℝ) < 2) x y).symm

theorem pw_nonneg (x : ℝ) : (0:ℝ) ≤ Real.rpow 2 x := Real.rpow_nonneg (by norm_num) x

/-- A visit: `n` keys, of which those with `vis` are seen. `R` is their greatest logit, `-∞` where there is none. -/
theorem visit {a : ℕ → ℝ} {w : ℕ → Fin 256 → EReal} {S S' : Finset ℕ} {m m' : Fin 128 → EReal} {acc acc' : Fin 256 → EReal}
    (h : Seen a w S m acc) {n : ℕ} (z : Fin n → EReal) (vx : Fin n → Fin 256 → EReal) (lane : Fin n → Fin 128) (lane' : Fin 256 → Fin 128)
    (R : EReal) (key : Fin n → ℕ) (vis : Fin n → Prop) [DecidablePred vis]
    (hz : ∀ j, z j = if vis j then ((a (key j) : ℝ) : EReal) else ⊥)
    (hv : ∀ j, vis j → ∀ d, vx j d = w (key j) d)
    (hle : ∀ j, z j ≤ R) (hR : R = ⊥ ∨ ∃ j, R = z j)
    (hm : ∀ l, m' l = max (m l) R)
    (hacc : ∀ d, acc' d = acc d * Ideal.exp2 (m (lane' d) - m' (lane' d)) + ∑ j, Ideal.exp2 (z j - m' (lane j)) * vx j d)
    (hinj : ∀ i j, vis i → vis j → key i = key j → i = j) (hdis : ∀ j, vis j → key j ∉ S)
    (hS : ∀ k, k ∈ S' ↔ k ∈ S ∨ ∃ j, vis j ∧ key j = k) : Seen a w S' m' acc' := by
  classical
  have hS' : S' = S ∪ (Finset.univ.filter vis).image key := by
    ext k; rw [hS k]; simp
  have hd : Disjoint S ((Finset.univ.filter vis).image key) := by
    rw [Finset.disjoint_right]
    intro k hk
    simp only [Finset.mem_image, Finset.mem_filter, Finset.mem_univ, true_and] at hk
    obtain ⟨j, hj, rfl⟩ := hk
    exact hdis j hj
  have hsum : ∀ (f : ℕ → EReal), ∑ k ∈ (Finset.univ.filter vis).image key, f k = ∑ j, if vis j then f (key j) else 0 := by
    intro f
    rw [Finset.sum_image, Finset.sum_filter]
    intro i hi j hj hij
    simp only [Finset.coe_filter, Finset.mem_univ, true_and, Set.mem_setOf_eq] at hi hj
    exact hinj i j hi hj hij
  -- the maximum is a real as soon as something has been seen
  have hRr : (∀ j, ¬ vis j) ∧ R = ⊥ ∨ (∃ j, vis j) ∧ ∃ r : ℝ, R = r := by
    by_cases hv : ∃ j, vis j
    · refine Or.inr ⟨hv, ?_⟩
      obtain ⟨j, hj⟩ := hv
      have h1 := hle j
      rw [hz j, if_pos hj] at h1
      rcases hR with hR | ⟨i, hi⟩
      · rw [hR] at h1
        exact absurd (le_bot_iff.mp h1) (EReal.coe_ne_bot _)
      · rw [hz i] at hi
        by_cases hvi : vis i
        · rw [if_pos hvi] at hi
          exact ⟨_, hi⟩
        · rw [if_neg hvi] at hi
          rw [hi] at h1
          exact absurd (le_bot_iff.mp h1) (EReal.coe_ne_bot _)
    · refine Or.inl ⟨fun j hj => hv ⟨j, hj⟩, ?_⟩
      rcases hR with hR | ⟨i, hi⟩
      · exact hR
      · rw [hi, hz i, if_neg fun hj => hv ⟨i, hj⟩]
  have hterm : ∀ (M : ℝ) (d : Fin 256), (∀ l, m' l = M) →
      ∑ j, Ideal.exp2 (z j - m' (lane j)) * vx j d = ∑ k ∈ (Finset.univ.filter vis).image key, pw (a k - M) * w k d := by
    intro M d hM
    rw [hsum]
    refine Finset.sum_congr rfl fun j _ => ?_
    rw [hM, hz j]
    by_cases hj : vis j
    · rw [if_pos hj, if_pos hj, exp2_sub_coe, hv j hj d]
    · rw [if_neg hj, if_neg hj, exp2_bot_sub, zero_mul]
  rcases h with ⟨hS0, hm0, ha0⟩ | ⟨hne, M, hM, ha⟩
  · rcases hRr with ⟨hn, hR0⟩ | ⟨⟨j0, hj0⟩, r, hr⟩
    · refine Or.inl ⟨?_, fun l => ?_, fun d => ?_⟩
      · rw [hS', hS0, Finset.filter_false_of_mem (fun j _ => hn j)]; simp
      · rw [hm, hm0, hR0]; simp
      · rw [hacc, ha0, zero_mul, zero_add]
        refine Finset.sum_eq_zero fun j _ => ?_
        rw [hz j, if_neg (hn j), hm, hm0, hR0, max_self, exp2_bot_sub_bot, zero_mul]
    · have hM' : ∀ l, m' l = (r : EReal) := fun l => by rw [hm, hm0, hr]; exact max_eq_right bot_le
      refine Or.inr ⟨⟨key j0, (hS _).mpr (Or.inr ⟨j0, hj0, rfl⟩)⟩, r, hM', fun d => ?_⟩
      rw [hacc, ha0, zero_mul, zero_add, hterm r d hM', hS', hS0, Finset.empty_union]
  · have hM' : ∃ M' : ℝ, ∀ l, m' l = (M' : EReal) := by
      rcases hRr with ⟨-, hR0⟩ | ⟨-, r, hr⟩
      · exact ⟨M, fun l => by rw [hm, hM, hR0]; exact max_eq_left bot_le⟩
      · exact ⟨max M r, fun l => by rw [hm, hM, hr]; exact (EReal.coe_strictMono.monotone.map_max).symm⟩
    obtain ⟨M', hM'⟩ := hM'
    obtain ⟨k0, hk0⟩ := hne
    refine Or.inr ⟨⟨k0, (hS _).mpr (Or.inl hk0)⟩, M', hM', fun d => ?_⟩
    rw [hacc, ha, hterm M' d hM', hM, hM', exp2_sub_coe, hS', Finset.sum_union hd]
    refine congrArg (· + _) ?_
    unfold pw
    rw [sum_mul_coe _ _ _ (pw_nonneg _)]
    refine Finset.sum_congr rfl fun k _ => ?_
    change pw (a k - M) * w k d * pw (M - M') = pw (a k - M') * w k d
    rw [mul_right_comm, pw_mul, sub_add_sub_cancel]

/-- The start: nothing seen. -/
theorem start (a : ℕ → ℝ) (w : ℕ → Fin 256 → EReal) {m : Fin 128 → EReal} {acc : Fin 256 → EReal} (hm : ∀ l, m l = ⊥) (ha : ∀ d, acc d = 0) :
    Seen a w ∅ m acc := Or.inl ⟨rfl, hm, ha⟩

end Cert.FoxRow

end
-- ==== Proof.FoxSoft.lean ====
/- One row of the attention: the sums kept relative to a running maximum, divided at the end, are the row's softmax. No program. -/
module

public import proofs.«01_k».proof.Proof.FoxRow

@[expose] public section

noncomputable section

namespace Cert.FoxRow

open Idealize.ShloMosaic

/-- A greatest element of logits of which one is real is real. -/
theorem top_real {N : ℕ} {a : ℕ → ℝ} {S : Finset ℕ} {X : EReal} {zr : Fin N → EReal} (hz : ∀ k : Fin N, zr k = if k.val ∈ S then ((a k.val : ℝ) : EReal) else ⊥)
    (hle : ∀ k, zr k ≤ X) (hmem : X = ⊥ ∨ ∃ k, X = zr k) (k0 : Fin N) (hk0 : k0.val ∈ S) : ∃ x : ℝ, X = x := by
  have h0 := hle k0
  rw [hz k0, if_pos hk0] at h0
  rcases hmem with h | ⟨k, h⟩
  · rw [h] at h0
    exact absurd (le_bot_iff.mp h0) (EReal.coe_ne_bot _)
  · rw [hz k] at h
    by_cases hk : k.val ∈ S
    · rw [if_pos hk] at h
      exact ⟨_, h⟩
    · rw [if_neg hk] at h
      rw [h] at h0
      exact absurd (le_bot_iff.mp h0) (EReal.coe_ne_bot _)

/-- A sum over all keys of which only those of `S` count. -/
theorem sum_seen {N : ℕ} (S : Finset ℕ) (hSN : ∀ k ∈ S, k < N) (f : ℕ → EReal) :
    ∑ k : Fin N, (if k.val ∈ S then f k.val else 0) = ∑ k ∈ S, f k := by
  rw [Fin.sum_univ_eq_sum_range (fun k => if k ∈ S then f k else 0) N, ← Finset.sum_filter]
  refine Finset.sum_congr ?_ fun _ _ => rfl
  ext k
  simp only [Finset.mem_filter, Finset.mem_range]
  exact ⟨fun h => h.2, fun h => ⟨hSN k h, h⟩⟩

theorem coe_sum {ι : Type} (s : Finset ι) (f : ι → ℝ) : ∑ k ∈ s, ((f k : ℝ) : EReal) = ((∑ k ∈ s, f k : ℝ) : EReal) := by
  classical
  induction s using Finset.induction_on with
  | empty => simp
  | insert x s hx ih => rw [Finset.sum_insert hx, Finset.sum_insert hx, ih, EReal.coe_add]

theorem softmax {N : ℕ} {a : ℕ → ℝ} {w : ℕ → Fin 256 → EReal} {S : Finset ℕ} {m : Fin 128 → EReal} {acc : Fin 256 → EReal} (h : Seen a w S m acc) (hne : S.Nonempty)
    (hSN : ∀ k ∈ S, k < N) (d d' : Fin 256) (hone : ∀ k ∈ S, w k d' = 1) (cq X : ℝ) (zr : Fin N → EReal)
    (hz : ∀ k : Fin N, zr k = if k.val ∈ S then (((a k.val + cq) * Real.log 2 : ℝ) : EReal) else ⊥) :
    Ideal.div (acc d) (acc d') = ∑ k : Fin N, w k.val d * Ideal.div (Ideal.exp (zr k - X)) (∑ j, Ideal.exp (zr j - X)) := by
  rcases h with ⟨hS0, -, -⟩ | ⟨-, M, -, ha⟩
  · exact absurd hS0 hne.ne_empty
  -- the row's weights, relative to the running maximum and to the greatest logit
  have h2 : (0 : ℝ) < 2 := by norm_num
  have hp : ∀ x : ℝ, (0 : ℝ) < Real.rpow 2 x := fun x => Real.rpow_pos_of_pos h2 x
  set D : ℝ := ∑ k ∈ S, Real.rpow 2 (a k - M) with hD
  have hDpos : 0 < D := Finset.sum_pos (fun k _ => hp _) hne
  set C : ℝ := Real.exp ((M + cq) * Real.log 2 - X) with hC
  have hCpos : 0 < C := Real.exp_pos _
  have hex : ∀ k : Fin N, Ideal.exp (zr k - X) = if k.val ∈ S then ((Real.rpow 2 (a k.val - M) * C : ℝ) : EReal) else 0 := fun k => by
    rw [hz k]
    by_cases hk : k.val ∈ S
    · rw [if_pos hk, if_pos hk, ← EReal.coe_sub, Ideal.exp_coe]
      refine congrArg _ ?_
      rw [hC]
      change _ = (2 : ℝ) ^ (a k.val - M) * _
      rw [Real.rpow_def_of_pos h2, ← Real.exp_add]
      refine congrArg _ ?_
      ring
    · rw [if_neg hk, if_neg hk, EReal.bot_sub]
      exact Ideal.exp_bot
  have hden : ∑ j, Ideal.exp (zr j - X) = ((D * C : ℝ) : EReal) := by
    rw [Finset.sum_congr rfl fun j _ => hex j, sum_seen S hSN (fun k => ((Real.rpow 2 (a k - M) * C : ℝ) : EReal)), coe_sum, hD, Finset.sum_mul]
  have haD : acc d' = ((D : ℝ) : EReal) := by
    rw [ha d', hD, ← coe_sum]
    refine Finset.sum_congr rfl fun k hk => ?_
    rw [hone k hk, mul_one]
    rfl
  rw [haD, Ideal.div_coe hDpos.ne', ha d, sum_mul_coe _ _ _ (by positivity)]
  rw [hden]
  have hterm : ∀ k : Fin N, w k.val d * Ideal.div (Ideal.exp (zr k - X)) ((D * C : ℝ) : EReal) = if k.val ∈ S then pw (a k.val - M) * w k.val d * ((1 / D : ℝ) : EReal) else 0 := fun k => by
    rw [hex k, Ideal.div_coe (mul_pos hDpos hCpos).ne']
    by_cases hk : k.val ∈ S
    · rw [if_pos hk, if_pos hk, ← EReal.coe_mul]
      have : Real.rpow 2 (a k.val - M) * C * (1 / (D * C)) = Real.rpow 2 (a k.val - M) * (1 / D) := by
        field_simp
      rw [this, EReal.coe_mul]
      change w k.val d * (pw (a k.val - M) * _) = _
      rw [← mul_assoc, mul_comm (w k.val d)]
    · rw [if_neg hk, if_neg hk, zero_mul, mul_zero]
  rw [Finset.sum_congr rfl fun k _ => hterm k, sum_seen S hSN (fun k => pw (a k - M) * w k d * ((1 / D : ℝ) : EReal))]

end Cert.FoxRow

end
-- ==== Proof.FoxSpec.lean ====
/- The attention's logits and values as functions of its arrays: 16 shared keys, then a batch's own. No program. -/
module

public import proofs.«01_k».proof.Proof.FoxRow
public import Idealize.ShloMosaic.Lib.ValueIdx

@[expose] public section

noncomputable section

namespace Cert.FoxRow

open Idealize.ShloMosaic

/-- A column of keys or values of batch `b`, at key `k`. -/
def sxk (kv : (⟨2, ![8192, 2048]⟩ : Shape).Idx → EReal) (aux : (⟨2, ![32, 2048]⟩ : Shape).Idx → EReal) (b : Fin 2) (o : Fin 2048) (k : ℕ) : EReal :=
  if h : k < 16 then aux (ix2 ⟨k, by omega⟩ o) else if h' : k - 16 < 4096 then kv (ix2 ⟨b.val * 4096 + (k - 16), by omega⟩ o) else 0

/-- The cumulated logits of batch `b` and head `h`, at key `k`. -/
def sxc (cm : (⟨3, ![2, 16, 128]⟩ : Shape).Idx → EReal) (ck : (⟨3, ![2, 16, 4096]⟩ : Shape).Idx → EReal) (b : Fin 2) (h : Fin 16) (k : ℕ) : EReal :=
  if hk : k < 16 then cm (ix3 b h ⟨k, by omega⟩) else if h' : k - 16 < 4096 then ck (ix3 b h ⟨k - 16, h'⟩) else 0

section
variable (q kv : (⟨2, ![8192, 2048]⟩ : Shape).Idx → EReal) (aux : (⟨2, ![32, 2048]⟩ : Shape).Idx → EReal)
  (cm : (⟨3, ![2, 16, 128]⟩ : Shape).Idx → EReal) (ck : (⟨3, ![2, 16, 4096]⟩ : Shape).Idx → EReal)

/-- The logit of query `p` of head `4 n + g` and key `k`, in units of base 2, without the query's own cumulated logit. -/
def lgt (b : Fin 2) (n g : Fin 4) (p : Fin 4096) (k : ℕ) : EReal :=
  (∑ d : Fin 128, q (ix2 ⟨b.val * 4096 + p.val, by omega⟩ ⟨n.val * 512 + g.val * 128 + d.val, by omega⟩) * sxk kv aux b ⟨1024 + (n.val * 128 + d.val), by omega⟩ k)
    - sxc cm ck b ⟨n.val * 4 + g.val, by omega⟩ k

/-- The columns a key's weight multiplies: its values, then ones. -/
def wgt (b : Fin 2) (n : Fin 4) (k : ℕ) (d : Fin 256) : EReal :=
  if h : d.val < 128 then sxk kv aux b ⟨1536 + (n.val * 128 + d.val), by omega⟩ k else 1
end

theorem sxk_main (kv : (⟨2, ![8192, 2048]⟩ : Shape).Idx → EReal) (aux : (⟨2, ![32, 2048]⟩ : Shape).Idx → EReal) (b : Fin 2) (o : Fin 2048) (j : Fin 4096) :
    sxk kv aux b o (16 + j.val) = kv (ix2 ⟨b.val * 4096 + j.val, by omega⟩ o) := by
  unfold sxk
  rw [dif_neg (by omega), dif_pos (by omega)]
  exact congrArg (fun t => kv (ix2 t o)) (Fin.ext (by simp only; omega))

theorem sxk_aux (kv : (⟨2, ![8192, 2048]⟩ : Shape).Idx → EReal) (aux : (⟨2, ![32, 2048]⟩ : Shape).Idx → EReal) (b : Fin 2) (o : Fin 2048) (j : ℕ) (hj : j < 16) :
    sxk kv aux b o j = aux (ix2 ⟨j, by omega⟩ o) := by
  unfold sxk
  rw [dif_pos hj]

theorem sxc_main (cm : (⟨3, ![2, 16, 128]⟩ : Shape).Idx → EReal) (ck : (⟨3, ![2, 16, 4096]⟩ : Shape).Idx → EReal) (b : Fin 2) (h : Fin 16) (j : Fin 4096) :
    sxc cm ck b h (16 + j.val) = ck (ix3 b h j) := by
  unfold sxc
  rw [dif_neg (by omega), dif_pos (by omega)]
  exact congrArg (fun t => ck (ix3 b h t)) (Fin.ext (by simp only; omega))

theorem sxc_aux (cm : (⟨3, ![2, 16, 128]⟩ : Shape).Idx → EReal) (ck : (⟨3, ![2, 16, 4096]⟩ : Shape).Idx → EReal) (b : Fin 2) (h : Fin 16) (j : ℕ) (hj : j < 16) :
    sxc cm ck b h j = cm (ix3 b h ⟨j, by omega⟩) := by
  unfold sxc
  rw [dif_pos hj]

end Cert.FoxRow

end
-- ==== Proof.FoxAlg.lean ====
/- The attention's reference, for finite queries, keys and cumulated logits: the quotient of what a row has seen is its softmax. -/
module

public import proofs.«01_k».proof.Proof.FoxRef
public import proofs.«01_k».proof.Proof.FoxSoft
public import proofs.«01_k».proof.Proof.FoxSpec
public import Idealize.ShloMosaic.Lib.Pipeline.ValueKit
public import Idealize.ShloMosaic.Lib.Pointwise
public import Idealize.ShloMosaic.Lib.Tactic

@[expose] public section

set_option maxRecDepth 16384

noncomputable section

namespace Cert.FoxRow

open Idealize.ShloMosaic

variable (q kv : (⟨2, ![8192, 2048]⟩ : Shape).Idx → EReal) (aux : (⟨2, ![32, 2048]⟩ : Shape).Idx → EReal)
  (cm : (⟨3, ![2, 16, 128]⟩ : Shape).Idx → EReal) (ck : (⟨3, ![2, 16, 4096]⟩ : Shape).Idx → EReal)

/-- The arguments' entries that the claim takes to be finite. -/
structure Fin7 : Prop where
  q : ∀ i, ∃ r : ℝ, q i = (r : EReal)
  kv : ∀ (r : Fin 8192) (o : Fin 512), ∃ x : ℝ, kv (ix2 r ⟨1024 + o.val, by omega⟩) = (x : EReal)
  aux : ∀ (r : Fin 16) (o : Fin 512), ∃ x : ℝ, aux (ix2 ⟨r.val, by omega⟩ ⟨1024 + o.val, by omega⟩) = (x : EReal)
  cm : ∀ (b : Fin 2) (h k : Fin 16), ∃ x : ℝ, cm (ix3 b h ⟨k.val, by omega⟩) = (x : EReal)
  ck : ∀ i, ∃ r : ℝ, ck i = (r : EReal)

variable {q kv aux cm ck} (hf : Fin7 q kv aux cm ck)
include hf

theorem key_real (b : Fin 2) (o : Fin 512) (k : ℕ) : ∃ x : ℝ, sxk kv aux b ⟨1024 + o.val, by omega⟩ k = (x : EReal) := by
  unfold sxk
  by_cases h : k < 16
  · rw [dif_pos h]
    exact hf.aux ⟨k, h⟩ o
  · rw [dif_neg h]
    by_cases h' : k - 16 < 4096
    · rw [dif_pos h']
      exact hf.kv ⟨b.val * 4096 + (k - 16), by omega⟩ o
    · rw [dif_neg h']
      exact ⟨0, rfl⟩

theorem cum_real (b : Fin 2) (h : Fin 16) (k : ℕ) : ∃ x : ℝ, sxc cm ck b h k = (x : EReal) := by
  unfold sxc
  by_cases hk : k < 16
  · rw [dif_pos hk]
    exact hf.cm b h ⟨k, hk⟩
  · rw [dif_neg hk]
    by_cases h' : k - 16 < 4096
    · rw [dif_pos h']
      exact hf.ck _
    · rw [dif_neg h']
      exact ⟨0, rfl⟩

theorem dot_real (b : Fin 2) (n g : Fin 4) (p : Fin 4096) (k : ℕ) :
    ∃ x : ℝ, ∑ d : Fin 128, q (ix2 ⟨b.val * 4096 + p.val, by omega⟩ ⟨n.val * 512 + g.val * 128 + d.val, by omega⟩) * sxk kv aux b ⟨1024 + (n.val * 128 + d.val), by omega⟩ k = (x : EReal) := by
  have h1 : ∀ d : Fin 128, ∃ x : ℝ, q (ix2 ⟨b.val * 4096 + p.val, by omega⟩ ⟨n.val * 512 + g.val * 128 + d.val, by omega⟩) = (x : EReal) := fun d => hf.q _
  have h2 : ∀ d : Fin 128, ∃ x : ℝ, sxk kv aux b ⟨1024 + (n.val * 128 + d.val), by omega⟩ k = (x : EReal) := fun d => key_real hf b ⟨n.val * 128 + d.val, by omega⟩ k
  choose x hx using h1
  choose y hy using h2
  refine ⟨∑ d, x d * y d, ?_⟩
  rw [← coe_sum]
  exact Finset.sum_congr rfl fun d _ => by rw [hx, hy, ← EReal.coe_mul]

theorem lgt_real (b : Fin 2) (n g : Fin 4) (p : Fin 4096) (k : ℕ) : ∃ x : ℝ, lgt q kv aux cm ck b n g p k = (x : EReal) := by
  obtain ⟨x, hx⟩ := dot_real hf b n g p k
  obtain ⟨y, hy⟩ := cum_real hf b ⟨n.val * 4 + g.val, by omega⟩ k
  refine ⟨x - y, ?_⟩
  unfold lgt
  rw [hx, hy, ← EReal.coe_sub]

end Cert.FoxRow

namespace Cert.Reference7Ideal.Fox

open Idealize.ShloMosaic Idealize.ShloMosaic.TcCoe Cert.Reference7Ideal Cert.Reference7Ideal.Gen Cert.FoxRow

theorem two_word : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e, Ideal.log_coe, if_neg (by norm_num)]

/-- A logit of the reference for finite arguments: `k` and `c` its keys and cumulated logits. -/
theorem logit_real (q kv : FVec Ideal S8192x2048 .bf16) (aux : FVec Ideal S32x2048 .bf16) (cm : FVec Ideal S2x16x128 .f32) (ck : FVec Ideal S2x16x4096 .f32)
    (hf : Fin7 q kv aux cm ck) (b : Fin 2) (n g : Fin 4) (p : Fin 4096) (cq : ℝ) (hcq : sxc cm ck b ⟨n.val * 4 + g.val, by omega⟩ (16 + p.val) = (cq : EReal))
    (K : FVec Ideal S2x4112x4x128 .f32) (C : FVec Ideal S2x4x4x4112 .f32)
    (hK : ∀ (j : Fin 4112) (d : Fin 128), K (ix4 b j n d) = sxk kv aux b ⟨1024 + (n.val * 128 + d.val), by omega⟩ j.val)
    (hC : ∀ j : Fin 4112, C (ix4 b n g j) = sxc cm ck b ⟨n.val * 4 + g.val, by omega⟩ j.val) (j : Fin 4112) :
    (if j.val ≤ 16 + p.val then (((∑ d, K (ix4 b j n d) * q (ix2 ⟨b.val * 4096 + p.val, by omega⟩ ⟨n.val * 512 + g.val * 128 + d.val, by omega⟩))
        + C (ix4 b n g ⟨16 + p.val, by omega⟩)) - C (ix4 b n g j)) * Ideal.log (Ideal.ofBits .f32 0x40000000#32) else Ideal.ofBits .f32 0xFF800000#32 : EReal)
      = if j.val ∈ Finset.range (17 + p.val) then ((((lgt q kv aux cm ck b n g p j.val).toReal + cq) * Real.log 2 : ℝ) : EReal) else ⊥ := by
  by_cases h : j.val ≤ 16 + p.val
  · rw [if_pos h, if_pos (Finset.mem_range.mpr (by omega)), two_word]
    obtain ⟨x, hx⟩ := dot_real hf b n g p j.val
    obtain ⟨y, hy⟩ := cum_real hf b ⟨n.val * 4 + g.val, by omega⟩ j.val
    have es : (∑ d, K (ix4 b j n d) * q (ix2 ⟨b.val * 4096 + p.val, by omega⟩ ⟨n.val * 512 + g.val * 128 + d.val, by omega⟩) : EReal) = (x : EReal) := by
      rw [← hx]
      refine Finset.sum_congr rfl fun d _ => ?_
      rw [hK j d]
      exact mul_comm _ _
    have el : lgt q kv aux cm ck b n g p j.val = ((x - y : ℝ) : EReal) := by
      unfold lgt
      rw [hx, hy, ← EReal.coe_sub]
    rw [es, hC ⟨16 + p.val, by omega⟩, hC j, hcq, hy, el, EReal.toReal_coe, ← EReal.coe_add, ← EReal.coe_sub, ← EReal.coe_mul]
    refine congrArg _ ?_
    ring
  · rw [if_neg h, if_neg (fun hm => h (by have := Finset.mem_range.mp hm; omega))]
    exact bot_word

/-- A row's softmax is the quotient of what it has seen. -/
theorem row_soft (q kv : FVec Ideal S8192x2048 .bf16) (aux : FVec Ideal S32x2048 .bf16) (cm : FVec Ideal S2x16x128 .f32) (ck : FVec Ideal S2x16x4096 .f32)
    (hf : Fin7 q kv aux cm ck) (b : Fin 2) (n g : Fin 4) (p : Fin 4096) (d : Fin 128) {mx : Fin 128 → EReal} {acc : Fin 256 → EReal}
    (hs : Seen (fun k => (lgt q kv aux cm ck b n g p k).toReal) (wgt kv aux b n) (Finset.range (17 + p.val)) mx acc)
    (z : FVec Ideal S2x4x4x4096x4112 .f32) (V : FVec Ideal S2x4112x4x128 .f32) (K : FVec Ideal S2x4112x4x128 .f32) (C : FVec Ideal S2x4x4x4112 .f32)
    (hz : ∀ j : Fin 4112, z (ix5 b n g p j) = if j.val ≤ 16 + p.val then (((∑ d, K (ix4 b j n d) * q (ix2 ⟨b.val * 4096 + p.val, by omega⟩ ⟨n.val * 512 + g.val * 128 + d.val, by omega⟩))
        + C (ix4 b n g ⟨16 + p.val, by omega⟩)) - C (ix4 b n g j)) * Ideal.log (Ideal.ofBits .f32 0x40000000#32) else Ideal.ofBits .f32 0xFF800000#32)
    (hK : ∀ (j : Fin 4112) (d : Fin 128), K (ix4 b j n d) = sxk kv aux b ⟨1024 + (n.val * 128 + d.val), by omega⟩ j.val)
    (hV : ∀ (j : Fin 4112) (d : Fin 128), V (ix4 b j n d) = sxk kv aux b ⟨1536 + (n.val * 128 + d.val), by omega⟩ j.val)
    (hC : ∀ j : Fin 4112, C (ix4 b n g j) = sxc cm ck b ⟨n.val * 4 + g.val, by omega⟩ j.val) :
    (∑ j, V (ix4 b j n d) * Ideal.div (Ideal.exp (z (ix5 b n g p j) - top z (ix4 b n g p))) (∑ j, Ideal.exp (z (ix5 b n g p j) - top z (ix4 b n g p))) : EReal)
      = Ideal.div (acc ⟨d.val, by omega⟩) (acc ⟨128 + d.val, by omega⟩) := by
  obtain ⟨cq, hcq⟩ := cum_real hf b ⟨n.val * 4 + g.val, by omega⟩ (16 + p.val)
  have hz' := fun j => (hz j).trans (logit_real q kv aux cm ck hf b n g p cq hcq K C hK hC j)
  have ht := top_apply z b n g p
  obtain ⟨X, hX⟩ := top_real (N := 4112) (a := fun k => ((lgt q kv aux cm ck b n g p k).toReal + cq) * Real.log 2) (S := Finset.range (17 + p.val))
    (zr := fun j => z (ix5 b n g p j)) hz' ht.1 ht.2 ⟨0, by omega⟩ (Finset.mem_range.mpr (by simp))
  rw [hX]
  have hsm := softmax (N := 4112) hs ⟨0, Finset.mem_range.mpr (by omega)⟩ (fun k hk => by have := Finset.mem_range.mp hk; omega) ⟨d.val, by omega⟩ ⟨128 + d.val, by omega⟩
    (fun k _ => by unfold wgt; rw [dif_neg (by simp only; omega)]) cq X (fun j => z (ix5 b n g p j)) hz'
  rw [hsm]
  refine Finset.sum_congr rfl fun j _ => congrArg₂ (fun x y : EReal => x * y) ?_ rfl
  rw [hV j d]
  unfold wgt
  rw [dif_pos (show (⟨d.val, by omega⟩ : Fin 256).val < 128 from d.isLt)]

theorem keys_sx (kv : FVec Ideal S8192x2048 .bf16) (aux : FVec Ideal S32x2048 .bf16) (b : Fin 2) (k : Fin 4112) (o : Fin 2048) :
    (if h : k.val < 16 then aux (ix2 ⟨k.val, by omega⟩ o) else kv (ix2 ⟨b.val * 4096 + (k.val - 16), by omega⟩ o) : EReal) = sxk kv aux b o k.val := by
  unfold sxk
  by_cases h : k.val < 16
  · rw [dif_pos h, dif_pos h]
  · rw [dif_neg h, dif_neg h, dif_pos (by omega)]

theorem cums_sx (cm : FVec Ideal S2x16x128 .f32) (ck : FVec Ideal S2x16x4096 .f32) (b : Fin 2) (h : Fin 16) (k : Fin 4112) :
    (if hk : k.val < 16 then cm (ix3 b h ⟨k.val, by omega⟩) else ck (ix3 b h ⟨k.val - 16, by omega⟩) : EReal) = sxc cm ck b h k.val := by
  unfold sxc
  by_cases hk : k.val < 16
  · rw [dif_pos hk, dif_pos hk]
  · rw [dif_neg hk, dif_neg hk, dif_pos (by omega)]

variable (m : (ℓ : Loc nD τ sig) → Buf (Elt Ideal) ℓ)

/-- An entry of the reference's result. -/
theorem ref_entry (c : Dev nD)
    (hf : Fin7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (b : Fin 2) (n g : Fin 4) (p : Fin 4096) (d : Fin 128) {mx : Fin 128 → EReal} {acc : Fin 256 → EReal}
    (hs : Seen (fun k => (lgt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b n g p k).toReal)
      (wgt (m ((c.tc : Thread nD τ).loc main_arg1)) (m ((c.tc : Thread nD τ).loc main_arg2)) b n) (Finset.range (17 + p.val)) mx acc) :
    Value.res_main_v62 m c (ix2 ⟨b.val * 4096 + p.val, by omega⟩ ⟨n.val * 512 + g.val * 128 + d.val, by omega⟩ : S8192x2048.Idx) =
      (Ideal.div (acc ⟨d.val, by omega⟩) (acc ⟨128 + d.val, by omega⟩) *
        m ((c.tc : Thread nD τ).loc main_arg5) (ix2 ⟨b.val * 4096 + p.val, by omega⟩ ⟨2048 + (n.val * 512 + g.val * 128 + d.val), by omega⟩ : S8192x4096.Idx)
        + m ((c.tc : Thread nD τ).loc main_arg6) (ix2 ⟨b.val * 4096 + p.val, by omega⟩ ⟨n.val * 512 + g.val * 128 + d.val, by omega⟩ : S8192x2048.Idx) : EReal) := by
  unfold Value.res_main_v62
  refine (out_apply _ _ _ _ _ b n g p d).trans ?_
  refine congrArg (fun x : EReal => x * m ((c.tc : Thread nD τ).loc main_arg5) (ix2 ⟨b.val * 4096 + p.val, by omega⟩ ⟨2048 + (n.val * 512 + g.val * 128 + d.val), by omega⟩ : S8192x4096.Idx)
        + m ((c.tc : Thread nD τ).loc main_arg6) (ix2 ⟨b.val * 4096 + p.val, by omega⟩ ⟨n.val * 512 + g.val * 128 + d.val, by omega⟩ : S8192x2048.Idx)) ?_
  refine row_soft _ _ _ _ _ hf b n g p d hs _ _ _ _ (fun j => logit_apply _ _ _ b n g p j) (fun j d => ?_) (fun j d => ?_) (fun j => ?_)
  · exact (keys_apply _ _ b j n d).trans (keys_sx _ _ b j _)
  · exact (values_apply _ _ b j n d).trans (keys_sx _ _ b j _)
  · exact (cums_apply _ _ b n g j).trans (cums_sx _ _ b _ j)

end Cert.Reference7Ideal.Fox

end
-- ==== Proof.FoxBlk.lean ====
/- Where the attention's blocks lie in its arrays. -/
module

public import proofs.«01_k».proof.Proof.Gen.Kernel7Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Kernel7Ideal.Fox

open Idealize.ShloMosaic Idealize.ShloMosaic.TcCoe Idealize.SL.Sem Cert.Kernel7Ideal Cert.Kernel7Ideal.Gen

/-- Where the blocks of grid point `t` lie. -/
theorem idx0 : ∀ t : Fin cfg0.N, win0_0.index t = ![t.val / 32 * 8 + t.val % 8, t.val / 8 % 4] ∧ win0_1.index t = ![t.val / 32, 8 + t.val / 8 % 4] ∧
    win0_2.index t = ![t.val / 32, 12 + t.val / 8 % 4] ∧ win0_3.index t = ![t.val / 32, t.val / 8 % 4, 0, 0] ∧ win0_4.index t = ![0, t.val / 8 % 4] ∧
    win0_5.index t = ![0, t.val / 8 % 4] ∧ win0_6.index t = ![t.val / 32, t.val / 8 % 4, 0, 0] ∧ win0_7.index t = ![t.val / 32 * 8 + t.val % 8, 4 + t.val / 8 % 4] ∧
    win0_8.index t = ![t.val / 32 * 8 + t.val % 8, t.val / 8 % 4] ∧ win0_9.index t = ![t.val / 32 * 8 + t.val % 8, t.val / 8 % 4] ∧ (grid0.coords t 2).val = t.val % 8 := by decide +kernel

theorem lt64 (t : Fin cfg0.N) : t.val < 64 := t.isLt

variable (m : (ℓ : Loc nD τ sig) → Buf (Elt Ideal) ℓ)

/-- The queries of a block. -/
theorem blk0 (c : Dev nD) (t : Fin cfg0.N) (r : Fin 512) (g : Fin 4) (d : Fin 128) :
    iblk m c 0 t (ix2 r ⟨128 * g.val + d.val, by omega⟩) = m ((c : Thread nD τ).loc main_arg0) (ix2 ⟨t.val / 32 * 4096 + (t.val % 8 * 512 + r.val), by have := lt64 t; omega⟩ ⟨t.val / 8 % 4 * 512 + (g.val * 128 + d.val), by have := lt64 t; omega⟩) := by
  obtain ⟨e0, e1, e2, e3, e4, e5, e6, e7, e8, e9, e10⟩ := idx0 t
  have ht := lt64 t
  have he : (win0_0.blk t).view.emb (ix2 r ⟨128 * g.val + d.val, by omega⟩) = (ix2 ⟨t.val / 32 * 4096 + (t.val % 8 * 512 + r.val), by omega⟩ ⟨t.val / 8 % 4 * 512 + (g.val * 128 + d.val), by omega⟩ : S8192x2048.Idx) := by
    funext a
    apply Fin.ext
    match a with
    | ⟨0, _⟩ => show win0_0.index t 0 * 512 + 1 * r.val = t.val / 32 * 4096 + (t.val % 8 * 512 + r.val); rw [e0]; simp only [Matrix.cons_val_zero]; omega
    | ⟨1, _⟩ => show win0_0.index t 1 * 512 + 1 * (128 * g.val + d.val) = t.val / 8 % 4 * 512 + (g.val * 128 + d.val); rw [e0]; simp only [Matrix.cons_val_one, Matrix.cons_val_zero]; omega
  unfold iblk
  rw [View.read_apply]
  show V m c main_arg0 ((win0_0.blk t).view.emb _) = _
  rw [he]
  rfl

/-- The keys of a block. -/
theorem blk1 (c : Dev nD) (t : Fin cfg0.N) (k : Fin 4096) (d : Fin 128) :
    iblk m c 1 t (ix2 k d) = m ((c : Thread nD τ).loc main_arg1) (ix2 ⟨t.val / 32 * 4096 + k.val, by have := lt64 t; omega⟩ ⟨1024 + (t.val / 8 % 4 * 128 + d.val), by have := lt64 t; omega⟩) := by
  obtain ⟨e0, e1, e2, e3, e4, e5, e6, e7, e8, e9, e10⟩ := idx0 t
  have ht := lt64 t
  have he : (win0_1.blk t).view.emb (ix2 k d) = (ix2 ⟨t.val / 32 * 4096 + k.val, by omega⟩ ⟨1024 + (t.val / 8 % 4 * 128 + d.val), by omega⟩ : S8192x2048.Idx) := by
    funext a
    apply Fin.ext
    match a with
    | ⟨0, _⟩ => show win0_1.index t 0 * 4096 + 1 * k.val = t.val / 32 * 4096 + k.val; rw [e1]; simp only [Matrix.cons_val_zero]; omega
    | ⟨1, _⟩ => show win0_1.index t 1 * 128 + 1 * d.val = 1024 + (t.val / 8 % 4 * 128 + d.val); rw [e1]; simp only [Matrix.cons_val_one, Matrix.cons_val_zero]; omega
  unfold iblk
  rw [View.read_apply]
  show V m c main_arg1 ((win0_1.blk t).view.emb _) = _
  rw [he]
  rfl

/-- The values of a block. -/
theorem blk2 (c : Dev nD) (t : Fin cfg0.N) (k : Fin 4096) (d : Fin 128) :
    iblk m c 2 t (ix2 k d) = m ((c : Thread nD τ).loc main_arg1) (ix2 ⟨t.val / 32 * 4096 + k.val, by have := lt64 t; omega⟩ ⟨1536 + (t.val / 8 % 4 * 128 + d.val), by have := lt64 t; omega⟩) := by
  obtain ⟨e0, e1, e2, e3, e4, e5, e6, e7, e8, e9, e10⟩ := idx0 t
  have ht := lt64 t
  have he : (win0_2.blk t).view.emb (ix2 k d) = (ix2 ⟨t.val / 32 * 4096 + k.val, by omega⟩ ⟨1536 + (t.val / 8 % 4 * 128 + d.val), by omega⟩ : S8192x2048.Idx) := by
    funext a
    apply Fin.ext
    match a with
    | ⟨0, _⟩ => show win0_2.index t 0 * 4096 + 1 * k.val = t.val / 32 * 4096 + k.val; rw [e2]; simp only [Matrix.cons_val_zero]; omega
    | ⟨1, _⟩ => show win0_2.index t 1 * 128 + 1 * d.val = 1536 + (t.val / 8 % 4 * 128 + d.val); rw [e2]; simp only [Matrix.cons_val_one, Matrix.cons_val_zero]; omega
  unfold iblk
  rw [View.read_apply]
  show V m c main_arg1 ((win0_2.blk t).view.emb _) = _
  rw [he]
  rfl

/-- The shared keys of a block. -/
theorem blk4 (c : Dev nD) (t : Fin cfg0.N) (j : Fin 128) (hj : j.val < 16) (d : Fin 128) :
    iblk m c 4 t (ix2 j d) = m ((c : Thread nD τ).loc main_arg2) (ix2 ⟨j.val, by omega⟩ ⟨1024 + (t.val / 8 % 4 * 128 + d.val), by have := lt64 t; omega⟩) := by
  obtain ⟨e0, e1, e2, e3, e4, e5, e6, e7, e8, e9, e10⟩ := idx0 t
  have ht := lt64 t
  have he : (win0_4.blk t).view.emb (ix2 j d) = (ix2 ⟨j.val, by omega⟩ ⟨t.val / 8 % 4 * 128 + d.val, by omega⟩ : S128x512.Idx) := by
    funext a
    apply Fin.ext
    match a with
    | ⟨0, _⟩ => show win0_4.index t 0 * 128 + 1 * j.val = j.val; rw [e4]; simp only [Matrix.cons_val_zero]; omega
    | ⟨1, _⟩ => show win0_4.index t 1 * 128 + 1 * d.val = t.val / 8 % 4 * 128 + d.val; rw [e4]; simp only [Matrix.cons_val_one, Matrix.cons_val_zero]; omega
  unfold iblk
  rw [View.read_apply]
  show V m c main_v7 ((win0_4.blk t).view.emb _) = _
  rw [he]
  entry_read
  try simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise
  exact (dif_pos ⟨hj, by omega⟩).trans rfl

/-- The shared values of a block. -/
theorem blk5 (c : Dev nD) (t : Fin cfg0.N) (j : Fin 128) (hj : j.val < 16) (d : Fin 128) :
    iblk m c 5 t (ix2 j d) = m ((c : Thread nD τ).loc main_arg2) (ix2 ⟨j.val, by omega⟩ ⟨1536 + (t.val / 8 % 4 * 128 + d.val), by have := lt64 t; omega⟩) := by
  obtain ⟨e0, e1, e2, e3, e4, e5, e6, e7, e8, e9, e10⟩ := idx0 t
  have ht := lt64 t
  have he : (win0_5.blk t).view.emb (ix2 j d) = (ix2 ⟨j.val, by omega⟩ ⟨t.val / 8 % 4 * 128 + d.val, by omega⟩ : S128x512.Idx) := by
    funext a
    apply Fin.ext
    match a with
    | ⟨0, _⟩ => show win0_5.index t 0 * 128 + 1 * j.val = j.val; rw [e5]; simp only [Matrix.cons_val_zero]; omega
    | ⟨1, _⟩ => show win0_5.index t 1 * 128 + 1 * d.val = t.val / 8 % 4 * 128 + d.val; rw [e5]; simp only [Matrix.cons_val_one, Matrix.cons_val_zero]; omega
  unfold iblk
  rw [View.read_apply]
  show V m c main_v9 ((win0_5.blk t).view.emb _) = _
  rw [he]
  entry_read
  try simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise
  exact (dif_pos ⟨hj, by omega⟩).trans rfl

/-- The gates of a block. -/
theorem blk7 (c : Dev nD) (t : Fin cfg0.N) (r : Fin 512) (g : Fin 4) (d : Fin 128) :
    iblk m c 7 t (ix2 r ⟨128 * g.val + d.val, by omega⟩) = m ((c : Thread nD τ).loc main_arg5) (ix2 ⟨t.val / 32 * 4096 + (t.val % 8 * 512 + r.val), by have := lt64 t; omega⟩ ⟨2048 + (t.val / 8 % 4 * 512 + (g.val * 128 + d.val)), by have := lt64 t; omega⟩) := by
  obtain ⟨e0, e1, e2, e3, e4, e5, e6, e7, e8, e9, e10⟩ := idx0 t
  have ht := lt64 t
  have he : (win0_7.blk t).view.emb (ix2 r ⟨128 * g.val + d.val, by omega⟩) = (ix2 ⟨t.val / 32 * 4096 + (t.val % 8 * 512 + r.val), by omega⟩ ⟨2048 + (t.val / 8 % 4 * 512 + (g.val * 128 + d.val)), by omega⟩ : S8192x4096.Idx) := by
    funext a
    apply Fin.ext
    match a with
    | ⟨0, _⟩ => show win0_7.index t 0 * 512 + 1 * r.val = t.val / 32 * 4096 + (t.val % 8 * 512 + r.val); rw [e7]; simp only [Matrix.cons_val_zero]; omega
    | ⟨1, _⟩ => show win0_7.index t 1 * 512 + 1 * (128 * g.val + d.val) = 2048 + (t.val / 8 % 4 * 512 + (g.val * 128 + d.val)); rw [e7]; simp only [Matrix.cons_val_one, Matrix.cons_val_zero]; omega
  unfold iblk
  rw [View.read_apply]
  show V m c main_arg5 ((win0_7.blk t).view.emb _) = _
  rw [he]
  rfl

/-- The other half of a block of the result. -/
theorem blk8 (c : Dev nD) (t : Fin cfg0.N) (r : Fin 512) (g : Fin 4) (d : Fin 128) :
    iblk m c 8 t (ix2 r ⟨128 * g.val + d.val, by omega⟩) = m ((c : Thread nD τ).loc main_arg6) (ix2 ⟨t.val / 32 * 4096 + (t.val % 8 * 512 + r.val), by have := lt64 t; omega⟩ ⟨t.val / 8 % 4 * 512 + (g.val * 128 + d.val), by have := lt64 t; omega⟩) := by
  obtain ⟨e0, e1, e2, e3, e4, e5, e6, e7, e8, e9, e10⟩ := idx0 t
  have ht := lt64 t
  have he : (win0_8.blk t).view.emb (ix2 r ⟨128 * g.val + d.val, by omega⟩) = (ix2 ⟨t.val / 32 * 4096 + (t.val % 8 * 512 + r.val), by omega⟩ ⟨t.val / 8 % 4 * 512 + (g.val * 128 + d.val), by omega⟩ : S8192x2048.Idx) := by
    funext a
    apply Fin.ext
    match a with
    | ⟨0, _⟩ => show win0_8.index t 0 * 512 + 1 * r.val = t.val / 32 * 4096 + (t.val % 8 * 512 + r.val); rw [e8]; simp only [Matrix.cons_val_zero]; omega
    | ⟨1, _⟩ => show win0_8.index t 1 * 512 + 1 * (128 * g.val + d.val) = t.val / 8 % 4 * 512 + (g.val * 128 + d.val); rw [e8]; simp only [Matrix.cons_val_one, Matrix.cons_val_zero]; omega
  unfold iblk
  rw [View.read_apply]
  show V m c main_arg6 ((win0_8.blk t).view.emb _) = _
  rw [he]
  rfl

/-- The cumulated logits of a block. -/
theorem blk3 (c : Dev nD) (t : Fin cfg0.N) (g : Fin 4) (k : Fin 4096) :
    iblk m c 3 t (ix4 0 0 g k) = m ((c : Thread nD τ).loc main_arg4) (ix3 ⟨t.val / 32, by have := lt64 t; omega⟩ ⟨t.val / 8 % 4 * 4 + g.val, by have := lt64 t; omega⟩ k) := by
  obtain ⟨e0, e1, e2, e3, e4, e5, e6, e7, e8, e9, e10⟩ := idx0 t
  have ht := lt64 t
  have he : (win0_3.blk t).view.emb (ix4 0 0 g k) = (ix4 ⟨t.val / 32, by omega⟩ ⟨t.val / 8 % 4, by omega⟩ g k : S2x4x4x4096.Idx) := by
    funext a
    apply Fin.ext
    match a with
    | ⟨0, _⟩ => show win0_3.index t 0 * 1 + 1 * 0 = t.val / 32; rw [e3]; simp
    | ⟨1, _⟩ => show win0_3.index t 1 * 1 + 1 * 0 = t.val / 8 % 4; rw [e3]; simp
    | ⟨2, _⟩ => show win0_3.index t 2 * 4 + 1 * g.val = g.val; rw [e3]; simp
    | ⟨3, _⟩ => show win0_3.index t 3 * 4096 + 1 * k.val = k.val; rw [e3]; simp
  unfold iblk
  rw [View.read_apply]
  show V m c main_v5 ((win0_3.blk t).view.emb _) = _
  rw [he]
  entry_read
  try simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

/-- The shared cumulated logits of a block. -/
theorem blk6 (c : Dev nD) (t : Fin cfg0.N) (g : Fin 4) (k : Fin 128) :
    iblk m c 6 t (ix4 0 0 g k) = m ((c : Thread nD τ).loc main_arg3) (ix3 ⟨t.val / 32, by have := lt64 t; omega⟩ ⟨t.val / 8 % 4 * 4 + g.val, by have := lt64 t; omega⟩ k) := by
  obtain ⟨e0, e1, e2, e3, e4, e5, e6, e7, e8, e9, e10⟩ := idx0 t
  have ht := lt64 t
  have he : (win0_6.blk t).view.emb (ix4 0 0 g k) = (ix4 ⟨t.val / 32, by omega⟩ ⟨t.val / 8 % 4, by omega⟩ g k : S2x4x4x128.Idx) := by
    funext a
    apply Fin.ext
    match a with
    | ⟨0, _⟩ => show win0_6.index t 0 * 1 + 1 * 0 = t.val / 32; rw [e6]; simp
    | ⟨1, _⟩ => show win0_6.index t 1 * 1 + 1 * 0 = t.val / 8 % 4; rw [e6]; simp
    | ⟨2, _⟩ => show win0_6.index t 2 * 4 + 1 * g.val = g.val; rw [e6]; simp
    | ⟨3, _⟩ => show win0_6.index t 3 * 128 + 1 * k.val = k.val; rw [e6]; simp
  unfold iblk
  rw [View.read_apply]
  show V m c main_v4 ((win0_6.blk t).view.emb _) = _
  rw [he]
  entry_read
  try simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

end Cert.Kernel7Ideal.Fox

end
-- ==== Proof.FoxVec.lean ====
/- The attention's vector steps, read entry by entry: the running maximum and the running sums after one more block of keys. -/
module

public import proofs.«01_k».proof.Proof.Gen.Kernel7Ideal.Skeleton
public import proofs.«01_k».proof.Proof.FoxRow
public import Idealize.ShloMosaic.Lib.Pipeline.ValueKit
public import Idealize.ShloMosaic.Lib.Pointwise
public import Idealize.ShloMosaic.Lib.Tactic

@[expose] public section

set_option maxRecDepth 16384

noncomputable section

namespace Cert.Kernel7Ideal.Fox

open Idealize.ShloMosaic Idealize.ShloMosaic.TcCoe Cert.Kernel7Ideal Cert.Kernel7Ideal.Gen Cert.FoxRow

/-- The greatest of a row's logits. -/
def top {n : ℕ} (z : Fin n → EReal) : EReal := Finset.univ.fold max ⊥ z

/-- The lane a column of the sums reads. -/
def lane (n : ℕ) (d : Fin n) : Fin 128 := ⟨d.val % 128, Nat.mod_lt _ (by norm_num)⟩

/-- The running maximum of 256 rows after 256 keys. -/
def M256_256 (z : FVec Ideal S256x256 .f32) (m : FVec Ideal S256x128 .f32) : FVec Ideal S256x128 .f32 :=
  maximumf m (broadcastTo S256x128 (shapeCast S256x1 (multiReduction .maximumf [1] S256 z 0xFF800000#32 reduces_S256x256_S256 (.inl rfl) rfl) shapeCasts_S256_S256x1) broadcasts_S256x1_S256x128)

/-- The running sums of 256 rows after 256 keys. -/
def A256_256 (z : FVec Ideal S256x256 .f32) (m : FVec Ideal S256x128 .f32) (acc : FVec Ideal S256x256 .f32) (vx : FVec Ideal S256x256 .bf16) : FVec Ideal S256x256 .f32 :=
  addf (mulf acc (concatenate S256x256 1 [⟨S256x128, exp2 (subf m (M256_256 z m))⟩, ⟨S256x128, exp2 (subf m (M256_256 z m))⟩] concatenates_S256x128_S256x128_S256x256_d1))
    (matmul dot_S256x256_S256x256_S256x256_1_0_0_1_n_n none (truncf .bf16 (exp2 (subf z (concatenate S256x256 1 [⟨S256x128, M256_256 z m⟩, ⟨S256x128, M256_256 z m⟩] concatenates_S256x128_S256x128_S256x256_d1))) bitsLt_bf16_f32) vx (constant S256x256 .f32 0x00000000#32))

theorem M256_256_apply (z : FVec Ideal S256x256 .f32) (m : FVec Ideal S256x128 .f32) (r : Fin 256) (l : Fin 128) :
    M256_256 z m (ix2 r l) = max (m (ix2 r l)) (top fun j => z (ix2 r j)) := by
  unfold M256_256 top
  pointwise
  rfl

theorem A256_256_apply (z : FVec Ideal S256x256 .f32) (m : FVec Ideal S256x128 .f32) (acc : FVec Ideal S256x256 .f32) (vx : FVec Ideal S256x256 .bf16) (r : Fin 256) (d : Fin 256) :
    A256_256 z m acc vx (ix2 r d) = acc (ix2 r d) * Ideal.exp2 (m (ix2 r (lane 256 d)) - M256_256 z m (ix2 r (lane 256 d))) +
      ∑ j, Ideal.exp2 (z (ix2 r j) - M256_256 z m (ix2 r (lane 256 j))) * vx (ix2 j d) := by
  unfold A256_256
  generalize M256_256 z m = M
  have hW : ∀ j : Fin 256, concatenate S256x256 1 [⟨S256x128, M⟩, ⟨S256x128, M⟩] concatenates_S256x128_S256x128_S256x256_d1 (ix2 r j) = M (ix2 r (lane 256 j)) := fun j => by
    pointwise
    split_ifs <;> exact congrArg (fun t => M (ix2 r t)) (Fin.ext (by simp only [lane]; omega))
  generalize concatenate S256x256 1 [⟨S256x128, M⟩, ⟨S256x128, M⟩] concatenates_S256x128_S256x128_S256x256_d1 = W at hW ⊢
  pointwise
  refine congrArg₂ (· + ·) (congrArg (acc (ix2 r d) * ·) ?_) (Finset.sum_congr rfl fun j _ => congrArg₂ (· * ·) (congrArg (fun t => Ideal.exp2 (z (ix2 r j) - t)) ?_) rfl)
  · split_ifs <;> exact congrArg (fun t => Ideal.exp2 (m (ix2 r t) - M (ix2 r t))) (Fin.ext (by simp only [lane]; omega))
  · exact hW j

/-- The running maximum of 256 rows after 512 keys. -/
def M256_512 (z : FVec Ideal S256x512 .f32) (m : FVec Ideal S256x128 .f32) : FVec Ideal S256x128 .f32 :=
  maximumf m (broadcastTo S256x128 (shapeCast S256x1 (multiReduction .maximumf [1] S256 z 0xFF800000#32 reduces_S256x512_S256 (.inl rfl) rfl) shapeCasts_S256_S256x1) broadcasts_S256x1_S256x128)

/-- The running sums of 256 rows after 512 keys. -/
def A256_512 (z : FVec Ideal S256x512 .f32) (m : FVec Ideal S256x128 .f32) (acc : FVec Ideal S256x256 .f32) (vx : FVec Ideal S512x256 .bf16) : FVec Ideal S256x256 .f32 :=
  addf (mulf acc (concatenate S256x256 1 [⟨S256x128, exp2 (subf m (M256_512 z m))⟩, ⟨S256x128, exp2 (subf m (M256_512 z m))⟩] concatenates_S256x128_S256x128_S256x256_d1))
    (matmul dot_S256x512_S512x256_S256x256_1_0_0_1_n_n none (truncf .bf16 (exp2 (subf z (concatenate S256x512 1 [⟨S256x128, M256_512 z m⟩, ⟨S256x128, M256_512 z m⟩, ⟨S256x128, M256_512 z m⟩, ⟨S256x128, M256_512 z m⟩] concatenates_S256x128_S256x128_S256x128_S256x128_S256x512_d1))) bitsLt_bf16_f32) vx (constant S256x256 .f32 0x00000000#32))

theorem M256_512_apply (z : FVec Ideal S256x512 .f32) (m : FVec Ideal S256x128 .f32) (r : Fin 256) (l : Fin 128) :
    M256_512 z m (ix2 r l) = max (m (ix2 r l)) (top fun j => z (ix2 r j)) := by
  unfold M256_512 top
  pointwise
  rfl

theorem A256_512_apply (z : FVec Ideal S256x512 .f32) (m : FVec Ideal S256x128 .f32) (acc : FVec Ideal S256x256 .f32) (vx : FVec Ideal S512x256 .bf16) (r : Fin 256) (d : Fin 256) :
    A256_512 z m acc vx (ix2 r d) = acc (ix2 r d) * Ideal.exp2 (m (ix2 r (lane 256 d)) - M256_512 z m (ix2 r (lane 256 d))) +
      ∑ j, Ideal.exp2 (z (ix2 r j) - M256_512 z m (ix2 r (lane 512 j))) * vx (ix2 j d) := by
  unfold A256_512
  generalize M256_512 z m = M
  pointwise
  refine congrArg₂ (· + ·) (congrArg (acc (ix2 r d) * ·) ?_) (Finset.sum_congr rfl fun j _ => congrArg₂ (· * ·) (congrArg (fun t => Ideal.exp2 (z (ix2 r j) - t)) ?_) rfl)
  · split_ifs <;> exact congrArg (fun t => Ideal.exp2 (m (ix2 r t) - M (ix2 r t))) (Fin.ext (by simp only [lane]; omega))
  · split_ifs <;> exact congrArg (fun t => M (ix2 r t)) (Fin.ext (by simp only [lane]; omega))

/-- The running maximum of 512 rows after 1024 keys. -/
def M512_1024 (z : FVec Ideal S512x1024 .f32) (m : FVec Ideal S512x128 .f32) : FVec Ideal S512x128 .f32 :=
  maximumf m (broadcastTo S512x128 (shapeCast S512x1 (multiReduction .maximumf [1] S512 z 0xFF800000#32 reduces_S512x1024_S512 (.inl rfl) rfl) shapeCasts_S512_S512x1) broadcasts_S512x1_S512x128)

/-- The running sums of 512 rows after 1024 keys. -/
def A512_1024 (z : FVec Ideal S512x1024 .f32) (m : FVec Ideal S512x128 .f32) (acc : FVec Ideal S512x256 .f32) (vx : FVec Ideal S1024x256 .bf16) : FVec Ideal S512x256 .f32 :=
  addf (mulf acc (concatenate S512x256 1 [⟨S512x128, exp2 (subf m (M512_1024 z m))⟩, ⟨S512x128, exp2 (subf m (M512_1024 z m))⟩] concatenates_S512x128_S512x128_S512x256_d1))
    (matmul dot_S512x1024_S1024x256_S512x256_1_0_0_1_n_n none (truncf .bf16 (exp2 (subf z (concatenate S512x1024 1 [⟨S512x128, M512_1024 z m⟩, ⟨S512x128, M512_1024 z m⟩, ⟨S512x128, M512_1024 z m⟩, ⟨S512x128, M512_1024 z m⟩, ⟨S512x128, M512_1024 z m⟩, ⟨S512x128, M512_1024 z m⟩, ⟨S512x128, M512_1024 z m⟩, ⟨S512x128, M512_1024 z m⟩] concatenates_S512x128_S512x128_S512x128_S512x128_S512x128_S512x128_S512x128_S512x128_S512x1024_d1))) bitsLt_bf16_f32) vx (constant S512x256 .f32 0x00000000#32))

theorem M512_1024_apply (z : FVec Ideal S512x1024 .f32) (m : FVec Ideal S512x128 .f32) (r : Fin 512) (l : Fin 128) :
    M512_1024 z m (ix2 r l) = max (m (ix2 r l)) (top fun j => z (ix2 r j)) := by
  unfold M512_1024 top
  pointwise
  rfl

theorem A512_1024_apply (z : FVec Ideal S512x1024 .f32) (m : FVec Ideal S512x128 .f32) (acc : FVec Ideal S512x256 .f32) (vx : FVec Ideal S1024x256 .bf16) (r : Fin 512) (d : Fin 256) :
    A512_1024 z m acc vx (ix2 r d) = acc (ix2 r d) * Ideal.exp2 (m (ix2 r (lane 256 d)) - M512_1024 z m (ix2 r (lane 256 d))) +
      ∑ j, Ideal.exp2 (z (ix2 r j) - M512_1024 z m (ix2 r (lane 1024 j))) * vx (ix2 j d) := by
  unfold A512_1024
  generalize M512_1024 z m = M
  pointwise
  refine congrArg₂ (· + ·) (congrArg (acc (ix2 r d) * ·) ?_) (Finset.sum_congr rfl fun j _ => congrArg₂ (· * ·) (congrArg (fun t => Ideal.exp2 (z (ix2 r j) - t)) ?_) rfl)
  · split_ifs <;> exact congrArg (fun t => Ideal.exp2 (m (ix2 r t) - M (ix2 r t))) (Fin.ext (by simp only [lane]; omega))
  · split_ifs <;> exact congrArg (fun t => M (ix2 r t)) (Fin.ext (by simp only [lane]; omega))

/-- The running maximum of 512 rows after 512 keys. -/
def M512_512 (z : FVec Ideal S512x512 .f32) (m : FVec Ideal S512x128 .f32) : FVec Ideal S512x128 .f32 :=
  maximumf m (broadcastTo S512x128 (shapeCast S512x1 (multiReduction .maximumf [1] S512 z 0xFF800000#32 reduces_S512x512_S512 (.inl rfl) rfl) shapeCasts_S512_S512x1) broadcasts_S512x1_S512x128)

/-- The running sums of 512 rows after 512 keys. -/
def A512_512 (z : FVec Ideal S512x512 .f32) (m : FVec Ideal S512x128 .f32) (acc : FVec Ideal S512x256 .f32) (vx : FVec Ideal S512x256 .bf16) : FVec Ideal S512x256 .f32 :=
  addf (mulf acc (concatenate S512x256 1 [⟨S512x128, exp2 (subf m (M512_512 z m))⟩, ⟨S512x128, exp2 (subf m (M512_512 z m))⟩] concatenates_S512x128_S512x128_S512x256_d1))
    (matmul dot_S512x512_S512x256_S512x256_1_0_0_1_n_n none (truncf .bf16 (exp2 (subf z (concatenate S512x512 1 [⟨S512x128, M512_512 z m⟩, ⟨S512x128, M512_512 z m⟩, ⟨S512x128, M512_512 z m⟩, ⟨S512x128, M512_512 z m⟩] concatenates_S512x128_S512x128_S512x128_S512x128_S512x512_d1))) bitsLt_bf16_f32) vx (constant S512x256 .f32 0x00000000#32))

theorem M512_512_apply (z : FVec Ideal S512x512 .f32) (m : FVec Ideal S512x128 .f32) (r : Fin 512) (l : Fin 128) :
    M512_512 z m (ix2 r l) = max (m (ix2 r l)) (top fun j => z (ix2 r j)) := by
  unfold M512_512 top
  pointwise
  rfl

theorem A512_512_apply (z : FVec Ideal S512x512 .f32) (m : FVec Ideal S512x128 .f32) (acc : FVec Ideal S512x256 .f32) (vx : FVec Ideal S512x256 .bf16) (r : Fin 512) (d : Fin 256) :
    A512_512 z m acc vx (ix2 r d) = acc (ix2 r d) * Ideal.exp2 (m (ix2 r (lane 256 d)) - M512_512 z m (ix2 r (lane 256 d))) +
      ∑ j, Ideal.exp2 (z (ix2 r j) - M512_512 z m (ix2 r (lane 512 j))) * vx (ix2 j d) := by
  unfold A512_512
  generalize M512_512 z m = M
  pointwise
  refine congrArg₂ (· + ·) (congrArg (acc (ix2 r d) * ·) ?_) (Finset.sum_congr rfl fun j _ => congrArg₂ (· * ·) (congrArg (fun t => Ideal.exp2 (z (ix2 r j) - t)) ?_) rfl)
  · split_ifs <;> exact congrArg (fun t => Ideal.exp2 (m (ix2 r t) - M (ix2 r t))) (Fin.ext (by simp only [lane]; omega))
  · split_ifs <;> exact congrArg (fun t => M (ix2 r t)) (Fin.ext (by simp only [lane]; omega))

/-- The running maximum of 512 rows after 128 keys. -/
def M512_128 (z : FVec Ideal S512x128 .f32) (m : FVec Ideal S512x128 .f32) : FVec Ideal S512x128 .f32 :=
  maximumf m (broadcastTo S512x128 (shapeCast S512x1 (multiReduction .maximumf [1] S512 z 0xFF800000#32 reduces_S512x128_S512 (.inl rfl) rfl) shapeCasts_S512_S512x1) broadcasts_S512x1_S512x128)

/-- The running sums of 512 rows after 128 keys. -/
def A512_128 (z : FVec Ideal S512x128 .f32) (m : FVec Ideal S512x128 .f32) (acc : FVec Ideal S512x256 .f32) (vx : FVec Ideal S128x256 .bf16) : FVec Ideal S512x256 .f32 :=
  addf (mulf acc (concatenate S512x256 1 [⟨S512x128, exp2 (subf m (M512_128 z m))⟩, ⟨S512x128, exp2 (subf m (M512_128 z m))⟩] concatenates_S512x128_S512x128_S512x256_d1))
    (matmul dot_S512x128_S128x256_S512x256_1_0_0_1_n_n none (truncf .bf16 (exp2 (subf z (M512_128 z m))) bitsLt_bf16_f32) vx (constant S512x256 .f32 0x00000000#32))

theorem M512_128_apply (z : FVec Ideal S512x128 .f32) (m : FVec Ideal S512x128 .f32) (r : Fin 512) (l : Fin 128) :
    M512_128 z m (ix2 r l) = max (m (ix2 r l)) (top fun j => z (ix2 r j)) := by
  unfold M512_128 top
  pointwise
  rfl

theorem A512_128_apply (z : FVec Ideal S512x128 .f32) (m : FVec Ideal S512x128 .f32) (acc : FVec Ideal S512x256 .f32) (vx : FVec Ideal S128x256 .bf16) (r : Fin 512) (d : Fin 256) :
    A512_128 z m acc vx (ix2 r d) = acc (ix2 r d) * Ideal.exp2 (m (ix2 r (lane 256 d)) - M512_128 z m (ix2 r (lane 256 d))) +
      ∑ j, Ideal.exp2 (z (ix2 r j) - M512_128 z m (ix2 r (lane 128 j))) * vx (ix2 j d) := by
  unfold A512_128
  generalize M512_128 z m = M
  pointwise
  refine congrArg₂ (· + ·) (congrArg (acc (ix2 r d) * ·) ?_) (Finset.sum_congr rfl fun j _ => congrArg₂ (· * ·) (congrArg (fun t => Ideal.exp2 (z (ix2 r j) - t)) ?_) rfl)
  · split_ifs <;> exact congrArg (fun t => Ideal.exp2 (m (ix2 r t) - M (ix2 r t))) (Fin.ext (by simp only [lane]; omega))
  · exact congrArg (fun t => M (ix2 r t)) (Fin.ext (by simp only [lane]; omega))

end Cert.Kernel7Ideal.Fox

end
-- ==== Proof.FoxChain.lean ====
/- The attention's chains: what one block of keys does to the running maxima and sums of all rows, on the memory's contents. -/
module

public import proofs.«01_k».proof.Proof.FoxVec

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

theorem le_top {n : ℕ} (z : Fin n → EReal) (j : Fin n) : z j ≤ top z := by
  unfold top
  exact Finset.le_fold_max (z j) |>.mpr (Or.inr ⟨j, Finset.mem_univ _, le_rfl⟩)

theorem top_mem {n : ℕ} (z : Fin n → EReal) : top z = ⊥ ∨ ∃ j, top z = z j := by
  classical
  unfold top
  have h : ∀ s : Finset (Fin n), s.fold max ⊥ z = ⊥ ∨ ∃ j, s.fold max ⊥ z = z j := by
    intro s
    induction s using Finset.induction_on with
    | empty => exact Or.inl rfl
    | insert x s hx ih =>
      rw [Finset.fold_insert hx]
      rcases le_total (z x) (s.fold max ⊥ z) with hle | hle
      · rw [max_eq_right hle]; exact ih
      · rw [max_eq_left hle]; exact Or.inr ⟨x, rfl⟩
  exact h _

/-- Every row has seen its own keys. -/
def Rows (a : Fin 2048 → ℕ → ℝ) (w : ℕ → Fin 256 → EReal) (K : ℕ → Finset ℕ) (mS : S2048x128.Idx → EReal) (aS : S2048x256.Idx → EReal) : Prop :=
  ∀ R : Fin 2048, Seen (a R) w (K R.val) (fun l => mS (ix2 R l)) (fun d => aS (ix2 R d))

/-- The rows below `o` are one block of keys further. -/
def stg (o : ℕ) (KB KA : ℕ → Finset ℕ) (R : ℕ) : Finset ℕ := if R < o then KA R else KB R

theorem Rows.to_stg {a : Fin 2048 → ℕ → ℝ} {w : ℕ → Fin 256 → EReal} {KB : ℕ → Finset ℕ} (KA : ℕ → Finset ℕ) {mS : S2048x128.Idx → EReal} {aS : S2048x256.Idx → EReal}
    (h : Rows a w KB mS aS) : Rows a w (stg 0 KB KA) mS aS := fun R => by
  unfold stg
  rw [if_neg (Nat.not_lt_zero _)]
  exact h R

theorem Rows.of_stg {a : Fin 2048 → ℕ → ℝ} {w : ℕ → Fin 256 → EReal} {KB KA : ℕ → Finset ℕ} {mS : S2048x128.Idx → EReal} {aS : S2048x256.Idx → EReal} {o : ℕ}
    (h : Rows a w (stg o KB KA) mS aS) (ho : 2048 ≤ o) : Rows a w KA mS aS := fun R => by
  have e := h R
  unfold stg at e
  rwa [if_pos (by omega)] at e

/-- One block of `kc` keys for the `n` rows from `o` on. -/
theorem step {a : Fin 2048 → ℕ → ℝ} {w : ℕ → Fin 256 → EReal} {KB KA : ℕ → Finset ℕ} {m m' : S2048x128.Idx → EReal} {acc acc' : S2048x256.Idx → EReal}
    {n kc : ℕ} (o : ℕ) (hn : o + n ≤ 2048) (h : Rows a w (stg o KB KA) m acc)
    (z : Fin n → Fin kc → EReal) (vx : Fin kc → Fin 256 → EReal) (lane' : Fin 256 → Fin 128) (laneK : Fin kc → Fin 128)
    (key : Fin kc → ℕ) (vis : Fin n → Fin kc → Prop) [∀ r, DecidablePred (vis r)]
    (hmi : ∀ (r : Fin n) l, m' (ix2 ⟨o + r.val, by omega⟩ l) = max (m (ix2 ⟨o + r.val, by omega⟩ l)) (top (z r)))
    (hmo : ∀ (R : Fin 2048) l, ¬ (o ≤ R.val ∧ R.val < o + n) → m' (ix2 R l) = m (ix2 R l))
    (hai : ∀ (r : Fin n) d, acc' (ix2 ⟨o + r.val, by omega⟩ d) = acc (ix2 ⟨o + r.val, by omega⟩ d) * Ideal.exp2 (m (ix2 ⟨o + r.val, by omega⟩ (lane' d)) - m' (ix2 ⟨o + r.val, by omega⟩ (lane' d)))
      + ∑ j, Ideal.exp2 (z r j - m' (ix2 ⟨o + r.val, by omega⟩ (laneK j))) * vx j d)
    (hao : ∀ (R : Fin 2048) d, ¬ (o ≤ R.val ∧ R.val < o + n) → acc' (ix2 R d) = acc (ix2 R d))
    (hz : ∀ (r : Fin n) j, z r j = if vis r j then ((a ⟨o + r.val, by omega⟩ (key j) : ℝ) : EReal) else ⊥)
    (hv : ∀ r j, vis r j → ∀ d, vx j d = w (key j) d)
    (hinj : ∀ i j, key i = key j → i = j)
    (hdis : ∀ r j, vis r j → key j ∉ KB (o + r.val))
    (hS : ∀ (r : Fin n) k, k ∈ KA (o + r.val) ↔ k ∈ KB (o + r.val) ∨ ∃ j, vis r j ∧ key j = k) :
    Rows a w (stg (o + n) KB KA) m' acc' := by
  intro R
  by_cases hR : o ≤ R.val ∧ R.val < o + n
  · obtain ⟨R, hlt⟩ := R
    simp only at hR
    obtain ⟨r, rfl⟩ : ∃ r : Fin n, R = o + r.val := ⟨⟨R - o, by omega⟩, by simp only; omega⟩
    have e := h ⟨o + r.val, by omega⟩
    unfold stg at e ⊢
    rw [if_neg (by simp only; omega)] at e
    rw [if_pos (by simp only; omega)]
    exact visit e (z r) vx laneK lane' (top (z r)) key (vis r) (hz r) (hv r) (le_top _) (top_mem _) (hmi r) (hai r)
      (fun i j _ _ => hinj i j) (hdis r) (hS r)
  · have e := h R
    have e1 : stg (o + n) KB KA R.val = stg o KB KA R.val := by
      unfold stg
      split_ifs <;> first | rfl | omega
    rw [e1]
    simp only [hmo R _ hR, hao R _ hR]
    exact e

theorem emb_m256 (o : ℕ) (ho : o + 256 ≤ 2048) (inb : ∀ a, (![o, 0] : Fin 2 → ℕ) a + S256x128.size a ≤ S2048x128.size a) (r : Fin 256) (l : Fin 128) :
    (Rect.unit (s := S2048x128) ![o, 0] S256x128.size inb).emb (ix2 r l) = ix2 ⟨o + r.val, by omega⟩ l := by
  funext x
  refine Fin.cases ?_ (fun x => ?_) x
  · refine Fin.ext ?_
    change o + 1 * r.val = o + r.val
    omega
  · refine Fin.cases ?_ (fun x => x.elim0) x
    refine Fin.ext ?_
    change 0 + 1 * l.val = l.val
    omega

theorem in_m256 (L : List (View.Piece (Elt Ideal) S2048x128 .f32)) (o : ℕ) (ho : o + 256 ≤ 2048) (inb : ∀ a, (![o, 0] : Fin 2 → ℕ) a + S256x128.size a ≤ S2048x128.size a)
    (p : FVec Ideal S256x128 .f32) (r : Fin 256) (l : Fin 128) :
    canon (⟨Rect.unit (s := S2048x128) ![o, 0] S256x128.size inb, p⟩ :: L) (ix2 ⟨o + r.val, by omega⟩ l) = p (ix2 r l) := by
  rw [← emb_m256 o ho inb r l]
  exact canon_cons_emb _ _ _ _

theorem out_m256 (L : List (View.Piece (Elt Ideal) S2048x128 .f32)) (o : ℕ) (inb : ∀ a, (![o, 0] : Fin 2 → ℕ) a + S256x128.size a ≤ S2048x128.size a)
    (p : FVec Ideal S256x128 .f32) (R : Fin 2048) (l : Fin 128) (h : ¬ (o ≤ R.val ∧ R.val < o + 256)) :
    canon (⟨Rect.unit (s := S2048x128) ![o, 0] S256x128.size inb, p⟩ :: L) (ix2 R l) = canon L (ix2 R l) := by
  refine canon_cons_of_not_mem _ _ fun hm => h ?_
  have e := (Rect.mem_set_unit (inb := inb)).mp hm (0 : Fin 2)
  exact e

theorem cast_m256 (x : FVec Ideal S256x128 .f32) (r : Fin 256) (l : Fin 128) : shapeCast S256x128 x shapeCasts_S256x128_S256x128 (ix2 r l) = x (ix2 r l) := by
  pointwise

theorem cov_m256 {sp : Space} (v : View sig .tc sp S2048x128 .f32) (L : List (View.Piece (Elt Ideal) S2048x128 .f32)) (o : ℕ) (ho : o + 256 ≤ 2048) (inb : ∀ a, (![o, 0] : Fin 2 → ℕ) a + S256x128.size a ≤ S2048x128.size a) (r : Fin 256) (l : Fin 128) :
    v.readCov L (Rect.unit (s := S2048x128) ![o, 0] S256x128.size inb).toLoadRect (ix2 r l) = canon L (ix2 ⟨o + r.val, by omega⟩ l) := by
  rw [View.readCov_eq_canon']
  exact congrArg (canon L) (emb_m256 o ho inb r l)

theorem rd_m256 {sp : Space} (v : View sig .tc sp S2048x128 .f32) (L : List (View.Piece (Elt Ideal) S2048x128 .f32)) (o : ℕ) (ho : o + 256 ≤ 2048) (inb : ∀ a, (![o, 0] : Fin 2 → ℕ) a + S256x128.size a ≤ S2048x128.size a) (r : Fin 256) (l : Fin 128) :
    v.readAt (Elt Ideal) (Rect.unit (s := S2048x128) ![o, 0] S256x128.size inb).toLoadRect (v.writes (Elt Ideal) v.junk L) (ix2 r l) = canon L (ix2 ⟨o + r.val, by omega⟩ l) := by
  rw [View.readAt_writes_junk_eq_canon]
  exact congrArg (canon L) (emb_m256 o ho inb r l)

theorem emb_a256 (o : ℕ) (ho : o + 256 ≤ 2048) (inb : ∀ a, (![o, 0] : Fin 2 → ℕ) a + S256x256.size a ≤ S2048x256.size a) (r : Fin 256) (l : Fin 256) :
    (Rect.unit (s := S2048x256) ![o, 0] S256x256.size inb).emb (ix2 r l) = ix2 ⟨o + r.val, by omega⟩ l := by
  funext x
  refine Fin.cases ?_ (fun x => ?_) x
  · refine Fin.ext ?_
    change o + 1 * r.val = o + r.val
    omega
  · refine Fin.cases ?_ (fun x => x.elim0) x
    refine Fin.ext ?_
    change 0 + 1 * l.val = l.val
    omega

theorem in_a256 (L : List (View.Piece (Elt Ideal) S2048x256 .f32)) (o : ℕ) (ho : o + 256 ≤ 2048) (inb : ∀ a, (![o, 0] : Fin 2 → ℕ) a + S256x256.size a ≤ S2048x256.size a)
    (p : FVec Ideal S256x256 .f32) (r : Fin 256) (l : Fin 256) :
    canon (⟨Rect.unit (s := S2048x256) ![o, 0] S256x256.size inb, p⟩ :: L) (ix2 ⟨o + r.val, by omega⟩ l) = p (ix2 r l) := by
  rw [← emb_a256 o ho inb r l]
  exact canon_cons_emb _ _ _ _

theorem out_a256 (L : List (View.Piece (Elt Ideal) S2048x256 .f32)) (o : ℕ) (inb : ∀ a, (![o, 0] : Fin 2 → ℕ) a + S256x256.size a ≤ S2048x256.size a)
    (p : FVec Ideal S256x256 .f32) (R : Fin 2048) (l : Fin 256) (h : ¬ (o ≤ R.val ∧ R.val < o + 256)) :
    canon (⟨Rect.unit (s := S2048x256) ![o, 0] S256x256.size inb, p⟩ :: L) (ix2 R l) = canon L (ix2 R l) := by
  refine canon_cons_of_not_mem _ _ fun hm => h ?_
  have e := (Rect.mem_set_unit (inb := inb)).mp hm (0 : Fin 2)
  exact e

theorem cast_a256 (x : FVec Ideal S256x256 .f32) (r : Fin 256) (l : Fin 256) : shapeCast S256x256 x shapeCasts_S256x256_S256x256 (ix2 r l) = x (ix2 r l) := by
  pointwise

theorem cov_a256 {sp : Space} (v : View sig .tc sp S2048x256 .f32) (L : List (View.Piece (Elt Ideal) S2048x256 .f32)) (o : ℕ) (ho : o + 256 ≤ 2048) (inb : ∀ a, (![o, 0] : Fin 2 → ℕ) a + S256x256.size a ≤ S2048x256.size a) (r : Fin 256) (l : Fin 256) :
    v.readCov L (Rect.unit (s := S2048x256) ![o, 0] S256x256.size inb).toLoadRect (ix2 r l) = canon L (ix2 ⟨o + r.val, by omega⟩ l) := by
  rw [View.readCov_eq_canon']
  exact congrArg (canon L) (emb_a256 o ho inb r l)

theorem rd_a256 {sp : Space} (v : View sig .tc sp S2048x256 .f32) (L : List (View.Piece (Elt Ideal) S2048x256 .f32)) (o : ℕ) (ho : o + 256 ≤ 2048) (inb : ∀ a, (![o, 0] : Fin 2 → ℕ) a + S256x256.size a ≤ S2048x256.size a) (r : Fin 256) (l : Fin 256) :
    v.readAt (Elt Ideal) (Rect.unit (s := S2048x256) ![o, 0] S256x256.size inb).toLoadRect (v.writes (Elt Ideal) v.junk L) (ix2 r l) = canon L (ix2 ⟨o + r.val, by omega⟩ l) := by
  rw [View.readAt_writes_junk_eq_canon]
  exact congrArg (canon L) (emb_a256 o ho inb r l)

theorem emb_m512 (o : ℕ) (ho : o + 512 ≤ 2048) (inb : ∀ a, (![o, 0] : Fin 2 → ℕ) a + S512x128.size a ≤ S2048x128.size a) (r : Fin 512) (l : Fin 128) :
    (Rect.unit (s := S2048x128) ![o, 0] S512x128.size inb).emb (ix2 r l) = ix2 ⟨o + r.val, by omega⟩ l := by
  funext x
  refine Fin.cases ?_ (fun x => ?_) x
  · refine Fin.ext ?_
    change o + 1 * r.val = o + r.val
    omega
  · refine Fin.cases ?_ (fun x => x.elim0) x
    refine Fin.ext ?_
    change 0 + 1 * l.val = l.val
    omega

theorem in_m512 (L : List (View.Piece (Elt Ideal) S2048x128 .f32)) (o : ℕ) (ho : o + 512 ≤ 2048) (inb : ∀ a, (![o, 0] : Fin 2 → ℕ) a + S512x128.size a ≤ S2048x128.size a)
    (p : FVec Ideal S512x128 .f32) (r : Fin 512) (l : Fin 128) :
    canon (⟨Rect.unit (s := S2048x128) ![o, 0] S512x128.size inb, p⟩ :: L) (ix2 ⟨o + r.val, by omega⟩ l) = p (ix2 r l) := by
  rw [← emb_m512 o ho inb r l]
  exact canon_cons_emb _ _ _ _

theorem out_m512 (L : List (View.Piece (Elt Ideal) S2048x128 .f32)) (o : ℕ) (inb : ∀ a, (![o, 0] : Fin 2 → ℕ) a + S512x128.size a ≤ S2048x128.size a)
    (p : FVec Ideal S512x128 .f32) (R : Fin 2048) (l : Fin 128) (h : ¬ (o ≤ R.val ∧ R.val < o + 512)) :
    canon (⟨Rect.unit (s := S2048x128) ![o, 0] S512x128.size inb, p⟩ :: L) (ix2 R l) = canon L (ix2 R l) := by
  refine canon_cons_of_not_mem _ _ fun hm => h ?_
  have e := (Rect.mem_set_unit (inb := inb)).mp hm (0 : Fin 2)
  exact e

theorem cast_m512 (x : FVec Ideal S512x128 .f32) (r : Fin 512) (l : Fin 128) : shapeCast S512x128 x shapeCasts_S512x128_S512x128 (ix2 r l) = x (ix2 r l) := by
  pointwise

theorem cov_m512 {sp : Space} (v : View sig .tc sp S2048x128 .f32) (L : List (View.Piece (Elt Ideal) S2048x128 .f32)) (o : ℕ) (ho : o + 512 ≤ 2048) (inb : ∀ a, (![o, 0] : Fin 2 → ℕ) a + S512x128.size a ≤ S2048x128.size a) (r : Fin 512) (l : Fin 128) :
    v.readCov L (Rect.unit (s := S2048x128) ![o, 0] S512x128.size inb).toLoadRect (ix2 r l) = canon L (ix2 ⟨o + r.val, by omega⟩ l) := by
  rw [View.readCov_eq_canon']
  exact congrArg (canon L) (emb_m512 o ho inb r l)

theorem rd_m512 {sp : Space} (v : View sig .tc sp S2048x128 .f32) (L : List (View.Piece (Elt Ideal) S2048x128 .f32)) (o : ℕ) (ho : o + 512 ≤ 2048) (inb : ∀ a, (![o, 0] : Fin 2 → ℕ) a + S512x128.size a ≤ S2048x128.size a) (r : Fin 512) (l : Fin 128) :
    v.readAt (Elt Ideal) (Rect.unit (s := S2048x128) ![o, 0] S512x128.size inb).toLoadRect (v.writes (Elt Ideal) v.junk L) (ix2 r l) = canon L (ix2 ⟨o + r.val, by omega⟩ l) := by
  rw [View.readAt_writes_junk_eq_canon]
  exact congrArg (canon L) (emb_m512 o ho inb r l)

theorem emb_a512 (o : ℕ) (ho : o + 512 ≤ 2048) (inb : ∀ a, (![o, 0] : Fin 2 → ℕ) a + S512x256.size a ≤ S2048x256.size a) (r : Fin 512) (l : Fin 256) :
    (Rect.unit (s := S2048x256) ![o, 0] S512x256.size inb).emb (ix2 r l) = ix2 ⟨o + r.val, by omega⟩ l := by
  funext x
  refine Fin.cases ?_ (fun x => ?_) x
  · refine Fin.ext ?_
    change o + 1 * r.val = o + r.val
    omega
  · refine Fin.cases ?_ (fun x => x.elim0) x
    refine Fin.ext ?_
    change 0 + 1 * l.val = l.val
    omega

theorem in_a512 (L : List (View.Piece (Elt Ideal) S2048x256 .f32)) (o : ℕ) (ho : o + 512 ≤ 2048) (inb : ∀ a, (![o, 0] : Fin 2 → ℕ) a + S512x256.size a ≤ S2048x256.size a)
    (p : FVec Ideal S512x256 .f32) (r : Fin 512) (l : Fin 256) :
    canon (⟨Rect.unit (s := S2048x256) ![o, 0] S512x256.size inb, p⟩ :: L) (ix2 ⟨o + r.val, by omega⟩ l) = p (ix2 r l) := by
  rw [← emb_a512 o ho inb r l]
  exact canon_cons_emb _ _ _ _

theorem out_a512 (L : List (View.Piece (Elt Ideal) S2048x256 .f32)) (o : ℕ) (inb : ∀ a, (![o, 0] : Fin 2 → ℕ) a + S512x256.size a ≤ S2048x256.size a)
    (p : FVec Ideal S512x256 .f32) (R : Fin 2048) (l : Fin 256) (h : ¬ (o ≤ R.val ∧ R.val < o + 512)) :
    canon (⟨Rect.unit (s := S2048x256) ![o, 0] S512x256.size inb, p⟩ :: L) (ix2 R l) = canon L (ix2 R l) := by
  refine canon_cons_of_not_mem _ _ fun hm => h ?_
  have e := (Rect.mem_set_unit (inb := inb)).mp hm (0 : Fin 2)
  exact e

theorem cast_a512 (x : FVec Ideal S512x256 .f32) (r : Fin 512) (l : Fin 256) : shapeCast S512x256 x shapeCasts_S512x256_S512x256 (ix2 r l) = x (ix2 r l) := by
  pointwise

theorem cov_a512 {sp : Space} (v : View sig .tc sp S2048x256 .f32) (L : List (View.Piece (Elt Ideal) S2048x256 .f32)) (o : ℕ) (ho : o + 512 ≤ 2048) (inb : ∀ a, (![o, 0] : Fin 2 → ℕ) a + S512x256.size a ≤ S2048x256.size a) (r : Fin 512) (l : Fin 256) :
    v.readCov L (Rect.unit (s := S2048x256) ![o, 0] S512x256.size inb).toLoadRect (ix2 r l) = canon L (ix2 ⟨o + r.val, by omega⟩ l) := by
  rw [View.readCov_eq_canon']
  exact congrArg (canon L) (emb_a512 o ho inb r l)

theorem rd_a512 {sp : Space} (v : View sig .tc sp S2048x256 .f32) (L : List (View.Piece (Elt Ideal) S2048x256 .f32)) (o : ℕ) (ho : o + 512 ≤ 2048) (inb : ∀ a, (![o, 0] : Fin 2 → ℕ) a + S512x256.size a ≤ S2048x256.size a) (r : Fin 512) (l : Fin 256) :
    v.readAt (Elt Ideal) (Rect.unit (s := S2048x256) ![o, 0] S512x256.size inb).toLoadRect (v.writes (Elt Ideal) v.junk L) (ix2 r l) = canon L (ix2 ⟨o + r.val, by omega⟩ l) := by
  rw [View.readAt_writes_junk_eq_canon]
  exact congrArg (canon L) (emb_a512 o ho inb r l)

/-- 256 keys for the 256 rows from `o` on, on the memory's contents. -/
theorem chain256_256 {a : Fin 2048 → ℕ → ℝ} {w : ℕ → Fin 256 → EReal} {KB KA : ℕ → Finset ℕ} {L0 L0' : List (View.Piece (Elt Ideal) S2048x128 .f32)} {L1 L1' : List (View.Piece (Elt Ideal) S2048x256 .f32)}
    (o : ℕ) (ho : o + 256 ≤ 2048) (h : Rows a w (stg o KB KA) (canon L0) (canon L1))
    (z : FVec Ideal S256x256 .f32) (m : FVec Ideal S256x128 .f32) (acc : FVec Ideal S256x256 .f32) (vx : FVec Ideal S256x256 .bf16)
    (inb0 : ∀ a, (![o, 0] : Fin 2 → ℕ) a + S256x128.size a ≤ S2048x128.size a) (inb1 : ∀ a, (![o, 0] : Fin 2 → ℕ) a + S256x256.size a ≤ S2048x256.size a)
    (hL0 : L0' = ⟨Rect.unit (s := S2048x128) ![o, 0] S256x128.size inb0, shapeCast S256x128 (M256_256 z m) shapeCasts_S256x128_S256x128⟩ :: L0)
    (hL1 : L1' = ⟨Rect.unit (s := S2048x256) ![o, 0] S256x256.size inb1, shapeCast S256x256 (A256_256 z m acc vx) shapeCasts_S256x256_S256x256⟩ :: L1)
    (hm : ∀ r l, m (ix2 r l) = canon L0 (ix2 ⟨o + r.val, by omega⟩ l))
    (hacc : ∀ r d, acc (ix2 r d) = canon L1 (ix2 ⟨o + r.val, by omega⟩ d))
    (key : Fin 256 → ℕ) (vis : ℕ → Fin 256 → Prop) [∀ r, DecidablePred (vis r)]
    (hz : ∀ (r : Fin 256) (j : Fin 256), z (ix2 r j) = if vis (o + r.val) j then ((a ⟨o + r.val, by omega⟩ (key j) : ℝ) : EReal) else ⊥)
    (hv : ∀ (r : Fin 256) (j : Fin 256), vis (o + r.val) j → ∀ d, vx (ix2 j d) = w (key j) d)
    (hinj : ∀ i j, key i = key j → i = j)
    (hdis : ∀ R, o ≤ R → R < o + 256 → ∀ j, vis R j → key j ∉ KB R)
    (hS : ∀ R, o ≤ R → R < o + 256 → ∀ k, k ∈ KA R ↔ k ∈ KB R ∨ ∃ j, vis R j ∧ key j = k) :
    Rows a w (stg (o + 256) KB KA) (canon L0') (canon L1') := by
  subst hL0 hL1
  have emi : ∀ (r : Fin 256) l, canon (⟨Rect.unit (s := S2048x128) ![o, 0] S256x128.size inb0, shapeCast S256x128 (M256_256 z m) shapeCasts_S256x128_S256x128⟩ :: L0) (ix2 ⟨o + r.val, by omega⟩ l) = M256_256 z m (ix2 r l) :=
    fun r l => (in_m256 L0 o ho inb0 _ r l).trans (cast_m256 _ r l)
  refine step o ho h (fun r j => z (ix2 r j)) (fun j d => vx (ix2 j d)) (lane 256) (lane 256) key (fun r j => vis (o + r.val) j)
    (fun r l => ?_) (fun R l hR => out_m256 L0 o inb0 _ R l hR) (fun r d => ?_) (fun R d hR => out_a256 L1 o inb1 _ R d hR) hz hv hinj
    (fun r j => hdis _ (by omega) (by omega) j) (fun r => hS _ (by omega) (by omega))
  · rw [emi, M256_256_apply, hm]
  · rw [in_a256 L1 o ho inb1 _ r d, cast_a256, A256_256_apply, hacc, hm]
    refine congrArg₂ (· + ·) (congrArg (_ * ·) (congrArg (fun t => Ideal.exp2 (_ - t)) (emi r _).symm)) (Finset.sum_congr rfl fun j _ => congrArg (fun t => Ideal.exp2 (z (ix2 r j) - t) * _) (emi r _).symm)

/-- 512 keys for the 256 rows from `o` on, on the memory's contents. -/
theorem chain256_512 {a : Fin 2048 → ℕ → ℝ} {w : ℕ → Fin 256 → EReal} {KB KA : ℕ → Finset ℕ} {L0 L0' : List (View.Piece (Elt Ideal) S2048x128 .f32)} {L1 L1' : List (View.Piece (Elt Ideal) S2048x256 .f32)}
    (o : ℕ) (ho : o + 256 ≤ 2048) (h : Rows a w (stg o KB KA) (canon L0) (canon L1))
    (z : FVec Ideal S256x512 .f32) (m : FVec Ideal S256x128 .f32) (acc : FVec Ideal S256x256 .f32) (vx : FVec Ideal S512x256 .bf16)
    (inb0 : ∀ a, (![o, 0] : Fin 2 → ℕ) a + S256x128.size a ≤ S2048x128.size a) (inb1 : ∀ a, (![o, 0] : Fin 2 → ℕ) a + S256x256.size a ≤ S2048x256.size a)
    (hL0 : L0' = ⟨Rect.unit (s := S2048x128) ![o, 0] S256x128.size inb0, shapeCast S256x128 (M256_512 z m) shapeCasts_S256x128_S256x128⟩ :: L0)
    (hL1 : L1' = ⟨Rect.unit (s := S2048x256) ![o, 0] S256x256.size inb1, shapeCast S256x256 (A256_512 z m acc vx) shapeCasts_S256x256_S256x256⟩ :: L1)
    (hm : ∀ r l, m (ix2 r l) = canon L0 (ix2 ⟨o + r.val, by omega⟩ l))
    (hacc : ∀ r d, acc (ix2 r d) = canon L1 (ix2 ⟨o + r.val, by omega⟩ d))
    (key : Fin 512 → ℕ) (vis : ℕ → Fin 512 → Prop) [∀ r, DecidablePred (vis r)]
    (hz : ∀ (r : Fin 256) (j : Fin 512), z (ix2 r j) = if vis (o + r.val) j then ((a ⟨o + r.val, by omega⟩ (key j) : ℝ) : EReal) else ⊥)
    (hv : ∀ (r : Fin 256) (j : Fin 512), vis (o + r.val) j → ∀ d, vx (ix2 j d) = w (key j) d)
    (hinj : ∀ i j, key i = key j → i = j)
    (hdis : ∀ R, o ≤ R → R < o + 256 → ∀ j, vis R j → key j ∉ KB R)
    (hS : ∀ R, o ≤ R → R < o + 256 → ∀ k, k ∈ KA R ↔ k ∈ KB R ∨ ∃ j, vis R j ∧ key j = k) :
    Rows a w (stg (o + 256) KB KA) (canon L0') (canon L1') := by
  subst hL0 hL1
  have emi : ∀ (r : Fin 256) l, canon (⟨Rect.unit (s := S2048x128) ![o, 0] S256x128.size inb0, shapeCast S256x128 (M256_512 z m) shapeCasts_S256x128_S256x128⟩ :: L0) (ix2 ⟨o + r.val, by omega⟩ l) = M256_512 z m (ix2 r l) :=
    fun r l => (in_m256 L0 o ho inb0 _ r l).trans (cast_m256 _ r l)
  refine step o ho h (fun r j => z (ix2 r j)) (fun j d => vx (ix2 j d)) (lane 256) (lane 512) key (fun r j => vis (o + r.val) j)
    (fun r l => ?_) (fun R l hR => out_m256 L0 o inb0 _ R l hR) (fun r d => ?_) (fun R d hR => out_a256 L1 o inb1 _ R d hR) hz hv hinj
    (fun r j => hdis _ (by omega) (by omega) j) (fun r => hS _ (by omega) (by omega))
  · rw [emi, M256_512_apply, hm]
  · rw [in_a256 L1 o ho inb1 _ r d, cast_a256, A256_512_apply, hacc, hm]
    refine congrArg₂ (· + ·) (congrArg (_ * ·) (congrArg (fun t => Ideal.exp2 (_ - t)) (emi r _).symm)) (Finset.sum_congr rfl fun j _ => congrArg (fun t => Ideal.exp2 (z (ix2 r j) - t) * _) (emi r _).symm)

/-- 1024 keys for the 512 rows from `o` on, on the memory's contents. -/
theorem chain512_1024 {a : Fin 2048 → ℕ → ℝ} {w : ℕ → Fin 256 → EReal} {KB KA : ℕ → Finset ℕ} {L0 L0' : List (View.Piece (Elt Ideal) S2048x128 .f32)} {L1 L1' : List (View.Piece (Elt Ideal) S2048x256 .f32)}
    (o : ℕ) (ho : o + 512 ≤ 2048) (h : Rows a w (stg o KB KA) (canon L0) (canon L1))
    (z : FVec Ideal S512x1024 .f32) (m : FVec Ideal S512x128 .f32) (acc : FVec Ideal S512x256 .f32) (vx : FVec Ideal S1024x256 .bf16)
    (inb0 : ∀ a, (![o, 0] : Fin 2 → ℕ) a + S512x128.size a ≤ S2048x128.size a) (inb1 : ∀ a, (![o, 0] : Fin 2 → ℕ) a + S512x256.size a ≤ S2048x256.size a)
    (hL0 : L0' = ⟨Rect.unit (s := S2048x128) ![o, 0] S512x128.size inb0, shapeCast S512x128 (M512_1024 z m) shapeCasts_S512x128_S512x128⟩ :: L0)
    (hL1 : L1' = ⟨Rect.unit (s := S2048x256) ![o, 0] S512x256.size inb1, shapeCast S512x256 (A512_1024 z m acc vx) shapeCasts_S512x256_S512x256⟩ :: L1)
    (hm : ∀ r l, m (ix2 r l) = canon L0 (ix2 ⟨o + r.val, by omega⟩ l))
    (hacc : ∀ r d, acc (ix2 r d) = canon L1 (ix2 ⟨o + r.val, by omega⟩ d))
    (key : Fin 1024 → ℕ) (vis : ℕ → Fin 1024 → Prop) [∀ r, DecidablePred (vis r)]
    (hz : ∀ (r : Fin 512) (j : Fin 1024), z (ix2 r j) = if vis (o + r.val) j then ((a ⟨o + r.val, by omega⟩ (key j) : ℝ) : EReal) else ⊥)
    (hv : ∀ (r : Fin 512) (j : Fin 1024), vis (o + r.val) j → ∀ d, vx (ix2 j d) = w (key j) d)
    (hinj : ∀ i j, key i = key j → i = j)
    (hdis : ∀ R, o ≤ R → R < o + 512 → ∀ j, vis R j → key j ∉ KB R)
    (hS : ∀ R, o ≤ R → R < o + 512 → ∀ k, k ∈ KA R ↔ k ∈ KB R ∨ ∃ j, vis R j ∧ key j = k) :
    Rows a w (stg (o + 512) KB KA) (canon L0') (canon L1') := by
  subst hL0 hL1
  have emi : ∀ (r : Fin 512) l, canon (⟨Rect.unit (s := S2048x128) ![o, 0] S512x128.size inb0, shapeCast S512x128 (M512_1024 z m) shapeCasts_S512x128_S512x128⟩ :: L0) (ix2 ⟨o + r.val, by omega⟩ l) = M512_1024 z m (ix2 r l) :=
    fun r l => (in_m512 L0 o ho inb0 _ r l).trans (cast_m512 _ r l)
  refine step o ho h (fun r j => z (ix2 r j)) (fun j d => vx (ix2 j d)) (lane 256) (lane 1024) key (fun r j => vis (o + r.val) j)
    (fun r l => ?_) (fun R l hR => out_m512 L0 o inb0 _ R l hR) (fun r d => ?_) (fun R d hR => out_a512 L1 o inb1 _ R d hR) hz hv hinj
    (fun r j => hdis _ (by omega) (by omega) j) (fun r => hS _ (by omega) (by omega))
  · rw [emi, M512_1024_apply, hm]
  · rw [in_a512 L1 o ho inb1 _ r d, cast_a512, A512_1024_apply, hacc, hm]
    refine congrArg₂ (· + ·) (congrArg (_ * ·) (congrArg (fun t => Ideal.exp2 (_ - t)) (emi r _).symm)) (Finset.sum_congr rfl fun j _ => congrArg (fun t => Ideal.exp2 (z (ix2 r j) - t) * _) (emi r _).symm)

/-- 512 keys for the 512 rows from `o` on, on the memory's contents. -/
theorem chain512_512 {a : Fin 2048 → ℕ → ℝ} {w : ℕ → Fin 256 → EReal} {KB KA : ℕ → Finset ℕ} {L0 L0' : List (View.Piece (Elt Ideal) S2048x128 .f32)} {L1 L1' : List (View.Piece (Elt Ideal) S2048x256 .f32)}
    (o : ℕ) (ho : o + 512 ≤ 2048) (h : Rows a w (stg o KB KA) (canon L0) (canon L1))
    (z : FVec Ideal S512x512 .f32) (m : FVec Ideal S512x128 .f32) (acc : FVec Ideal S512x256 .f32) (vx : FVec Ideal S512x256 .bf16)
    (inb0 : ∀ a, (![o, 0] : Fin 2 → ℕ) a + S512x128.size a ≤ S2048x128.size a) (inb1 : ∀ a, (![o, 0] : Fin 2 → ℕ) a + S512x256.size a ≤ S2048x256.size a)
    (hL0 : L0' = ⟨Rect.unit (s := S2048x128) ![o, 0] S512x128.size inb0, shapeCast S512x128 (M512_512 z m) shapeCasts_S512x128_S512x128⟩ :: L0)
    (hL1 : L1' = ⟨Rect.unit (s := S2048x256) ![o, 0] S512x256.size inb1, shapeCast S512x256 (A512_512 z m acc vx) shapeCasts_S512x256_S512x256⟩ :: L1)
    (hm : ∀ r l, m (ix2 r l) = canon L0 (ix2 ⟨o + r.val, by omega⟩ l))
    (hacc : ∀ r d, acc (ix2 r d) = canon L1 (ix2 ⟨o + r.val, by omega⟩ d))
    (key : Fin 512 → ℕ) (vis : ℕ → Fin 512 → Prop) [∀ r, DecidablePred (vis r)]
    (hz : ∀ (r : Fin 512) (j : Fin 512), z (ix2 r j) = if vis (o + r.val) j then ((a ⟨o + r.val, by omega⟩ (key j) : ℝ) : EReal) else ⊥)
    (hv : ∀ (r : Fin 512) (j : Fin 512), vis (o + r.val) j → ∀ d, vx (ix2 j d) = w (key j) d)
    (hinj : ∀ i j, key i = key j → i = j)
    (hdis : ∀ R, o ≤ R → R < o + 512 → ∀ j, vis R j → key j ∉ KB R)
    (hS : ∀ R, o ≤ R → R < o + 512 → ∀ k, k ∈ KA R ↔ k ∈ KB R ∨ ∃ j, vis R j ∧ key j = k) :
    Rows a w (stg (o + 512) KB KA) (canon L0') (canon L1') := by
  subst hL0 hL1
  have emi : ∀ (r : Fin 512) l, canon (⟨Rect.unit (s := S2048x128) ![o, 0] S512x128.size inb0, shapeCast S512x128 (M512_512 z m) shapeCasts_S512x128_S512x128⟩ :: L0) (ix2 ⟨o + r.val, by omega⟩ l) = M512_512 z m (ix2 r l) :=
    fun r l => (in_m512 L0 o ho inb0 _ r l).trans (cast_m512 _ r l)
  refine step o ho h (fun r j => z (ix2 r j)) (fun j d => vx (ix2 j d)) (lane 256) (lane 512) key (fun r j => vis (o + r.val) j)
    (fun r l => ?_) (fun R l hR => out_m512 L0 o inb0 _ R l hR) (fun r d => ?_) (fun R d hR => out_a512 L1 o inb1 _ R d hR) hz hv hinj
    (fun r j => hdis _ (by omega) (by omega) j) (fun r => hS _ (by omega) (by omega))
  · rw [emi, M512_512_apply, hm]
  · rw [in_a512 L1 o ho inb1 _ r d, cast_a512, A512_512_apply, hacc, hm]
    refine congrArg₂ (· + ·) (congrArg (_ * ·) (congrArg (fun t => Ideal.exp2 (_ - t)) (emi r _).symm)) (Finset.sum_congr rfl fun j _ => congrArg (fun t => Ideal.exp2 (z (ix2 r j) - t) * _) (emi r _).symm)

/-- 128 keys for the 512 rows from `o` on, on the memory's contents. -/
theorem chain512_128 {a : Fin 2048 → ℕ → ℝ} {w : ℕ → Fin 256 → EReal} {KB KA : ℕ → Finset ℕ} {L0 L0' : List (View.Piece (Elt Ideal) S2048x128 .f32)} {L1 L1' : List (View.Piece (Elt Ideal) S2048x256 .f32)}
    (o : ℕ) (ho : o + 512 ≤ 2048) (h : Rows a w (stg o KB KA) (canon L0) (canon L1))
    (z : FVec Ideal S512x128 .f32) (m : FVec Ideal S512x128 .f32) (acc : FVec Ideal S512x256 .f32) (vx : FVec Ideal S128x256 .bf16)
    (inb0 : ∀ a, (![o, 0] : Fin 2 → ℕ) a + S512x128.size a ≤ S2048x128.size a) (inb1 : ∀ a, (![o, 0] : Fin 2 → ℕ) a + S512x256.size a ≤ S2048x256.size a)
    (hL0 : L0' = ⟨Rect.unit (s := S2048x128) ![o, 0] S512x128.size inb0, shapeCast S512x128 (M512_128 z m) shapeCasts_S512x128_S512x128⟩ :: L0)
    (hL1 : L1' = ⟨Rect.unit (s := S2048x256) ![o, 0] S512x256.size inb1, shapeCast S512x256 (A512_128 z m acc vx) shapeCasts_S512x256_S512x256⟩ :: L1)
    (hm : ∀ r l, m (ix2 r l) = canon L0 (ix2 ⟨o + r.val, by omega⟩ l))
    (hacc : ∀ r d, acc (ix2 r d) = canon L1 (ix2 ⟨o + r.val, by omega⟩ d))
    (key : Fin 128 → ℕ) (vis : ℕ → Fin 128 → Prop) [∀ r, DecidablePred (vis r)]
    (hz : ∀ (r : Fin 512) (j : Fin 128), z (ix2 r j) = if vis (o + r.val) j then ((a ⟨o + r.val, by omega⟩ (key j) : ℝ) : EReal) else ⊥)
    (hv : ∀ (r : Fin 512) (j : Fin 128), vis (o + r.val) j → ∀ d, vx (ix2 j d) = w (key j) d)
    (hinj : ∀ i j, key i = key j → i = j)
    (hdis : ∀ R, o ≤ R → R < o + 512 → ∀ j, vis R j → key j ∉ KB R)
    (hS : ∀ R, o ≤ R → R < o + 512 → ∀ k, k ∈ KA R ↔ k ∈ KB R ∨ ∃ j, vis R j ∧ key j = k) :
    Rows a w (stg (o + 512) KB KA) (canon L0') (canon L1') := by
  subst hL0 hL1
  have emi : ∀ (r : Fin 512) l, canon (⟨Rect.unit (s := S2048x128) ![o, 0] S512x128.size inb0, shapeCast S512x128 (M512_128 z m) shapeCasts_S512x128_S512x128⟩ :: L0) (ix2 ⟨o + r.val, by omega⟩ l) = M512_128 z m (ix2 r l) :=
    fun r l => (in_m512 L0 o ho inb0 _ r l).trans (cast_m512 _ r l)
  refine step o ho h (fun r j => z (ix2 r j)) (fun j d => vx (ix2 j d)) (lane 256) (lane 128) key (fun r j => vis (o + r.val) j)
    (fun r l => ?_) (fun R l hR => out_m512 L0 o inb0 _ R l hR) (fun r d => ?_) (fun R d hR => out_a512 L1 o inb1 _ R d hR) hz hv hinj
    (fun r j => hdis _ (by omega) (by omega) j) (fun r => hS _ (by omega) (by omega))
  · rw [emi, M512_128_apply, hm]
  · rw [in_a512 L1 o ho inb1 _ r d, cast_a512, A512_128_apply, hacc, hm]
    refine congrArg₂ (· + ·) (congrArg (_ * ·) (congrArg (fun t => Ideal.exp2 (_ - t)) (emi r _).symm)) (Finset.sum_congr rfl fun j _ => congrArg (fun t => Ideal.exp2 (z (ix2 r j) - t) * _) (emi r _).symm)

end Cert.Kernel7Ideal.Fox

end
-- ==== Proof.FoxLogit.lean ====
/- The attention's logits and value columns, read entry by entry. -/
module

public import proofs.«01_k».proof.Proof.Gen.Kernel7Ideal.Skeleton
public import proofs.«01_k».proof.Proof.FoxRow
public import Idealize.ShloMosaic.Lib.Pipeline.ValueKit
public import Idealize.ShloMosaic.Lib.Pointwise
public import Idealize.ShloMosaic.Lib.Tactic

@[expose] public section

set_option maxRecDepth 16384

noncomputable section

namespace Cert.Kernel7Ideal.Fox

open Idealize.ShloMosaic Idealize.ShloMosaic.TcCoe Cert.Kernel7Ideal Cert.Kernel7Ideal.Gen Cert.FoxRow

/-- The literal that stands for an unseen key's logit. -/
theorem masked : (Named.named (F := Ideal) κ (φ := .f32) "masked" 0xF149F2CA#32 : EReal) = ⊥ :=
  IdealRules.named_const.ideal_named_scalar _ _ _ _ rfl

/-- The logits of 512 rows and 1024 keys, before the mask. -/
theorem z1024 (q : FVec Ideal S2048x128 .bf16) (k : FVec Ideal S1024x128 .bf16) (cb : FVec Ideal S4x1024 .f32) (o g : ℕ)
    (ho : S2048x128.Slices ![o, 0] S512x128) (hg : S4x1024.Slices ![g, 0] S1x1024) (h1 : o + 512 ≤ 2048) (h2 : g < 4) (r : Fin 512) (j : Fin 1024) :
    (shapeCast S512x1024 (subf (shapeCast S1x512x1024 (matmul dot_S512x128_S1024x128_S512x1024_1_1_0_0_n_n none (extractStridedSlice S512x128 ![o, 0] q ho) k (constant S512x1024 .f32 0x00000000#32)) shapeCasts_S512x1024_S1x512x1024)
      (broadcastTo S1x512x1024 (shapeCast S1x1x1024 (extractStridedSlice S1x1024 ![g, 0] cb hg) shapeCasts_S1x1024_S1x1x1024) broadcasts_S1x1x1024_S1x512x1024)) shapeCasts_S1x512x1024_S512x1024 : FVec Ideal S512x1024 .f32) (ix2 r j)
      = (∑ c, q (ix2 ⟨o + r.val, by omega⟩ c) * k (ix2 j c)) - cb (ix2 ⟨g, h2⟩ j) := by
  pointwise

/-- The logits of 512 rows and 512 keys, before the mask. -/
theorem z512 (q : FVec Ideal S2048x128 .bf16) (k : FVec Ideal S512x128 .bf16) (cb : FVec Ideal S4x512 .f32) (o g : ℕ)
    (ho : S2048x128.Slices ![o, 0] S512x128) (hg : S4x512.Slices ![g, 0] S1x512) (h1 : o + 512 ≤ 2048) (h2 : g < 4) (r : Fin 512) (j : Fin 512) :
    (shapeCast S512x512 (subf (shapeCast S1x512x512 (matmul dot_S512x128_S512x128_S512x512_1_1_0_0_n_n none (extractStridedSlice S512x128 ![o, 0] q ho) k (constant S512x512 .f32 0x00000000#32)) shapeCasts_S512x512_S1x512x512)
      (broadcastTo S1x512x512 (shapeCast S1x1x512 (extractStridedSlice S1x512 ![g, 0] cb hg) shapeCasts_S1x512_S1x1x512) broadcasts_S1x1x512_S1x512x512)) shapeCasts_S1x512x512_S512x512 : FVec Ideal S512x512 .f32) (ix2 r j)
      = (∑ c, q (ix2 ⟨o + r.val, by omega⟩ c) * k (ix2 j c)) - cb (ix2 ⟨g, h2⟩ j) := by
  pointwise

/-- The logits of 512 rows and 128 keys, before the mask. -/
theorem z128 (q : FVec Ideal S2048x128 .bf16) (k : FVec Ideal S128x128 .bf16) (cb : FVec Ideal S4x128 .f32) (o g : ℕ)
    (ho : S2048x128.Slices ![o, 0] S512x128) (hg : S4x128.Slices ![g, 0] S1x128) (h1 : o + 512 ≤ 2048) (h2 : g < 4) (r : Fin 512) (j : Fin 128) :
    (shapeCast S512x128 (subf (shapeCast S1x512x128 (matmul dot_S512x128_S128x128_S512x128_1_1_0_0_n_n none (extractStridedSlice S512x128 ![o, 0] q ho) k (constant S512x128 .f32 0x00000000#32)) shapeCasts_S512x128_S1x512x128)
      (broadcastTo S1x512x128 (shapeCast S1x1x128 (extractStridedSlice S1x128 ![g, 0] cb hg) shapeCasts_S1x128_S1x1x128) broadcasts_S1x1x128_S1x512x128)) shapeCasts_S1x512x128_S512x128 : FVec Ideal S512x128 .f32) (ix2 r j)
      = (∑ c, q (ix2 ⟨o + r.val, by omega⟩ c) * k (ix2 j c)) - cb (ix2 ⟨g, h2⟩ j) := by
  pointwise

/-- The logits of 256 rows and 256 keys, before the mask. -/
theorem z256 (q : FVec Ideal S2048x128 .bf16) (k : FVec Ideal S512x128 .bf16) (cb : FVec Ideal S4x512 .f32) (o g : ℕ)
    (ho : S2048x128.Slices ![o, 0] S256x128) (hg : S4x512.Slices ![g, 0] S1x256) (h1 : o + 256 ≤ 2048) (h2 : g < 4) (r : Fin 256) (j : Fin 256) :
    (shapeCast S256x256 (subf (shapeCast S1x256x256 (matmul dot_S256x128_S256x128_S256x256_1_1_0_0_n_n none (extractStridedSlice S256x128 ![o, 0] q ho) (extractStridedSlice S256x128 ![0, 0] k slices_S512x128_o0_0_S256x128) (constant S256x256 .f32 0x00000000#32)) shapeCasts_S256x256_S1x256x256)
      (broadcastTo S1x256x256 (shapeCast S1x1x256 (extractStridedSlice S1x256 ![g, 0] cb hg) shapeCasts_S1x256_S1x1x256) broadcasts_S1x1x256_S1x256x256)) shapeCasts_S1x256x256_S256x256 : FVec Ideal S256x256 .f32) (ix2 r j)
      = (∑ c, q (ix2 ⟨o + r.val, by omega⟩ c) * k (ix2 ⟨j.val, by omega⟩ c)) - cb (ix2 ⟨g, h2⟩ ⟨j.val, by omega⟩) := by
  pointwise

/-- The logits of 256 rows and 512 keys, before the mask. -/
theorem z256b (q : FVec Ideal S2048x128 .bf16) (k : FVec Ideal S512x128 .bf16) (cb : FVec Ideal S4x512 .f32) (o g : ℕ)
    (ho : S2048x128.Slices ![o, 0] S256x128) (hg : S4x512.Slices ![g, 0] S1x512) (h1 : o + 256 ≤ 2048) (h2 : g < 4) (r : Fin 256) (j : Fin 512) :
    (shapeCast S256x512 (subf (shapeCast S1x256x512 (matmul dot_S256x128_S512x128_S256x512_1_1_0_0_n_n none (extractStridedSlice S256x128 ![o, 0] q ho) k (constant S256x512 .f32 0x00000000#32)) shapeCasts_S256x512_S1x256x512)
      (broadcastTo S1x256x512 (shapeCast S1x1x512 (extractStridedSlice S1x512 ![g, 0] cb hg) shapeCasts_S1x512_S1x1x512) broadcasts_S1x1x512_S1x256x512)) shapeCasts_S1x256x512_S256x512 : FVec Ideal S256x512 .f32) (ix2 r j)
      = (∑ c, q (ix2 ⟨o + r.val, by omega⟩ c) * k (ix2 j c)) - cb (ix2 ⟨g, h2⟩ j) := by
  pointwise

/-- A comparison of two small positions. -/
theorem sle_word (a b : ℕ) (ha : a < 1024) (hb : b < 1024) : IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  show BitVec.ofBool ((BitVec.ofNat 32 a).sle (BitVec.ofNat 32 b)) = _
  rw [e]
  by_cases h : a ≤ b
  · rw [if_pos h, decide_eq_true h]; rfl
  · rw [if_neg h, decide_eq_false h]; rfl

theorem slt_word (a b : ℕ) (ha : a < 1024) (hb : b < 1024) : IntOp.cmpi .slt (BitVec.ofNat 32 a) (BitVec.ofNat 32 b) = if a < b then 1#1 else 0#1 := by
  have e : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat, Nat.cast_lt]
    rw [Nat.mod_eq_of_lt (by omega), Nat.mod_eq_of_lt (by omega)]
  show BitVec.ofBool ((BitVec.ofNat 32 a).slt (BitVec.ofNat 32 b)) = _
  rw [e]
  by_cases h : a < b
  · rw [if_pos h, decide_eq_true h]; rfl
  · rw [if_neg h, decide_eq_false h]; rfl

theorem select_word {p : Prop} [Decidable p] (x y : EReal) : Scalar.select (if p then 1#1 else 0#1) x y = if p then x else y := by
  by_cases h : p
  · rw [if_pos h, if_pos h]; rfl
  · rw [if_neg h, if_neg h]; rfl

/-- A row's position in its block of 512, as the kernel computes it. -/
def pos (w : BitVec 32) : BitVec 32 :=
        (Scalar.select
          (IntOp.andi
            (IntOp.xori
              (IntOp.cmpi CmpIPredicate.slt
                (IntOp.remsi ArithUnit.vector w
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector w
                (Scalar.select (Scalar.cmpi CmpIPredicate.eq 512#32 0#32) 1#32 512#32))
              0#32))
          (IntOp.addi
            (IntOp.remsi ArithUnit.vector w
              (Scalar.select (Scalar.cmpi CmpIPredicate.eq 512#32 0#32) 1#32 512#32))
            (Scalar.select (Scalar.cmpi CmpIPredicate.eq 512#32 0#32) 1#32 512#32))
          (IntOp.remsi ArithUnit.vector w
            (Scalar.select (Scalar.cmpi CmpIPredicate.eq 512#32 0#32) 1#32 512#32)))

theorem pos_eq : ∀ (o : Fin 8) (r : Fin 256), pos (IntOp.addi (BitVec.ofNat 32 r.val) (BitVec.ofNat 32 (256 * o.val))) = BitVec.ofNat 32 ((256 * o.val + r.val) % 512) := by
  decide +kernel

theorem pay68 (z : FVec Ideal S256x256 .f32) (r j : Fin 256) :
    k0_pay68 z (iota .tc S256x256 32 [1] iota_S256x256_d1_w32) (iota .tc S256x256 32 [0] iota_S256x256_d0_w32) (ix2 r j) = if j.val ≤ r.val then z (ix2 r j) else ⊥ := by
  unfold k0_pay68
  rw [masked]
  dsimp only
  pointwise
  show Scalar.select (IntOp.cmpi .sle (BitVec.ofNat 32 j.val) (pos (IntOp.addi (BitVec.ofNat 32 r.val) (BitVec.ofNat 32 (256 * (0 : Fin 8).val))))) (z (ix2 r j)) ⊥ = _
  rw [pos_eq, sle_word _ _ (by omega) (by omega), select_word]
  have e : (256 * (0 : Fin 8).val + r.val) % 512 = r.val := by
    show (256 * 0 + r.val) % 512 = r.val
    omega
  rw [e]

theorem pay61 (q : FVec Ideal S512x512 .bf16) (g : Fin 4) (r : Fin 512) (c : Fin 128) :
    k0_pay61 q (ix2 ⟨512 * g.val + r.val, by omega⟩ c) = q (ix2 r ⟨128 * g.val + c.val, by omega⟩) := by
  unfold k0_pay61
  pointwise
  split_ifs <;> exact congrArg₂ (fun a b => q (ix2 a b)) (Fin.ext (by simp only; omega)) (Fin.ext (by simp only; omega))

end Cert.Kernel7Ideal.Fox

end
-- ==== Proof.FoxFour.lean ====
/- The attention's other chains, each over all 2048 rows in four pieces of 512: what one round of four makes of the running maximum and sums. -/
module

public import proofs.«01_k».proof.Proof.FoxChain
public import proofs.«01_k».proof.Proof.FoxLogit

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

/-- One round over 1024 keys: every row has then seen them too. -/
theorem four1024 {a : Fin 2048 → ℕ → ℝ} {w : ℕ → Fin 256 → EReal} {KB KA : ℕ → Finset ℕ} {L0_0 L0_1 L0_2 L0_3 L0_4 : List (View.Piece (Elt Ideal) S2048x128 .f32)} {L1_0 L1_1 L1_2 L1_3 L1_4 : List (View.Piece (Elt Ideal) S2048x256 .f32)}
    (h : Rows a w KB (canon L0_0) (canon L1_0))
    (z0 z1 z2 z3 : FVec Ideal S512x1024 .f32) (m0 m1 m2 m3 : FVec Ideal S512x128 .f32) (s0 s1 s2 s3 : FVec Ideal S512x256 .f32) (vx : FVec Ideal S1024x256 .bf16)
    (key : Fin 1024 → ℕ) (vis : Fin 1024 → Prop) [DecidablePred vis]
    (h0_0 : L0_1 = ⟨Rect.unit (s := S2048x128) ![0, 0] S512x128.size inb_S2048x128_S512x128_0_0, shapeCast S512x128 (M512_1024 z0 m0) shapeCasts_S512x128_S512x128⟩ :: L0_0)
    (h1_0 : L1_1 = ⟨Rect.unit (s := S2048x256) ![0, 0] S512x256.size inb_S2048x256_S512x256_0_0, shapeCast S512x256 (A512_1024 z0 m0 s0 vx) shapeCasts_S512x256_S512x256⟩ :: L1_0)
    (hm0 : ∀ r l, m0 (ix2 r l) = canon L0_0 (ix2 ⟨0 + r.val, by omega⟩ l)) (hs0 : ∀ r l, s0 (ix2 r l) = canon L1_0 (ix2 ⟨0 + r.val, by omega⟩ l))
    (hz0 : ∀ (r : Fin 512) (j : Fin 1024), z0 (ix2 r j) = if vis j then ((a ⟨0 + r.val, by omega⟩ (key j) : ℝ) : EReal) else ⊥)
    (h0_1 : L0_2 = ⟨Rect.unit (s := S2048x128) ![512, 0] S512x128.size inb_S2048x128_S512x128_512_0, shapeCast S512x128 (M512_1024 z1 m1) shapeCasts_S512x128_S512x128⟩ :: L0_1)
    (h1_1 : L1_2 = ⟨Rect.unit (s := S2048x256) ![512, 0] S512x256.size inb_S2048x256_S512x256_512_0, shapeCast S512x256 (A512_1024 z1 m1 s1 vx) shapeCasts_S512x256_S512x256⟩ :: L1_1)
    (hm1 : ∀ r l, m1 (ix2 r l) = canon L0_1 (ix2 ⟨512 + r.val, by omega⟩ l)) (hs1 : ∀ r l, s1 (ix2 r l) = canon L1_1 (ix2 ⟨512 + r.val, by omega⟩ l))
    (hz1 : ∀ (r : Fin 512) (j : Fin 1024), z1 (ix2 r j) = if vis j then ((a ⟨512 + r.val, by omega⟩ (key j) : ℝ) : EReal) else ⊥)
    (h0_2 : L0_3 = ⟨Rect.unit (s := S2048x128) ![1024, 0] S512x128.size inb_S2048x128_S512x128_1024_0, shapeCast S512x128 (M512_1024 z2 m2) shapeCasts_S512x128_S512x128⟩ :: L0_2)
    (h1_2 : L1_3 = ⟨Rect.unit (s := S2048x256) ![1024, 0] S512x256.size inb_S2048x256_S512x256_1024_0, shapeCast S512x256 (A512_1024 z2 m2 s2 vx) shapeCasts_S512x256_S512x256⟩ :: L1_2)
    (hm2 : ∀ r l, m2 (ix2 r l) = canon L0_2 (ix2 ⟨1024 + r.val, by omega⟩ l)) (hs2 : ∀ r l, s2 (ix2 r l) = canon L1_2 (ix2 ⟨1024 + r.val, by omega⟩ l))
    (hz2 : ∀ (r : Fin 512) (j : Fin 1024), z2 (ix2 r j) = if vis j then ((a ⟨1024 + r.val, by omega⟩ (key j) : ℝ) : EReal) else ⊥)
    (h0_3 : L0_4 = ⟨Rect.unit (s := S2048x128) ![1536, 0] S512x128.size inb_S2048x128_S512x128_1536_0, shapeCast S512x128 (M512_1024 z3 m3) shapeCasts_S512x128_S512x128⟩ :: L0_3)
    (h1_3 : L1_4 = ⟨Rect.unit (s := S2048x256) ![1536, 0] S512x256.size inb_S2048x256_S512x256_1536_0, shapeCast S512x256 (A512_1024 z3 m3 s3 vx) shapeCasts_S512x256_S512x256⟩ :: L1_3)
    (hm3 : ∀ r l, m3 (ix2 r l) = canon L0_3 (ix2 ⟨1536 + r.val, by omega⟩ l)) (hs3 : ∀ r l, s3 (ix2 r l) = canon L1_3 (ix2 ⟨1536 + r.val, by omega⟩ l))
    (hz3 : ∀ (r : Fin 512) (j : Fin 1024), z3 (ix2 r j) = if vis j then ((a ⟨1536 + r.val, by omega⟩ (key j) : ℝ) : EReal) else ⊥)
    (hv : ∀ j, vis j → ∀ d, vx (ix2 j d) = w (key j) d)
    (hinj : ∀ i j, key i = key j → i = j)
    (hdis : ∀ R < 2048, ∀ j, vis j → key j ∉ KB R)
    (hS : ∀ R < 2048, ∀ k, k ∈ KA R ↔ k ∈ KB R ∨ ∃ j, vis j ∧ key j = k) :
    Rows a w KA (canon L0_4) (canon L1_4) := by
  have c0 : Rows a w (stg 512 KB KA) (canon L0_1) (canon L1_1) :=
    chain512_1024 0 (by omega) (h.to_stg KA) z0 m0 s0 vx _ _ h0_0 h1_0 hm0 hs0 key (fun _ j => vis j) hz0 (fun _ j => hv j) hinj (fun R _ hR => hdis R (by omega)) (fun R _ hR => hS R (by omega))
  have c1 : Rows a w (stg 1024 KB KA) (canon L0_2) (canon L1_2) :=
    chain512_1024 512 (by omega) (c0) z1 m1 s1 vx _ _ h0_1 h1_1 hm1 hs1 key (fun _ j => vis j) hz1 (fun _ j => hv j) hinj (fun R _ hR => hdis R (by omega)) (fun R _ hR => hS R (by omega))
  have c2 : Rows a w (stg 1536 KB KA) (canon L0_3) (canon L1_3) :=
    chain512_1024 1024 (by omega) (c1) z2 m2 s2 vx _ _ h0_2 h1_2 hm2 hs2 key (fun _ j => vis j) hz2 (fun _ j => hv j) hinj (fun R _ hR => hdis R (by omega)) (fun R _ hR => hS R (by omega))
  have c3 : Rows a w (stg 2048 KB KA) (canon L0_4) (canon L1_4) :=
    chain512_1024 1536 (by omega) (c2) z3 m3 s3 vx _ _ h0_3 h1_3 hm3 hs3 key (fun _ j => vis j) hz3 (fun _ j => hv j) hinj (fun R _ hR => hdis R (by omega)) (fun R _ hR => hS R (by omega))
  exact c3.of_stg (by omega)

/-- One round over 512 keys: every row has then seen them too. -/
theorem four512 {a : Fin 2048 → ℕ → ℝ} {w : ℕ → Fin 256 → EReal} {KB KA : ℕ → Finset ℕ} {L0_0 L0_1 L0_2 L0_3 L0_4 : List (View.Piece (Elt Ideal) S2048x128 .f32)} {L1_0 L1_1 L1_2 L1_3 L1_4 : List (View.Piece (Elt Ideal) S2048x256 .f32)}
    (h : Rows a w KB (canon L0_0) (canon L1_0))
    (z0 z1 z2 z3 : FVec Ideal S512x512 .f32) (m0 m1 m2 m3 : FVec Ideal S512x128 .f32) (s0 s1 s2 s3 : FVec Ideal S512x256 .f32) (vx : FVec Ideal S512x256 .bf16)
    (key : Fin 512 → ℕ) (vis : Fin 512 → Prop) [DecidablePred vis]
    (h0_0 : L0_1 = ⟨Rect.unit (s := S2048x128) ![0, 0] S512x128.size inb_S2048x128_S512x128_0_0, shapeCast S512x128 (M512_512 z0 m0) shapeCasts_S512x128_S512x128⟩ :: L0_0)
    (h1_0 : L1_1 = ⟨Rect.unit (s := S2048x256) ![0, 0] S512x256.size inb_S2048x256_S512x256_0_0, shapeCast S512x256 (A512_512 z0 m0 s0 vx) shapeCasts_S512x256_S512x256⟩ :: L1_0)
    (hm0 : ∀ r l, m0 (ix2 r l) = canon L0_0 (ix2 ⟨0 + r.val, by omega⟩ l)) (hs0 : ∀ r l, s0 (ix2 r l) = canon L1_0 (ix2 ⟨0 + r.val, by omega⟩ l))
    (hz0 : ∀ (r : Fin 512) (j : Fin 512), z0 (ix2 r j) = if vis j then ((a ⟨0 + r.val, by omega⟩ (key j) : ℝ) : EReal) else ⊥)
    (h0_1 : L0_2 = ⟨Rect.unit (s := S2048x128) ![512, 0] S512x128.size inb_S2048x128_S512x128_512_0, shapeCast S512x128 (M512_512 z1 m1) shapeCasts_S512x128_S512x128⟩ :: L0_1)
    (h1_1 : L1_2 = ⟨Rect.unit (s := S2048x256) ![512, 0] S512x256.size inb_S2048x256_S512x256_512_0, shapeCast S512x256 (A512_512 z1 m1 s1 vx) shapeCasts_S512x256_S512x256⟩ :: L1_1)
    (hm1 : ∀ r l, m1 (ix2 r l) = canon L0_1 (ix2 ⟨512 + r.val, by omega⟩ l)) (hs1 : ∀ r l, s1 (ix2 r l) = canon L1_1 (ix2 ⟨512 + r.val, by omega⟩ l))
    (hz1 : ∀ (r : Fin 512) (j : Fin 512), z1 (ix2 r j) = if vis j then ((a ⟨512 + r.val, by omega⟩ (key j) : ℝ) : EReal) else ⊥)
    (h0_2 : L0_3 = ⟨Rect.unit (s := S2048x128) ![1024, 0] S512x128.size inb_S2048x128_S512x128_1024_0, shapeCast S512x128 (M512_512 z2 m2) shapeCasts_S512x128_S512x128⟩ :: L0_2)
    (h1_2 : L1_3 = ⟨Rect.unit (s := S2048x256) ![1024, 0] S512x256.size inb_S2048x256_S512x256_1024_0, shapeCast S512x256 (A512_512 z2 m2 s2 vx) shapeCasts_S512x256_S512x256⟩ :: L1_2)
    (hm2 : ∀ r l, m2 (ix2 r l) = canon L0_2 (ix2 ⟨1024 + r.val, by omega⟩ l)) (hs2 : ∀ r l, s2 (ix2 r l) = canon L1_2 (ix2 ⟨1024 + r.val, by omega⟩ l))
    (hz2 : ∀ (r : Fin 512) (j : Fin 512), z2 (ix2 r j) = if vis j then ((a ⟨1024 + r.val, by omega⟩ (key j) : ℝ) : EReal) else ⊥)
    (h0_3 : L0_4 = ⟨Rect.unit (s := S2048x128) ![1536, 0] S512x128.size inb_S2048x128_S512x128_1536_0, shapeCast S512x128 (M512_512 z3 m3) shapeCasts_S512x128_S512x128⟩ :: L0_3)
    (h1_3 : L1_4 = ⟨Rect.unit (s := S2048x256) ![1536, 0] S512x256.size inb_S2048x256_S512x256_1536_0, shapeCast S512x256 (A512_512 z3 m3 s3 vx) shapeCasts_S512x256_S512x256⟩ :: L1_3)
    (hm3 : ∀ r l, m3 (ix2 r l) = canon L0_3 (ix2 ⟨1536 + r.val, by omega⟩ l)) (hs3 : ∀ r l, s3 (ix2 r l) = canon L1_3 (ix2 ⟨1536 + r.val, by omega⟩ l))
    (hz3 : ∀ (r : Fin 512) (j : Fin 512), z3 (ix2 r j) = if vis j then ((a ⟨1536 + r.val, by omega⟩ (key j) : ℝ) : EReal) else ⊥)
    (hv : ∀ j, vis j → ∀ d, vx (ix2 j d) = w (key j) d)
    (hinj : ∀ i j, key i = key j → i = j)
    (hdis : ∀ R < 2048, ∀ j, vis j → key j ∉ KB R)
    (hS : ∀ R < 2048, ∀ k, k ∈ KA R ↔ k ∈ KB R ∨ ∃ j, vis j ∧ key j = k) :
    Rows a w KA (canon L0_4) (canon L1_4) := by
  have c0 : Rows a w (stg 512 KB KA) (canon L0_1) (canon L1_1) :=
    chain512_512 0 (by omega) (h.to_stg KA) z0 m0 s0 vx _ _ h0_0 h1_0 hm0 hs0 key (fun _ j => vis j) hz0 (fun _ j => hv j) hinj (fun R _ hR => hdis R (by omega)) (fun R _ hR => hS R (by omega))
  have c1 : Rows a w (stg 1024 KB KA) (canon L0_2) (canon L1_2) :=
    chain512_512 512 (by omega) (c0) z1 m1 s1 vx _ _ h0_1 h1_1 hm1 hs1 key (fun _ j => vis j) hz1 (fun _ j => hv j) hinj (fun R _ hR => hdis R (by omega)) (fun R _ hR => hS R (by omega))
  have c2 : Rows a w (stg 1536 KB KA) (canon L0_3) (canon L1_3) :=
    chain512_512 1024 (by omega) (c1) z2 m2 s2 vx _ _ h0_2 h1_2 hm2 hs2 key (fun _ j => vis j) hz2 (fun _ j => hv j) hinj (fun R _ hR => hdis R (by omega)) (fun R _ hR => hS R (by omega))
  have c3 : Rows a w (stg 2048 KB KA) (canon L0_4) (canon L1_4) :=
    chain512_512 1536 (by omega) (c2) z3 m3 s3 vx _ _ h0_3 h1_3 hm3 hs3 key (fun _ j => vis j) hz3 (fun _ j => hv j) hinj (fun R _ hR => hdis R (by omega)) (fun R _ hR => hS R (by omega))
  exact c3.of_stg (by omega)

/-- One round over 128 keys: every row has then seen them too. -/
theorem four128 {a : Fin 2048 → ℕ → ℝ} {w : ℕ → Fin 256 → EReal} {KB KA : ℕ → Finset ℕ} {L0_0 L0_1 L0_2 L0_3 L0_4 : List (View.Piece (Elt Ideal) S2048x128 .f32)} {L1_0 L1_1 L1_2 L1_3 L1_4 : List (View.Piece (Elt Ideal) S2048x256 .f32)}
    (h : Rows a w KB (canon L0_0) (canon L1_0))
    (z0 z1 z2 z3 : FVec Ideal S512x128 .f32) (m0 m1 m2 m3 : FVec Ideal S512x128 .f32) (s0 s1 s2 s3 : FVec Ideal S512x256 .f32) (vx : FVec Ideal S128x256 .bf16)
    (key : Fin 128 → ℕ) (vis : Fin 128 → Prop) [DecidablePred vis]
    (h0_0 : L0_1 = ⟨Rect.unit (s := S2048x128) ![0, 0] S512x128.size inb_S2048x128_S512x128_0_0, shapeCast S512x128 (M512_128 z0 m0) shapeCasts_S512x128_S512x128⟩ :: L0_0)
    (h1_0 : L1_1 = ⟨Rect.unit (s := S2048x256) ![0, 0] S512x256.size inb_S2048x256_S512x256_0_0, shapeCast S512x256 (A512_128 z0 m0 s0 vx) shapeCasts_S512x256_S512x256⟩ :: L1_0)
    (hm0 : ∀ r l, m0 (ix2 r l) = canon L0_0 (ix2 ⟨0 + r.val, by omega⟩ l)) (hs0 : ∀ r l, s0 (ix2 r l) = canon L1_0 (ix2 ⟨0 + r.val, by omega⟩ l))
    (hz0 : ∀ (r : Fin 512) (j : Fin 128), z0 (ix2 r j) = if vis j then ((a ⟨0 + r.val, by omega⟩ (key j) : ℝ) : EReal) else ⊥)
    (h0_1 : L0_2 = ⟨Rect.unit (s := S2048x128) ![512, 0] S512x128.size inb_S2048x128_S512x128_512_0, shapeCast S512x128 (M512_128 z1 m1) shapeCasts_S512x128_S512x128⟩ :: L0_1)
    (h1_1 : L1_2 = ⟨Rect.unit (s := S2048x256) ![512, 0] S512x256.size inb_S2048x256_S512x256_512_0, shapeCast S512x256 (A512_128 z1 m1 s1 vx) shapeCasts_S512x256_S512x256⟩ :: L1_1)
    (hm1 : ∀ r l, m1 (ix2 r l) = canon L0_1 (ix2 ⟨512 + r.val, by omega⟩ l)) (hs1 : ∀ r l, s1 (ix2 r l) = canon L1_1 (ix2 ⟨512 + r.val, by omega⟩ l))
    (hz1 : ∀ (r : Fin 512) (j : Fin 128), z1 (ix2 r j) = if vis j then ((a ⟨512 + r.val, by omega⟩ (key j) : ℝ) : EReal) else ⊥)
    (h0_2 : L0_3 = ⟨Rect.unit (s := S2048x128) ![1024, 0] S512x128.size inb_S2048x128_S512x128_1024_0, shapeCast S512x128 (M512_128 z2 m2) shapeCasts_S512x128_S512x128⟩ :: L0_2)
    (h1_2 : L1_3 = ⟨Rect.unit (s := S2048x256) ![1024, 0] S512x256.size inb_S2048x256_S512x256_1024_0, shapeCast S512x256 (A512_128 z2 m2 s2 vx) shapeCasts_S512x256_S512x256⟩ :: L1_2)
    (hm2 : ∀ r l, m2 (ix2 r l) = canon L0_2 (ix2 ⟨1024 + r.val, by omega⟩ l)) (hs2 : ∀ r l, s2 (ix2 r l) = canon L1_2 (ix2 ⟨1024 + r.val, by omega⟩ l))
    (hz2 : ∀ (r : Fin 512) (j : Fin 128), z2 (ix2 r j) = if vis j then ((a ⟨1024 + r.val, by omega⟩ (key j) : ℝ) : EReal) else ⊥)
    (h0_3 : L0_4 = ⟨Rect.unit (s := S2048x128) ![1536, 0] S512x128.size inb_S2048x128_S512x128_1536_0, shapeCast S512x128 (M512_128 z3 m3) shapeCasts_S512x128_S512x128⟩ :: L0_3)
    (h1_3 : L1_4 = ⟨Rect.unit (s := S2048x256) ![1536, 0] S512x256.size inb_S2048x256_S512x256_1536_0, shapeCast S512x256 (A512_128 z3 m3 s3 vx) shapeCasts_S512x256_S512x256⟩ :: L1_3)
    (hm3 : ∀ r l, m3 (ix2 r l) = canon L0_3 (ix2 ⟨1536 + r.val, by omega⟩ l)) (hs3 : ∀ r l, s3 (ix2 r l) = canon L1_3 (ix2 ⟨1536 + r.val, by omega⟩ l))
    (hz3 : ∀ (r : Fin 512) (j : Fin 128), z3 (ix2 r j) = if vis j then ((a ⟨1536 + r.val, by omega⟩ (key j) : ℝ) : EReal) else ⊥)
    (hv : ∀ j, vis j → ∀ d, vx (ix2 j d) = w (key j) d)
    (hinj : ∀ i j, key i = key j → i = j)
    (hdis : ∀ R < 2048, ∀ j, vis j → key j ∉ KB R)
    (hS : ∀ R < 2048, ∀ k, k ∈ KA R ↔ k ∈ KB R ∨ ∃ j, vis j ∧ key j = k) :
    Rows a w KA (canon L0_4) (canon L1_4) := by
  have c0 : Rows a w (stg 512 KB KA) (canon L0_1) (canon L1_1) :=
    chain512_128 0 (by omega) (h.to_stg KA) z0 m0 s0 vx _ _ h0_0 h1_0 hm0 hs0 key (fun _ j => vis j) hz0 (fun _ j => hv j) hinj (fun R _ hR => hdis R (by omega)) (fun R _ hR => hS R (by omega))
  have c1 : Rows a w (stg 1024 KB KA) (canon L0_2) (canon L1_2) :=
    chain512_128 512 (by omega) (c0) z1 m1 s1 vx _ _ h0_1 h1_1 hm1 hs1 key (fun _ j => vis j) hz1 (fun _ j => hv j) hinj (fun R _ hR => hdis R (by omega)) (fun R _ hR => hS R (by omega))
  have c2 : Rows a w (stg 1536 KB KA) (canon L0_3) (canon L1_3) :=
    chain512_128 1024 (by omega) (c1) z2 m2 s2 vx _ _ h0_2 h1_2 hm2 hs2 key (fun _ j => vis j) hz2 (fun _ j => hv j) hinj (fun R _ hR => hdis R (by omega)) (fun R _ hR => hS R (by omega))
  have c3 : Rows a w (stg 2048 KB KA) (canon L0_4) (canon L1_4) :=
    chain512_128 1536 (by omega) (c2) z3 m3 s3 vx _ _ h0_3 h1_3 hm3 hs3 key (fun _ j => vis j) hz3 (fun _ j => hv j) hinj (fun R _ hR => hdis R (by omega)) (fun R _ hR => hS R (by omega))
  exact c3.of_stg (by omega)

/-- The logits of 512 rows from `o` on and 1024 keys. -/
def Y1024 (q : FVec Ideal S2048x128 .bf16) (k : FVec Ideal S1024x128 .bf16) (cb : FVec Ideal S4x1024 .f32) (o g : ℕ)
    (ho : S2048x128.Slices ![o, 0] S512x128) (hg : S4x1024.Slices ![g, 0] S1x1024) : FVec Ideal S512x1024 .f32 :=
  shapeCast S512x1024 (subf (shapeCast S1x512x1024 (matmul dot_S512x128_S1024x128_S512x1024_1_1_0_0_n_n none (extractStridedSlice S512x128 ![o, 0] q ho) k (constant S512x1024 .f32 0x00000000#32)) shapeCasts_S512x1024_S1x512x1024)
      (broadcastTo S1x512x1024 (shapeCast S1x1x1024 (extractStridedSlice S1x1024 ![g, 0] cb hg) shapeCasts_S1x1024_S1x1x1024) broadcasts_S1x1x1024_S1x512x1024)) shapeCasts_S1x512x1024_S512x1024

theorem yrow1024 {a : Fin 2048 → ℕ → ℝ} {key : Fin 1024 → ℕ} {vis : Fin 1024 → Prop} {q : FVec Ideal S2048x128 .bf16} {k : FVec Ideal S1024x128 .bf16} {cb : FVec Ideal S4x1024 .f32}
    (hd : ∀ (R : Fin 2048) (j : Fin 1024), vis j → (∑ c, q (ix2 R c) * k (ix2 j c)) - cb (ix2 ⟨R.val / 512, by omega⟩ j) = ((a R (key j) : ℝ) : EReal))
    (p : Fin 4) (o g : ℕ) (hop : o = 512 * p.val) (hgp : g = p.val) {ho : S2048x128.Slices ![o, 0] S512x128} {hg : S4x1024.Slices ![g, 0] S1x1024} (r : Fin 512) (j : Fin 1024) (hj : vis j) :
    Y1024 q k cb o g ho hg (ix2 r j) = ((a ⟨o + r.val, by omega⟩ (key j) : ℝ) : EReal) := by
  subst hop hgp
  unfold Y1024
  refine (z1024 q k cb _ _ ho hg (by omega) (by omega) r j).trans ?_
  refine Eq.trans ?_ (hd ⟨512 * p.val + r.val, by omega⟩ j hj)
  refine congrArg (_ - ·) (congrArg cb (congrArg (fun t => ix2 t _) (Fin.ext ?_)))
  simp only
  omega

/-- The logits of 512 rows from `o` on and 512 keys. -/
def Y512 (q : FVec Ideal S2048x128 .bf16) (k : FVec Ideal S512x128 .bf16) (cb : FVec Ideal S4x512 .f32) (o g : ℕ)
    (ho : S2048x128.Slices ![o, 0] S512x128) (hg : S4x512.Slices ![g, 0] S1x512) : FVec Ideal S512x512 .f32 :=
  shapeCast S512x512 (subf (shapeCast S1x512x512 (matmul dot_S512x128_S512x128_S512x512_1_1_0_0_n_n none (extractStridedSlice S512x128 ![o, 0] q ho) k (constant S512x512 .f32 0x00000000#32)) shapeCasts_S512x512_S1x512x512)
      (broadcastTo S1x512x512 (shapeCast S1x1x512 (extractStridedSlice S1x512 ![g, 0] cb hg) shapeCasts_S1x512_S1x1x512) broadcasts_S1x1x512_S1x512x512)) shapeCasts_S1x512x512_S512x512

theorem yrow512 {a : Fin 2048 → ℕ → ℝ} {key : Fin 512 → ℕ} {vis : Fin 512 → Prop} {q : FVec Ideal S2048x128 .bf16} {k : FVec Ideal S512x128 .bf16} {cb : FVec Ideal S4x512 .f32}
    (hd : ∀ (R : Fin 2048) (j : Fin 512), vis j → (∑ c, q (ix2 R c) * k (ix2 j c)) - cb (ix2 ⟨R.val / 512, by omega⟩ j) = ((a R (key j) : ℝ) : EReal))
    (p : Fin 4) (o g : ℕ) (hop : o = 512 * p.val) (hgp : g = p.val) {ho : S2048x128.Slices ![o, 0] S512x128} {hg : S4x512.Slices ![g, 0] S1x512} (r : Fin 512) (j : Fin 512) (hj : vis j) :
    Y512 q k cb o g ho hg (ix2 r j) = ((a ⟨o + r.val, by omega⟩ (key j) : ℝ) : EReal) := by
  subst hop hgp
  unfold Y512
  refine (z512 q k cb _ _ ho hg (by omega) (by omega) r j).trans ?_
  refine Eq.trans ?_ (hd ⟨512 * p.val + r.val, by omega⟩ j hj)
  refine congrArg (_ - ·) (congrArg cb (congrArg (fun t => ix2 t _) (Fin.ext ?_)))
  simp only
  omega

/-- The logits of 512 rows from `o` on and 128 keys. -/
def Y128 (q : FVec Ideal S2048x128 .bf16) (k : FVec Ideal S128x128 .bf16) (cb : FVec Ideal S4x128 .f32) (o g : ℕ)
    (ho : S2048x128.Slices ![o, 0] S512x128) (hg : S4x128.Slices ![g, 0] S1x128) : FVec Ideal S512x128 .f32 :=
  shapeCast S512x128 (subf (shapeCast S1x512x128 (matmul dot_S512x128_S128x128_S512x128_1_1_0_0_n_n none (extractStridedSlice S512x128 ![o, 0] q ho) k (constant S512x128 .f32 0x00000000#32)) shapeCasts_S512x128_S1x512x128)
      (broadcastTo S1x512x128 (shapeCast S1x1x128 (extractStridedSlice S1x128 ![g, 0] cb hg) shapeCasts_S1x128_S1x1x128) broadcasts_S1x1x128_S1x512x128)) shapeCasts_S1x512x128_S512x128

theorem yrow128 {a : Fin 2048 → ℕ → ℝ} {key : Fin 128 → ℕ} {vis : Fin 128 → Prop} {q : FVec Ideal S2048x128 .bf16} {k : FVec Ideal S128x128 .bf16} {cb : FVec Ideal S4x128 .f32}
    (hd : ∀ (R : Fin 2048) (j : Fin 128), vis j → (∑ c, q (ix2 R c) * k (ix2 j c)) - cb (ix2 ⟨R.val / 512, by omega⟩ j) = ((a R (key j) : ℝ) : EReal))
    (p : Fin 4) (o g : ℕ) (hop : o = 512 * p.val) (hgp : g = p.val) {ho : S2048x128.Slices ![o, 0] S512x128} {hg : S4x128.Slices ![g, 0] S1x128} (r : Fin 512) (j : Fin 128) (hj : vis j) :
    Y128 q k cb o g ho hg (ix2 r j) = ((a ⟨o + r.val, by omega⟩ (key j) : ℝ) : EReal) := by
  subst hop hgp
  unfold Y128
  refine (z128 q k cb _ _ ho hg (by omega) (by omega) r j).trans ?_
  refine Eq.trans ?_ (hd ⟨512 * p.val + r.val, by omega⟩ j hj)
  refine congrArg (_ - ·) (congrArg cb (congrArg (fun t => ix2 t _) (Fin.ext ?_)))
  simp only
  omega

/-- The mask of the first 16 of 128 keys. -/
def K128 (x : FVec Ideal S512x128 .f32) : FVec Ideal S512x128 .f32 :=
  select (cmpi .slt (iota .tc S512x128 32 [1] iota_S512x128_d1_w32) (broadcast S512x128 16#32)) x (broadcast S512x128 (Named.named κ "masked" 0xF149F2CA#32))

theorem K128_apply (x : FVec Ideal S512x128 .f32) (r : Fin 512) (j : Fin 128) : K128 x (ix2 r j) = if j.val < 16 then x (ix2 r j) else ⊥ := by
  unfold K128
  rw [masked]
  pointwise
  show Scalar.select (IntOp.cmpi .slt (BitVec.ofNat 32 j.val) (BitVec.ofNat 32 16)) (x (ix2 r j)) ⊥ = _
  rw [slt_word _ _ (by omega) (by omega), select_word]

theorem mm0 (q : FVec Ideal S2048x128 .bf16) (mk : FVec Ideal S128x128 .bf16) (mck : FVec Ideal S4x128 .f32) (m : FVec Ideal S512x128 .f32) : k0_pay131 (F := Ideal) q mk mck m = shapeCast S512x128 (M512_128 (K128 (Y128 q mk mck 0 0 slices_S2048x128_o0_0_S512x128 slices_S4x128_o0_0_S1x128)) m) shapeCasts_S512x128_S512x128 := by
  rfl

theorem ma0 (q : FVec Ideal S2048x128 .bf16) (mk : FVec Ideal S128x128 .bf16) (mck : FVec Ideal S4x128 .f32) (mvx : FVec Ideal S128x256 .bf16) (m : FVec Ideal S512x128 .f32) (s : FVec Ideal S512x256 .f32) : k0_pay130 (F := Ideal) q mk mck mvx m s = shapeCast S512x256 (A512_128 (K128 (Y128 q mk mck 0 0 slices_S2048x128_o0_0_S512x128 slices_S4x128_o0_0_S1x128)) m s mvx) shapeCasts_S512x256_S512x256 := by
  rfl

theorem mm1 (q : FVec Ideal S2048x128 .bf16) (mk : FVec Ideal S128x128 .bf16) (mck : FVec Ideal S4x128 .f32) (m : FVec Ideal S512x128 .f32) : k0_pay137 (F := Ideal) (k0_pay132 q mk mck) m = shapeCast S512x128 (M512_128 (K128 (Y128 q mk mck 512 1 slices_S2048x128_o512_0_S512x128 slices_S4x128_o1_0_S1x128)) m) shapeCasts_S512x128_S512x128 := by
  rfl

theorem ma1 (q : FVec Ideal S2048x128 .bf16) (mk : FVec Ideal S128x128 .bf16) (mck : FVec Ideal S4x128 .f32) (mvx : FVec Ideal S128x256 .bf16) (m : FVec Ideal S512x128 .f32) (s : FVec Ideal S512x256 .f32) : k0_pay136 (F := Ideal) mvx (k0_pay132 q mk mck) m s = shapeCast S512x256 (A512_128 (K128 (Y128 q mk mck 512 1 slices_S2048x128_o512_0_S512x128 slices_S4x128_o1_0_S1x128)) m s mvx) shapeCasts_S512x256_S512x256 := by
  rfl

theorem mm2 (q : FVec Ideal S2048x128 .bf16) (mk : FVec Ideal S128x128 .bf16) (mck : FVec Ideal S4x128 .f32) (m : FVec Ideal S512x128 .f32) : k0_pay142 (F := Ideal) (k0_pay139 mk mck (k0_pay133 q) (constant S512x128 .f32 0#32)) m = shapeCast S512x128 (M512_128 (K128 (Y128 q mk mck 1024 2 slices_S2048x128_o1024_0_S512x128 slices_S4x128_o2_0_S1x128)) m) shapeCasts_S512x128_S512x128 := by
  rfl

theorem ma2 (q : FVec Ideal S2048x128 .bf16) (mk : FVec Ideal S128x128 .bf16) (mck : FVec Ideal S4x128 .f32) (mvx : FVec Ideal S128x256 .bf16) (m : FVec Ideal S512x128 .f32) (s : FVec Ideal S512x256 .f32) : k0_pay141 (F := Ideal) mvx (k0_pay139 mk mck (k0_pay133 q) (constant S512x128 .f32 0#32)) m s = shapeCast S512x256 (A512_128 (K128 (Y128 q mk mck 1024 2 slices_S2048x128_o1024_0_S512x128 slices_S4x128_o2_0_S1x128)) m s mvx) shapeCasts_S512x256_S512x256 := by
  rfl

theorem ma3 (q : FVec Ideal S2048x128 .bf16) (mk : FVec Ideal S128x128 .bf16) (mck : FVec Ideal S4x128 .f32) (mvx : FVec Ideal S128x256 .bf16) (m : FVec Ideal S512x128 .f32) (s : FVec Ideal S512x256 .f32) : k0_pay147 (F := Ideal) mvx (k0_pay145 mck (k0_pay138 q mk) m) (k0_pay146 mck (k0_pay138 q mk) m s) = shapeCast S512x256 (A512_128 (K128 (Y128 q mk mck 1536 3 slices_S2048x128_o1536_0_S512x128 slices_S4x128_o3_0_S1x128)) m s mvx) shapeCasts_S512x256_S512x256 := by
  rfl

/-- The last round: the sixteen leading keys. -/
theorem meta16 {a : Fin 2048 → ℕ → ℝ} {w : ℕ → Fin 256 → EReal} {KB KA : ℕ → Finset ℕ} {L0_0 L0_1 L0_2 L0_3 : List (View.Piece (Elt Ideal) S2048x128 .f32)} {L1_0 L1_1 L1_2 L1_3 L1_4 : List (View.Piece (Elt Ideal) S2048x256 .f32)}
    (h : Rows a w KB (canon L0_0) (canon L1_0)) (q : FVec Ideal S2048x128 .bf16) (mk : FVec Ideal S128x128 .bf16) (mck : FVec Ideal S4x128 .f32) (mvx : FVec Ideal S128x256 .bf16)
    (m0 m1 m2 m3 : FVec Ideal S512x128 .f32) (s0 s1 s2 s3 : FVec Ideal S512x256 .f32)
    (hd : ∀ (R : Fin 2048) (j : Fin 128), j.val < 16 → (∑ c, (q (ix2 R c) * mk (ix2 j c) : EReal)) - mck (ix2 ⟨R.val / 512, by omega⟩ j) = ((a R j.val : ℝ) : EReal))
    (hv : ∀ j : Fin 128, j.val < 16 → ∀ d, mvx (ix2 j d) = w j.val d)
    (h0_0 : L0_1 = ⟨Rect.unit (s := S2048x128) ![0, 0] S512x128.size inb_S2048x128_S512x128_0_0, k0_pay131 (F := Ideal) q mk mck m0⟩ :: L0_0)
    (h1_0 : L1_1 = ⟨Rect.unit (s := S2048x256) ![0, 0] S512x256.size inb_S2048x256_S512x256_0_0, k0_pay130 (F := Ideal) q mk mck mvx m0 s0⟩ :: L1_0)
    (hm0 : ∀ r l, m0 (ix2 r l) = canon L0_0 (ix2 ⟨0 + r.val, by omega⟩ l)) (hs0 : ∀ r l, s0 (ix2 r l) = canon L1_0 (ix2 ⟨0 + r.val, by omega⟩ l))
    (h0_1 : L0_2 = ⟨Rect.unit (s := S2048x128) ![512, 0] S512x128.size inb_S2048x128_S512x128_512_0, k0_pay137 (F := Ideal) (k0_pay132 q mk mck) m1⟩ :: L0_1)
    (h1_1 : L1_2 = ⟨Rect.unit (s := S2048x256) ![512, 0] S512x256.size inb_S2048x256_S512x256_512_0, k0_pay136 (F := Ideal) mvx (k0_pay132 q mk mck) m1 s1⟩ :: L1_1)
    (hm1 : ∀ r l, m1 (ix2 r l) = canon L0_1 (ix2 ⟨512 + r.val, by omega⟩ l)) (hs1 : ∀ r l, s1 (ix2 r l) = canon L1_1 (ix2 ⟨512 + r.val, by omega⟩ l))
    (h0_2 : L0_3 = ⟨Rect.unit (s := S2048x128) ![1024, 0] S512x128.size inb_S2048x128_S512x128_1024_0, k0_pay142 (F := Ideal) (k0_pay139 mk mck (k0_pay133 q) (constant S512x128 .f32 0#32)) m2⟩ :: L0_2)
    (h1_2 : L1_3 = ⟨Rect.unit (s := S2048x256) ![1024, 0] S512x256.size inb_S2048x256_S512x256_1024_0, k0_pay141 (F := Ideal) mvx (k0_pay139 mk mck (k0_pay133 q) (constant S512x128 .f32 0#32)) m2 s2⟩ :: L1_2)
    (hm2 : ∀ r l, m2 (ix2 r l) = canon L0_2 (ix2 ⟨1024 + r.val, by omega⟩ l)) (hs2 : ∀ r l, s2 (ix2 r l) = canon L1_2 (ix2 ⟨1024 + r.val, by omega⟩ l))
    (h1_3 : L1_4 = ⟨Rect.unit (s := S2048x256) ![1536, 0] S512x256.size inb_S2048x256_S512x256_1536_0, k0_pay147 (F := Ideal) mvx (k0_pay145 mck (k0_pay138 q mk) m3) (k0_pay146 mck (k0_pay138 q mk) m3 s3)⟩ :: L1_3)
    (hm3 : ∀ r l, m3 (ix2 r l) = canon L0_3 (ix2 ⟨1536 + r.val, by omega⟩ l)) (hs3 : ∀ r l, s3 (ix2 r l) = canon L1_3 (ix2 ⟨1536 + r.val, by omega⟩ l))
    (hdis : ∀ R < 2048, ∀ j : Fin 128, j.val < 16 → j.val ∉ KB R)
    (hS : ∀ R < 2048, ∀ k, k ∈ KA R ↔ k ∈ KB R ∨ ∃ j : Fin 128, j.val < 16 ∧ j.val = k) :
    ∃ L0_4 : List (View.Piece (Elt Ideal) S2048x128 .f32), Rows a w KA (canon L0_4) (canon L1_4) := by
  rw [mm0] at h0_0
  rw [ma0] at h1_0
  rw [mm1] at h0_1
  rw [ma1] at h1_1
  rw [mm2] at h0_2
  rw [ma2] at h1_2
  rw [ma3] at h1_3
  have hz0 : ∀ (r : Fin 512) (j : Fin 128), (K128 (Y128 q mk mck 0 0 slices_S2048x128_o0_0_S512x128 slices_S4x128_o0_0_S1x128)) (ix2 r j) = if j.val < 16 then ((a ⟨0 + r.val, by omega⟩ j.val : ℝ) : EReal) else ⊥ := fun r j => by
    rw [K128_apply]
    by_cases hj : j.val < 16
    · rw [if_pos hj, if_pos hj]
      exact yrow128 (vis := fun j => j.val < 16) (key := fun j => j.val) hd 0 0 0 (by decide) (by decide) r j hj
    · rw [if_neg hj, if_neg hj]
  generalize K128 (Y128 q mk mck 0 0 slices_S2048x128_o0_0_S512x128 slices_S4x128_o0_0_S1x128) = z0 at *
  have hz1 : ∀ (r : Fin 512) (j : Fin 128), (K128 (Y128 q mk mck 512 1 slices_S2048x128_o512_0_S512x128 slices_S4x128_o1_0_S1x128)) (ix2 r j) = if j.val < 16 then ((a ⟨512 + r.val, by omega⟩ j.val : ℝ) : EReal) else ⊥ := fun r j => by
    rw [K128_apply]
    by_cases hj : j.val < 16
    · rw [if_pos hj, if_pos hj]
      exact yrow128 (vis := fun j => j.val < 16) (key := fun j => j.val) hd 1 512 1 (by decide) (by decide) r j hj
    · rw [if_neg hj, if_neg hj]
  generalize K128 (Y128 q mk mck 512 1 slices_S2048x128_o512_0_S512x128 slices_S4x128_o1_0_S1x128) = z1 at *
  have hz2 : ∀ (r : Fin 512) (j : Fin 128), (K128 (Y128 q mk mck 1024 2 slices_S2048x128_o1024_0_S512x128 slices_S4x128_o2_0_S1x128)) (ix2 r j) = if j.val < 16 then ((a ⟨1024 + r.val, by omega⟩ j.val : ℝ) : EReal) else ⊥ := fun r j => by
    rw [K128_apply]
    by_cases hj : j.val < 16
    · rw [if_pos hj, if_pos hj]
      exact yrow128 (vis := fun j => j.val < 16) (key := fun j => j.val) hd 2 1024 2 (by decide) (by decide) r j hj
    · rw [if_neg hj, if_neg hj]
  generalize K128 (Y128 q mk mck 1024 2 slices_S2048x128_o1024_0_S512x128 slices_S4x128_o2_0_S1x128) = z2 at *
  have hz3 : ∀ (r : Fin 512) (j : Fin 128), (K128 (Y128 q mk mck 1536 3 slices_S2048x128_o1536_0_S512x128 slices_S4x128_o3_0_S1x128)) (ix2 r j) = if j.val < 16 then ((a ⟨1536 + r.val, by omega⟩ j.val : ℝ) : EReal) else ⊥ := fun r j => by
    rw [K128_apply]
    by_cases hj : j.val < 16
    · rw [if_pos hj, if_pos hj]
      exact yrow128 (vis := fun j => j.val < 16) (key := fun j => j.val) hd 3 1536 3 (by decide) (by decide) r j hj
    · rw [if_neg hj, if_neg hj]
  generalize K128 (Y128 q mk mck 1536 3 slices_S2048x128_o1536_0_S512x128 slices_S4x128_o3_0_S1x128) = z3 at *
  exact ⟨_, four128 h z0 z1 z2 z3 m0 m1 m2 m3 s0 s1 s2 s3 mvx (fun j => j.val) (fun j => j.val < 16) h0_0 h1_0 hm0 hs0 hz0 h0_1 h1_1 hm1 hs1 hz1 h0_2 h1_2 hm2 hs2 hz2 rfl h1_3 hm3 hs3 hz3 hv (fun i j e => Fin.ext e) hdis hS⟩

end Cert.Kernel7Ideal.Fox

end
-- ==== Proof.FoxDiag.lean ====
/- The attention's first eight chains: a row's own block of 512 positions, up to the row's own. -/
module

public import proofs.«01_k».proof.Proof.FoxChain
public import proofs.«01_k».proof.Proof.FoxLogit

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

/-- The mask of 256 rows whose positions start at `ob`, over 256 keys. -/
def K256 (ob : BitVec 32) (x : FVec Ideal S256x256 .f32) : FVec Ideal S256x256 .f32 :=
  select (cmpi .sle (iota .tc S256x256 32 [1] iota_S256x256_d1_w32)
    (select (andi (xori (cmpi .slt (remsi (addi (iota .tc S256x256 32 [0] iota_S256x256_d0_w32) (broadcast S256x256 ob)) (broadcast S256x256 (Scalar.select (Scalar.cmpi .eq 512#32 0#32) 1#32 512#32))) (broadcast S256x256 0#32))
          (broadcastTo S256x256 (broadcast S256x256 (Scalar.cmpi .slt (Scalar.select (Scalar.cmpi .eq 512#32 0#32) 1#32 512#32) 0#32)) broadcasts_S256x256_S256x256))
        (cmpi .ne (remsi (addi (iota .tc S256x256 32 [0] iota_S256x256_d0_w32) (broadcast S256x256 ob)) (broadcast S256x256 (Scalar.select (Scalar.cmpi .eq 512#32 0#32) 1#32 512#32))) (broadcast S256x256 0#32)))
      (addi (remsi (addi (iota .tc S256x256 32 [0] iota_S256x256_d0_w32) (broadcast S256x256 ob)) (broadcast S256x256 (Scalar.select (Scalar.cmpi .eq 512#32 0#32) 1#32 512#32))) (broadcast S256x256 (Scalar.select (Scalar.cmpi .eq 512#32 0#32) 1#32 512#32)))
      (remsi (addi (iota .tc S256x256 32 [0] iota_S256x256_d0_w32) (broadcast S256x256 ob)) (broadcast S256x256 (Scalar.select (Scalar.cmpi .eq 512#32 0#32) 1#32 512#32)))))
    x (broadcast S256x256 (Named.named κ "masked" 0xF149F2CA#32))

theorem K256_apply (p : Fin 8) (x : FVec Ideal S256x256 .f32) (r : Fin 256) (j : Fin 256) :
    K256 (BitVec.ofNat 32 (256 * p.val)) x (ix2 r j) = if j.val ≤ (256 * p.val + r.val) % 512 then x (ix2 r j) else ⊥ := by
  unfold K256
  rw [masked]
  pointwise
  show Scalar.select (IntOp.cmpi .sle (BitVec.ofNat 32 j.val) (pos (IntOp.addi (BitVec.ofNat 32 r.val) (BitVec.ofNat 32 (256 * p.val))))) (x (ix2 r j)) ⊥ = _
  rw [pos_eq, sle_word _ _ (by omega) (by omega), select_word]

/-- The logits of 256 rows from `o` on and 256 of the block's own keys. -/
def Z256 (q : FVec Ideal S2048x128 .bf16) (k : FVec Ideal S512x128 .bf16) (cb : FVec Ideal S4x512 .f32) (o g : ℕ)
    (ho : S2048x128.Slices ![o, 0] S256x128) (hg : S4x512.Slices ![g, 0] S1x256) : FVec Ideal S256x256 .f32 :=
  shapeCast S256x256 (subf (shapeCast S1x256x256 (matmul dot_S256x128_S256x128_S256x256_1_1_0_0_n_n none (extractStridedSlice S256x128 ![o, 0] q ho) (extractStridedSlice S256x128 ![0, 0] k slices_S512x128_o0_0_S256x128) (constant S256x256 .f32 0x00000000#32)) shapeCasts_S256x256_S1x256x256)
      (broadcastTo S1x256x256 (shapeCast S1x1x256 (extractStridedSlice S1x256 ![g, 0] cb hg) shapeCasts_S1x256_S1x1x256) broadcasts_S1x1x256_S1x256x256)) shapeCasts_S1x256x256_S256x256

theorem zrow256 {a : Fin 2048 → ℕ → ℝ} {b : ℕ} {q : FVec Ideal S2048x128 .bf16} {k : FVec Ideal S512x128 .bf16} {cb : FVec Ideal S4x512 .f32}
    (hd : ∀ (R : Fin 2048) (j : Fin 512), j.val ≤ R.val % 512 → (∑ c, q (ix2 R c) * k (ix2 j c)) - cb (ix2 ⟨R.val / 512, by omega⟩ j) = ((a R (b + j.val) : ℝ) : EReal))
    (p : Fin 8) (o g : ℕ) (hop : o = 256 * p.val) (hgp : g = p.val / 2) {ho : S2048x128.Slices ![o, 0] S256x128} {hg : S4x512.Slices ![g, 0] S1x256} (z : FVec Ideal S256x256 .f32)
    (hz : z = K256 (BitVec.ofNat 32 o) (Z256 q k cb o g ho hg)) (r : Fin 256) (j : Fin 256) :
    z (ix2 r j) = if j.val ≤ (o + r.val) % 512 then ((a ⟨o + r.val, by omega⟩ (b + j.val) : ℝ) : EReal) else ⊥ := by
  subst hop hgp
  rw [hz, K256_apply]
  by_cases h : j.val ≤ (256 * p.val + r.val) % 512
  · rw [if_pos h, if_pos h]
    refine (z256 q k cb _ _ ho hg (by omega) (by omega) r j).trans ?_
    refine Eq.trans ?_ (hd ⟨256 * p.val + r.val, by omega⟩ ⟨j.val, by omega⟩ h)
    refine congrArg (_ - ·) (congrArg cb (congrArg (fun t => ix2 t _) (Fin.ext ?_)))
    simp only
    omega
  · rw [if_neg h, if_neg h]

/-- The mask of 256 rows whose positions start at `ob`, over 512 keys. -/
def K512 (ob : BitVec 32) (x : FVec Ideal S256x512 .f32) : FVec Ideal S256x512 .f32 :=
  select (cmpi .sle (iota .tc S256x512 32 [1] iota_S256x512_d1_w32)
    (select (andi (xori (cmpi .slt (remsi (addi (iota .tc S256x512 32 [0] iota_S256x512_d0_w32) (broadcast S256x512 ob)) (broadcast S256x512 (Scalar.select (Scalar.cmpi .eq 512#32 0#32) 1#32 512#32))) (broadcast S256x512 0#32))
          (broadcastTo S256x512 (broadcast S256x512 (Scalar.cmpi .slt (Scalar.select (Scalar.cmpi .eq 512#32 0#32) 1#32 512#32) 0#32)) broadcasts_S256x512_S256x512))
        (cmpi .ne (remsi (addi (iota .tc S256x512 32 [0] iota_S256x512_d0_w32) (broadcast S256x512 ob)) (broadcast S256x512 (Scalar.select (Scalar.cmpi .eq 512#32 0#32) 1#32 512#32))) (broadcast S256x512 0#32)))
      (addi (remsi (addi (iota .tc S256x512 32 [0] iota_S256x512_d0_w32) (broadcast S256x512 ob)) (broadcast S256x512 (Scalar.select (Scalar.cmpi .eq 512#32 0#32) 1#32 512#32))) (broadcast S256x512 (Scalar.select (Scalar.cmpi .eq 512#32 0#32) 1#32 512#32)))
      (remsi (addi (iota .tc S256x512 32 [0] iota_S256x512_d0_w32) (broadcast S256x512 ob)) (broadcast S256x512 (Scalar.select (Scalar.cmpi .eq 512#32 0#32) 1#32 512#32)))))
    x (broadcast S256x512 (Named.named κ "masked" 0xF149F2CA#32))

theorem K512_apply (p : Fin 8) (x : FVec Ideal S256x512 .f32) (r : Fin 256) (j : Fin 512) :
    K512 (BitVec.ofNat 32 (256 * p.val)) x (ix2 r j) = if j.val ≤ (256 * p.val + r.val) % 512 then x (ix2 r j) else ⊥ := by
  unfold K512
  rw [masked]
  pointwise
  show Scalar.select (IntOp.cmpi .sle (BitVec.ofNat 32 j.val) (pos (IntOp.addi (BitVec.ofNat 32 r.val) (BitVec.ofNat 32 (256 * p.val))))) (x (ix2 r j)) ⊥ = _
  rw [pos_eq, sle_word _ _ (by omega) (by omega), select_word]

/-- The logits of 256 rows from `o` on and 512 of the block's own keys. -/
def Z512 (q : FVec Ideal S2048x128 .bf16) (k : FVec Ideal S512x128 .bf16) (cb : FVec Ideal S4x512 .f32) (o g : ℕ)
    (ho : S2048x128.Slices ![o, 0] S256x128) (hg : S4x512.Slices ![g, 0] S1x512) : FVec Ideal S256x512 .f32 :=
  shapeCast S256x512 (subf (shapeCast S1x256x512 (matmul dot_S256x128_S512x128_S256x512_1_1_0_0_n_n none (extractStridedSlice S256x128 ![o, 0] q ho) k (constant S256x512 .f32 0x00000000#32)) shapeCasts_S256x512_S1x256x512)
      (broadcastTo S1x256x512 (shapeCast S1x1x512 (extractStridedSlice S1x512 ![g, 0] cb hg) shapeCasts_S1x512_S1x1x512) broadcasts_S1x1x512_S1x256x512)) shapeCasts_S1x256x512_S256x512

theorem zrow512 {a : Fin 2048 → ℕ → ℝ} {b : ℕ} {q : FVec Ideal S2048x128 .bf16} {k : FVec Ideal S512x128 .bf16} {cb : FVec Ideal S4x512 .f32}
    (hd : ∀ (R : Fin 2048) (j : Fin 512), j.val ≤ R.val % 512 → (∑ c, q (ix2 R c) * k (ix2 j c)) - cb (ix2 ⟨R.val / 512, by omega⟩ j) = ((a R (b + j.val) : ℝ) : EReal))
    (p : Fin 8) (o g : ℕ) (hop : o = 256 * p.val) (hgp : g = p.val / 2) {ho : S2048x128.Slices ![o, 0] S256x128} {hg : S4x512.Slices ![g, 0] S1x512} (z : FVec Ideal S256x512 .f32)
    (hz : z = K512 (BitVec.ofNat 32 o) (Z512 q k cb o g ho hg)) (r : Fin 256) (j : Fin 512) :
    z (ix2 r j) = if j.val ≤ (o + r.val) % 512 then ((a ⟨o + r.val, by omega⟩ (b + j.val) : ℝ) : EReal) else ⊥ := by
  subst hop hgp
  rw [hz, K512_apply]
  by_cases h : j.val ≤ (256 * p.val + r.val) % 512
  · rw [if_pos h, if_pos h]
    refine (z256b q k cb _ _ ho hg (by omega) (by omega) r j).trans ?_
    refine Eq.trans ?_ (hd ⟨256 * p.val + r.val, by omega⟩ ⟨j.val, by omega⟩ h)
    refine congrArg (_ - ·) (congrArg cb (congrArg (fun t => ix2 t _) (Fin.ext ?_)))
    simp only
    omega
  · rw [if_neg h, if_neg h]

theorem fill_m (L0 : List (View.Piece (Elt Ideal) S2048x128 .f32)) (inb : ∀ a, (![0, 0] : Fin 2 → ℕ) a + S2048x128.size a ≤ S2048x128.size a)
    (hL : L0 = [⟨Rect.unit (s := S2048x128) ![0, 0] S2048x128.size inb, k0_pay62 (F := Ideal)⟩]) (R : Fin 2048) (l : Fin 128) : canon L0 (ix2 R l) = (⊥ : EReal) := by
  subst hL
  have e : (Rect.unit (s := S2048x128) ![0, 0] S2048x128.size inb).emb (ix2 R l) = ix2 R l := by
    funext x
    refine Fin.cases ?_ (fun x => ?_) x
    · refine Fin.ext ?_
      change 0 + 1 * R.val = R.val
      omega
    · refine Fin.cases ?_ (fun x => x.elim0) x
      refine Fin.ext ?_
      change 0 + 1 * l.val = l.val
      omega
  rw [← e]
  refine (canon_cons_emb _ _ _ _).trans ?_
  unfold k0_pay62
  rw [masked]
  pointwise

theorem fill_a (L1 : List (View.Piece (Elt Ideal) S2048x256 .f32)) (inb : ∀ a, (![0, 0] : Fin 2 → ℕ) a + S2048x256.size a ≤ S2048x256.size a)
    (hL : L1 = [⟨Rect.unit (s := S2048x256) ![0, 0] S2048x256.size inb, k0_pay63 (F := Ideal)⟩]) (R : Fin 2048) (l : Fin 256) : canon L1 (ix2 R l) = (0 : EReal) := by
  subst hL
  have e : (Rect.unit (s := S2048x256) ![0, 0] S2048x256.size inb).emb (ix2 R l) = ix2 R l := by
    funext x
    refine Fin.cases ?_ (fun x => ?_) x
    · refine Fin.ext ?_
      change 0 + 1 * R.val = R.val
      omega
    · refine Fin.cases ?_ (fun x => x.elim0) x
      refine Fin.ext ?_
      change 0 + 1 * l.val = l.val
      omega
  rw [← e]
  refine (canon_cons_emb _ _ _ _).trans ?_
  unfold k0_pay63
  pointwise

theorem pz0 (v0 : FVec Ideal S512x512 .bf16) (v17 : FVec Ideal S512x128 .bf16) (v21 : FVec Ideal S1x1x4x512 .f32) : k0_pay68 (F := Ideal) (k0_pay66 v0 v17 v21) (iota .tc S256x256 32 [1] iota_S256x256_d1_w32) (iota .tc S256x256 32 [0] iota_S256x256_d0_w32) = K256 (BitVec.ofNat 32 0) (Z256 (k0_pay61 v0) v17 (k0_pay64 v21) 0 0 slices_S2048x128_o0_0_S256x128 slices_S4x512_o0_0_S1x256) := by
  rfl

theorem pm0 (v0 : FVec Ideal S512x512 .bf16) (v17 : FVec Ideal S512x128 .bf16) (v21 : FVec Ideal S1x1x4x512 .f32) (m0 : FVec Ideal S256x128 .f32) : k0_pay71 (F := Ideal) (k0_pay69 (k0_pay66 v0 v17 v21) (iota .tc S256x256 32 [1] iota_S256x256_d1_w32) (iota .tc S256x256 32 [0] iota_S256x256_d0_w32) m0) = shapeCast S256x128 (M256_256 (k0_pay68 (F := Ideal) (k0_pay66 v0 v17 v21) (iota .tc S256x256 32 [1] iota_S256x256_d1_w32) (iota .tc S256x256 32 [0] iota_S256x256_d0_w32)) m0) shapeCasts_S256x128_S256x128 := by
  rfl

theorem pa0 (v0 : FVec Ideal S512x512 .bf16) (v17 : FVec Ideal S512x128 .bf16) (v21 : FVec Ideal S1x1x4x512 .f32) (m0 : FVec Ideal S256x128 .f32) (s0 : FVec Ideal S256x256 .f32) (x3 : FVec Ideal S512x256 .bf16) : k0_pay70 (F := Ideal) x3 (k0_pay66 v0 v17 v21) (iota .tc S256x256 32 [1] iota_S256x256_d1_w32) (iota .tc S256x256 32 [0] iota_S256x256_d0_w32) m0 s0 = shapeCast S256x256 (A256_256 (k0_pay68 (F := Ideal) (k0_pay66 v0 v17 v21) (iota .tc S256x256 32 [1] iota_S256x256_d1_w32) (iota .tc S256x256 32 [0] iota_S256x256_d0_w32)) m0 s0 (extractStridedSlice S256x256 ![0, 0] x3 slices_S512x256_o0_0_S256x256)) shapeCasts_S256x256_S256x256 := by
  rfl

theorem pz1 (v0 : FVec Ideal S512x512 .bf16) (v17 : FVec Ideal S512x128 .bf16) (v21 : FVec Ideal S1x1x4x512 .f32) : k0_pay73 (F := Ideal) (k0_pay64 v21) (k0_pay67 v0 v17) = K512 (BitVec.ofNat 32 256) (Z512 (k0_pay61 v0) v17 (k0_pay64 v21) 256 0 slices_S2048x128_o256_0_S256x128 slices_S4x512_o0_0_S1x512) := by
  rfl

theorem pm1 (v0 : FVec Ideal S512x512 .bf16) (v17 : FVec Ideal S512x128 .bf16) (v21 : FVec Ideal S1x1x4x512 .f32) (m1 : FVec Ideal S256x128 .f32) : k0_pay78 (F := Ideal) (k0_pay74 (k0_pay64 v21) (k0_pay67 v0 v17) m1) = shapeCast S256x128 (M256_512 (k0_pay73 (F := Ideal) (k0_pay64 v21) (k0_pay67 v0 v17)) m1) shapeCasts_S256x128_S256x128 := by
  rfl

theorem pa1 (v0 : FVec Ideal S512x512 .bf16) (v17 : FVec Ideal S512x128 .bf16) (v21 : FVec Ideal S1x1x4x512 .f32) (m1 : FVec Ideal S256x128 .f32) (s1 : FVec Ideal S256x256 .f32) (x3 : FVec Ideal S512x256 .bf16) : k0_pay77 (F := Ideal) x3 (k0_pay75 (k0_pay64 v21) (k0_pay67 v0 v17) m1) (k0_pay76 (k0_pay64 v21) (k0_pay67 v0 v17) m1) s1 = shapeCast S256x256 (A256_512 (k0_pay73 (F := Ideal) (k0_pay64 v21) (k0_pay67 v0 v17)) m1 s1 x3) shapeCasts_S256x256_S256x256 := by
  rfl

theorem pz2 (v0 : FVec Ideal S512x512 .bf16) (v17 : FVec Ideal S512x128 .bf16) (v21 : FVec Ideal S1x1x4x512 .f32) : (k0_pay80 (F := Ideal) (k0_pay64 v21) (k0_pay72 (k0_pay61 v0) v17)) = K256 (BitVec.ofNat 32 512) (Z256 (k0_pay61 v0) v17 (k0_pay64 v21) 512 1 slices_S2048x128_o512_0_S256x128 slices_S4x512_o1_0_S1x256) := by
  rfl

theorem pm2 (v0 : FVec Ideal S512x512 .bf16) (v17 : FVec Ideal S512x128 .bf16) (v21 : FVec Ideal S1x1x4x512 .f32) (m2 : FVec Ideal S256x128 .f32) : k0_pay83 (F := Ideal) (k0_pay80 (k0_pay64 v21) (k0_pay72 (k0_pay61 v0) v17)) m2 = shapeCast S256x128 (M256_256 ((k0_pay80 (F := Ideal) (k0_pay64 v21) (k0_pay72 (k0_pay61 v0) v17))) m2) shapeCasts_S256x128_S256x128 := by
  rfl

theorem pa2 (v0 : FVec Ideal S512x512 .bf16) (v17 : FVec Ideal S512x128 .bf16) (v21 : FVec Ideal S1x1x4x512 .f32) (m2 : FVec Ideal S256x128 .f32) (s2 : FVec Ideal S256x256 .f32) (x3 : FVec Ideal S512x256 .bf16) : k0_pay82 (F := Ideal) x3 (k0_pay80 (k0_pay64 v21) (k0_pay72 (k0_pay61 v0) v17)) m2 s2 = shapeCast S256x256 (A256_256 ((k0_pay80 (F := Ideal) (k0_pay64 v21) (k0_pay72 (k0_pay61 v0) v17))) m2 s2 (extractStridedSlice S256x256 ![0, 0] x3 slices_S512x256_o0_0_S256x256)) shapeCasts_S256x256_S256x256 := by
  rfl

theorem pz3 (v0 : FVec Ideal S512x512 .bf16) (v17 : FVec Ideal S512x128 .bf16) (v21 : FVec Ideal S1x1x4x512 .f32) : k0_pay88 (F := Ideal) (k0_pay84 (k0_pay64 v21) (k0_pay79 (k0_pay61 v0) v17)) (iota .tc S256x512 32 [1] iota_S256x512_d1_w32) 512#32 k0_pay86 k0_pay87 0#32 = K512 (BitVec.ofNat 32 768) (Z512 (k0_pay61 v0) v17 (k0_pay64 v21) 768 1 slices_S2048x128_o768_0_S256x128 slices_S4x512_o1_0_S1x512) := by
  rfl

theorem pm3 (v0 : FVec Ideal S512x512 .bf16) (v17 : FVec Ideal S512x128 .bf16) (v21 : FVec Ideal S1x1x4x512 .f32) (m3 : FVec Ideal S256x128 .f32) : k0_pay91 (F := Ideal) (k0_pay84 (k0_pay64 v21) (k0_pay79 (k0_pay61 v0) v17)) (iota .tc S256x512 32 [1] iota_S256x512_d1_w32) 512#32 k0_pay86 k0_pay87 0#32 m3 = shapeCast S256x128 (M256_512 (k0_pay88 (F := Ideal) (k0_pay84 (k0_pay64 v21) (k0_pay79 (k0_pay61 v0) v17)) (iota .tc S256x512 32 [1] iota_S256x512_d1_w32) 512#32 k0_pay86 k0_pay87 0#32) m3) shapeCasts_S256x128_S256x128 := by
  rfl

theorem pa3 (v0 : FVec Ideal S512x512 .bf16) (v17 : FVec Ideal S512x128 .bf16) (v21 : FVec Ideal S1x1x4x512 .f32) (m3 : FVec Ideal S256x128 .f32) (s3 : FVec Ideal S256x256 .f32) (x3 : FVec Ideal S512x256 .bf16) : k0_pay90 (F := Ideal) x3 (k0_pay84 (k0_pay64 v21) (k0_pay79 (k0_pay61 v0) v17)) (iota .tc S256x512 32 [1] iota_S256x512_d1_w32) 512#32 k0_pay86 k0_pay87 0#32 m3 s3 = shapeCast S256x256 (A256_512 (k0_pay88 (F := Ideal) (k0_pay84 (k0_pay64 v21) (k0_pay79 (k0_pay61 v0) v17)) (iota .tc S256x512 32 [1] iota_S256x512_d1_w32) 512#32 k0_pay86 k0_pay87 0#32) m3 s3 x3) shapeCasts_S256x256_S256x256 := by
  rfl

theorem pz4 (v0 : FVec Ideal S512x512 .bf16) (v17 : FVec Ideal S512x128 .bf16) (v21 : FVec Ideal S1x1x4x512 .f32) : k0_pay94 (F := Ideal) (k0_pay92 (k0_pay64 v21) (k0_pay85 (k0_pay61 v0) v17)) (iota .tc S256x256 32 [1] iota_S256x256_d1_w32) (iota .tc S256x256 32 [0] iota_S256x256_d0_w32) = K256 (BitVec.ofNat 32 1024) (Z256 (k0_pay61 v0) v17 (k0_pay64 v21) 1024 2 slices_S2048x128_o1024_0_S256x128 slices_S4x512_o2_0_S1x256) := by
  rfl

theorem pm4 (v0 : FVec Ideal S512x512 .bf16) (v17 : FVec Ideal S512x128 .bf16) (v21 : FVec Ideal S1x1x4x512 .f32) (m4 : FVec Ideal S256x128 .f32) : k0_pay97 (F := Ideal) (k0_pay95 (k0_pay92 (k0_pay64 v21) (k0_pay85 (k0_pay61 v0) v17)) (iota .tc S256x256 32 [1] iota_S256x256_d1_w32) (iota .tc S256x256 32 [0] iota_S256x256_d0_w32) m4) = shapeCast S256x128 (M256_256 (k0_pay94 (F := Ideal) (k0_pay92 (k0_pay64 v21) (k0_pay85 (k0_pay61 v0) v17)) (iota .tc S256x256 32 [1] iota_S256x256_d1_w32) (iota .tc S256x256 32 [0] iota_S256x256_d0_w32)) m4) shapeCasts_S256x128_S256x128 := by
  rfl

theorem pa4 (v0 : FVec Ideal S512x512 .bf16) (v17 : FVec Ideal S512x128 .bf16) (v21 : FVec Ideal S1x1x4x512 .f32) (m4 : FVec Ideal S256x128 .f32) (s4 : FVec Ideal S256x256 .f32) (x3 : FVec Ideal S512x256 .bf16) : k0_pay96 (F := Ideal) x3 (k0_pay92 (k0_pay64 v21) (k0_pay85 (k0_pay61 v0) v17)) (iota .tc S256x256 32 [1] iota_S256x256_d1_w32) (iota .tc S256x256 32 [0] iota_S256x256_d0_w32) m4 s4 = shapeCast S256x256 (A256_256 (k0_pay94 (F := Ideal) (k0_pay92 (k0_pay64 v21) (k0_pay85 (k0_pay61 v0) v17)) (iota .tc S256x256 32 [1] iota_S256x256_d1_w32) (iota .tc S256x256 32 [0] iota_S256x256_d0_w32)) m4 s4 (extractStridedSlice S256x256 ![0, 0] x3 slices_S512x256_o0_0_S256x256)) shapeCasts_S256x256_S256x256 := by
  rfl

theorem pz5 (v0 : FVec Ideal S512x512 .bf16) (v17 : FVec Ideal S512x128 .bf16) (v21 : FVec Ideal S1x1x4x512 .f32) : k0_pay99 (F := Ideal) (k0_pay64 v21) (k0_pay93 (k0_pay61 v0) v17) = K512 (BitVec.ofNat 32 1280) (Z512 (k0_pay61 v0) v17 (k0_pay64 v21) 1280 2 slices_S2048x128_o1280_0_S256x128 slices_S4x512_o2_0_S1x512) := by
  rfl

theorem pm5 (v0 : FVec Ideal S512x512 .bf16) (v17 : FVec Ideal S512x128 .bf16) (v21 : FVec Ideal S1x1x4x512 .f32) (m5 : FVec Ideal S256x128 .f32) : k0_pay104 (F := Ideal) (k0_pay100 (k0_pay64 v21) (k0_pay93 (k0_pay61 v0) v17) m5) = shapeCast S256x128 (M256_512 (k0_pay99 (F := Ideal) (k0_pay64 v21) (k0_pay93 (k0_pay61 v0) v17)) m5) shapeCasts_S256x128_S256x128 := by
  rfl

theorem pa5 (v0 : FVec Ideal S512x512 .bf16) (v17 : FVec Ideal S512x128 .bf16) (v21 : FVec Ideal S1x1x4x512 .f32) (m5 : FVec Ideal S256x128 .f32) (s5 : FVec Ideal S256x256 .f32) (x3 : FVec Ideal S512x256 .bf16) : k0_pay103 (F := Ideal) x3 (k0_pay101 (k0_pay64 v21) (k0_pay93 (k0_pay61 v0) v17) m5) (k0_pay102 (k0_pay64 v21) (k0_pay93 (k0_pay61 v0) v17) m5) s5 = shapeCast S256x256 (A256_512 (k0_pay99 (F := Ideal) (k0_pay64 v21) (k0_pay93 (k0_pay61 v0) v17)) m5 s5 x3) shapeCasts_S256x256_S256x256 := by
  rfl

theorem pz6 (v0 : FVec Ideal S512x512 .bf16) (v17 : FVec Ideal S512x128 .bf16) (v21 : FVec Ideal S1x1x4x512 .f32) : (k0_pay106 (F := Ideal) (k0_pay64 v21) (k0_pay98 (k0_pay61 v0) v17)) = K256 (BitVec.ofNat 32 1536) (Z256 (k0_pay61 v0) v17 (k0_pay64 v21) 1536 3 slices_S2048x128_o1536_0_S256x128 slices_S4x512_o3_0_S1x256) := by
  rfl

theorem pm6 (v0 : FVec Ideal S512x512 .bf16) (v17 : FVec Ideal S512x128 .bf16) (v21 : FVec Ideal S1x1x4x512 .f32) (m6 : FVec Ideal S256x128 .f32) : k0_pay109 (F := Ideal) (k0_pay106 (k0_pay64 v21) (k0_pay98 (k0_pay61 v0) v17)) m6 = shapeCast S256x128 (M256_256 ((k0_pay106 (F := Ideal) (k0_pay64 v21) (k0_pay98 (k0_pay61 v0) v17))) m6) shapeCasts_S256x128_S256x128 := by
  rfl

theorem pa6 (v0 : FVec Ideal S512x512 .bf16) (v17 : FVec Ideal S512x128 .bf16) (v21 : FVec Ideal S1x1x4x512 .f32) (m6 : FVec Ideal S256x128 .f32) (s6 : FVec Ideal S256x256 .f32) (x3 : FVec Ideal S512x256 .bf16) : k0_pay108 (F := Ideal) x3 (k0_pay106 (k0_pay64 v21) (k0_pay98 (k0_pay61 v0) v17)) m6 s6 = shapeCast S256x256 (A256_256 ((k0_pay106 (F := Ideal) (k0_pay64 v21) (k0_pay98 (k0_pay61 v0) v17))) m6 s6 (extractStridedSlice S256x256 ![0, 0] x3 slices_S512x256_o0_0_S256x256)) shapeCasts_S256x256_S256x256 := by
  rfl

theorem pz7 (v0 : FVec Ideal S512x512 .bf16) (v17 : FVec Ideal S512x128 .bf16) (v21 : FVec Ideal S1x1x4x512 .f32) : k0_pay114 (F := Ideal) (k0_pay110 (k0_pay64 v21) (k0_pay105 (k0_pay61 v0) v17)) (iota .tc S256x512 32 [1] iota_S256x512_d1_w32) 512#32 k0_pay111 k0_pay112 k0_pay113 0#1 = K512 (BitVec.ofNat 32 1792) (Z512 (k0_pay61 v0) v17 (k0_pay64 v21) 1792 3 slices_S2048x128_o1792_0_S256x128 slices_S4x512_o3_0_S1x512) := by
  rfl

theorem pm7 (v0 : FVec Ideal S512x512 .bf16) (v17 : FVec Ideal S512x128 .bf16) (v21 : FVec Ideal S1x1x4x512 .f32) (m7 : FVec Ideal S256x128 .f32) : k0_pay117 (F := Ideal) (k0_pay110 (k0_pay64 v21) (k0_pay105 (k0_pay61 v0) v17)) (iota .tc S256x512 32 [1] iota_S256x512_d1_w32) 512#32 k0_pay111 k0_pay112 k0_pay113 0#1 m7 = shapeCast S256x128 (M256_512 (k0_pay114 (F := Ideal) (k0_pay110 (k0_pay64 v21) (k0_pay105 (k0_pay61 v0) v17)) (iota .tc S256x512 32 [1] iota_S256x512_d1_w32) 512#32 k0_pay111 k0_pay112 k0_pay113 0#1) m7) shapeCasts_S256x128_S256x128 := by
  rfl

theorem pa7 (v0 : FVec Ideal S512x512 .bf16) (v17 : FVec Ideal S512x128 .bf16) (v21 : FVec Ideal S1x1x4x512 .f32) (m7 : FVec Ideal S256x128 .f32) (s7 : FVec Ideal S256x256 .f32) (x3 : FVec Ideal S512x256 .bf16) : k0_pay116 (F := Ideal) x3 (k0_pay110 (k0_pay64 v21) (k0_pay105 (k0_pay61 v0) v17)) (iota .tc S256x512 32 [1] iota_S256x512_d1_w32) 512#32 k0_pay111 k0_pay112 k0_pay113 0#1 m7 s7 = shapeCast S256x256 (A256_512 (k0_pay114 (F := Ideal) (k0_pay110 (k0_pay64 v21) (k0_pay105 (k0_pay61 v0) v17)) (iota .tc S256x512 32 [1] iota_S256x512_d1_w32) 512#32 k0_pay111 k0_pay112 k0_pay113 0#1) m7 s7 x3) shapeCasts_S256x256_S256x256 := by
  rfl

/-- The keys a row has seen after the first chains: its own block's, up to its own. -/
def own (b : ℕ) (R : ℕ) : Finset ℕ := Finset.Icc b (b + R % 512)

theorem own6 (b R : ℕ) (hR : R % 512 < 256) (k : ℕ) : k ∈ own b R ↔ k ∈ (∅ : Finset ℕ) ∨ ∃ j : Fin 256, j.val ≤ R % 512 ∧ b + j.val = k := by
  unfold own
  simp only [Finset.mem_Icc, Finset.notMem_empty, false_or]
  exact ⟨fun h => ⟨⟨k - b, by omega⟩, by simp only; omega, by simp only; omega⟩, fun ⟨j, h⟩ => by omega⟩

theorem own5 (b R : ℕ) (k : ℕ) : k ∈ own b R ↔ k ∈ (∅ : Finset ℕ) ∨ ∃ j : Fin 512, j.val ≤ R % 512 ∧ b + j.val = k := by
  unfold own
  simp only [Finset.mem_Icc, Finset.notMem_empty, false_or]
  exact ⟨fun h => ⟨⟨k - b, by omega⟩, by simp only; omega, by simp only; omega⟩, fun ⟨j, h⟩ => by omega⟩

theorem own_vals {w : ℕ → Fin 256 → EReal} (b : ℕ) (x3 : FVec Ideal S512x256 .bf16) (hw : ∀ (j : Fin 512) d, x3 (ix2 j d) = w (b + j.val) d) (j : Fin 256) (d : Fin 256) :
    extractStridedSlice S256x256 ![0, 0] x3 slices_S512x256_o0_0_S256x256 (ix2 j d) = w (b + j.val) d := by
  refine Eq.trans ?_ (hw ⟨j.val, by omega⟩ d)
  pointwise

theorem diag0 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m0 : FVec Ideal S256x128 .f32) (s0 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 0 (fun _ => ∅) (own b)) (canon L0) (canon L1))
    (h0 : L0' = ⟨Rect.unit (s := S2048x128) ![0, 0] S256x128.size inb_S2048x128_S256x128_0_0, k0_pay71 (F := Ideal) (k0_pay69 (k0_pay66 v0 v17 v21) (iota .tc S256x256 32 [1] iota_S256x256_d1_w32) (iota .tc S256x256 32 [0] iota_S256x256_d0_w32) m0)⟩ :: L0)
    (h1 : L1' = ⟨Rect.unit (s := S2048x256) ![0, 0] S256x256.size inb_S2048x256_S256x256_0_0, k0_pay70 (F := Ideal) x3 (k0_pay66 v0 v17 v21) (iota .tc S256x256 32 [1] iota_S256x256_d1_w32) (iota .tc S256x256 32 [0] iota_S256x256_d0_w32) m0 s0⟩ :: L1)
    (hm : ∀ r l, m0 (ix2 r l) = canon L0 (ix2 ⟨0 + r.val, by omega⟩ l)) (hs : ∀ r l, s0 (ix2 r l) = canon L1 (ix2 ⟨0 + r.val, by omega⟩ l)) :
    Rows a w (stg 256 (fun _ => ∅) (own b)) (canon L0') (canon L1') := by
  rw [pm0] at h0
  rw [pa0] at h1
  have hz := zrow256 hd 0 0 0 rfl rfl _ (pz0 v0 v17 v21)
  generalize k0_pay68 (F := Ideal) (k0_pay66 v0 v17 v21) (iota .tc S256x256 32 [1] iota_S256x256_d1_w32) (iota .tc S256x256 32 [0] iota_S256x256_d0_w32) = z at h0 h1 hz
  have hx := own_vals b x3 hw
  generalize (extractStridedSlice S256x256 ![0, 0] x3 slices_S512x256_o0_0_S256x256) = vx at h1 hx
  exact chain256_256 0 (by norm_num) h z m0 s0 vx inb_S2048x128_S256x128_0_0 inb_S2048x256_S256x256_0_0 h0 h1 hm hs
    (fun j => b + j.val) (fun R j => j.val ≤ R % 512) hz
    (fun r j _ d => hx j d) (fun i j hij => Fin.ext (by omega)) (fun R _ _ j _ => Finset.notMem_empty _) (fun R h h2 => own6 b R (by omega))

theorem diag1 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m1 : FVec Ideal S256x128 .f32) (s1 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 256 (fun _ => ∅) (own b)) (canon L0) (canon L1))
    (h0 : L0' = ⟨Rect.unit (s := S2048x128) ![256, 0] S256x128.size inb_S2048x128_S256x128_256_0, k0_pay78 (F := Ideal) (k0_pay74 (k0_pay64 v21) (k0_pay67 v0 v17) m1)⟩ :: L0)
    (h1 : L1' = ⟨Rect.unit (s := S2048x256) ![256, 0] S256x256.size inb_S2048x256_S256x256_256_0, k0_pay77 (F := Ideal) x3 (k0_pay75 (k0_pay64 v21) (k0_pay67 v0 v17) m1) (k0_pay76 (k0_pay64 v21) (k0_pay67 v0 v17) m1) s1⟩ :: L1)
    (hm : ∀ r l, m1 (ix2 r l) = canon L0 (ix2 ⟨256 + r.val, by omega⟩ l)) (hs : ∀ r l, s1 (ix2 r l) = canon L1 (ix2 ⟨256 + r.val, by omega⟩ l)) :
    Rows a w (stg 512 (fun _ => ∅) (own b)) (canon L0') (canon L1') := by
  rw [pm1] at h0
  rw [pa1] at h1
  have hz := zrow512 hd 1 256 0 rfl rfl _ (pz1 v0 v17 v21)
  generalize k0_pay73 (F := Ideal) (k0_pay64 v21) (k0_pay67 v0 v17) = z at h0 h1 hz
  have hx := hw
  generalize x3 = vx at h1 hx
  exact chain256_512 256 (by norm_num) h z m1 s1 vx inb_S2048x128_S256x128_256_0 inb_S2048x256_S256x256_256_0 h0 h1 hm hs
    (fun j => b + j.val) (fun R j => j.val ≤ R % 512) hz
    (fun r j _ d => hx j d) (fun i j hij => Fin.ext (by omega)) (fun R _ _ j _ => Finset.notMem_empty _) (fun R _ _ => own5 b R)

theorem diag2 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m2 : FVec Ideal S256x128 .f32) (s2 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 512 (fun _ => ∅) (own b)) (canon L0) (canon L1))
    (h0 : L0' = ⟨Rect.unit (s := S2048x128) ![512, 0] S256x128.size inb_S2048x128_S256x128_512_0, k0_pay83 (F := Ideal) (k0_pay80 (k0_pay64 v21) (k0_pay72 (k0_pay61 v0) v17)) m2⟩ :: L0)
    (h1 : L1' = ⟨Rect.unit (s := S2048x256) ![512, 0] S256x256.size inb_S2048x256_S256x256_512_0, k0_pay82 (F := Ideal) x3 (k0_pay80 (k0_pay64 v21) (k0_pay72 (k0_pay61 v0) v17)) m2 s2⟩ :: L1)
    (hm : ∀ r l, m2 (ix2 r l) = canon L0 (ix2 ⟨512 + r.val, by omega⟩ l)) (hs : ∀ r l, s2 (ix2 r l) = canon L1 (ix2 ⟨512 + r.val, by omega⟩ l)) :
    Rows a w (stg 768 (fun _ => ∅) (own b)) (canon L0') (canon L1') := by
  rw [pm2] at h0
  rw [pa2] at h1
  have hz := zrow256 hd 2 512 1 rfl rfl _ (pz2 v0 v17 v21)
  generalize (k0_pay80 (F := Ideal) (k0_pay64 v21) (k0_pay72 (k0_pay61 v0) v17)) = z at h0 h1 hz
  have hx := own_vals b x3 hw
  generalize (extractStridedSlice S256x256 ![0, 0] x3 slices_S512x256_o0_0_S256x256) = vx at h1 hx
  exact chain256_256 512 (by norm_num) h z m2 s2 vx inb_S2048x128_S256x128_512_0 inb_S2048x256_S256x256_512_0 h0 h1 hm hs
    (fun j => b + j.val) (fun R j => j.val ≤ R % 512) hz
    (fun r j _ d => hx j d) (fun i j hij => Fin.ext (by omega)) (fun R _ _ j _ => Finset.notMem_empty _) (fun R h h2 => own6 b R (by omega))

theorem diag3 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m3 : FVec Ideal S256x128 .f32) (s3 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 768 (fun _ => ∅) (own b)) (canon L0) (canon L1))
    (h0 : L0' = ⟨Rect.unit (s := S2048x128) ![768, 0] S256x128.size inb_S2048x128_S256x128_768_0, k0_pay91 (F := Ideal) (k0_pay84 (k0_pay64 v21) (k0_pay79 (k0_pay61 v0) v17)) (iota .tc S256x512 32 [1] iota_S256x512_d1_w32) 512#32 k0_pay86 k0_pay87 0#32 m3⟩ :: L0)
    (h1 : L1' = ⟨Rect.unit (s := S2048x256) ![768, 0] S256x256.size inb_S2048x256_S256x256_768_0, k0_pay90 (F := Ideal) x3 (k0_pay84 (k0_pay64 v21) (k0_pay79 (k0_pay61 v0) v17)) (iota .tc S256x512 32 [1] iota_S256x512_d1_w32) 512#32 k0_pay86 k0_pay87 0#32 m3 s3⟩ :: L1)
    (hm : ∀ r l, m3 (ix2 r l) = canon L0 (ix2 ⟨768 + r.val, by omega⟩ l)) (hs : ∀ r l, s3 (ix2 r l) = canon L1 (ix2 ⟨768 + r.val, by omega⟩ l)) :
    Rows a w (stg 1024 (fun _ => ∅) (own b)) (canon L0') (canon L1') := by
  rw [pm3] at h0
  rw [pa3] at h1
  have hz := zrow512 hd 3 768 1 rfl rfl _ (pz3 v0 v17 v21)
  generalize k0_pay88 (F := Ideal) (k0_pay84 (k0_pay64 v21) (k0_pay79 (k0_pay61 v0) v17)) (iota .tc S256x512 32 [1] iota_S256x512_d1_w32) 512#32 k0_pay86 k0_pay87 0#32 = z at h0 h1 hz
  have hx := hw
  generalize x3 = vx at h1 hx
  exact chain256_512 768 (by norm_num) h z m3 s3 vx inb_S2048x128_S256x128_768_0 inb_S2048x256_S256x256_768_0 h0 h1 hm hs
    (fun j => b + j.val) (fun R j => j.val ≤ R % 512) hz
    (fun r j _ d => hx j d) (fun i j hij => Fin.ext (by omega)) (fun R _ _ j _ => Finset.notMem_empty _) (fun R _ _ => own5 b R)

theorem diag4 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m4 : FVec Ideal S256x128 .f32) (s4 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 1024 (fun _ => ∅) (own b)) (canon L0) (canon L1))
    (h0 : L0' = ⟨Rect.unit (s := S2048x128) ![1024, 0] S256x128.size inb_S2048x128_S256x128_1024_0, k0_pay97 (F := Ideal) (k0_pay95 (k0_pay92 (k0_pay64 v21) (k0_pay85 (k0_pay61 v0) v17)) (iota .tc S256x256 32 [1] iota_S256x256_d1_w32) (iota .tc S256x256 32 [0] iota_S256x256_d0_w32) m4)⟩ :: L0)
    (h1 : L1' = ⟨Rect.unit (s := S2048x256) ![1024, 0] S256x256.size inb_S2048x256_S256x256_1024_0, k0_pay96 (F := Ideal) x3 (k0_pay92 (k0_pay64 v21) (k0_pay85 (k0_pay61 v0) v17)) (iota .tc S256x256 32 [1] iota_S256x256_d1_w32) (iota .tc S256x256 32 [0] iota_S256x256_d0_w32) m4 s4⟩ :: L1)
    (hm : ∀ r l, m4 (ix2 r l) = canon L0 (ix2 ⟨1024 + r.val, by omega⟩ l)) (hs : ∀ r l, s4 (ix2 r l) = canon L1 (ix2 ⟨1024 + r.val, by omega⟩ l)) :
    Rows a w (stg 1280 (fun _ => ∅) (own b)) (canon L0') (canon L1') := by
  rw [pm4] at h0
  rw [pa4] at h1
  have hz := zrow256 hd 4 1024 2 rfl rfl _ (pz4 v0 v17 v21)
  generalize k0_pay94 (F := Ideal) (k0_pay92 (k0_pay64 v21) (k0_pay85 (k0_pay61 v0) v17)) (iota .tc S256x256 32 [1] iota_S256x256_d1_w32) (iota .tc S256x256 32 [0] iota_S256x256_d0_w32) = z at h0 h1 hz
  have hx := own_vals b x3 hw
  generalize (extractStridedSlice S256x256 ![0, 0] x3 slices_S512x256_o0_0_S256x256) = vx at h1 hx
  exact chain256_256 1024 (by norm_num) h z m4 s4 vx inb_S2048x128_S256x128_1024_0 inb_S2048x256_S256x256_1024_0 h0 h1 hm hs
    (fun j => b + j.val) (fun R j => j.val ≤ R % 512) hz
    (fun r j _ d => hx j d) (fun i j hij => Fin.ext (by omega)) (fun R _ _ j _ => Finset.notMem_empty _) (fun R h h2 => own6 b R (by omega))

theorem diag5 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m5 : FVec Ideal S256x128 .f32) (s5 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 1280 (fun _ => ∅) (own b)) (canon L0) (canon L1))
    (h0 : L0' = ⟨Rect.unit (s := S2048x128) ![1280, 0] S256x128.size inb_S2048x128_S256x128_1280_0, k0_pay104 (F := Ideal) (k0_pay100 (k0_pay64 v21) (k0_pay93 (k0_pay61 v0) v17) m5)⟩ :: L0)
    (h1 : L1' = ⟨Rect.unit (s := S2048x256) ![1280, 0] S256x256.size inb_S2048x256_S256x256_1280_0, k0_pay103 (F := Ideal) x3 (k0_pay101 (k0_pay64 v21) (k0_pay93 (k0_pay61 v0) v17) m5) (k0_pay102 (k0_pay64 v21) (k0_pay93 (k0_pay61 v0) v17) m5) s5⟩ :: L1)
    (hm : ∀ r l, m5 (ix2 r l) = canon L0 (ix2 ⟨1280 + r.val, by omega⟩ l)) (hs : ∀ r l, s5 (ix2 r l) = canon L1 (ix2 ⟨1280 + r.val, by omega⟩ l)) :
    Rows a w (stg 1536 (fun _ => ∅) (own b)) (canon L0') (canon L1') := by
  rw [pm5] at h0
  rw [pa5] at h1
  have hz := zrow512 hd 5 1280 2 rfl rfl _ (pz5 v0 v17 v21)
  generalize k0_pay99 (F := Ideal) (k0_pay64 v21) (k0_pay93 (k0_pay61 v0) v17) = z at h0 h1 hz
  have hx := hw
  generalize x3 = vx at h1 hx
  exact chain256_512 1280 (by norm_num) h z m5 s5 vx inb_S2048x128_S256x128_1280_0 inb_S2048x256_S256x256_1280_0 h0 h1 hm hs
    (fun j => b + j.val) (fun R j => j.val ≤ R % 512) hz
    (fun r j _ d => hx j d) (fun i j hij => Fin.ext (by omega)) (fun R _ _ j _ => Finset.notMem_empty _) (fun R _ _ => own5 b R)

theorem diag6 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m6 : FVec Ideal S256x128 .f32) (s6 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 1536 (fun _ => ∅) (own b)) (canon L0) (canon L1))
    (h0 : L0' = ⟨Rect.unit (s := S2048x128) ![1536, 0] S256x128.size inb_S2048x128_S256x128_1536_0, k0_pay109 (F := Ideal) (k0_pay106 (k0_pay64 v21) (k0_pay98 (k0_pay61 v0) v17)) m6⟩ :: L0)
    (h1 : L1' = ⟨Rect.unit (s := S2048x256) ![1536, 0] S256x256.size inb_S2048x256_S256x256_1536_0, k0_pay108 (F := Ideal) x3 (k0_pay106 (k0_pay64 v21) (k0_pay98 (k0_pay61 v0) v17)) m6 s6⟩ :: L1)
    (hm : ∀ r l, m6 (ix2 r l) = canon L0 (ix2 ⟨1536 + r.val, by omega⟩ l)) (hs : ∀ r l, s6 (ix2 r l) = canon L1 (ix2 ⟨1536 + r.val, by omega⟩ l)) :
    Rows a w (stg 1792 (fun _ => ∅) (own b)) (canon L0') (canon L1') := by
  rw [pm6] at h0
  rw [pa6] at h1
  have hz := zrow256 hd 6 1536 3 rfl rfl _ (pz6 v0 v17 v21)
  generalize (k0_pay106 (F := Ideal) (k0_pay64 v21) (k0_pay98 (k0_pay61 v0) v17)) = z at h0 h1 hz
  have hx := own_vals b x3 hw
  generalize (extractStridedSlice S256x256 ![0, 0] x3 slices_S512x256_o0_0_S256x256) = vx at h1 hx
  exact chain256_256 1536 (by norm_num) h z m6 s6 vx inb_S2048x128_S256x128_1536_0 inb_S2048x256_S256x256_1536_0 h0 h1 hm hs
    (fun j => b + j.val) (fun R j => j.val ≤ R % 512) hz
    (fun r j _ d => hx j d) (fun i j hij => Fin.ext (by omega)) (fun R _ _ j _ => Finset.notMem_empty _) (fun R h h2 => own6 b R (by omega))

theorem diag7 {a : Fin 2048 → ℕ → ℝ} {w : ℕ → Fin 256 → EReal} (b : ℕ) {L0 L0' : List (View.Piece (Elt Ideal) S2048x128 .f32)} {L1 L1' : List (View.Piece (Elt Ideal) S2048x256 .f32)}
    (v0 : FVec Ideal S512x512 .bf16) (v17 : FVec Ideal S512x128 .bf16) (v21 : FVec Ideal S1x1x4x512 .f32) (x3 : FVec Ideal S512x256 .bf16) (m7 : FVec Ideal S256x128 .f32) (s7 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (h : Rows a w (stg 1792 (fun _ => ∅) (own b)) (canon L0) (canon L1))
    (h0 : L0' = ⟨Rect.unit (s := S2048x128) ![1792, 0] S256x128.size inb_S2048x128_S256x128_1792_0, k0_pay117 (F := Ideal) (k0_pay110 (k0_pay64 v21) (k0_pay105 (k0_pay61 v0) v17)) (iota .tc S256x512 32 [1] iota_S256x512_d1_w32) 512#32 k0_pay111 k0_pay112 k0_pay113 0#1 m7⟩ :: L0)
    (h1 : L1' = ⟨Rect.unit (s := S2048x256) ![1792, 0] S256x256.size inb_S2048x256_S256x256_1792_0, k0_pay116 (F := Ideal) x3 (k0_pay110 (k0_pay64 v21) (k0_pay105 (k0_pay61 v0) v17)) (iota .tc S256x512 32 [1] iota_S256x512_d1_w32) 512#32 k0_pay111 k0_pay112 k0_pay113 0#1 m7 s7⟩ :: L1)
    (hm : ∀ r l, m7 (ix2 r l) = canon L0 (ix2 ⟨1792 + r.val, by omega⟩ l)) (hs : ∀ r l, s7 (ix2 r l) = canon L1 (ix2 ⟨1792 + r.val, by omega⟩ l)) :
    Rows a w (stg 2048 (fun _ => ∅) (own b)) (canon L0') (canon L1') := by
  rw [pm7] at h0
  rw [pa7] at h1
  have hz := zrow512 hd 7 1792 3 rfl rfl _ (pz7 v0 v17 v21)
  generalize k0_pay114 (F := Ideal) (k0_pay110 (k0_pay64 v21) (k0_pay105 (k0_pay61 v0) v17)) (iota .tc S256x512 32 [1] iota_S256x512_d1_w32) 512#32 k0_pay111 k0_pay112 k0_pay113 0#1 = z at h0 h1 hz
  have hx := hw
  generalize x3 = vx at h1 hx
  exact chain256_512 1792 (by norm_num) h z m7 s7 vx inb_S2048x128_S256x128_1792_0 inb_S2048x256_S256x256_1792_0 h0 h1 hm hs
    (fun j => b + j.val) (fun R j => j.val ≤ R % 512) hz
    (fun r j _ d => hx j d) (fun i j hij => Fin.ext (by omega)) (fun R _ _ j _ => Finset.notMem_empty _) (fun R _ _ => own5 b R)

/-- The first eight chains. -/
theorem diag {a : Fin 2048 → ℕ → ℝ} {w : ℕ → Fin 256 → EReal} (b : ℕ) {L0_1 L0_2 L0_3 L0_4 L0_5 L0_6 L0_7 L0_8 L0_9 : List (View.Piece (Elt Ideal) S2048x128 .f32)} {L1_1 L1_2 L1_3 L1_4 L1_5 L1_6 L1_7 L1_8 L1_9 : List (View.Piece (Elt Ideal) S2048x256 .f32)}
    (v0 : FVec Ideal S512x512 .bf16) (v17 : FVec Ideal S512x128 .bf16) (v21 : FVec Ideal S1x1x4x512 .f32) (x3 : FVec Ideal S512x256 .bf16)
    (m0 m1 m2 m3 m4 m5 m6 m7 : FVec Ideal S256x128 .f32) (s0 s1 s2 s3 s4 s5 s6 s7 : FVec Ideal S256x256 .f32)
    (hd : ∀ (R : Fin 2048) (j : Fin 512), j.val ≤ R.val % 512 → (∑ c, (k0_pay61 (F := Ideal) v0 (ix2 R c) * v17 (ix2 j c) : EReal)) - k0_pay64 (F := Ideal) v21 (ix2 ⟨R.val / 512, by omega⟩ j) = ((a R (b + j.val) : ℝ) : EReal))
    (hw : ∀ (j : Fin 512) d, x3 (ix2 j d) = w (b + j.val) d)
    (e0 : L0_1 = [⟨Rect.unit (s := S2048x128) ![0, 0] S2048x128.size inb_S2048x128_S2048x128_0_0, k0_pay62 (F := Ideal)⟩])
    (e1 : L1_1 = [⟨Rect.unit (s := S2048x256) ![0, 0] S2048x256.size inb_S2048x256_S2048x256_0_0, k0_pay63 (F := Ideal)⟩])
    (h0_0 : L0_2 = ⟨Rect.unit (s := S2048x128) ![0, 0] S256x128.size inb_S2048x128_S256x128_0_0, k0_pay71 (F := Ideal) (k0_pay69 (k0_pay66 v0 v17 v21) (iota .tc S256x256 32 [1] iota_S256x256_d1_w32) (iota .tc S256x256 32 [0] iota_S256x256_d0_w32) m0)⟩ :: L0_1)
    (h1_0 : L1_2 = ⟨Rect.unit (s := S2048x256) ![0, 0] S256x256.size inb_S2048x256_S256x256_0_0, k0_pay70 (F := Ideal) x3 (k0_pay66 v0 v17 v21) (iota .tc S256x256 32 [1] iota_S256x256_d1_w32) (iota .tc S256x256 32 [0] iota_S256x256_d0_w32) m0 s0⟩ :: L1_1)
    (hm0 : ∀ r l, m0 (ix2 r l) = canon L0_1 (ix2 ⟨0 + r.val, by omega⟩ l)) (hs0 : ∀ r l, s0 (ix2 r l) = canon L1_1 (ix2 ⟨0 + r.val, by omega⟩ l))
    (h0_1 : L0_3 = ⟨Rect.unit (s := S2048x128) ![256, 0] S256x128.size inb_S2048x128_S256x128_256_0, k0_pay78 (F := Ideal) (k0_pay74 (k0_pay64 v21) (k0_pay67 v0 v17) m1)⟩ :: L0_2)
    (h1_1 : L1_3 = ⟨Rect.unit (s := S2048x256) ![256, 0] S256x256.size inb_S2048x256_S256x256_256_0, k0_pay77 (F := Ideal) x3 (k0_pay75 (k0_pay64 v21) (k0_pay67 v0 v17) m1) (k0_pay76 (k0_pay64 v21) (k0_pay67 v0 v17) m1) s1⟩ :: L1_2)
    (hm1 : ∀ r l, m1 (ix2 r l) = canon L0_2 (ix2 ⟨256 + r.val, by omega⟩ l)) (hs1 : ∀ r l, s1 (ix2 r l) = canon L1_2 (ix2 ⟨256 + r.val, by omega⟩ l))
    (h0_2 : L0_4 = ⟨Rect.unit (s := S2048x128) ![512, 0] S256x128.size inb_S2048x128_S256x128_512_0, k0_pay83 (F := Ideal) (k0_pay80 (k0_pay64 v21) (k0_pay72 (k0_pay61 v0) v17)) m2⟩ :: L0_3)
    (h1_2 : L1_4 = ⟨Rect.unit (s := S2048x256) ![512, 0] S256x256.size inb_S2048x256_S256x256_512_0, k0_pay82 (F := Ideal) x3 (k0_pay80 (k0_pay64 v21) (k0_pay72 (k0_pay61 v0) v17)) m2 s2⟩ :: L1_3)
    (hm2 : ∀ r l, m2 (ix2 r l) = canon L0_3 (ix2 ⟨512 + r.val, by omega⟩ l)) (hs2 : ∀ r l, s2 (ix2 r l) = canon L1_3 (ix2 ⟨512 + r.val, by omega⟩ l))
    (h0_3 : L0_5 = ⟨Rect.unit (s := S2048x128) ![768, 0] S256x128.size inb_S2048x128_S256x128_768_0, k0_pay91 (F := Ideal) (k0_pay84 (k0_pay64 v21) (k0_pay79 (k0_pay61 v0) v17)) (iota .tc S256x512 32 [1] iota_S256x512_d1_w32) 512#32 k0_pay86 k0_pay87 0#32 m3⟩ :: L0_4)
    (h1_3 : L1_5 = ⟨Rect.unit (s := S2048x256) ![768, 0] S256x256.size inb_S2048x256_S256x256_768_0, k0_pay90 (F := Ideal) x3 (k0_pay84 (k0_pay64 v21) (k0_pay79 (k0_pay61 v0) v17)) (iota .tc S256x512 32 [1] iota_S256x512_d1_w32) 512#32 k0_pay86 k0_pay87 0#32 m3 s3⟩ :: L1_4)
    (hm3 : ∀ r l, m3 (ix2 r l) = canon L0_4 (ix2 ⟨768 + r.val, by omega⟩ l)) (hs3 : ∀ r l, s3 (ix2 r l) = canon L1_4 (ix2 ⟨768 + r.val, by omega⟩ l))
    (h0_4 : L0_6 = ⟨Rect.unit (s := S2048x128) ![1024, 0] S256x128.size inb_S2048x128_S256x128_1024_0, k0_pay97 (F := Ideal) (k0_pay95 (k0_pay92 (k0_pay64 v21) (k0_pay85 (k0_pay61 v0) v17)) (iota .tc S256x256 32 [1] iota_S256x256_d1_w32) (iota .tc S256x256 32 [0] iota_S256x256_d0_w32) m4)⟩ :: L0_5)
    (h1_4 : L1_6 = ⟨Rect.unit (s := S2048x256) ![1024, 0] S256x256.size inb_S2048x256_S256x256_1024_0, k0_pay96 (F := Ideal) x3 (k0_pay92 (k0_pay64 v21) (k0_pay85 (k0_pay61 v0) v17)) (iota .tc S256x256 32 [1] iota_S256x256_d1_w32) (iota .tc S256x256 32 [0] iota_S256x256_d0_w32) m4 s4⟩ :: L1_5)
    (hm4 : ∀ r l, m4 (ix2 r l) = canon L0_5 (ix2 ⟨1024 + r.val, by omega⟩ l)) (hs4 : ∀ r l, s4 (ix2 r l) = canon L1_5 (ix2 ⟨1024 + r.val, by omega⟩ l))
    (h0_5 : L0_7 = ⟨Rect.unit (s := S2048x128) ![1280, 0] S256x128.size inb_S2048x128_S256x128_1280_0, k0_pay104 (F := Ideal) (k0_pay100 (k0_pay64 v21) (k0_pay93 (k0_pay61 v0) v17) m5)⟩ :: L0_6)
    (h1_5 : L1_7 = ⟨Rect.unit (s := S2048x256) ![1280, 0] S256x256.size inb_S2048x256_S256x256_1280_0, k0_pay103 (F := Ideal) x3 (k0_pay101 (k0_pay64 v21) (k0_pay93 (k0_pay61 v0) v17) m5) (k0_pay102 (k0_pay64 v21) (k0_pay93 (k0_pay61 v0) v17) m5) s5⟩ :: L1_6)
    (hm5 : ∀ r l, m5 (ix2 r l) = canon L0_6 (ix2 ⟨1280 + r.val, by omega⟩ l)) (hs5 : ∀ r l, s5 (ix2 r l) = canon L1_6 (ix2 ⟨1280 + r.val, by omega⟩ l))
    (h0_6 : L0_8 = ⟨Rect.unit (s := S2048x128) ![1536, 0] S256x128.size inb_S2048x128_S256x128_1536_0, k0_pay109 (F := Ideal) (k0_pay106 (k0_pay64 v21) (k0_pay98 (k0_pay61 v0) v17)) m6⟩ :: L0_7)
    (h1_6 : L1_8 = ⟨Rect.unit (s := S2048x256) ![1536, 0] S256x256.size inb_S2048x256_S256x256_1536_0, k0_pay108 (F := Ideal) x3 (k0_pay106 (k0_pay64 v21) (k0_pay98 (k0_pay61 v0) v17)) m6 s6⟩ :: L1_7)
    (hm6 : ∀ r l, m6 (ix2 r l) = canon L0_7 (ix2 ⟨1536 + r.val, by omega⟩ l)) (hs6 : ∀ r l, s6 (ix2 r l) = canon L1_7 (ix2 ⟨1536 + r.val, by omega⟩ l))
    (h0_7 : L0_9 = ⟨Rect.unit (s := S2048x128) ![1792, 0] S256x128.size inb_S2048x128_S256x128_1792_0, k0_pay117 (F := Ideal) (k0_pay110 (k0_pay64 v21) (k0_pay105 (k0_pay61 v0) v17)) (iota .tc S256x512 32 [1] iota_S256x512_d1_w32) 512#32 k0_pay111 k0_pay112 k0_pay113 0#1 m7⟩ :: L0_8)
    (h1_7 : L1_9 = ⟨Rect.unit (s := S2048x256) ![1792, 0] S256x256.size inb_S2048x256_S256x256_1792_0, k0_pay116 (F := Ideal) x3 (k0_pay110 (k0_pay64 v21) (k0_pay105 (k0_pay61 v0) v17)) (iota .tc S256x512 32 [1] iota_S256x512_d1_w32) 512#32 k0_pay111 k0_pay112 k0_pay113 0#1 m7 s7⟩ :: L1_8)
    (hm7 : ∀ r l, m7 (ix2 r l) = canon L0_8 (ix2 ⟨1792 + r.val, by omega⟩ l)) (hs7 : ∀ r l, s7 (ix2 r l) = canon L1_8 (ix2 ⟨1792 + r.val, by omega⟩ l))
    : Rows a w (own b) (canon L0_9) (canon L1_9) := by
  have g0 : Rows a w (fun _ => ∅) (canon L0_1) (canon L1_1) := fun R => start _ _ (fill_m _ _ e0 R) (fill_a _ _ e1 R)
  have c0 := g0.to_stg (own b)
  have c1 := diag0 b v0 v17 v21 x3 m0 s0 hd hw c0 h0_0 h1_0 hm0 hs0
  have c2 := diag1 b v0 v17 v21 x3 m1 s1 hd hw c1 h0_1 h1_1 hm1 hs1
  have c3 := diag2 b v0 v17 v21 x3 m2 s2 hd hw c2 h0_2 h1_2 hm2 hs2
  have c4 := diag3 b v0 v17 v21 x3 m3 s3 hd hw c3 h0_3 h1_3 hm3 hs3
  have c5 := diag4 b v0 v17 v21 x3 m4 s4 hd hw c4 h0_4 h1_4 hm4 hs4
  have c6 := diag5 b v0 v17 v21 x3 m5 s5 hd hw c5 h0_5 h1_5 hm5 hs5
  have c7 := diag6 b v0 v17 v21 x3 m6 s6 hd hw c6 h0_6 h1_6 hm6 hs6
  have c8 := diag7 b v0 v17 v21 x3 m7 s7 hd hw c7 h0_7 h1_7 hm7 hs7
  exact c8.of_stg (le_refl _)

end Cert.Kernel7Ideal.Fox

end
-- ==== Proof.FoxTrip.lean ====
/- One trip of the attention's loop over pairs of earlier blocks, and the loop: what the running maximum and sums have seen. -/
module

public import proofs.«01_k».proof.Proof.FoxFour
public import proofs.«01_k».proof.Proof.FoxDiag
public import proofs.«01_k».proof.Proof.Gen.Kernel7Ideal.Value

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

/-- The number of pairs of earlier blocks: half the block's own number. -/
theorem trips1 (i : grid0.Coords) : (k0_t1_loop i).trips = (i 2).val / 2 := by
  generalize hn : i 2 = n
  unfold k0_t1_loop
  rw [hn]
  clear hn
  revert n
  decide +kernel

theorem trips2 (i : grid0.Coords) : (k0_t2_loop i).trips = 0 := by
  generalize hn : i 2 = n
  unfold k0_t2_loop
  rw [hn]
  clear hn
  revert n
  decide +kernel

section

variable (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (arg2 : BitVec 32) (v5 : FVec Ideal S2048x128 .bf16) (c2_i32 : BitVec 32) (v457 : BitVec 32) (v462 : BitVec 32) (v464 : BitVec 32) (v466 : BitVec 32) (X_arg4 : BufTy.Contents (Elt Ideal) arg4.view.ty) (X_arg5 : BufTy.Contents (Elt Ideal) arg5.view.ty) (X_arg6 : BufTy.Contents (Elt Ideal) arg6.view.ty)

/-- A trip's 1024 keys. -/
abbrev kT (k : Fin (k0_t1_loop i).trips) : FVec Ideal S1024x128 .bf16 := arg4.view.readAt (Elt Ideal) (Rect.unit (s := S4096x128) (k0_off3 i k) S1024x128.size (k0_off3_inb i k)).toLoadRect X_arg4

/-- Their values, and ones. -/
abbrev vT (k : Fin (k0_t1_loop i).trips) : FVec Ideal S1024x256 .bf16 := k0_pay4 (F := Ideal) (arg5.view.readAt (Elt Ideal) (Rect.unit (s := S4096x128) (k0_off3 i k) S1024x128.size (k0_off3_inb i k)).toLoadRect X_arg5)

/-- Their forget terms, one row to a head. -/
abbrev cT (k : Fin (k0_t1_loop i).trips) : FVec Ideal S4x1024 .f32 := k0_pay3 (F := Ideal) (arg6.view.readAt (Elt Ideal) (Rect.unit (s := S1x1x4x4096) (k0_off4 i k) S1x1x4x1024.size (k0_off4_inb i k)).toLoadRect X_arg6)

theorem trip_list0 (k : Fin (k0_t1_loop i).trips) (f13 : BufTy.Contents (Elt Ideal) arg13.view.ty) (f14 : BufTy.Contents (Elt Ideal) arg14.view.ty) :
    (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k f13 f14).1 = [⟨Rect.unit (s := S2048x128) ![1536, 0] S512x128.size inb_S2048x128_S512x128_1536_0, shapeCast S512x128 (M512_1024 (Y1024 v5 (kT i arg4 X_arg4 k) (cT i arg6 X_arg6 k) 1536 3 slices_S2048x128_o1536_0_S512x128 slices_S4x1024_o3_0_S1x1024) (arg13.view.readAt (Elt Ideal) (Rect.unit (s := S2048x128) ![1536, 0] S512x128.size inb_S2048x128_S512x128_1536_0).toLoadRect f13)) shapeCasts_S512x128_S512x128⟩,
      ⟨Rect.unit (s := S2048x128) ![1024, 0] S512x128.size inb_S2048x128_S512x128_1024_0, shapeCast S512x128 (M512_1024 (Y1024 v5 (kT i arg4 X_arg4 k) (cT i arg6 X_arg6 k) 1024 2 slices_S2048x128_o1024_0_S512x128 slices_S4x1024_o2_0_S1x1024) (arg13.view.readAt (Elt Ideal) (Rect.unit (s := S2048x128) ![1024, 0] S512x128.size inb_S2048x128_S512x128_1024_0).toLoadRect f13)) shapeCasts_S512x128_S512x128⟩,
      ⟨Rect.unit (s := S2048x128) ![512, 0] S512x128.size inb_S2048x128_S512x128_512_0, shapeCast S512x128 (M512_1024 (Y1024 v5 (kT i arg4 X_arg4 k) (cT i arg6 X_arg6 k) 512 1 slices_S2048x128_o512_0_S512x128 slices_S4x1024_o1_0_S1x1024) (arg13.view.readAt (Elt Ideal) (Rect.unit (s := S2048x128) ![512, 0] S512x128.size inb_S2048x128_S512x128_512_0).toLoadRect f13)) shapeCasts_S512x128_S512x128⟩,
      ⟨Rect.unit (s := S2048x128) ![0, 0] S512x128.size inb_S2048x128_S512x128_0_0, shapeCast S512x128 (M512_1024 (Y1024 v5 (kT i arg4 X_arg4 k) (cT i arg6 X_arg6 k) 0 0 slices_S2048x128_o0_0_S512x128 slices_S4x1024_o0_0_S1x1024) (arg13.view.readAt (Elt Ideal) (Rect.unit (s := S2048x128) ![0, 0] S512x128.size inb_S2048x128_S512x128_0_0).toLoadRect f13)) shapeCasts_S512x128_S512x128⟩] := by
  show (trip_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k).1 f13 f14 = _
  unfold trip_k0_t1
  rfl

theorem trip_list1 (k : Fin (k0_t1_loop i).trips) (f13 : BufTy.Contents (Elt Ideal) arg13.view.ty) (f14 : BufTy.Contents (Elt Ideal) arg14.view.ty) :
    (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k f13 f14).2 = [⟨Rect.unit (s := S2048x256) ![1536, 0] S512x256.size inb_S2048x256_S512x256_1536_0, shapeCast S512x256 (A512_1024 (Y1024 v5 (kT i arg4 X_arg4 k) (cT i arg6 X_arg6 k) 1536 3 slices_S2048x128_o1536_0_S512x128 slices_S4x1024_o3_0_S1x1024) (arg13.view.readAt (Elt Ideal) (Rect.unit (s := S2048x128) ![1536, 0] S512x128.size inb_S2048x128_S512x128_1536_0).toLoadRect f13) (arg14.view.readAt (Elt Ideal) (Rect.unit (s := S2048x256) ![1536, 0] S512x256.size inb_S2048x256_S512x256_1536_0).toLoadRect f14) (vT i arg5 X_arg5 k)) shapeCasts_S512x256_S512x256⟩,
      ⟨Rect.unit (s := S2048x256) ![1024, 0] S512x256.size inb_S2048x256_S512x256_1024_0, shapeCast S512x256 (A512_1024 (Y1024 v5 (kT i arg4 X_arg4 k) (cT i arg6 X_arg6 k) 1024 2 slices_S2048x128_o1024_0_S512x128 slices_S4x1024_o2_0_S1x1024) (arg13.view.readAt (Elt Ideal) (Rect.unit (s := S2048x128) ![1024, 0] S512x128.size inb_S2048x128_S512x128_1024_0).toLoadRect f13) (arg14.view.readAt (Elt Ideal) (Rect.unit (s := S2048x256) ![1024, 0] S512x256.size inb_S2048x256_S512x256_1024_0).toLoadRect f14) (vT i arg5 X_arg5 k)) shapeCasts_S512x256_S512x256⟩,
      ⟨Rect.unit (s := S2048x256) ![512, 0] S512x256.size inb_S2048x256_S512x256_512_0, shapeCast S512x256 (A512_1024 (Y1024 v5 (kT i arg4 X_arg4 k) (cT i arg6 X_arg6 k) 512 1 slices_S2048x128_o512_0_S512x128 slices_S4x1024_o1_0_S1x1024) (arg13.view.readAt (Elt Ideal) (Rect.unit (s := S2048x128) ![512, 0] S512x128.size inb_S2048x128_S512x128_512_0).toLoadRect f13) (arg14.view.readAt (Elt Ideal) (Rect.unit (s := S2048x256) ![512, 0] S512x256.size inb_S2048x256_S512x256_512_0).toLoadRect f14) (vT i arg5 X_arg5 k)) shapeCasts_S512x256_S512x256⟩,
      ⟨Rect.unit (s := S2048x256) ![0, 0] S512x256.size inb_S2048x256_S512x256_0_0, shapeCast S512x256 (A512_1024 (Y1024 v5 (kT i arg4 X_arg4 k) (cT i arg6 X_arg6 k) 0 0 slices_S2048x128_o0_0_S512x128 slices_S4x1024_o0_0_S1x1024) (arg13.view.readAt (Elt Ideal) (Rect.unit (s := S2048x128) ![0, 0] S512x128.size inb_S2048x128_S512x128_0_0).toLoadRect f13) (arg14.view.readAt (Elt Ideal) (Rect.unit (s := S2048x256) ![0, 0] S512x256.size inb_S2048x256_S512x256_0_0).toLoadRect f14) (vT i arg5 X_arg5 k)) shapeCasts_S512x256_S512x256⟩] := by
  show (trip_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k).2.1 f13 f14 = _
  unfold trip_k0_t1
  rfl

/-- The keys seen after the own block's and `n` pairs of earlier blocks. -/
def kset (b n : ℕ) (R : ℕ) : Finset ℕ := own b R ∪ Finset.Ico 16 (16 + 1024 * n)

theorem trip_rows {a : Fin 2048 → ℕ → ℝ} {w : ℕ → Fin 256 → EReal} {b : ℕ} (k : Fin (k0_t1_loop i).trips) (hb : 16 + 1024 * k.val + 1024 ≤ b)
    (hd : ∀ (R : Fin 2048) (j : Fin 1024), (∑ c, (v5 (ix2 R c) * kT i arg4 X_arg4 k (ix2 j c) : EReal)) - cT i arg6 X_arg6 k (ix2 ⟨R.val / 512, by omega⟩ j) = ((a R (16 + 1024 * k.val + j.val) : ℝ) : EReal))
    (hv : ∀ (j : Fin 1024) d, vT i arg5 X_arg5 k (ix2 j d) = w (16 + 1024 * k.val + j.val) d)
    (L0 : List (View.Piece (Elt Ideal) S2048x128 .f32)) (L1 : List (View.Piece (Elt Ideal) S2048x256 .f32)) (h : Rows a w (kset b k.val) (canon L0) (canon L1)) :
    Rows a w (kset b (k.val + 1)) (canon ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k (arg13.view.writes (Elt Ideal) arg13.view.junk L0) (arg14.view.writes (Elt Ideal) arg14.view.junk L1)).1 ++ L0)) (canon ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 k (arg13.view.writes (Elt Ideal) arg13.view.junk L0) (arg14.view.writes (Elt Ideal) arg14.view.junk L1)).2 ++ L1)) := by
  rw [trip_list0, trip_list1]
  have hz : ∀ (p : Fin 4) (o g : ℕ) (hop : o = 512 * p.val) (hgp : g = p.val) (ho : S2048x128.Slices ![o, 0] S512x128) (hg : S4x1024.Slices ![g, 0] S1x1024) (r : Fin 512) (j : Fin 1024),
      Y1024 v5 (kT i arg4 X_arg4 k) (cT i arg6 X_arg6 k) o g ho hg (ix2 r j) = if True then ((a ⟨o + r.val, by omega⟩ (16 + 1024 * k.val + j.val) : ℝ) : EReal) else ⊥ := fun p o g hop hgp ho hg r j =>
    (yrow1024 (vis := fun _ => True) (key := fun j => 16 + 1024 * k.val + j.val) (fun R j _ => hd R j) p o g hop hgp r j trivial).trans (if_pos trivial).symm
  generalize (vT i arg5 X_arg5 k) = vx at *
  have hz0 := hz 0 0 0 (by decide) (by decide) slices_S2048x128_o0_0_S512x128 slices_S4x1024_o0_0_S1x1024
  generalize (Y1024 v5 (kT i arg4 X_arg4 k) (cT i arg6 X_arg6 k) 0 0 slices_S2048x128_o0_0_S512x128 slices_S4x1024_o0_0_S1x1024) = z0 at *
  have rm0 := fun r l => rd_m512 arg13.view L0 0 (by omega) inb_S2048x128_S512x128_0_0 r l
  have rs0 := fun r l => rd_a512 arg14.view L1 0 (by omega) inb_S2048x256_S512x256_0_0 r l
  generalize (arg13.view.readAt (Elt Ideal) (Rect.unit (s := S2048x128) ![0, 0] S512x128.size inb_S2048x128_S512x128_0_0).toLoadRect (arg13.view.writes (Elt Ideal) arg13.view.junk L0)) = m0 at *
  generalize (arg14.view.readAt (Elt Ideal) (Rect.unit (s := S2048x256) ![0, 0] S512x256.size inb_S2048x256_S512x256_0_0).toLoadRect (arg14.view.writes (Elt Ideal) arg14.view.junk L1)) = s0 at *
  have hz1 := hz 1 512 1 (by decide) (by decide) slices_S2048x128_o512_0_S512x128 slices_S4x1024_o1_0_S1x1024
  generalize (Y1024 v5 (kT i arg4 X_arg4 k) (cT i arg6 X_arg6 k) 512 1 slices_S2048x128_o512_0_S512x128 slices_S4x1024_o1_0_S1x1024) = z1 at *
  have rm1 := fun r l => rd_m512 arg13.view L0 512 (by omega) inb_S2048x128_S512x128_512_0 r l
  have rs1 := fun r l => rd_a512 arg14.view L1 512 (by omega) inb_S2048x256_S512x256_512_0 r l
  generalize (arg13.view.readAt (Elt Ideal) (Rect.unit (s := S2048x128) ![512, 0] S512x128.size inb_S2048x128_S512x128_512_0).toLoadRect (arg13.view.writes (Elt Ideal) arg13.view.junk L0)) = m1 at *
  generalize (arg14.view.readAt (Elt Ideal) (Rect.unit (s := S2048x256) ![512, 0] S512x256.size inb_S2048x256_S512x256_512_0).toLoadRect (arg14.view.writes (Elt Ideal) arg14.view.junk L1)) = s1 at *
  have hz2 := hz 2 1024 2 (by decide) (by decide) slices_S2048x128_o1024_0_S512x128 slices_S4x1024_o2_0_S1x1024
  generalize (Y1024 v5 (kT i arg4 X_arg4 k) (cT i arg6 X_arg6 k) 1024 2 slices_S2048x128_o1024_0_S512x128 slices_S4x1024_o2_0_S1x1024) = z2 at *
  have rm2 := fun r l => rd_m512 arg13.view L0 1024 (by omega) inb_S2048x128_S512x128_1024_0 r l
  have rs2 := fun r l => rd_a512 arg14.view L1 1024 (by omega) inb_S2048x256_S512x256_1024_0 r l
  generalize (arg13.view.readAt (Elt Ideal) (Rect.unit (s := S2048x128) ![1024, 0] S512x128.size inb_S2048x128_S512x128_1024_0).toLoadRect (arg13.view.writes (Elt Ideal) arg13.view.junk L0)) = m2 at *
  generalize (arg14.view.readAt (Elt Ideal) (Rect.unit (s := S2048x256) ![1024, 0] S512x256.size inb_S2048x256_S512x256_1024_0).toLoadRect (arg14.view.writes (Elt Ideal) arg14.view.junk L1)) = s2 at *
  have hz3 := hz 3 1536 3 (by decide) (by decide) slices_S2048x128_o1536_0_S512x128 slices_S4x1024_o3_0_S1x1024
  generalize (Y1024 v5 (kT i arg4 X_arg4 k) (cT i arg6 X_arg6 k) 1536 3 slices_S2048x128_o1536_0_S512x128 slices_S4x1024_o3_0_S1x1024) = z3 at *
  have rm3 := fun r l => rd_m512 arg13.view L0 1536 (by omega) inb_S2048x128_S512x128_1536_0 r l
  have rs3 := fun r l => rd_a512 arg14.view L1 1536 (by omega) inb_S2048x256_S512x256_1536_0 r l
  generalize (arg13.view.readAt (Elt Ideal) (Rect.unit (s := S2048x128) ![1536, 0] S512x128.size inb_S2048x128_S512x128_1536_0).toLoadRect (arg13.view.writes (Elt Ideal) arg13.view.junk L0)) = m3 at *
  generalize (arg14.view.readAt (Elt Ideal) (Rect.unit (s := S2048x256) ![1536, 0] S512x256.size inb_S2048x256_S512x256_1536_0).toLoadRect (arg14.view.writes (Elt Ideal) arg14.view.junk L1)) = s3 at *
  refine four1024 h z0 z1 z2 z3 m0 m1 m2 m3 s0 s1 s2 s3 vx (fun j => 16 + 1024 * k.val + j.val) (fun _ => True)
    rfl rfl rm0 rs0 hz0 rfl rfl ?_ ?_ hz1 rfl rfl ?_ ?_ hz2 rfl rfl ?_ ?_ hz3 (fun j _ => hv j) (fun i j e => Fin.ext (by omega)) (fun R _ j _ => ?_) (fun R _ x => ?_)
  · intro r l
    rw [rm1]
    symm
    exact out_m512 _ _ _ _ _ _ (by simp only; omega)
  · intro r l
    rw [rs1]
    symm
    exact out_a512 _ _ _ _ _ _ (by simp only; omega)
  · intro r l
    rw [rm2]
    symm
    exact (out_m512 _ _ _ _ _ _ (by simp only; omega)).trans (out_m512 _ _ _ _ _ _ (by simp only; omega))
  · intro r l
    rw [rs2]
    symm
    exact (out_a512 _ _ _ _ _ _ (by simp only; omega)).trans (out_a512 _ _ _ _ _ _ (by simp only; omega))
  · intro r l
    rw [rm3]
    symm
    exact ((out_m512 _ _ _ _ _ _ (by simp only; omega)).trans (out_m512 _ _ _ _ _ _ (by simp only; omega))).trans (out_m512 _ _ _ _ _ _ (by simp only; omega))
  · intro r l
    rw [rs3]
    symm
    exact ((out_a512 _ _ _ _ _ _ (by simp only; omega)).trans (out_a512 _ _ _ _ _ _ (by simp only; omega))).trans (out_a512 _ _ _ _ _ _ (by simp only; omega))
  · unfold kset own
    simp only [Finset.mem_union, Finset.mem_Icc, Finset.mem_Ico]
    omega
  · unfold kset own
    simp only [Finset.mem_union, Finset.mem_Icc, Finset.mem_Ico, true_and]
    refine ⟨fun hx => ?_, fun hx => ?_⟩
    · by_cases hx' : b ≤ x ∧ x ≤ b + R % 512 ∨ 16 ≤ x ∧ x < 16 + 1024 * k.val
      · exact Or.inl hx'
      · exact Or.inr ⟨⟨x - (16 + 1024 * k.val), by omega⟩, by simp only; omega⟩
    · rcases hx with hx | ⟨j, hj⟩
      · omega
      · omega

/-- The whole loop, trip by trip. -/
theorem loop_rows {a : Fin 2048 → ℕ → ℝ} {w : ℕ → Fin 256 → EReal} {b : ℕ} (hb : b = 16 + 512 * (i 2).val)
    (hd : ∀ (k : Fin (k0_t1_loop i).trips) (R : Fin 2048) (j : Fin 1024), (∑ c, (v5 (ix2 R c) * kT i arg4 X_arg4 k (ix2 j c) : EReal)) - cT i arg6 X_arg6 k (ix2 ⟨R.val / 512, by omega⟩ j) = ((a R (16 + 1024 * k.val + j.val) : ℝ) : EReal))
    (hv : ∀ (k : Fin (k0_t1_loop i).trips) (j : Fin 1024) d, vT i arg5 X_arg5 k (ix2 j d) = w (16 + 1024 * k.val + j.val) d)
    (L0 : List (View.Piece (Elt Ideal) S2048x128 .f32)) (L1 : List (View.Piece (Elt Ideal) S2048x256 .f32)) (h : Rows a w (own b) (canon L0) (canon L1)) (n : ℕ) (hn : n ≤ (k0_t1_loop i).trips) :
    Rows a w (kset b n) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 (arg13.view.writes (Elt Ideal) arg13.view.junk L0) (arg14.view.writes (Elt Ideal) arg14.view.junk L1) n).1 ++ L0)) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 (arg13.view.writes (Elt Ideal) arg13.view.junk L0) (arg14.view.writes (Elt Ideal) arg14.view.junk L1) n).2 ++ L1)) := by
  induction n with
  | zero =>
    have e : kset b 0 = own b := by
      funext R
      unfold kset
      simp
    rw [e]
    exact h
  | succ n ih =>
    have ih := ih (by omega)
    have hk : n < (i 2).val / 2 := by
      have := trips1 i
      omega
    have := trip_rows c i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 ⟨n, by omega⟩ (by simp only; omega) (hd _) (hv _) _ _ ih
    rw [View.writes_append, View.writes_append, ← List.append_assoc, ← List.append_assoc] at this
    rw [pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg2 v5 c2_i32 v457 v462 v464 v466 X_arg4 X_arg5 X_arg6 (arg13.view.writes (Elt Ideal) arg13.view.junk L0) (arg14.view.writes (Elt Ideal) arg14.view.junk L1) ⟨n, by omega⟩]
    exact this

end

end Cert.Kernel7Ideal.Fox

end
-- ==== Proof.FoxLoad.lean ====
/- The attention's loads: which rows of which array each of them is, and the ones beside the values. -/
module

public import proofs.«01_k».proof.Proof.FoxTrip
public import Idealize.ShloMosaic.Lib.WholeRead

@[expose] public section

set_option maxRecDepth 16384

noncomputable section

namespace Cert.Kernel7Ideal.Fox

open Idealize.ShloMosaic Idealize.ShloMosaic.TcCoe Cert.Kernel7Ideal Cert.Kernel7Ideal.Gen Cert.FoxRow

theorem off1 (i : grid0.Coords) : k0_off1 i = ![512 * (i 2).val, 0] := by
  unfold k0_off1
  generalize i 2 = n
  revert n
  decide +kernel

theorem off2 (i : grid0.Coords) : k0_off2 i = ![0, 0, 0, 512 * (i 2).val] := by
  unfold k0_off2
  generalize i 2 = n
  revert n
  decide +kernel

theorem off3 (i : grid0.Coords) (k : Fin (k0_t1_loop i).trips) : k0_off3 i k = ![1024 * k.val, 0] := by
  have h1 := trips1 i
  have h2 : (i 2).val < 8 := (i 2).isLt
  have hk : k.val < 4 := by omega
  unfold k0_off3
  generalize k.val = n at hk
  clear h1 h2 k
  interval_cases n <;> decide +kernel

theorem off4 (i : grid0.Coords) (k : Fin (k0_t1_loop i).trips) : k0_off4 i k = ![0, 0, 0, 1024 * k.val] := by
  have h1 := trips1 i
  have h2 : (i 2).val < 8 := (i 2).isLt
  have hk : k.val < 4 := by omega
  unfold k0_off4
  generalize k.val = n at hk
  clear h1 h2 k
  interval_cases n <;> decide +kernel

theorem off7 (i : grid0.Coords) (h : (i 2).val % 2 = 1) : k0_off7 i = ![512 * ((i 2).val - 1), 0] := by
  unfold k0_off7
  generalize i 2 = n at h
  revert n
  decide +kernel

theorem off8 (i : grid0.Coords) (h : (i 2).val % 2 = 1) : k0_off8 i = ![0, 0, 0, 512 * ((i 2).val - 1)] := by
  unfold k0_off8
  generalize i 2 = n at h
  revert n
  decide +kernel

theorem ld512 (arg : Memref sig .tc .vmem S4096x128 .bf16) (harg : arg.IsWhole) (X : FVec Ideal S4096x128 .bf16) (off : Fin 2 → ℕ) (o : ℕ) (ho : off = ![o, 0]) (inb : ∀ a, off a + S512x128.size a ≤ S4096x128.size a)
    (r : Fin 512) (c : Fin 128) (hr : o + r.val < 4096) :
    arg.view.readAt (Elt Ideal) (Rect.unit (s := S4096x128) off S512x128.size inb).toLoadRect (harg.unread X) (ix2 r c) = X (ix2 ⟨o + r.val, hr⟩ c) := by
  subst ho
  refine (Memref.IsWhole.readAt_unread (Val := Elt Ideal) harg X _ _).trans (congrArg X ?_)
  funext x
  refine Fin.cases ?_ (fun x => ?_) x
  · refine Fin.ext ?_
    change o + 1 * r.val = o + r.val
    omega
  · refine Fin.cases ?_ (fun x => x.elim0) x
    refine Fin.ext ?_
    change 0 + 1 * c.val = c.val
    omega

theorem ld1024 (arg : Memref sig .tc .vmem S4096x128 .bf16) (harg : arg.IsWhole) (X : FVec Ideal S4096x128 .bf16) (off : Fin 2 → ℕ) (o : ℕ) (ho : off = ![o, 0]) (inb : ∀ a, off a + S1024x128.size a ≤ S4096x128.size a)
    (r : Fin 1024) (c : Fin 128) (hr : o + r.val < 4096) :
    arg.view.readAt (Elt Ideal) (Rect.unit (s := S4096x128) off S1024x128.size inb).toLoadRect (harg.unread X) (ix2 r c) = X (ix2 ⟨o + r.val, hr⟩ c) := by
  subst ho
  refine (Memref.IsWhole.readAt_unread (Val := Elt Ideal) harg X _ _).trans (congrArg X ?_)
  funext x
  refine Fin.cases ?_ (fun x => ?_) x
  · refine Fin.ext ?_
    change o + 1 * r.val = o + r.val
    omega
  · refine Fin.cases ?_ (fun x => x.elim0) x
    refine Fin.ext ?_
    change 0 + 1 * c.val = c.val
    omega

theorem ld128 (arg : Memref sig .tc .vmem S128x128 .bf16) (harg : arg.IsWhole) (X : FVec Ideal S128x128 .bf16) (off : Fin 2 → ℕ) (o : ℕ) (ho : off = ![o, 0]) (inb : ∀ a, off a + S128x128.size a ≤ S128x128.size a)
    (r : Fin 128) (c : Fin 128) (hr : o + r.val < 128) :
    arg.view.readAt (Elt Ideal) (Rect.unit (s := S128x128) off S128x128.size inb).toLoadRect (harg.unread X) (ix2 r c) = X (ix2 ⟨o + r.val, hr⟩ c) := by
  subst ho
  refine (Memref.IsWhole.readAt_unread (Val := Elt Ideal) harg X _ _).trans (congrArg X ?_)
  funext x
  refine Fin.cases ?_ (fun x => ?_) x
  · refine Fin.ext ?_
    change o + 1 * r.val = o + r.val
    omega
  · refine Fin.cases ?_ (fun x => x.elim0) x
    refine Fin.ext ?_
    change 0 + 1 * c.val = c.val
    omega

theorem ldq (arg : Memref sig .tc .vmem S512x512 .bf16) (harg : arg.IsWhole) (X : FVec Ideal S512x512 .bf16) (off : Fin 2 → ℕ) (o : ℕ) (ho : off = ![o, 0]) (inb : ∀ a, off a + S512x512.size a ≤ S512x512.size a)
    (r : Fin 512) (c : Fin 512) (hr : o + r.val < 512) :
    arg.view.readAt (Elt Ideal) (Rect.unit (s := S512x512) off S512x512.size inb).toLoadRect (harg.unread X) (ix2 r c) = X (ix2 ⟨o + r.val, hr⟩ c) := by
  subst ho
  refine (Memref.IsWhole.readAt_unread (Val := Elt Ideal) harg X _ _).trans (congrArg X ?_)
  funext x
  refine Fin.cases ?_ (fun x => ?_) x
  · refine Fin.ext ?_
    change o + 1 * r.val = o + r.val
    omega
  · refine Fin.cases ?_ (fun x => x.elim0) x
    refine Fin.ext ?_
    change 0 + 1 * c.val = c.val
    omega

theorem ldc (arg : Memref sig .tc .vmem S512x512 .bf16) (harg : arg.IsWhole) (X : FVec Ideal S512x512 .bf16) (o : ℕ) (inb : ∀ a, (![0, o] : Fin 2 → ℕ) a + S512x128.size a ≤ S512x512.size a)
    (r : Fin 512) (c : Fin 128) (hc : o + c.val < 512) :
    arg.view.readAt (Elt Ideal) (Rect.unit (s := S512x512) ![0, o] S512x128.size inb).toLoadRect (harg.unread X) (ix2 r c) = X (ix2 r ⟨o + c.val, hc⟩) := by
  refine (Memref.IsWhole.readAt_unread (Val := Elt Ideal) harg X _ _).trans (congrArg X ?_)
  funext x
  refine Fin.cases ?_ (fun x => ?_) x
  · refine Fin.ext ?_
    change 0 + 1 * r.val = r.val
    omega
  · refine Fin.cases ?_ (fun x => x.elim0) x
    refine Fin.ext ?_
    change o + 1 * c.val = o + c.val
    omega

theorem lc512 (arg : Memref sig .tc .vmem S1x1x4x4096 .f32) (harg : arg.IsWhole) (X : FVec Ideal S1x1x4x4096 .f32) (off : Fin 4 → ℕ) (o : ℕ) (ho : off = ![0, 0, 0, o]) (inb : ∀ a, off a + S1x1x4x512.size a ≤ S1x1x4x4096.size a)
    (g : Fin 4) (j : Fin 512) (hr : o + j.val < 4096) :
    arg.view.readAt (Elt Ideal) (Rect.unit (s := S1x1x4x4096) off S1x1x4x512.size inb).toLoadRect (harg.unread X) (ix4 0 0 g j) = X (ix4 0 0 g ⟨o + j.val, hr⟩) := by
  subst ho
  refine (Memref.IsWhole.readAt_unread (Val := Elt Ideal) harg X _ _).trans (congrArg X ?_)
  funext x
  refine Fin.cases ?_ (fun x => Fin.cases ?_ (fun x => Fin.cases ?_ (fun x => Fin.cases ?_ (fun x => x.elim0) x) x) x) x
  · rfl
  · rfl
  · refine Fin.ext ?_
    change 0 + 1 * g.val = g.val
    omega
  · refine Fin.ext ?_
    change o + 1 * j.val = o + j.val
    omega

theorem lc1024 (arg : Memref sig .tc .vmem S1x1x4x4096 .f32) (harg : arg.IsWhole) (X : FVec Ideal S1x1x4x4096 .f32) (off : Fin 4 → ℕ) (o : ℕ) (ho : off = ![0, 0, 0, o]) (inb : ∀ a, off a + S1x1x4x1024.size a ≤ S1x1x4x4096.size a)
    (g : Fin 4) (j : Fin 1024) (hr : o + j.val < 4096) :
    arg.view.readAt (Elt Ideal) (Rect.unit (s := S1x1x4x4096) off S1x1x4x1024.size inb).toLoadRect (harg.unread X) (ix4 0 0 g j) = X (ix4 0 0 g ⟨o + j.val, hr⟩) := by
  subst ho
  refine (Memref.IsWhole.readAt_unread (Val := Elt Ideal) harg X _ _).trans (congrArg X ?_)
  funext x
  refine Fin.cases ?_ (fun x => Fin.cases ?_ (fun x => Fin.cases ?_ (fun x => Fin.cases ?_ (fun x => x.elim0) x) x) x) x
  · rfl
  · rfl
  · refine Fin.ext ?_
    change 0 + 1 * g.val = g.val
    omega
  · refine Fin.ext ?_
    change o + 1 * j.val = o + j.val
    omega

theorem lc128 (arg : Memref sig .tc .vmem S1x1x4x128 .f32) (harg : arg.IsWhole) (X : FVec Ideal S1x1x4x128 .f32) (off : Fin 4 → ℕ) (o : ℕ) (ho : off = ![0, 0, 0, o]) (inb : ∀ a, off a + S1x1x4x128.size a ≤ S1x1x4x128.size a)
    (g : Fin 4) (j : Fin 128) (hr : o + j.val < 128) :
    arg.view.readAt (Elt Ideal) (Rect.unit (s := S1x1x4x128) off S1x1x4x128.size inb).toLoadRect (harg.unread X) (ix4 0 0 g j) = X (ix4 0 0 g ⟨o + j.val, hr⟩) := by
  subst ho
  refine (Memref.IsWhole.readAt_unread (Val := Elt Ideal) harg X _ _).trans (congrArg X ?_)
  funext x
  refine Fin.cases ?_ (fun x => Fin.cases ?_ (fun x => Fin.cases ?_ (fun x => Fin.cases ?_ (fun x => x.elim0) x) x) x) x
  · rfl
  · rfl
  · refine Fin.ext ?_
    change 0 + 1 * g.val = g.val
    omega
  · refine Fin.ext ?_
    change o + 1 * j.val = o + j.val
    omega

theorem row512 (x : FVec Ideal S1x1x4x512 .f32) (g : Fin 4) (j : Fin 512) : k0_pay64 (F := Ideal) x (ix2 g j) = x (ix4 0 0 g j) := by
  unfold k0_pay64
  pointwise

theorem row1024 (x : FVec Ideal S1x1x4x1024 .f32) (g : Fin 4) (j : Fin 1024) : k0_pay3 (F := Ideal) x (ix2 g j) = x (ix4 0 0 g j) := by
  unfold k0_pay3
  pointwise

theorem row128 (x : FVec Ideal S1x1x4x128 .f32) (g : Fin 4) (j : Fin 128) : k0_pay126 (F := Ideal) x (ix2 g j) = x (ix4 0 0 g j) := by
  unfold k0_pay126
  pointwise

theorem one512 (x : FVec Ideal S512x128 .bf16) (j : Fin 512) (d : Fin 256) : k0_pay65 (F := Ideal) x (ix2 j d) = if h : d.val < 128 then x (ix2 j ⟨d.val, h⟩) else (1 : EReal) := by
  unfold k0_pay65
  pointwise

theorem one1024 (x : FVec Ideal S1024x128 .bf16) (j : Fin 1024) (d : Fin 256) : k0_pay4 (F := Ideal) x (ix2 j d) = if h : d.val < 128 then x (ix2 j ⟨d.val, h⟩) else (1 : EReal) := by
  unfold k0_pay4
  pointwise

theorem one128 (x : FVec Ideal S128x128 .bf16) (j : Fin 128) (d : Fin 256) : k0_pay127 (F := Ideal) x (ix2 j d) = if h : d.val < 128 then x (ix2 j ⟨d.val, h⟩) else (1 : EReal) := by
  unfold k0_pay127
  pointwise

theorem key128 (x : FVec Ideal S128x128 .bf16) : k0_pay125 (F := Ideal) x = x := by
  funext y
  idx_vars y
  unfold k0_pay125
  pointwise

theorem q61 (q : FVec Ideal S512x512 .bf16) (R : Fin 2048) (c : Fin 128) :
    k0_pay61 (F := Ideal) q (ix2 R c) = q (ix2 ⟨R.val % 512, by omega⟩ ⟨128 * (R.val / 512) + c.val, by omega⟩) := by
  have h := pay61 q ⟨R.val / 512, by omega⟩ ⟨R.val % 512, by omega⟩ c
  rw [← h]
  exact congrArg (fun t => k0_pay61 (F := Ideal) q (ix2 t c)) (Fin.ext (by simp only; omega))

end Cert.Kernel7Ideal.Fox

end
-- ==== Proof.FoxCaseA.lean ====
/- The attention's whole pass over the keys, for an even block: what every row has seen at its end. -/
module

public import proofs.«01_k».proof.Proof.FoxLoad

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

theorem cov_whole {sp : Space} (v : View sig .tc sp S2048x256 .f32) (L : List (View.Piece (Elt Ideal) S2048x256 .f32)) (inb : ∀ a, (![0, 0] : Fin 2 → ℕ) a + S2048x256.size a ≤ S2048x256.size a) (r : Fin 2048) (l : Fin 256) :
    v.readCov L (Rect.unit (s := S2048x256) ![0, 0] S2048x256.size inb).toLoadRect (ix2 r l) = canon L (ix2 r l) := by
  rw [View.readCov_eq_canon']
  refine congrArg (canon L) ?_
  funext x
  refine Fin.cases ?_ (fun x => ?_) x
  · refine Fin.ext ?_
    change 0 + 1 * r.val = r.val
    omega
  · refine Fin.cases ?_ (fun x => x.elim0) x
    refine Fin.ext ?_
    change 0 + 1 * l.val = l.val
    omega

/-- The block's queries, head after head. -/
abbrev qv (arg3 : Memref sig .tc .vmem S512x512 .bf16) (harg3 : arg3.IsWhole) (x0 : FVec Ideal S512x512 .bf16) : FVec Ideal S2048x128 .bf16 :=
  k0_pay61 (F := Ideal) (arg3.view.readAt (Elt Ideal) (Rect.unit (s := S512x512) ![0, 0] S512x512.size inb_S512x512_S512x512_0_0).toLoadRect (harg3.unread x0))

theorem qv_apply (arg3 : Memref sig .tc .vmem S512x512 .bf16) (harg3 : arg3.IsWhole) (x0 : FVec Ideal S512x512 .bf16) (R : Fin 2048) (c : Fin 128) :
    qv arg3 harg3 x0 (ix2 R c) = x0 (ix2 ⟨R.val % 512, by omega⟩ ⟨128 * (R.val / 512) + c.val, by omega⟩) := by
  refine (q61 _ R c).trans ((ldq arg3 harg3 x0 ![0, 0] 0 rfl _ _ _ (by simp only; omega)).trans ?_)
  exact congrArg (fun t => x0 (ix2 t _)) (Fin.ext (Nat.zero_add _))

/-- A chain's logits are the logits of the keys it loads. -/
theorem dot_eq {n : ℕ} {a : Fin 2048 → ℕ → ℝ} {q : FVec Ideal S2048x128 .bf16} {x0 : FVec Ideal S512x512 .bf16} {x1 : FVec Ideal S4096x128 .bf16} {x3 : FVec Ideal S1x1x4x4096 .f32}
    (hq : ∀ R c, q (ix2 R c) = x0 (ix2 ⟨R.val % 512, by omega⟩ ⟨128 * (R.val / 512) + c.val, by omega⟩))
    (H1 : ∀ (R : Fin 2048) (n : Fin 4096), (∑ c : Fin 128, (x0 (ix2 ⟨R.val % 512, by omega⟩ ⟨128 * (R.val / 512) + c.val, by omega⟩) * x1 (ix2 n c) : EReal)) - x3 (ix4 0 0 ⟨R.val / 512, by omega⟩ n) = ((a R (16 + n.val) : ℝ) : EReal))
    (o key : ℕ) (j : Fin n) (ho : o + j.val < 4096) (hkey : key = 16 + (o + j.val)) (kk : Fin 128 → EReal) (cb : Fin 4 → EReal)
    (hk : ∀ c, kk c = x1 (ix2 ⟨o + j.val, ho⟩ c)) (hc : ∀ g, cb g = x3 (ix4 0 0 g ⟨o + j.val, ho⟩)) (R : Fin 2048) :
    (∑ c, (q (ix2 R c) * kk c : EReal)) - cb ⟨R.val / 512, by omega⟩ = ((a R key : ℝ) : EReal) := by
  subst hkey
  rw [hc]
  refine Eq.trans ?_ (H1 R ⟨o + j.val, ho⟩)
  refine congrArg (· - _) (Finset.sum_congr rfl fun c _ => ?_)
  rw [hk, hq]

theorem val_eq {n : ℕ} {w : ℕ → Fin 256 → EReal} {x2 : FVec Ideal S4096x128 .bf16}
    (H2 : ∀ (n : Fin 4096) (d : Fin 256), (if h : d.val < 128 then x2 (ix2 n ⟨d.val, h⟩) else (1 : EReal)) = w (16 + n.val) d)
    (o key : ℕ) (j : Fin n) (ho : o + j.val < 4096) (hkey : key = 16 + (o + j.val)) (vv : Fin 128 → EReal) (hv : ∀ c, vv c = x2 (ix2 ⟨o + j.val, ho⟩ c)) (d : Fin 256) :
    (if h : d.val < 128 then vv ⟨d.val, h⟩ else (1 : EReal)) = w key d := by
  subst hkey
  refine Eq.trans ?_ (H2 ⟨o + j.val, ho⟩ d)
  by_cases h : d.val < 128
  · rw [dif_pos h, dif_pos h, hv]
  · rw [dif_neg h, dif_neg h]

theorem diagA (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : ¬cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) :
    Rows a w (own (16 + 512 * (i 2).val)) (canon (kernelRun0_A.sl.HS0_9 (F := Ideal) c i arg3 harg3 arg4 harg4 arg6 harg6 arg13 x0 x1 x3)) (canon (kernelRun0_A.sl.HS1_9 (F := Ideal) c i arg3 harg3 arg4 harg4 arg5 harg5 arg6 harg6 arg13 arg14 x0 x1 x2 x3)) := by
  have hi : (i 2).val < 8 := (i 2).isLt
  have hq := qv_apply arg3 harg3 x0
  exact diag (16 + 512 * (i 2).val) (L0_1 := (kernelRun0_A.sl.HS0_1 (F := Ideal))) (L0_2 := (kernelRun0_A.sl.HS0_2 (F := Ideal) c i arg3 harg3 arg4 harg4 arg6 harg6 arg13 x0 x1 x3)) (L0_3 := (kernelRun0_A.sl.HS0_3 (F := Ideal) c i arg3 harg3 arg4 harg4 arg6 harg6 arg13 x0 x1 x3)) (L0_4 := (kernelRun0_A.sl.HS0_4 (F := Ideal) c i arg3 harg3 arg4 harg4 arg6 harg6 arg13 x0 x1 x3)) (L0_5 := (kernelRun0_A.sl.HS0_5 (F := Ideal) c i arg3 harg3 arg4 harg4 arg6 harg6 arg13 x0 x1 x3)) (L0_6 := (kernelRun0_A.sl.HS0_6 (F := Ideal) c i arg3 harg3 arg4 harg4 arg6 harg6 arg13 x0 x1 x3)) (L0_7 := (kernelRun0_A.sl.HS0_7 (F := Ideal) c i arg3 harg3 arg4 harg4 arg6 harg6 arg13 x0 x1 x3)) (L0_8 := (kernelRun0_A.sl.HS0_8 (F := Ideal) c i arg3 harg3 arg4 harg4 arg6 harg6 arg13 x0 x1 x3)) (L0_9 := (kernelRun0_A.sl.HS0_9 (F := Ideal) c i arg3 harg3 arg4 harg4 arg6 harg6 arg13 x0 x1 x3)) (L1_1 := (kernelRun0_A.sl.HS1_1 (F := Ideal))) (L1_2 := (kernelRun0_A.sl.HS1_2 (F := Ideal) c i arg3 harg3 arg4 harg4 arg5 harg5 arg6 harg6 arg13 arg14 x0 x1 x2 x3)) (L1_3 := (kernelRun0_A.sl.HS1_3 (F := Ideal) c i arg3 harg3 arg4 harg4 arg5 harg5 arg6 harg6 arg13 arg14 x0 x1 x2 x3)) (L1_4 := (kernelRun0_A.sl.HS1_4 (F := Ideal) c i arg3 harg3 arg4 harg4 arg5 harg5 arg6 harg6 arg13 arg14 x0 x1 x2 x3)) (L1_5 := (kernelRun0_A.sl.HS1_5 (F := Ideal) c i arg3 harg3 arg4 harg4 arg5 harg5 arg6 harg6 arg13 arg14 x0 x1 x2 x3)) (L1_6 := (kernelRun0_A.sl.HS1_6 (F := Ideal) c i arg3 harg3 arg4 harg4 arg5 harg5 arg6 harg6 arg13 arg14 x0 x1 x2 x3)) (L1_7 := (kernelRun0_A.sl.HS1_7 (F := Ideal) c i arg3 harg3 arg4 harg4 arg5 harg5 arg6 harg6 arg13 arg14 x0 x1 x2 x3)) (L1_8 := (kernelRun0_A.sl.HS1_8 (F := Ideal) c i arg3 harg3 arg4 harg4 arg5 harg5 arg6 harg6 arg13 arg14 x0 x1 x2 x3)) (L1_9 := (kernelRun0_A.sl.HS1_9 (F := Ideal) c i arg3 harg3 arg4 harg4 arg5 harg5 arg6 harg6 arg13 arg14 x0 x1 x2 x3))
    (arg3.view.readAt (Elt Ideal) (Rect.unit (s := S512x512) ![0, 0] S512x512.size inb_S512x512_S512x512_0_0).toLoadRect (harg3.unread x0)) (arg4.view.readAt (Elt Ideal) (Rect.unit (s := S4096x128) (k0_off1 i) S512x128.size (k0_off1_inb i)).toLoadRect (harg4.unread x1)) (arg6.view.readAt (Elt Ideal) (Rect.unit (s := S1x1x4x4096) (k0_off2 i) S1x1x4x512.size (k0_off2_inb i)).toLoadRect (harg6.unread x3)) (k0_pay65 (arg5.view.readAt (Elt Ideal) (Rect.unit (s := S4096x128) (k0_off1 i) S512x128.size (k0_off1_inb i)).toLoadRect (harg5.unread x2))) (kernelRun0_A.sl.v59 (F := Ideal) c arg13) (kernelRun0_A.sl.v114 (F := Ideal) c i arg3 harg3 arg4 harg4 arg6 harg6 arg13 x0 x1 x3) (kernelRun0_A.sl.v167 (F := Ideal) c i arg3 harg3 arg4 harg4 arg6 harg6 arg13 x0 x1 x3) (kernelRun0_A.sl.v222 (F := Ideal) c i arg3 harg3 arg4 harg4 arg6 harg6 arg13 x0 x1 x3) (kernelRun0_A.sl.v275 (F := Ideal) c i arg3 harg3 arg4 harg4 arg6 harg6 arg13 x0 x1 x3) (kernelRun0_A.sl.v330 (F := Ideal) c i arg3 harg3 arg4 harg4 arg6 harg6 arg13 x0 x1 x3) (kernelRun0_A.sl.v383 (F := Ideal) c i arg3 harg3 arg4 harg4 arg6 harg6 arg13 x0 x1 x3) (kernelRun0_A.sl.v435 (F := Ideal) c i arg3 harg3 arg4 harg4 arg6 harg6 arg13 x0 x1 x3) (kernelRun0_A.sl.v69 (F := Ideal) c arg14) (kernelRun0_A.sl.v124 (F := Ideal) c i arg3 harg3 arg4 harg4 arg5 harg5 arg6 harg6 arg13 arg14 x0 x1 x2 x3) (kernelRun0_A.sl.v177 (F := Ideal) c i arg3 harg3 arg4 harg4 arg5 harg5 arg6 harg6 arg13 arg14 x0 x1 x2 x3) (kernelRun0_A.sl.v232 (F := Ideal) c i arg3 harg3 arg4 harg4 arg5 harg5 arg6 harg6 arg13 arg14 x0 x1 x2 x3) (kernelRun0_A.sl.v285 (F := Ideal) c i arg3 harg3 arg4 harg4 arg5 harg5 arg6 harg6 arg13 arg14 x0 x1 x2 x3) (kernelRun0_A.sl.v340 (F := Ideal) c i arg3 harg3 arg4 harg4 arg5 harg5 arg6 harg6 arg13 arg14 x0 x1 x2 x3) (kernelRun0_A.sl.v393 (F := Ideal) c i arg3 harg3 arg4 harg4 arg5 harg5 arg6 harg6 arg13 arg14 x0 x1 x2 x3) (kernelRun0_A.sl.v445 (F := Ideal) c i arg3 harg3 arg4 harg4 arg5 harg5 arg6 harg6 arg13 arg14 x0 x1 x2 x3)
    (fun R j _ => dot_eq hq H1 (512 * (i 2).val) _ j (by omega) (by omega) (fun c => (arg4.view.readAt (Elt Ideal) (Rect.unit (s := S4096x128) (k0_off1 i) S512x128.size (k0_off1_inb i)).toLoadRect (harg4.unread x1)) (ix2 j c)) (fun g => k0_pay64 (F := Ideal) (arg6.view.readAt (Elt Ideal) (Rect.unit (s := S1x1x4x4096) (k0_off2 i) S1x1x4x512.size (k0_off2_inb i)).toLoadRect (harg6.unread x3)) (ix2 g j))
      (fun c => ld512 arg4 harg4 x1 _ _ (off1 i) _ j c (by omega)) (fun g => (row512 _ g j).trans (lc512 arg6 harg6 x3 _ _ (off2 i) _ g j (by omega))) R)
    (fun j d => (one512 _ j d).trans (val_eq H2 (512 * (i 2).val) _ j (by omega) (by omega) (fun c => (arg5.view.readAt (Elt Ideal) (Rect.unit (s := S4096x128) (k0_off1 i) S512x128.size (k0_off1_inb i)).toLoadRect (harg5.unread x2)) (ix2 j c)) (fun c => ld512 arg5 harg5 x2 _ _ (off1 i) _ j c (by omega)) d))
    rfl rfl
    rfl rfl (fun r l => cov_m256 arg13.view (kernelRun0_A.sl.HS0_1 (F := Ideal)) 0 (by omega) inb_S2048x128_S256x128_0_0 r l) (fun r l => cov_a256 arg14.view (kernelRun0_A.sl.HS1_1 (F := Ideal)) 0 (by omega) inb_S2048x256_S256x256_0_0 r l)
    rfl rfl (fun r l => cov_m256 arg13.view (kernelRun0_A.sl.HS0_2 (F := Ideal) c i arg3 harg3 arg4 harg4 arg6 harg6 arg13 x0 x1 x3) 256 (by omega) inb_S2048x128_S256x128_256_0 r l) (fun r l => cov_a256 arg14.view (kernelRun0_A.sl.HS1_2 (F := Ideal) c i arg3 harg3 arg4 harg4 arg5 harg5 arg6 harg6 arg13 arg14 x0 x1 x2 x3) 256 (by omega) inb_S2048x256_S256x256_256_0 r l)
    rfl rfl (fun r l => cov_m256 arg13.view (kernelRun0_A.sl.HS0_3 (F := Ideal) c i arg3 harg3 arg4 harg4 arg6 harg6 arg13 x0 x1 x3) 512 (by omega) inb_S2048x128_S256x128_512_0 r l) (fun r l => cov_a256 arg14.view (kernelRun0_A.sl.HS1_3 (F := Ideal) c i arg3 harg3 arg4 harg4 arg5 harg5 arg6 harg6 arg13 arg14 x0 x1 x2 x3) 512 (by omega) inb_S2048x256_S256x256_512_0 r l)
    rfl rfl (fun r l => cov_m256 arg13.view (kernelRun0_A.sl.HS0_4 (F := Ideal) c i arg3 harg3 arg4 harg4 arg6 harg6 arg13 x0 x1 x3) 768 (by omega) inb_S2048x128_S256x128_768_0 r l) (fun r l => cov_a256 arg14.view (kernelRun0_A.sl.HS1_4 (F := Ideal) c i arg3 harg3 arg4 harg4 arg5 harg5 arg6 harg6 arg13 arg14 x0 x1 x2 x3) 768 (by omega) inb_S2048x256_S256x256_768_0 r l)
    rfl rfl (fun r l => cov_m256 arg13.view (kernelRun0_A.sl.HS0_5 (F := Ideal) c i arg3 harg3 arg4 harg4 arg6 harg6 arg13 x0 x1 x3) 1024 (by omega) inb_S2048x128_S256x128_1024_0 r l) (fun r l => cov_a256 arg14.view (kernelRun0_A.sl.HS1_5 (F := Ideal) c i arg3 harg3 arg4 harg4 arg5 harg5 arg6 harg6 arg13 arg14 x0 x1 x2 x3) 1024 (by omega) inb_S2048x256_S256x256_1024_0 r l)
    rfl rfl (fun r l => cov_m256 arg13.view (kernelRun0_A.sl.HS0_6 (F := Ideal) c i arg3 harg3 arg4 harg4 arg6 harg6 arg13 x0 x1 x3) 1280 (by omega) inb_S2048x128_S256x128_1280_0 r l) (fun r l => cov_a256 arg14.view (kernelRun0_A.sl.HS1_6 (F := Ideal) c i arg3 harg3 arg4 harg4 arg5 harg5 arg6 harg6 arg13 arg14 x0 x1 x2 x3) 1280 (by omega) inb_S2048x256_S256x256_1280_0 r l)
    rfl rfl (fun r l => cov_m256 arg13.view (kernelRun0_A.sl.HS0_7 (F := Ideal) c i arg3 harg3 arg4 harg4 arg6 harg6 arg13 x0 x1 x3) 1536 (by omega) inb_S2048x128_S256x128_1536_0 r l) (fun r l => cov_a256 arg14.view (kernelRun0_A.sl.HS1_7 (F := Ideal) c i arg3 harg3 arg4 harg4 arg5 harg5 arg6 harg6 arg13 arg14 x0 x1 x2 x3) 1536 (by omega) inb_S2048x256_S256x256_1536_0 r l)
    rfl rfl (fun r l => cov_m256 arg13.view (kernelRun0_A.sl.HS0_8 (F := Ideal) c i arg3 harg3 arg4 harg4 arg6 harg6 arg13 x0 x1 x3) 1792 (by omega) inb_S2048x128_S256x128_1792_0 r l) (fun r l => cov_a256 arg14.view (kernelRun0_A.sl.HS1_8 (F := Ideal) c i arg3 harg3 arg4 harg4 arg5 harg5 arg6 harg6 arg13 arg14 x0 x1 x2 x3) 1792 (by omega) inb_S2048x256_S256x256_1792_0 r l)

theorem loopA (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : ¬cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) :
    Rows a w (kset (16 + 512 * (i 2).val) (k0_t1_loop i).trips) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).1 ++ (kernelRun0_A.sl.HS0_9 (F := Ideal) c i arg3 harg3 arg4 harg4 arg6 harg6 arg13 x0 x1 x3))) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).2 ++ (kernelRun0_A.sl.HS1_9 (F := Ideal) c i arg3 harg3 arg4 harg4 arg5 harg5 arg6 harg6 arg13 arg14 x0 x1 x2 x3))) := by
  have hi : (i 2).val < 8 := (i 2).isLt
  have ht := trips1 i
  have hq := qv_apply arg3 harg3 x0
  refine loop_rows c i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) rfl (fun k R j => ?_) (fun k j d => ?_) (kernelRun0_A.sl.HS0_9 (F := Ideal) c i arg3 harg3 arg4 harg4 arg6 harg6 arg13 x0 x1 x3) (kernelRun0_A.sl.HS1_9 (F := Ideal) c i arg3 harg3 arg4 harg4 arg5 harg5 arg6 harg6 arg13 arg14 x0 x1 x2 x3) (diagA c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 H1 H2 H3 H4) _ le_rfl
  · have hk := k.isLt
    exact dot_eq hq H1 (1024 * k.val) _ j (by omega) (by omega) (fun c => kT i arg4 (harg4.unread x1) k (ix2 j c)) (fun g => cT i arg6 (harg6.unread x3) k (ix2 g j))
      (fun c => ld1024 arg4 harg4 x1 _ _ (off3 i k) _ j c (by omega)) (fun g => (row1024 _ g j).trans (lc1024 arg6 harg6 x3 _ _ (off4 i k) _ g j (by omega))) R
  · have hk := k.isLt
    exact (one1024 _ j d).trans (val_eq H2 (1024 * k.val) _ j (by omega) (by omega)
      (fun c => arg5.view.readAt (Elt Ideal) (Rect.unit (s := S4096x128) (k0_off3 i k) S1024x128.size (k0_off3_inb i k)).toLoadRect (harg5.unread x2) (ix2 j c)) (fun c => ld1024 arg5 harg5 x2 _ _ (off3 i k) _ j c (by omega)) d)

theorem caseA (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : ¬cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) (hp : (i 2).val % 2 = 0) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) (R : Fin 2048) :
    ∃ mx, Seen (a R) w (Finset.range (17 + 512 * (i 2).val + R.val % 512)) mx (fun d => (kernelRun0_A.sl.v636 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) (ix2 R d)) := by
  have hi : (i 2).val < 8 := (i 2).isLt
  have ht := trips1 i
  have hq := qv_apply arg3 harg3 x0
  have hz : Scf.trips (k0_t2_loop i).lb (k0_t2_loop i).ub (k0_t2_loop i).st = 0 := trips2 i
  have e0 : (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) = ⟨Rect.unit (s := S2048x128) ![0, 0] S512x128.size inb_S2048x128_S512x128_0_0, k0_pay131 (F := Ideal) (kernelRun0_A.sl.r (F := Ideal) c arg3 harg3 x0) (kernelRun0_A.sl.r_25 (F := Ideal) c arg7 harg7 x4) (kernelRun0_A.sl.r_26 (F := Ideal) c arg9 harg9 x6) (kernelRun0_A.sl.v515 (F := Ideal) c i arg3 harg3 arg4 harg4 arg5 harg5 arg6 harg6 arg7 harg7 arg8 harg8 arg9 harg9 arg10 harg10 arg11 harg11 arg12 harg12 arg13 harg13 arg14 harg14 x0 x1 x2 x3)⟩ :: ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).1 ++ (kernelRun0_A.sl.HS0_9 (F := Ideal) c i arg3 harg3 arg4 harg4 arg6 harg6 arg13 x0 x1 x3)) := by
    unfold kernelRun0_A.sl.HS0_1_1
    rw [hz]
    rfl
  have e1 : (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) = ⟨Rect.unit (s := S2048x256) ![0, 0] S512x256.size inb_S2048x256_S512x256_0_0, k0_pay130 (F := Ideal) (kernelRun0_A.sl.r (F := Ideal) c arg3 harg3 x0) (kernelRun0_A.sl.r_25 (F := Ideal) c arg7 harg7 x4) (kernelRun0_A.sl.r_26 (F := Ideal) c arg9 harg9 x6) (kernelRun0_A.sl.r_27 (F := Ideal) c arg8 harg8 x5) (kernelRun0_A.sl.v515 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_A.sl.v524 (F := Ideal) c i arg3 harg3 arg4 harg4 arg5 harg5 arg6 harg6 arg7 harg7 arg8 harg8 arg9 harg9 arg10 harg10 arg11 harg11 arg12 harg12 arg13 harg13 arg14 harg14 x0 x1 x2 x3)⟩ :: ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).2 ++ (kernelRun0_A.sl.HS1_9 (F := Ideal) c i arg3 harg3 arg4 harg4 arg5 harg5 arg6 harg6 arg13 arg14 x0 x1 x2 x3)) := by
    unfold kernelRun0_A.sl.HS1_1_1
    rw [hz]
    rfl
  have em : ∀ r l, (kernelRun0_A.sl.v515 (F := Ideal) c i arg3 harg3 arg4 harg4 arg5 harg5 arg6 harg6 arg7 harg7 arg8 harg8 arg9 harg9 arg10 harg10 arg11 harg11 arg12 harg12 arg13 harg13 arg14 harg14 x0 x1 x2 x3) (ix2 r l) = canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).1 ++ (kernelRun0_A.sl.HS0_9 (F := Ideal) c i arg3 harg3 arg4 harg4 arg6 harg6 arg13 x0 x1 x3)) (ix2 ⟨0 + r.val, by omega⟩ l) := fun r l => by
    unfold kernelRun0_A.sl.v515
    rw [hz]
    exact rd_m512 arg13.view ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).1 ++ (kernelRun0_A.sl.HS0_9 (F := Ideal) c i arg3 harg3 arg4 harg4 arg6 harg6 arg13 x0 x1 x3)) 0 (by omega) inb_S2048x128_S512x128_0_0 r l
  have es : ∀ r l, (kernelRun0_A.sl.v524 (F := Ideal) c i arg3 harg3 arg4 harg4 arg5 harg5 arg6 harg6 arg7 harg7 arg8 harg8 arg9 harg9 arg10 harg10 arg11 harg11 arg12 harg12 arg13 harg13 arg14 harg14 x0 x1 x2 x3) (ix2 r l) = canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).2 ++ (kernelRun0_A.sl.HS1_9 (F := Ideal) c i arg3 harg3 arg4 harg4 arg5 harg5 arg6 harg6 arg13 arg14 x0 x1 x2 x3)) (ix2 ⟨0 + r.val, by omega⟩ l) := fun r l => by
    unfold kernelRun0_A.sl.v524
    rw [hz]
    exact rd_a512 arg14.view ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r (F := Ideal) c arg3 harg3 x0) (2#32) (kernelRun0_A.sl.v457 i) (kernelRun0_A.sl.v462 i) (1#32) (0#32) (harg4.unread x1) (harg5.unread x2) (harg6.unread x3) (arg13.view.writes (Elt Ideal) arg13.view.junk (kernelRun0_A.sl.HS0_9 (F := Ideal) c i arg3 harg3 arg4 harg4 arg6 harg6 arg13 x0 x1 x3)) (arg14.view.writes (Elt Ideal) arg14.view.junk (kernelRun0_A.sl.HS1_9 (F := Ideal) c i arg3 harg3 arg4 harg4 arg5 harg5 arg6 harg6 arg13 arg14 x0 x1 x2 x3)) (k0_t1_loop i).trips).2 ++ (kernelRun0_A.sl.HS1_9 (F := Ideal) c i arg3 harg3 arg4 harg4 arg5 harg5 arg6 harg6 arg13 arg14 x0 x1 x2 x3)) 0 (by omega) inb_S2048x256_S512x256_0_0 r l
  have hk : ∀ (j cc : Fin 128), (kernelRun0_A.sl.r_25 (F := Ideal) c arg7 harg7 x4) (ix2 j cc) = x4 (ix2 j cc) := fun j cc => by
    refine (congrFun (key128 (arg7.view.readAt (Elt Ideal) (Rect.unit (s := S128x128) ![0, 0] S128x128.size inb_S128x128_S128x128_0_0).toLoadRect (harg7.unread x4))) _).trans ((ld128 arg7 harg7 x4 ![0, 0] 0 rfl _ _ _ (by omega)).trans ?_)
    exact congrArg (fun t => x4 (ix2 t cc)) (Fin.ext (Nat.zero_add _))
  have hc : ∀ (g : Fin 4) (j : Fin 128), (kernelRun0_A.sl.r_26 (F := Ideal) c arg9 harg9 x6) (ix2 g j) = x6 (ix4 0 0 g j) := fun g j => by
    refine (row128 _ g j).trans ((lc128 arg9 harg9 x6 ![0, 0, 0, 0] 0 rfl _ _ _ (by omega)).trans ?_)
    exact congrArg (fun t => x6 (ix4 0 0 g t)) (Fin.ext (Nat.zero_add _))
  have hx : ∀ (j c : Fin 128), (arg8.view.readAt (Elt Ideal) (Rect.unit (s := S128x128) ![0, 0] S128x128.size inb_S128x128_S128x128_0_0).toLoadRect (harg8.unread x5)) (ix2 j c) = x5 (ix2 j c) := fun j c => by
    refine (ld128 arg8 harg8 x5 ![0, 0] 0 rfl _ _ _ (by omega)).trans ?_
    exact congrArg (fun t => x5 (ix2 t c)) (Fin.ext (Nat.zero_add _))
  have hd : ∀ (R : Fin 2048) (j : Fin 128), j.val < 16 → (∑ cc, ((kernelRun0_A.sl.r (F := Ideal) c arg3 harg3 x0) (ix2 R cc) * (kernelRun0_A.sl.r_25 (F := Ideal) c arg7 harg7 x4) (ix2 j cc) : EReal)) - (kernelRun0_A.sl.r_26 (F := Ideal) c arg9 harg9 x6) (ix2 ⟨R.val / 512, by omega⟩ j) = ((a R j.val : ℝ) : EReal) := fun R j hj => by
    rw [hc]
    refine Eq.trans ?_ (H3 R j hj)
    refine congrArg (· - _) (Finset.sum_congr rfl fun cc _ => ?_)
    rw [hk]
    exact congrArg (· * _) (hq R cc)
  have hv : ∀ j : Fin 128, j.val < 16 → ∀ d, (kernelRun0_A.sl.r_27 (F := Ideal) c arg8 harg8 x5) (ix2 j d) = w j.val d := fun j hj d => by
    refine (one128 (arg8.view.readAt (Elt Ideal) (Rect.unit (s := S128x128) ![0, 0] S128x128.size inb_S128x128_S128x128_0_0).toLoadRect (harg8.unread x5)) j d).trans (Eq.trans ?_ (H4 j hj d))
    by_cases h : d.val < 128
    · rw [dif_pos h, dif_pos h, hx]
    · rw [dif_neg h, dif_neg h]
  have hm := meta16 (KA := fun R => Finset.range (17 + 512 * (i 2).val + R % 512)) (L0_1 := (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6)) (L0_2 := (kernelRun0_A.sl.HS0_2_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6)) (L0_3 := (kernelRun0_A.sl.HS0_3_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6)) (L1_1 := (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6)) (L1_2 := (kernelRun0_A.sl.HS1_2_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6)) (L1_3 := (kernelRun0_A.sl.HS1_3_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6)) (L1_4 := (kernelRun0_A.sl.HS1_4_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6)) (loopA c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 H1 H2 H3 H4) (kernelRun0_A.sl.r (F := Ideal) c arg3 harg3 x0) (kernelRun0_A.sl.r_25 (F := Ideal) c arg7 harg7 x4) (kernelRun0_A.sl.r_26 (F := Ideal) c arg9 harg9 x6) (kernelRun0_A.sl.r_27 (F := Ideal) c arg8 harg8 x5) (kernelRun0_A.sl.v515 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_A.sl.v549 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) (kernelRun0_A.sl.v583 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) (kernelRun0_A.sl.v615 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) (kernelRun0_A.sl.v524 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_A.sl.v558 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) (kernelRun0_A.sl.v592 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) (kernelRun0_A.sl.v624 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) hd hv
    e0 e1 em es
    rfl rfl (fun r l => rd_m512 arg13.view (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) 512 (by omega) inb_S2048x128_S512x128_512_0 r l) (fun r l => rd_a512 arg14.view (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) 512 (by omega) inb_S2048x256_S512x256_512_0 r l)
    rfl rfl (fun r l => rd_m512 arg13.view (kernelRun0_A.sl.HS0_2_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) 1024 (by omega) inb_S2048x128_S512x128_1024_0 r l) (fun r l => rd_a512 arg14.view (kernelRun0_A.sl.HS1_2_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) 1024 (by omega) inb_S2048x256_S512x256_1024_0 r l)
    rfl (fun r l => rd_m512 arg13.view (kernelRun0_A.sl.HS0_3_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x6) 1536 (by omega) inb_S2048x128_S512x128_1536_0 r l) (fun r l => rd_a512 arg14.view (kernelRun0_A.sl.HS1_3_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) 1536 (by omega) inb_S2048x256_S512x256_1536_0 r l)
    (fun R _ j hj => by
      unfold kset own
      simp only [Finset.mem_union, Finset.mem_Icc, Finset.mem_Ico]
      omega)
    (fun R _ x => by
      unfold kset own
      simp only [Finset.mem_union, Finset.mem_Icc, Finset.mem_Ico, Finset.mem_range]
      refine ⟨fun hx => ?_, fun hx => ?_⟩
      · by_cases h : x < 16
        · exact Or.inr ⟨⟨x, by omega⟩, h, rfl⟩
        · left
          omega
      · rcases hx with hx | ⟨j, hj⟩
        · omega
        · omega)
  obtain ⟨L0', hm⟩ := hm
  have e : (fun d => (kernelRun0_A.sl.v636 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) (ix2 R d)) = fun d => canon (kernelRun0_A.sl.HS1_4_1 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) (ix2 R d) :=
    funext fun d => cov_whole arg14.view _ inb_S2048x256_S2048x256_0_0 R d
  rw [e]
  exact ⟨_, hm R⟩

end Cert.Kernel7Ideal.Fox

end
-- ==== Proof.FoxCaseB.lean ====
/- The attention's whole pass over the keys, for an odd block: what every row has seen at its end. -/
module

public import proofs.«01_k».proof.Proof.FoxCaseA

@[expose] public section

set_option maxRecDepth 16384

noncomputable section

namespace Cert.Kernel7Ideal.Fox

open Idealize.ShloMosaic Idealize.ShloMosaic.TcCoe Cert.Kernel7Ideal Cert.Kernel7Ideal.Gen Cert.FoxRow
open Idealize.ShloMosaic.View (canon canon_cons_emb canon_cons_of_not_mem)

theorem diagB (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) :
    Rows a w (own (16 + 512 * (i 2).val)) (canon (kernelRun0_B.sl.HS0_9 (F := Ideal) c i arg3 harg3 arg4 harg4 arg6 harg6 arg13 x0 x1 x3)) (canon (kernelRun0_B.sl.HS1_9 (F := Ideal) c i arg3 harg3 arg4 harg4 arg5 harg5 arg6 harg6 arg13 arg14 x0 x1 x2 x3)) := by
  have hi : (i 2).val < 8 := (i 2).isLt
  have hq := qv_apply arg3 harg3 x0
  exact diag (16 + 512 * (i 2).val) (L0_1 := (kernelRun0_B.sl.HS0_1 (F := Ideal))) (L0_2 := (kernelRun0_B.sl.HS0_2 (F := Ideal) c i arg3 harg3 arg4 harg4 arg6 harg6 arg13 x0 x1 x3)) (L0_3 := (kernelRun0_B.sl.HS0_3 (F := Ideal) c i arg3 harg3 arg4 harg4 arg6 harg6 arg13 x0 x1 x3)) (L0_4 := (kernelRun0_B.sl.HS0_4 (F := Ideal) c i arg3 harg3 arg4 harg4 arg6 harg6 arg13 x0 x1 x3)) (L0_5 := (kernelRun0_B.sl.HS0_5 (F := Ideal) c i arg3 harg3 arg4 harg4 arg6 harg6 arg13 x0 x1 x3)) (L0_6 := (kernelRun0_B.sl.HS0_6 (F := Ideal) c i arg3 harg3 arg4 harg4 arg6 harg6 arg13 x0 x1 x3)) (L0_7 := (kernelRun0_B.sl.HS0_7 (F := Ideal) c i arg3 harg3 arg4 harg4 arg6 harg6 arg13 x0 x1 x3)) (L0_8 := (kernelRun0_B.sl.HS0_8 (F := Ideal) c i arg3 harg3 arg4 harg4 arg6 harg6 arg13 x0 x1 x3)) (L0_9 := (kernelRun0_B.sl.HS0_9 (F := Ideal) c i arg3 harg3 arg4 harg4 arg6 harg6 arg13 x0 x1 x3)) (L1_1 := (kernelRun0_B.sl.HS1_1 (F := Ideal))) (L1_2 := (kernelRun0_B.sl.HS1_2 (F := Ideal) c i arg3 harg3 arg4 harg4 arg5 harg5 arg6 harg6 arg13 arg14 x0 x1 x2 x3)) (L1_3 := (kernelRun0_B.sl.HS1_3 (F := Ideal) c i arg3 harg3 arg4 harg4 arg5 harg5 arg6 harg6 arg13 arg14 x0 x1 x2 x3)) (L1_4 := (kernelRun0_B.sl.HS1_4 (F := Ideal) c i arg3 harg3 arg4 harg4 arg5 harg5 arg6 harg6 arg13 arg14 x0 x1 x2 x3)) (L1_5 := (kernelRun0_B.sl.HS1_5 (F := Ideal) c i arg3 harg3 arg4 harg4 arg5 harg5 arg6 harg6 arg13 arg14 x0 x1 x2 x3)) (L1_6 := (kernelRun0_B.sl.HS1_6 (F := Ideal) c i arg3 harg3 arg4 harg4 arg5 harg5 arg6 harg6 arg13 arg14 x0 x1 x2 x3)) (L1_7 := (kernelRun0_B.sl.HS1_7 (F := Ideal) c i arg3 harg3 arg4 harg4 arg5 harg5 arg6 harg6 arg13 arg14 x0 x1 x2 x3)) (L1_8 := (kernelRun0_B.sl.HS1_8 (F := Ideal) c i arg3 harg3 arg4 harg4 arg5 harg5 arg6 harg6 arg13 arg14 x0 x1 x2 x3)) (L1_9 := (kernelRun0_B.sl.HS1_9 (F := Ideal) c i arg3 harg3 arg4 harg4 arg5 harg5 arg6 harg6 arg13 arg14 x0 x1 x2 x3))
    (arg3.view.readAt (Elt Ideal) (Rect.unit (s := S512x512) ![0, 0] S512x512.size inb_S512x512_S512x512_0_0).toLoadRect (harg3.unread x0)) (arg4.view.readAt (Elt Ideal) (Rect.unit (s := S4096x128) (k0_off1 i) S512x128.size (k0_off1_inb i)).toLoadRect (harg4.unread x1)) (arg6.view.readAt (Elt Ideal) (Rect.unit (s := S1x1x4x4096) (k0_off2 i) S1x1x4x512.size (k0_off2_inb i)).toLoadRect (harg6.unread x3)) (k0_pay65 (arg5.view.readAt (Elt Ideal) (Rect.unit (s := S4096x128) (k0_off1 i) S512x128.size (k0_off1_inb i)).toLoadRect (harg5.unread x2))) (kernelRun0_B.sl.v59 (F := Ideal) c arg13) (kernelRun0_B.sl.v114 (F := Ideal) c i arg3 harg3 arg4 harg4 arg6 harg6 arg13 x0 x1 x3) (kernelRun0_B.sl.v167 (F := Ideal) c i arg3 harg3 arg4 harg4 arg6 harg6 arg13 x0 x1 x3) (kernelRun0_B.sl.v222 (F := Ideal) c i arg3 harg3 arg4 harg4 arg6 harg6 arg13 x0 x1 x3) (kernelRun0_B.sl.v275 (F := Ideal) c i arg3 harg3 arg4 harg4 arg6 harg6 arg13 x0 x1 x3) (kernelRun0_B.sl.v330 (F := Ideal) c i arg3 harg3 arg4 harg4 arg6 harg6 arg13 x0 x1 x3) (kernelRun0_B.sl.v383 (F := Ideal) c i arg3 harg3 arg4 harg4 arg6 harg6 arg13 x0 x1 x3) (kernelRun0_B.sl.v435 (F := Ideal) c i arg3 harg3 arg4 harg4 arg6 harg6 arg13 x0 x1 x3) (kernelRun0_B.sl.v69 (F := Ideal) c arg14) (kernelRun0_B.sl.v124 (F := Ideal) c i arg3 harg3 arg4 harg4 arg5 harg5 arg6 harg6 arg13 arg14 x0 x1 x2 x3) (kernelRun0_B.sl.v177 (F := Ideal) c i arg3 harg3 arg4 harg4 arg5 harg5 arg6 harg6 arg13 arg14 x0 x1 x2 x3) (kernelRun0_B.sl.v232 (F := Ideal) c i arg3 harg3 arg4 harg4 arg5 harg5 arg6 harg6 arg13 arg14 x0 x1 x2 x3) (kernelRun0_B.sl.v285 (F := Ideal) c i arg3 harg3 arg4 harg4 arg5 harg5 arg6 harg6 arg13 arg14 x0 x1 x2 x3) (kernelRun0_B.sl.v340 (F := Ideal) c i arg3 harg3 arg4 harg4 arg5 harg5 arg6 harg6 arg13 arg14 x0 x1 x2 x3) (kernelRun0_B.sl.v393 (F := Ideal) c i arg3 harg3 arg4 harg4 arg5 harg5 arg6 harg6 arg13 arg14 x0 x1 x2 x3) (kernelRun0_B.sl.v445 (F := Ideal) c i arg3 harg3 arg4 harg4 arg5 harg5 arg6 harg6 arg13 arg14 x0 x1 x2 x3)
    (fun R j _ => dot_eq hq H1 (512 * (i 2).val) _ j (by omega) (by omega) (fun c => (arg4.view.readAt (Elt Ideal) (Rect.unit (s := S4096x128) (k0_off1 i) S512x128.size (k0_off1_inb i)).toLoadRect (harg4.unread x1)) (ix2 j c)) (fun g => k0_pay64 (F := Ideal) (arg6.view.readAt (Elt Ideal) (Rect.unit (s := S1x1x4x4096) (k0_off2 i) S1x1x4x512.size (k0_off2_inb i)).toLoadRect (harg6.unread x3)) (ix2 g j))
      (fun c => ld512 arg4 harg4 x1 _ _ (off1 i) _ j c (by omega)) (fun g => (row512 _ g j).trans (lc512 arg6 harg6 x3 _ _ (off2 i) _ g j (by omega))) R)
    (fun j d => (one512 _ j d).trans (val_eq H2 (512 * (i 2).val) _ j (by omega) (by omega) (fun c => (arg5.view.readAt (Elt Ideal) (Rect.unit (s := S4096x128) (k0_off1 i) S512x128.size (k0_off1_inb i)).toLoadRect (harg5.unread x2)) (ix2 j c)) (fun c => ld512 arg5 harg5 x2 _ _ (off1 i) _ j c (by omega)) d))
    rfl rfl
    rfl rfl (fun r l => cov_m256 arg13.view (kernelRun0_B.sl.HS0_1 (F := Ideal)) 0 (by omega) inb_S2048x128_S256x128_0_0 r l) (fun r l => cov_a256 arg14.view (kernelRun0_B.sl.HS1_1 (F := Ideal)) 0 (by omega) inb_S2048x256_S256x256_0_0 r l)
    rfl rfl (fun r l => cov_m256 arg13.view (kernelRun0_B.sl.HS0_2 (F := Ideal) c i arg3 harg3 arg4 harg4 arg6 harg6 arg13 x0 x1 x3) 256 (by omega) inb_S2048x128_S256x128_256_0 r l) (fun r l => cov_a256 arg14.view (kernelRun0_B.sl.HS1_2 (F := Ideal) c i arg3 harg3 arg4 harg4 arg5 harg5 arg6 harg6 arg13 arg14 x0 x1 x2 x3) 256 (by omega) inb_S2048x256_S256x256_256_0 r l)
    rfl rfl (fun r l => cov_m256 arg13.view (kernelRun0_B.sl.HS0_3 (F := Ideal) c i arg3 harg3 arg4 harg4 arg6 harg6 arg13 x0 x1 x3) 512 (by omega) inb_S2048x128_S256x128_512_0 r l) (fun r l => cov_a256 arg14.view (kernelRun0_B.sl.HS1_3 (F := Ideal) c i arg3 harg3 arg4 harg4 arg5 harg5 arg6 harg6 arg13 arg14 x0 x1 x2 x3) 512 (by omega) inb_S2048x256_S256x256_512_0 r l)
    rfl rfl (fun r l => cov_m256 arg13.view (kernelRun0_B.sl.HS0_4 (F := Ideal) c i arg3 harg3 arg4 harg4 arg6 harg6 arg13 x0 x1 x3) 768 (by omega) inb_S2048x128_S256x128_768_0 r l) (fun r l => cov_a256 arg14.view (kernelRun0_B.sl.HS1_4 (F := Ideal) c i arg3 harg3 arg4 harg4 arg5 harg5 arg6 harg6 arg13 arg14 x0 x1 x2 x3) 768 (by omega) inb_S2048x256_S256x256_768_0 r l)
    rfl rfl (fun r l => cov_m256 arg13.view (kernelRun0_B.sl.HS0_5 (F := Ideal) c i arg3 harg3 arg4 harg4 arg6 harg6 arg13 x0 x1 x3) 1024 (by omega) inb_S2048x128_S256x128_1024_0 r l) (fun r l => cov_a256 arg14.view (kernelRun0_B.sl.HS1_5 (F := Ideal) c i arg3 harg3 arg4 harg4 arg5 harg5 arg6 harg6 arg13 arg14 x0 x1 x2 x3) 1024 (by omega) inb_S2048x256_S256x256_1024_0 r l)
    rfl rfl (fun r l => cov_m256 arg13.view (kernelRun0_B.sl.HS0_6 (F := Ideal) c i arg3 harg3 arg4 harg4 arg6 harg6 arg13 x0 x1 x3) 1280 (by omega) inb_S2048x128_S256x128_1280_0 r l) (fun r l => cov_a256 arg14.view (kernelRun0_B.sl.HS1_6 (F := Ideal) c i arg3 harg3 arg4 harg4 arg5 harg5 arg6 harg6 arg13 arg14 x0 x1 x2 x3) 1280 (by omega) inb_S2048x256_S256x256_1280_0 r l)
    rfl rfl (fun r l => cov_m256 arg13.view (kernelRun0_B.sl.HS0_7 (F := Ideal) c i arg3 harg3 arg4 harg4 arg6 harg6 arg13 x0 x1 x3) 1536 (by omega) inb_S2048x128_S256x128_1536_0 r l) (fun r l => cov_a256 arg14.view (kernelRun0_B.sl.HS1_7 (F := Ideal) c i arg3 harg3 arg4 harg4 arg5 harg5 arg6 harg6 arg13 arg14 x0 x1 x2 x3) 1536 (by omega) inb_S2048x256_S256x256_1536_0 r l)
    rfl rfl (fun r l => cov_m256 arg13.view (kernelRun0_B.sl.HS0_8 (F := Ideal) c i arg3 harg3 arg4 harg4 arg6 harg6 arg13 x0 x1 x3) 1792 (by omega) inb_S2048x128_S256x128_1792_0 r l) (fun r l => cov_a256 arg14.view (kernelRun0_B.sl.HS1_8 (F := Ideal) c i arg3 harg3 arg4 harg4 arg5 harg5 arg6 harg6 arg13 arg14 x0 x1 x2 x3) 1792 (by omega) inb_S2048x256_S256x256_1792_0 r l)

theorem loopB (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) :
    Rows a w (kset (16 + 512 * (i 2).val) (k0_t1_loop i).trips) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).1 ++ (kernelRun0_B.sl.HS0_9 (F := Ideal) c i arg3 harg3 arg4 harg4 arg6 harg6 arg13 x0 x1 x3))) (canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).2 ++ (kernelRun0_B.sl.HS1_9 (F := Ideal) c i arg3 harg3 arg4 harg4 arg5 harg5 arg6 harg6 arg13 arg14 x0 x1 x2 x3))) := by
  have hi : (i 2).val < 8 := (i 2).isLt
  have ht := trips1 i
  have hq := qv_apply arg3 harg3 x0
  refine loop_rows c i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) rfl (fun k R j => ?_) (fun k j d => ?_) (kernelRun0_B.sl.HS0_9 (F := Ideal) c i arg3 harg3 arg4 harg4 arg6 harg6 arg13 x0 x1 x3) (kernelRun0_B.sl.HS1_9 (F := Ideal) c i arg3 harg3 arg4 harg4 arg5 harg5 arg6 harg6 arg13 arg14 x0 x1 x2 x3) (diagB c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 H1 H2 H3 H4) _ le_rfl
  · have hk := k.isLt
    exact dot_eq hq H1 (1024 * k.val) _ j (by omega) (by omega) (fun c => kT i arg4 (harg4.unread x1) k (ix2 j c)) (fun g => cT i arg6 (harg6.unread x3) k (ix2 g j))
      (fun c => ld1024 arg4 harg4 x1 _ _ (off3 i k) _ j c (by omega)) (fun g => (row1024 _ g j).trans (lc1024 arg6 harg6 x3 _ _ (off4 i k) _ g j (by omega))) R
  · have hk := k.isLt
    exact (one1024 _ j d).trans (val_eq H2 (1024 * k.val) _ j (by omega) (by omega)
      (fun c => arg5.view.readAt (Elt Ideal) (Rect.unit (s := S4096x128) (k0_off3 i k) S1024x128.size (k0_off3_inb i k)).toLoadRect (harg5.unread x2) (ix2 j c)) (fun c => ld1024 arg5 harg5 x2 _ _ (off3 i k) _ j c (by omega)) d)

theorem leftB (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) (hp : (i 2).val % 2 = 1) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) :
    Rows a w (fun R => kset (16 + 512 * (i 2).val) (k0_t1_loop i).trips R ∪ Finset.Ico (16 + 512 * ((i 2).val - 1)) (16 + 512 * (i 2).val)) (canon (kernelRun0_B.sl.HS0_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (canon (kernelRun0_B.sl.HS1_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) := by
  have hi : (i 2).val < 8 := (i 2).isLt
  have ht := trips1 i
  have hq := qv_apply arg3 harg3 x0
  have hz : Scf.trips (k0_t2_loop i).lb (k0_t2_loop i).ub (k0_t2_loop i).st = 0 := trips2 i
  have e0 : (kernelRun0_B.sl.HS0_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) = ⟨Rect.unit (s := S2048x128) ![0, 0] S512x128.size inb_S2048x128_S512x128_0_0, shapeCast S512x128 (M512_512 (Y512 (kernelRun0_B.sl.r (F := Ideal) c arg3 harg3 x0) (kernelRun0_B.sl.r_25 (F := Ideal) i arg4 harg4 hc0 x1) (kernelRun0_B.sl.v696 (F := Ideal) i arg6 harg6 hc0 x3) 0 0 slices_S2048x128_o0_0_S512x128 slices_S4x512_o0_0_S1x512) (kernelRun0_B.sl.v709 (F := Ideal) c i arg3 harg3 arg4 harg4 arg5 harg5 arg6 harg6 arg7 harg7 arg8 harg8 arg9 harg9 arg10 harg10 arg11 harg11 arg12 harg12 arg13 harg13 arg14 harg14 x0 x1 x2 x3)) shapeCasts_S512x128_S512x128⟩ :: ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).1 ++ (kernelRun0_B.sl.HS0_9 (F := Ideal) c i arg3 harg3 arg4 harg4 arg6 harg6 arg13 x0 x1 x3)) := by
    unfold kernelRun0_B.sl.HS0_1_1
    rw [hz]
    rfl
  have e1 : (kernelRun0_B.sl.HS1_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) = ⟨Rect.unit (s := S2048x256) ![0, 0] S512x256.size inb_S2048x256_S512x256_0_0, shapeCast S512x256 (A512_512 (Y512 (kernelRun0_B.sl.r (F := Ideal) c arg3 harg3 x0) (kernelRun0_B.sl.r_25 (F := Ideal) i arg4 harg4 hc0 x1) (kernelRun0_B.sl.v696 (F := Ideal) i arg6 harg6 hc0 x3) 0 0 slices_S2048x128_o0_0_S512x128 slices_S4x512_o0_0_S1x512) (kernelRun0_B.sl.v709 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_B.sl.v719 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_B.sl.v698 (F := Ideal) i arg5 harg5 hc0 x2)) shapeCasts_S512x256_S512x256⟩ :: ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).2 ++ (kernelRun0_B.sl.HS1_9 (F := Ideal) c i arg3 harg3 arg4 harg4 arg5 harg5 arg6 harg6 arg13 arg14 x0 x1 x2 x3)) := by
    unfold kernelRun0_B.sl.HS1_1_1
    rw [hz]
    rfl
  have em : ∀ r l, (kernelRun0_B.sl.v709 (F := Ideal) c i arg3 harg3 arg4 harg4 arg5 harg5 arg6 harg6 arg7 harg7 arg8 harg8 arg9 harg9 arg10 harg10 arg11 harg11 arg12 harg12 arg13 harg13 arg14 harg14 x0 x1 x2 x3) (ix2 r l) = canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).1 ++ (kernelRun0_B.sl.HS0_9 (F := Ideal) c i arg3 harg3 arg4 harg4 arg6 harg6 arg13 x0 x1 x3)) (ix2 ⟨0 + r.val, by omega⟩ l) := fun r l => by
    unfold kernelRun0_B.sl.v709
    rw [hz]
    exact rd_m512 arg13.view ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).1 ++ (kernelRun0_B.sl.HS0_9 (F := Ideal) c i arg3 harg3 arg4 harg4 arg6 harg6 arg13 x0 x1 x3)) 0 (by omega) inb_S2048x128_S512x128_0_0 r l
  have es : ∀ r l, (kernelRun0_B.sl.v719 (F := Ideal) c i arg3 harg3 arg4 harg4 arg5 harg5 arg6 harg6 arg7 harg7 arg8 harg8 arg9 harg9 arg10 harg10 arg11 harg11 arg12 harg12 arg13 harg13 arg14 harg14 x0 x1 x2 x3) (ix2 r l) = canon ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).2 ++ (kernelRun0_B.sl.HS1_9 (F := Ideal) c i arg3 harg3 arg4 harg4 arg5 harg5 arg6 harg6 arg13 arg14 x0 x1 x2 x3)) (ix2 ⟨0 + r.val, by omega⟩ l) := fun r l => by
    unfold kernelRun0_B.sl.v719
    rw [hz]
    exact rd_a512 arg14.view ((pb_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_B.sl.r (F := Ideal) c arg3 harg3 x0) (2#32) (kernelRun0_B.sl.v457 i) (kernelRun0_B.sl.v462 i) (1#32) (0#32) (harg4.unread x1) (harg5.unread x2) (harg6.unread x3) (arg13.view.writes (Elt Ideal) arg13.view.junk (kernelRun0_B.sl.HS0_9 (F := Ideal) c i arg3 harg3 arg4 harg4 arg6 harg6 arg13 x0 x1 x3)) (arg14.view.writes (Elt Ideal) arg14.view.junk (kernelRun0_B.sl.HS1_9 (F := Ideal) c i arg3 harg3 arg4 harg4 arg5 harg5 arg6 harg6 arg13 arg14 x0 x1 x2 x3)) (k0_t1_loop i).trips).2 ++ (kernelRun0_B.sl.HS1_9 (F := Ideal) c i arg3 harg3 arg4 harg4 arg5 harg5 arg6 harg6 arg13 arg14 x0 x1 x2 x3)) 0 (by omega) inb_S2048x256_S512x256_0_0 r l
  have hd : ∀ (R : Fin 2048) (j : Fin 512), (fun _ => True) j → (∑ cc, ((kernelRun0_B.sl.r (F := Ideal) c arg3 harg3 x0) (ix2 R cc) * (kernelRun0_B.sl.r_25 (F := Ideal) i arg4 harg4 hc0 x1) (ix2 j cc) : EReal)) - (kernelRun0_B.sl.v696 (F := Ideal) i arg6 harg6 hc0 x3) (ix2 ⟨R.val / 512, by omega⟩ j) = ((a R (16 + 512 * ((i 2).val - 1) + j.val) : ℝ) : EReal) := fun R j _ =>
    dot_eq hq H1 (512 * ((i 2).val - 1)) _ j (by omega) (by omega) (fun cc => (kernelRun0_B.sl.r_25 (F := Ideal) i arg4 harg4 hc0 x1) (ix2 j cc)) (fun g => (kernelRun0_B.sl.v696 (F := Ideal) i arg6 harg6 hc0 x3) (ix2 g j))
      (fun c => ld512 arg4 harg4 x1 _ _ (off7 i hp) _ j c (by omega)) (fun g => (row512 (arg6.view.readAt (Elt Ideal) (Rect.unit (s := S1x1x4x4096) (k0_off8 i) S1x1x4x512.size (k0_off8_inb i hc0)).toLoadRect (harg6.unread x3)) g j).trans (lc512 arg6 harg6 x3 _ _ (off8 i hp) _ g j (by omega))) R
  have hy := yrow512 (vis := fun _ => True) (key := fun j => 16 + 512 * ((i 2).val - 1) + j.val) hd
  have hy := fun p o g hop hgp ho hg r j => hy p o g hop hgp (ho := ho) (hg := hg) r j trivial
  refine four512 (L0_1 := (kernelRun0_B.sl.HS0_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L0_2 := (kernelRun0_B.sl.HS0_2_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L0_3 := (kernelRun0_B.sl.HS0_3_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L0_4 := (kernelRun0_B.sl.HS0_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L1_1 := (kernelRun0_B.sl.HS1_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L1_2 := (kernelRun0_B.sl.HS1_2_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L1_3 := (kernelRun0_B.sl.HS1_3_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L1_4 := (kernelRun0_B.sl.HS1_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (loopB c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 H1 H2 H3 H4) (Y512 (kernelRun0_B.sl.r (F := Ideal) c arg3 harg3 x0) (kernelRun0_B.sl.r_25 (F := Ideal) i arg4 harg4 hc0 x1) (kernelRun0_B.sl.v696 (F := Ideal) i arg6 harg6 hc0 x3) 0 0 slices_S2048x128_o0_0_S512x128 slices_S4x512_o0_0_S1x512) (Y512 (kernelRun0_B.sl.r (F := Ideal) c arg3 harg3 x0) (kernelRun0_B.sl.r_25 (F := Ideal) i arg4 harg4 hc0 x1) (kernelRun0_B.sl.v696 (F := Ideal) i arg6 harg6 hc0 x3) 512 1 slices_S2048x128_o512_0_S512x128 slices_S4x512_o1_0_S1x512) (Y512 (kernelRun0_B.sl.r (F := Ideal) c arg3 harg3 x0) (kernelRun0_B.sl.r_25 (F := Ideal) i arg4 harg4 hc0 x1) (kernelRun0_B.sl.v696 (F := Ideal) i arg6 harg6 hc0 x3) 1024 2 slices_S2048x128_o1024_0_S512x128 slices_S4x512_o2_0_S1x512) (Y512 (kernelRun0_B.sl.r (F := Ideal) c arg3 harg3 x0) (kernelRun0_B.sl.r_25 (F := Ideal) i arg4 harg4 hc0 x1) (kernelRun0_B.sl.v696 (F := Ideal) i arg6 harg6 hc0 x3) 1536 3 slices_S2048x128_o1536_0_S512x128 slices_S4x512_o3_0_S1x512) (kernelRun0_B.sl.v709 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_B.sl.v739 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v769 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v797 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v719 (F := Ideal) c i arg3 harg3 arg4 harg4 arg5 harg5 arg6 harg6 arg7 harg7 arg8 harg8 arg9 harg9 arg10 harg10 arg11 harg11 arg12 harg12 arg13 harg13 arg14 harg14 x0 x1 x2 x3) (kernelRun0_B.sl.v749 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v779 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v807 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v698 (F := Ideal) i arg5 harg5 hc0 x2)
    (fun j => 16 + 512 * ((i 2).val - 1) + j.val) (fun _ => True)
    e0 e1 em es (fun r j => (hy 0 0 0 (by decide) (by decide) _ _ r j).trans (if_pos trivial).symm)
    rfl rfl (fun r l => rd_m512 arg13.view (kernelRun0_B.sl.HS0_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 512 (by omega) inb_S2048x128_S512x128_512_0 r l) (fun r l => rd_a512 arg14.view (kernelRun0_B.sl.HS1_1_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 512 (by omega) inb_S2048x256_S512x256_512_0 r l) (fun r j => (hy 1 512 1 (by decide) (by decide) _ _ r j).trans (if_pos trivial).symm)
    rfl rfl (fun r l => rd_m512 arg13.view (kernelRun0_B.sl.HS0_2_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 1024 (by omega) inb_S2048x128_S512x128_1024_0 r l) (fun r l => rd_a512 arg14.view (kernelRun0_B.sl.HS1_2_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 1024 (by omega) inb_S2048x256_S512x256_1024_0 r l) (fun r j => (hy 2 1024 2 (by decide) (by decide) _ _ r j).trans (if_pos trivial).symm)
    rfl rfl (fun r l => rd_m512 arg13.view (kernelRun0_B.sl.HS0_3_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 1536 (by omega) inb_S2048x128_S512x128_1536_0 r l) (fun r l => rd_a512 arg14.view (kernelRun0_B.sl.HS1_3_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 1536 (by omega) inb_S2048x256_S512x256_1536_0 r l) (fun r j => (hy 3 1536 3 (by decide) (by decide) _ _ r j).trans (if_pos trivial).symm)
    (fun j _ d => (one512 (arg5.view.readAt (Elt Ideal) (Rect.unit (s := S4096x128) (k0_off7 i) S512x128.size (k0_off7_inb i hc0)).toLoadRect (harg5.unread x2)) j d).trans (val_eq H2 (512 * ((i 2).val - 1)) _ j (by omega) (by omega) (fun c => (arg5.view.readAt (Elt Ideal) (Rect.unit (s := S4096x128) (k0_off7 i) S512x128.size (k0_off7_inb i hc0)).toLoadRect (harg5.unread x2)) (ix2 j c)) (fun c => ld512 arg5 harg5 x2 _ _ (off7 i hp) _ j c (by omega)) d))
    (fun i j e => Fin.ext (by omega)) (fun R _ j _ => ?_) (fun R _ x => ?_)
  · unfold kset own
    simp only [Finset.mem_union, Finset.mem_Icc, Finset.mem_Ico]
    omega
  · simp only [Finset.mem_union, Finset.mem_Ico, true_and]
    refine or_congr_right ⟨fun hx => ⟨⟨x - (16 + 512 * ((i 2).val - 1)), by omega⟩, by simp only; omega⟩, fun ⟨j, hj⟩ => by omega⟩

theorem caseB (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) (hp : (i 2).val % 2 = 1) {a : Fin 2048 → ℕ → ℝ} {w : ℕ → Fin 256 → EReal}
    (H1 : ∀ (R : Fin 2048) (n : Fin 4096), (∑ c : Fin 128, ((x0 : FVec Ideal S512x512 .bf16) (ix2 ⟨R.val % 512, by omega⟩ ⟨128 * (R.val / 512) + c.val, by omega⟩) * (x1 : FVec Ideal S4096x128 .bf16) (ix2 n c) : EReal)) - (x3 : FVec Ideal S1x1x4x4096 .f32) (ix4 0 0 ⟨R.val / 512, by omega⟩ n) = ((a R (16 + n.val) : ℝ) : EReal))
    (H2 : ∀ (n : Fin 4096) (d : Fin 256), (if h : d.val < 128 then (x2 : FVec Ideal S4096x128 .bf16) (ix2 n ⟨d.val, h⟩) else (1 : EReal)) = w (16 + n.val) d)
    (H3 : ∀ (R : Fin 2048) (j : Fin 128), j.val < 16 → (∑ c : Fin 128, ((x0 : FVec Ideal S512x512 .bf16) (ix2 ⟨R.val % 512, by omega⟩ ⟨128 * (R.val / 512) + c.val, by omega⟩) * (x4 : FVec Ideal S128x128 .bf16) (ix2 j c) : EReal)) - (x6 : FVec Ideal S1x1x4x128 .f32) (ix4 0 0 ⟨R.val / 512, by omega⟩ j) = ((a R j.val : ℝ) : EReal))
    (H4 : ∀ (j : Fin 128), j.val < 16 → ∀ d : Fin 256, (if h : d.val < 128 then (x5 : FVec Ideal S128x128 .bf16) (ix2 j ⟨d.val, h⟩) else (1 : EReal)) = w j.val d) (R : Fin 2048) :
    ∃ mx, Seen (a R) w (Finset.range (17 + 512 * (i 2).val + R.val % 512)) mx (fun d => (kernelRun0_B.sl.v636 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) (ix2 R d)) := by
  have hi : (i 2).val < 8 := (i 2).isLt
  have ht := trips1 i
  have hq := qv_apply arg3 harg3 x0
  have hk : ∀ (j cc : Fin 128), (kernelRun0_B.sl.r_26 (F := Ideal) c arg7 harg7 x4) (ix2 j cc) = x4 (ix2 j cc) := fun j cc => by
    refine (congrFun (key128 (arg7.view.readAt (Elt Ideal) (Rect.unit (s := S128x128) ![0, 0] S128x128.size inb_S128x128_S128x128_0_0).toLoadRect (harg7.unread x4))) _).trans ((ld128 arg7 harg7 x4 ![0, 0] 0 rfl _ _ _ (by omega)).trans ?_)
    exact congrArg (fun t => x4 (ix2 t cc)) (Fin.ext (Nat.zero_add _))
  have hc : ∀ (g : Fin 4) (j : Fin 128), (kernelRun0_B.sl.r_27 (F := Ideal) c arg9 harg9 x6) (ix2 g j) = x6 (ix4 0 0 g j) := fun g j => by
    refine (row128 _ g j).trans ((lc128 arg9 harg9 x6 ![0, 0, 0, 0] 0 rfl _ _ _ (by omega)).trans ?_)
    exact congrArg (fun t => x6 (ix4 0 0 g t)) (Fin.ext (Nat.zero_add _))
  have hx : ∀ (j c : Fin 128), (arg8.view.readAt (Elt Ideal) (Rect.unit (s := S128x128) ![0, 0] S128x128.size inb_S128x128_S128x128_0_0).toLoadRect (harg8.unread x5)) (ix2 j c) = x5 (ix2 j c) := fun j c => by
    refine (ld128 arg8 harg8 x5 ![0, 0] 0 rfl _ _ _ (by omega)).trans ?_
    exact congrArg (fun t => x5 (ix2 t c)) (Fin.ext (Nat.zero_add _))
  have hd : ∀ (R : Fin 2048) (j : Fin 128), j.val < 16 → (∑ cc, ((kernelRun0_B.sl.r (F := Ideal) c arg3 harg3 x0) (ix2 R cc) * (kernelRun0_B.sl.r_26 (F := Ideal) c arg7 harg7 x4) (ix2 j cc) : EReal)) - (kernelRun0_B.sl.r_27 (F := Ideal) c arg9 harg9 x6) (ix2 ⟨R.val / 512, by omega⟩ j) = ((a R j.val : ℝ) : EReal) := fun R j hj => by
    rw [hc]
    refine Eq.trans ?_ (H3 R j hj)
    refine congrArg (· - _) (Finset.sum_congr rfl fun cc _ => ?_)
    rw [hk]
    exact congrArg (· * _) (hq R cc)
  have hv : ∀ j : Fin 128, j.val < 16 → ∀ d, (kernelRun0_B.sl.r_28 (F := Ideal) c arg8 harg8 x5) (ix2 j d) = w j.val d := fun j hj d => by
    refine (one128 (arg8.view.readAt (Elt Ideal) (Rect.unit (s := S128x128) ![0, 0] S128x128.size inb_S128x128_S128x128_0_0).toLoadRect (harg8.unread x5)) j d).trans (Eq.trans ?_ (H4 j hj d))
    by_cases h : d.val < 128
    · rw [dif_pos h, dif_pos h, hx]
    · rw [dif_neg h, dif_neg h]
  have hm := meta16 (KA := fun R => Finset.range (17 + 512 * (i 2).val + R % 512)) (L0_0 := (kernelRun0_B.sl.HS0_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L1_0 := (kernelRun0_B.sl.HS1_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3)) (L0_1 := (kernelRun0_B.sl.HS0_5_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6)) (L0_2 := (kernelRun0_B.sl.HS0_6_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6)) (L0_3 := (kernelRun0_B.sl.HS0_7_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6)) (L1_1 := (kernelRun0_B.sl.HS1_5_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6)) (L1_2 := (kernelRun0_B.sl.HS1_6_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6)) (L1_3 := (kernelRun0_B.sl.HS1_7_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6)) (L1_4 := (kernelRun0_B.sl.HS1_8_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6)) (leftB c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 hp H1 H2 H3 H4) (kernelRun0_B.sl.r (F := Ideal) c arg3 harg3 x0) (kernelRun0_B.sl.r_26 (F := Ideal) c arg7 harg7 x4) (kernelRun0_B.sl.r_27 (F := Ideal) c arg9 harg9 x6) (kernelRun0_B.sl.r_28 (F := Ideal) c arg8 harg8 x5) (kernelRun0_B.sl.v515 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v549 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) (kernelRun0_B.sl.v583 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) (kernelRun0_B.sl.v615 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) (kernelRun0_B.sl.v524 (F := Ideal) c i arg3 harg3 arg4 harg4 arg5 harg5 arg6 harg6 arg7 harg7 arg8 harg8 arg9 harg9 arg10 harg10 arg11 harg11 arg12 harg12 arg13 harg13 arg14 harg14 hc0 x0 x1 x2 x3) (kernelRun0_B.sl.v558 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) (kernelRun0_B.sl.v592 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) (kernelRun0_B.sl.v624 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) hd hv
    rfl rfl (fun r l => cov_m512 arg13.view (kernelRun0_B.sl.HS0_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 0 (by omega) inb_S2048x128_S512x128_0_0 r l) (fun r l => cov_a512 arg14.view (kernelRun0_B.sl.HS1_4_1 (F := Ideal) c i arg3 harg3 arg4 harg4 arg5 harg5 arg6 harg6 arg7 harg7 arg8 harg8 arg9 harg9 arg10 harg10 arg11 harg11 arg12 harg12 arg13 harg13 arg14 harg14 hc0 x0 x1 x2 x3) 0 (by omega) inb_S2048x256_S512x256_0_0 r l)
    rfl rfl (fun r l => cov_m512 arg13.view (kernelRun0_B.sl.HS0_5_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) 512 (by omega) inb_S2048x128_S512x128_512_0 r l) (fun r l => cov_a512 arg14.view (kernelRun0_B.sl.HS1_5_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) 512 (by omega) inb_S2048x256_S512x256_512_0 r l)
    rfl rfl (fun r l => cov_m512 arg13.view (kernelRun0_B.sl.HS0_6_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) 1024 (by omega) inb_S2048x128_S512x128_1024_0 r l) (fun r l => cov_a512 arg14.view (kernelRun0_B.sl.HS1_6_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) 1024 (by omega) inb_S2048x256_S512x256_1024_0 r l)
    rfl (fun r l => cov_m512 arg13.view (kernelRun0_B.sl.HS0_7_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x6) 1536 (by omega) inb_S2048x128_S512x128_1536_0 r l) (fun r l => cov_a512 arg14.view (kernelRun0_B.sl.HS1_7_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) 1536 (by omega) inb_S2048x256_S512x256_1536_0 r l)
    (fun R _ j hj => by
      unfold kset own
      simp only [Finset.mem_union, Finset.mem_Icc, Finset.mem_Ico]
      omega)
    (fun R _ x => by
      unfold kset own
      simp only [Finset.mem_union, Finset.mem_Icc, Finset.mem_Ico, Finset.mem_range]
      refine ⟨fun hx => ?_, fun hx => ?_⟩
      · by_cases h : x < 16
        · exact Or.inr ⟨⟨x, by omega⟩, h, rfl⟩
        · left
          omega
      · rcases hx with hx | ⟨j, hj⟩
        · omega
        · omega)
  obtain ⟨L0', hm⟩ := hm
  have e : (fun d => (kernelRun0_B.sl.v636 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) (ix2 R d)) = fun d => canon (kernelRun0_B.sl.HS1_8_1 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) (ix2 R d) :=
    funext fun d => cov_whole arg14.view _ inb_S2048x256_S2048x256_0_0 R d
  rw [e]
  exact ⟨_, hm R⟩

end Cert.Kernel7Ideal.Fox

end
-- ==== Proof.FoxOut.lean ====
/- What a grid point of the attention leaves: each head's quotient, gated, and the other half of the sum. -/
module

public import proofs.«01_k».proof.Proof.FoxCaseA
public import proofs.«01_k».proof.Proof.FoxCaseB
public import Idealize.ShloMosaic.Lib.Pipeline.ValueKit
public import Idealize.ShloMosaic.Lib.Pointwise
public import Idealize.ShloMosaic.Lib.Tactic
public import Idealize.ShloMosaic.Lib.WholeRead

@[expose] public section

set_option maxRecDepth 16384

noncomputable section

namespace Cert.Kernel7Ideal.Fox

open Idealize.ShloMosaic.View (canon canon_cons_emb canon_cons_of_not_mem)
open Idealize.ShloMosaic Idealize.ShloMosaic.TcCoe Idealize.SL.Sem Cert.Kernel7Ideal Cert.Kernel7Ideal.Gen Cert.FoxRow

theorem pay_0 (v : FVec Ideal S2048x256 .f32) (g s : FVec Ideal S512x128 .bf16) (r : Fin 512) (d : Fin 128) :
    (k0_pay150 v g s : FVec Ideal S512x128 .bf16) (ix2 r d) = Ideal.div (v (ix2 ⟨r.val, by omega⟩ ⟨d.val, by omega⟩)) (v (ix2 ⟨r.val, by omega⟩ ⟨128 + d.val, by omega⟩)) * g (ix2 r d) + s (ix2 r d) := by
  unfold k0_pay150 k0_pay149
  dsimp only
  pointwise

theorem pay_512 (v : FVec Ideal S2048x256 .f32) (g s : FVec Ideal S512x128 .bf16) (r : Fin 512) (d : Fin 128) :
    (k0_pay151 v g s : FVec Ideal S512x128 .bf16) (ix2 r d) = Ideal.div (v (ix2 ⟨512 + r.val, by omega⟩ ⟨d.val, by omega⟩)) (v (ix2 ⟨512 + r.val, by omega⟩ ⟨128 + d.val, by omega⟩)) * g (ix2 r d) + s (ix2 r d) := by
  unfold k0_pay151 k0_pay149
  dsimp only
  pointwise

theorem pay_1024 (v : FVec Ideal S2048x256 .f32) (g s : FVec Ideal S512x128 .bf16) (r : Fin 512) (d : Fin 128) :
    (k0_pay1 (k0_pay152 v g) s : FVec Ideal S512x128 .bf16) (ix2 r d) = Ideal.div (v (ix2 ⟨1024 + r.val, by omega⟩ ⟨d.val, by omega⟩)) (v (ix2 ⟨1024 + r.val, by omega⟩ ⟨128 + d.val, by omega⟩)) * g (ix2 r d) + s (ix2 r d) := by
  unfold k0_pay1 k0_pay152 k0_pay149
  dsimp only
  pointwise

theorem pay_1536 (v : FVec Ideal S2048x256 .f32) (g s : FVec Ideal S512x128 .bf16) (r : Fin 512) (d : Fin 128) :
    (k0_pay2 (k0_pay149 v) g s : FVec Ideal S512x128 .bf16) (ix2 r d) = Ideal.div (v (ix2 ⟨1536 + r.val, by omega⟩ ⟨d.val, by omega⟩)) (v (ix2 ⟨1536 + r.val, by omega⟩ ⟨128 + d.val, by omega⟩)) * g (ix2 r d) + s (ix2 r d) := by
  unfold k0_pay2 k0_pay149
  dsimp only
  pointwise

theorem emb_c (o : ℕ) (ho : o + 128 ≤ 512) (inb : ∀ a, (![0, o] : Fin 2 → ℕ) a + S512x128.size a ≤ S512x512.size a) (r : Fin 512) (d : Fin 128) :
    (Rect.unit (s := S512x512) ![0, o] S512x128.size inb).emb (ix2 r d) = ix2 r ⟨o + d.val, by omega⟩ := by
  funext x
  refine Fin.cases ?_ (fun x => ?_) x
  · refine Fin.ext ?_
    change 0 + 1 * r.val = r.val
    omega
  · refine Fin.cases ?_ (fun x => x.elim0) x
    refine Fin.ext ?_
    change o + 1 * d.val = o + d.val
    omega

/-- A store's own columns. -/
theorem hit_c (o : ℕ) (ho : o + 128 ≤ 512) (inb : ∀ a, (![0, o] : Fin 2 → ℕ) a + S512x128.size a ≤ S512x512.size a) (p : FVec Ideal S512x128 .bf16)
    (L : List (View.Piece (Elt Ideal) S512x512 .bf16)) (r : Fin 512) (d : Fin 128) (e : Fin 512) (he : e.val = o + d.val) :
    canon (⟨Rect.unit (s := S512x512) ![0, o] S512x128.size inb, p⟩ :: L) (ix2 r e) = p (ix2 r d) := by
  rw [show (ix2 r e : S512x512.Idx) = (Rect.unit (s := S512x512) ![0, o] S512x128.size inb).emb (ix2 r d) by
    rw [emb_c o ho inb r d]; exact congrArg (fun e => (ix2 r e : S512x512.Idx)) (Fin.ext he)]
  exact canon_cons_emb _ _ _ _

/-- The columns a store leaves. -/
theorem miss_c (o : ℕ) (inb : ∀ a, (![0, o] : Fin 2 → ℕ) a + S512x128.size a ≤ S512x512.size a) (p : FVec Ideal S512x128 .bf16)
    (L : List (View.Piece (Elt Ideal) S512x512 .bf16)) (r : Fin 512) (e : Fin 512) (h : ¬ (o ≤ e.val ∧ e.val < o + 128)) :
    canon (⟨Rect.unit (s := S512x512) ![0, o] S512x128.size inb, p⟩ :: L) (ix2 r e) = canon L (ix2 r e) := by
  refine canon_cons_of_not_mem _ _ fun hm => h ?_
  have := (Rect.mem_set_unit (inb := inb)).mp hm 1
  exact this

/-- An entry of the block from the sums, the gates and the other half. -/
def outE (v : FVec Ideal S2048x256 .f32) (x7 x8 : FVec Ideal S512x512 .bf16) (r : Fin 512) (h : Fin 4) (d : Fin 128) : EReal :=
  Ideal.div (v (ix2 ⟨512 * h.val + r.val, by omega⟩ ⟨d.val, by omega⟩)) (v (ix2 ⟨512 * h.val + r.val, by omega⟩ ⟨128 + d.val, by omega⟩)) *
    x7 (ix2 r ⟨128 * h.val + d.val, by omega⟩) + x8 (ix2 r ⟨128 * h.val + d.val, by omega⟩)

theorem outv (v : FVec Ideal S2048x256 .f32) (arg10 : Memref sig .tc .vmem S512x512 .bf16) (harg10 : arg10.IsWhole) (arg11 : Memref sig .tc .vmem S512x512 .bf16) (harg11 : arg11.IsWhole)
    (x7 x8 : FVec Ideal S512x512 .bf16) (r : Fin 512) (h : Fin 4) (d : Fin 128) :
    View.read (Elt Ideal) VO0_9 (VO0_9.writes (Elt Ideal) VO0_9.junk [(⟨Rect.unit (s := S512x512) ![0, 384] ![512, 128] inb_S512x512_S512x128_0_384, k0_pay2 (k0_pay149 v) (arg10.view.readAt (Elt Ideal) (Rect.unit (s := S512x512) ![0, 384] ![512, 128] inb_S512x512_S512x128_0_384).toLoadRect (harg10.unread x7)) (arg11.view.readAt (Elt Ideal) (Rect.unit (s := S512x512) ![0, 384] ![512, 128] inb_S512x512_S512x128_0_384).toLoadRect (harg11.unread x8))⟩ : View.Piece (Elt Ideal) S512x512 .bf16), (⟨Rect.unit (s := S512x512) ![0, 256] ![512, 128] inb_S512x512_S512x128_0_256, k0_pay1 (k0_pay152 v (arg10.view.readAt (Elt Ideal) (Rect.unit (s := S512x512) ![0, 256] ![512, 128] inb_S512x512_S512x128_0_256).toLoadRect (harg10.unread x7))) (arg11.view.readAt (Elt Ideal) (Rect.unit (s := S512x512) ![0, 256] ![512, 128] inb_S512x512_S512x128_0_256).toLoadRect (harg11.unread x8))⟩ : View.Piece (Elt Ideal) S512x512 .bf16), (⟨Rect.unit (s := S512x512) ![0, 128] ![512, 128] inb_S512x512_S512x128_0_128, k0_pay151 v (arg10.view.readAt (Elt Ideal) (Rect.unit (s := S512x512) ![0, 128] ![512, 128] inb_S512x512_S512x128_0_128).toLoadRect (harg10.unread x7)) (arg11.view.readAt (Elt Ideal) (Rect.unit (s := S512x512) ![0, 128] ![512, 128] inb_S512x512_S512x128_0_128).toLoadRect (harg11.unread x8))⟩ : View.Piece (Elt Ideal) S512x512 .bf16), (⟨Rect.unit (s := S512x512) ![0, 0] ![512, 128] inb_S512x512_S512x128_0_0, k0_pay150 v (arg10.view.readAt (Elt Ideal) (Rect.unit (s := S512x512) ![0, 0] ![512, 128] inb_S512x512_S512x128_0_0).toLoadRect (harg10.unread x7)) (arg11.view.readAt (Elt Ideal) (Rect.unit (s := S512x512) ![0, 0] ![512, 128] inb_S512x512_S512x128_0_0).toLoadRect (harg11.unread x8))⟩ : View.Piece (Elt Ideal) S512x512 .bf16)]) (ix2 r ⟨128 * h.val + d.val, by omega⟩) = outE v x7 x8 r h d := by
  rw [View.read_writes_junk_eq_canon]
  unfold outE
  match h with
  | ⟨0, _⟩ =>
    refine (miss_c 384 inb_S512x512_S512x128_0_384 _ _ r _ (by simp only; omega)).trans ?_
    refine (miss_c 256 inb_S512x512_S512x128_0_256 _ _ r _ (by simp only; omega)).trans ?_
    refine (miss_c 128 inb_S512x512_S512x128_0_128 _ _ r _ (by simp only; omega)).trans ?_
    refine (hit_c 0 (by omega) inb_S512x512_S512x128_0_0 _ _ r d _ (by simp only <;> omega)).trans (((pay_0 v _ _ r d)).trans ?_)
    refine congrArg₂ (· + ·) (congrArg₂ (· * ·) (congrArg₂ Ideal.div (congrArg v ?_) (congrArg v ?_)) ?_) ?_
    · exact congrArg (fun t : Fin 2048 => (ix2 t ⟨d.val, by omega⟩ : S2048x256.Idx)) (Fin.ext (by simp only <;> omega))
    · exact congrArg (fun t : Fin 2048 => (ix2 t ⟨128 + d.val, by omega⟩ : S2048x256.Idx)) (Fin.ext (by simp only <;> omega))
    · refine (ldc arg10 harg10 x7 0 inb_S512x512_S512x128_0_0 r d (by omega)).trans ?_
      exact congrArg (fun t : Fin 512 => x7 (ix2 r t)) (Fin.ext (by simp only <;> omega))
    · refine (ldc arg11 harg11 x8 0 inb_S512x512_S512x128_0_0 r d (by omega)).trans ?_
      exact congrArg (fun t : Fin 512 => x8 (ix2 r t)) (Fin.ext (by simp only <;> omega))
  | ⟨1, _⟩ =>
    refine (miss_c 384 inb_S512x512_S512x128_0_384 _ _ r _ (by simp only; omega)).trans ?_
    refine (miss_c 256 inb_S512x512_S512x128_0_256 _ _ r _ (by simp only; omega)).trans ?_
    refine (hit_c 128 (by omega) inb_S512x512_S512x128_0_128 _ _ r d _ (by simp only <;> omega)).trans (((pay_512 v _ _ r d)).trans ?_)
    refine congrArg₂ (· + ·) (congrArg₂ (· * ·) (congrArg₂ Ideal.div (congrArg v ?_) (congrArg v ?_)) ?_) ?_
    · exact congrArg (fun t : Fin 2048 => (ix2 t ⟨d.val, by omega⟩ : S2048x256.Idx)) (Fin.ext (by simp only <;> omega))
    · exact congrArg (fun t : Fin 2048 => (ix2 t ⟨128 + d.val, by omega⟩ : S2048x256.Idx)) (Fin.ext (by simp only <;> omega))
    · refine (ldc arg10 harg10 x7 128 inb_S512x512_S512x128_0_128 r d (by omega)).trans ?_
      exact congrArg (fun t : Fin 512 => x7 (ix2 r t)) (Fin.ext (by simp only <;> omega))
    · refine (ldc arg11 harg11 x8 128 inb_S512x512_S512x128_0_128 r d (by omega)).trans ?_
      exact congrArg (fun t : Fin 512 => x8 (ix2 r t)) (Fin.ext (by simp only <;> omega))
  | ⟨2, _⟩ =>
    refine (miss_c 384 inb_S512x512_S512x128_0_384 _ _ r _ (by simp only; omega)).trans ?_
    refine (hit_c 256 (by omega) inb_S512x512_S512x128_0_256 _ _ r d _ (by simp only <;> omega)).trans (((pay_1024 v _ _ r d)).trans ?_)
    refine congrArg₂ (· + ·) (congrArg₂ (· * ·) (congrArg₂ Ideal.div (congrArg v ?_) (congrArg v ?_)) ?_) ?_
    · exact congrArg (fun t : Fin 2048 => (ix2 t ⟨d.val, by omega⟩ : S2048x256.Idx)) (Fin.ext (by simp only <;> omega))
    · exact congrArg (fun t : Fin 2048 => (ix2 t ⟨128 + d.val, by omega⟩ : S2048x256.Idx)) (Fin.ext (by simp only <;> omega))
    · refine (ldc arg10 harg10 x7 256 inb_S512x512_S512x128_0_256 r d (by omega)).trans ?_
      exact congrArg (fun t : Fin 512 => x7 (ix2 r t)) (Fin.ext (by simp only <;> omega))
    · refine (ldc arg11 harg11 x8 256 inb_S512x512_S512x128_0_256 r d (by omega)).trans ?_
      exact congrArg (fun t : Fin 512 => x8 (ix2 r t)) (Fin.ext (by simp only <;> omega))
  | ⟨3, _⟩ =>
    refine (hit_c 384 (by omega) inb_S512x512_S512x128_0_384 _ _ r d _ (by simp only <;> omega)).trans (((pay_1536 v _ _ r d)).trans ?_)
    refine congrArg₂ (· + ·) (congrArg₂ (· * ·) (congrArg₂ Ideal.div (congrArg v ?_) (congrArg v ?_)) ?_) ?_
    · exact congrArg (fun t : Fin 2048 => (ix2 t ⟨d.val, by omega⟩ : S2048x256.Idx)) (Fin.ext (by simp only <;> omega))
    · exact congrArg (fun t : Fin 2048 => (ix2 t ⟨128 + d.val, by omega⟩ : S2048x256.Idx)) (Fin.ext (by simp only <;> omega))
    · refine (ldc arg10 harg10 x7 384 inb_S512x512_S512x128_0_384 r d (by omega)).trans ?_
      exact congrArg (fun t : Fin 512 => x7 (ix2 r t)) (Fin.ext (by simp only <;> omega))
    · refine (ldc arg11 harg11 x8 384 inb_S512x512_S512x128_0_384 r d (by omega)).trans ?_
      exact congrArg (fun t : Fin 512 => x8 (ix2 r t)) (Fin.ext (by simp only <;> omega))

theorem outA (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : ¬cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) (r : Fin 512) (h : Fin 4) (d : Fin 128) :
    out0_A_9 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 r ⟨128 * h.val + d.val, by omega⟩) = outE (kernelRun0_A.sl.v636 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6) x7 x8 r h d := by
  unfold out0_A_9 kernelRun0_A
  dsimp only
  unfold kernelRun0_A.sl.r_35 kernelRun0_A.sl.r_36
  exact outv _ arg10 harg10 arg11 harg11 x7 x8 r h d

theorem outB (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4x4096 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x1x4x128 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec Ideal S512x512 .bf16) (x1 : Vec Ideal S4096x128 .bf16) (x2 : Vec Ideal S4096x128 .bf16) (x3 : Vec Ideal S1x1x4x4096 .f32) (x4 : Vec Ideal S128x128 .bf16) (x5 : Vec Ideal S128x128 .bf16) (x6 : Vec Ideal S1x1x4x128 .f32) (x7 : Vec Ideal S512x512 .bf16) (x8 : Vec Ideal S512x512 .bf16) (r : Fin 512) (h : Fin 4) (d : Fin 128) :
    out0_B_9 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 r ⟨128 * h.val + d.val, by omega⟩) = outE (kernelRun0_B.sl.v636 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6) x7 x8 r h d := by
  unfold out0_B_9 kernelRun0_B
  dsimp only
  unfold kernelRun0_B.sl.r_36 kernelRun0_B.sl.r_37
  exact outv _ arg10 harg10 arg11 harg11 x7 x8 r h d

end Cert.Kernel7Ideal.Fox

end
-- ==== Proof.FoxEnd.lean ====
/- The attention after the run: every entry is the quotient of what its row has seen, gated, and the other half of the sum. -/
module

public import proofs.«01_k».proof.Proof.FoxBlk
public import proofs.«01_k».proof.Proof.FoxOut
public import proofs.«01_k».proof.Proof.FoxSpec
public import Idealize.ShloMosaic.Lib.Pipeline.ValueKit
public import Idealize.ShloMosaic.Lib.Pointwise
public import Idealize.ShloMosaic.Lib.Tactic

@[expose] public section

set_option maxRecDepth 16384

noncomputable section

namespace Cert.Kernel7Ideal.Fox

open Idealize.ShloMosaic Idealize.ShloMosaic.TcCoe Idealize.SL.Sem Cert.Kernel7Ideal Cert.Kernel7Ideal.Gen Cert.FoxRow

variable (m : (ℓ : Loc nD τ sig) → Buf (Elt Ideal) ℓ)

/-- Every grid point writes its block back. -/
theorem flush9 : ∀ t : Fin cfg0.N, (cfg0.win 9).flush t = true := by decide +kernel

/-- An entry of the final array is the entry of its block. -/
theorem entry_out (c : Dev nD) (t : Fin cfg0.N) (r : Fin 512) (g : Fin 4) (d : Fin 128) :
    (dats m 0 c).arrAt 9 cfg0.N (ix2 ⟨t.val / 32 * 4096 + (t.val % 8 * 512 + r.val), by have := lt64 t; omega⟩ ⟨t.val / 8 % 4 * 512 + g.val * 128 + d.val, by omega⟩ : S8192x2048.Idx)
      = outsAt0 m c t.val t.isLt (ix2 r ⟨128 * g.val + d.val, by omega⟩) := by
  obtain ⟨e0, e1, e2, e3, e4, e5, e6, e7, e8, e9, e10⟩ := idx0 t
  have ht := lt64 t
  have e := congrFun (Value.blocks9 m c t (flush9 t)) (ix2 r ⟨128 * g.val + d.val, by omega⟩)
  have he : (win0_9.blk t).view.emb (ix2 r ⟨128 * g.val + d.val, by omega⟩) = (ix2 ⟨t.val / 32 * 4096 + (t.val % 8 * 512 + r.val), by omega⟩ ⟨t.val / 8 % 4 * 512 + g.val * 128 + d.val, by omega⟩ : S8192x2048.Idx) := by
    funext a
    apply Fin.ext
    match a with
    | ⟨0, _⟩ => show win0_9.index t 0 * 512 + 1 * r.val = t.val / 32 * 4096 + (t.val % 8 * 512 + r.val); rw [e9]; simp only [Matrix.cons_val_zero]; omega
    | ⟨1, _⟩ => show win0_9.index t 1 * 512 + 1 * (128 * g.val + d.val) = t.val / 8 % 4 * 512 + g.val * 128 + d.val; rw [e9]; simp only [Matrix.cons_val_one, Matrix.cons_val_zero]; omega
  rw [View.read_apply] at e
  rw [Value.flushed9] at e
  have e' : (dats m 0 c).arrAt 9 cfg0.N ((win0_9.blk t).view.emb (ix2 r ⟨128 * g.val + d.val, by omega⟩)) = outsAt0 m c t.val t.isLt (ix2 r ⟨128 * g.val + d.val, by omega⟩) := e
  rw [he] at e'
  exact e'

abbrev bt (t : Fin cfg0.N) : Fin 2 := ⟨t.val / 32, by have := lt64 t; omega⟩
abbrev nt (t : Fin cfg0.N) : Fin 4 := ⟨t.val / 8 % 4, by omega⟩
abbrev pt (t : Fin cfg0.N) (r : Fin 512) : Fin 4096 := ⟨t.val % 8 * 512 + r.val, by omega⟩

/-- A grid point's blocks. -/
abbrev X0 (c : Dev nD) (t : Fin cfg0.N) : FVec Ideal S512x512 .bf16 := iblk m c 0 t
abbrev X1 (c : Dev nD) (t : Fin cfg0.N) : FVec Ideal S4096x128 .bf16 := iblk m c 1 t
abbrev X2 (c : Dev nD) (t : Fin cfg0.N) : FVec Ideal S4096x128 .bf16 := iblk m c 2 t
abbrev X3 (c : Dev nD) (t : Fin cfg0.N) : FVec Ideal S1x1x4x4096 .f32 := iblk m c 3 t
abbrev X4 (c : Dev nD) (t : Fin cfg0.N) : FVec Ideal S128x128 .bf16 := iblk m c 4 t
abbrev X5 (c : Dev nD) (t : Fin cfg0.N) : FVec Ideal S128x128 .bf16 := iblk m c 5 t
abbrev X6 (c : Dev nD) (t : Fin cfg0.N) : FVec Ideal S1x1x4x128 .f32 := iblk m c 6 t

/-- A row's logits and a key's columns from the run's arguments. -/
abbrev LG (c : Dev nD) (b : Fin 2) (n g : Fin 4) (p : Fin 4096) (k : ℕ) : EReal :=
  lgt (m ((c : Thread nD τ).loc main_arg0)) (m ((c : Thread nD τ).loc main_arg1)) (m ((c : Thread nD τ).loc main_arg2)) (m ((c : Thread nD τ).loc main_arg3)) (m ((c : Thread nD τ).loc main_arg4)) b n g p k
abbrev WG (c : Dev nD) (b : Fin 2) (n : Fin 4) (k : ℕ) (d : Fin 256) : EReal :=
  wgt (m ((c : Thread nD τ).loc main_arg1)) (m ((c : Thread nD τ).loc main_arg2)) b n k d

theorem q_at (c : Dev nD) (t : Fin cfg0.N) (R : Fin 2048) (d : Fin 128) :
    iblk m c 0 t (ix2 (⟨R.val % 512, by omega⟩ : Fin 512) ⟨128 * (R.val / 512) + d.val, by omega⟩) = m ((c : Thread nD τ).loc main_arg0)
      (ix2 ⟨(bt t).val * 4096 + (pt t ⟨R.val % 512, by omega⟩).val, by omega⟩ ⟨(nt t).val * 512 + R.val / 512 * 128 + d.val, by omega⟩ : S8192x2048.Idx) :=
  (blk0 m c t ⟨R.val % 512, by omega⟩ ⟨R.val / 512, by omega⟩ d).trans
    (congrArg (fun e : Fin 2048 => m ((c : Thread nD τ).loc main_arg0) (ix2 ⟨t.val / 32 * 4096 + (t.val % 8 * 512 + R.val % 512), by have := lt64 t; omega⟩ e : S8192x2048.Idx)) (Fin.ext (by simp only; omega)))

theorem H1 (c : Dev nD) (t : Fin cfg0.N) (R : Fin 2048) (j : Fin 4096) :
    (∑ d : Fin 128, ((X0 m c t) (ix2 ⟨R.val % 512, by omega⟩ ⟨128 * (R.val / 512) + d.val, by omega⟩) * (X1 m c t) (ix2 j d) : EReal))
      - (X3 m c t) (ix4 0 0 ⟨R.val / 512, by omega⟩ j) = LG m c (bt t) (nt t) ⟨R.val / 512, by omega⟩ (pt t ⟨R.val % 512, by omega⟩) (16 + j.val) := by
  unfold LG lgt
  rw [sxc_main]
  refine congrArg₂ (fun a b : EReal => a - b) (Finset.sum_congr rfl fun d _ => ?_) (blk3 m c t ⟨R.val / 512, by omega⟩ j)
  rw [sxk_main]
  exact congrArg₂ (fun a b : EReal => a * b) (q_at m c t R d) (blk1 m c t j d)

theorem H3 (c : Dev nD) (t : Fin cfg0.N) (R : Fin 2048) (j : Fin 128) (hj : j.val < 16) :
    (∑ d : Fin 128, ((X0 m c t) (ix2 ⟨R.val % 512, by omega⟩ ⟨128 * (R.val / 512) + d.val, by omega⟩) * (X4 m c t) (ix2 j d) : EReal))
      - (X6 m c t) (ix4 0 0 ⟨R.val / 512, by omega⟩ j) = LG m c (bt t) (nt t) ⟨R.val / 512, by omega⟩ (pt t ⟨R.val % 512, by omega⟩) j.val := by
  unfold LG lgt
  rw [sxc_aux _ _ _ _ _ hj]
  refine congrArg₂ (fun a b : EReal => a - b) (Finset.sum_congr rfl fun d _ => ?_) (blk6 m c t ⟨R.val / 512, by omega⟩ j)
  rw [sxk_aux _ _ _ _ _ hj]
  exact congrArg₂ (fun a b : EReal => a * b) (q_at m c t R d) (blk4 m c t j hj d)

theorem H2 (c : Dev nD) (t : Fin cfg0.N) (j : Fin 4096) (d : Fin 256) :
    (if h : d.val < 128 then (X2 m c t) (ix2 j ⟨d.val, h⟩) else (1 : EReal)) = WG m c (bt t) (nt t) (16 + j.val) d := by
  unfold WG wgt
  by_cases h : d.val < 128
  · rw [dif_pos h, dif_pos h, sxk_main]
    exact blk2 m c t j ⟨d.val, h⟩
  · rw [dif_neg h, dif_neg h]

theorem H4 (c : Dev nD) (t : Fin cfg0.N) (j : Fin 128) (hj : j.val < 16) (d : Fin 256) :
    (if h : d.val < 128 then (X5 m c t) (ix2 j ⟨d.val, h⟩) else (1 : EReal)) = WG m c (bt t) (nt t) j.val d := by
  unfold WG wgt
  by_cases h : d.val < 128
  · rw [dif_pos h, dif_pos h, sxk_aux _ _ _ _ _ hj]
    exact blk5 m c t j hj ⟨d.val, h⟩
  · rw [dif_neg h, dif_neg h]

/-- The logits of a grid point's rows, as reals. -/
def AA (c : Dev nD) (t : Fin cfg0.N) (R : Fin 2048) (k : ℕ) : ℝ := (LG m c (bt t) (nt t) ⟨R.val / 512, by omega⟩ (pt t ⟨R.val % 512, by omega⟩) k).toReal

/-- The columns of a grid point's keys. -/
def WW (c : Dev nD) (t : Fin cfg0.N) (k : ℕ) (d : Fin 256) : EReal := WG m c (bt t) (nt t) k d

/-- What a row of a grid point has seen, and the block it leaves. -/
def Left (c : Dev nD) (t : Fin cfg0.N) : Prop := ∃ v : FVec Ideal S2048x256 .f32,
  (∀ (r : Fin 512) (g : Fin 4) (d : Fin 128), outsAt0 m c t.val t.isLt (ix2 r ⟨128 * g.val + d.val, by omega⟩) = outE v (iblk m c 7 t) (iblk m c 8 t) r g d) ∧
  ∀ R : Fin 2048, ∃ mx, Seen (AA m c t R) (WW m c t) (Finset.range (17 + 512 * (grid0.coords t 2).val + R.val % 512)) mx (fun d => v (ix2 R d))

section
variable (c : Dev nD) (hfin : ∀ b n g p k, k < 4112 → ∃ x : ℝ, LG m c b n g p k = (x : EReal)) (t : Fin cfg0.N)
include hfin

theorem AA_coe (R : Fin 2048) (k : ℕ) (hk : k < 4112) : LG m c (bt t) (nt t) ⟨R.val / 512, by omega⟩ (pt t ⟨R.val % 512, by omega⟩) k = ((AA m c t R k : ℝ) : EReal) := by
  obtain ⟨x, hx⟩ := hfin (bt t) (nt t) ⟨R.val / 512, by omega⟩ (pt t ⟨R.val % 512, by omega⟩) k hk
  unfold AA
  rw [hx, EReal.toReal_coe]

theorem H1' (R : Fin 2048) (j : Fin 4096) :
    (∑ d : Fin 128, ((X0 m c t) (ix2 ⟨R.val % 512, by omega⟩ ⟨128 * (R.val / 512) + d.val, by omega⟩) * (X1 m c t) (ix2 j d) : EReal))
      - (X3 m c t) (ix4 0 0 ⟨R.val / 512, by omega⟩ j) = ((AA m c t R (16 + j.val) : ℝ) : EReal) :=
  (H1 m c t R j).trans (AA_coe m c hfin t R _ (by omega))

theorem H3' (R : Fin 2048) (j : Fin 128) (hj : j.val < 16) :
    (∑ d : Fin 128, ((X0 m c t) (ix2 ⟨R.val % 512, by omega⟩ ⟨128 * (R.val / 512) + d.val, by omega⟩) * (X4 m c t) (ix2 j d) : EReal))
      - (X6 m c t) (ix4 0 0 ⟨R.val / 512, by omega⟩ j) = ((AA m c t R j.val : ℝ) : EReal) :=
  (H3 m c t R j hj).trans (AA_coe m c hfin t R _ (by omega))

theorem left_A (h0 : ¬ t.val % 2 = 1) : Left m c t := by
  obtain ⟨e0, e1, e2, e3, e4, e5, e6, e7, e8, e9, e10⟩ := idx0 t
  have hp : (grid0.coords t 2).val % 2 = 0 := by rw [e10]; omega
  refine ⟨_, fun r g d => (congrFun (outsAt0_A m c t h0) _).trans (outA _ _ _ _ _ _ _ _ _ _ _ _ _ _ _ _ _ _ _ _ _ _ _ _ _ _ _ _ _ _ _ _ _ _ _ _ r g d), fun R => ?_⟩
  exact caseA _ _ _ _ _ _ _ _ _ _ _ _ _ _ _ _ _ _ _ _ _ _ _ _ _ _ (fun h => h0 ((hcond0_0 t).mp h)) _ _ _ _ _ _ _ (iblk m c 7 t) (iblk m c 8 t) hp (a := AA m c t) (w := WW m c t) (H1' m c hfin t) (H2 m c t) (H3' m c hfin t) (H4 m c t) R

theorem left_B (h0 : t.val % 2 = 1) : Left m c t := by
  obtain ⟨e0, e1, e2, e3, e4, e5, e6, e7, e8, e9, e10⟩ := idx0 t
  have hp : (grid0.coords t 2).val % 2 = 1 := by rw [e10]; omega
  refine ⟨_, fun r g d => (congrFun (outsAt0_B m c t h0) _).trans (outB _ _ _ _ _ _ _ _ _ _ _ _ _ _ _ _ _ _ _ _ _ _ _ _ _ _ _ _ _ _ _ _ _ _ _ _ r g d), fun R => ?_⟩
  exact caseB _ _ _ _ _ _ _ _ _ _ _ _ _ _ _ _ _ _ _ _ _ _ _ _ _ _ ((hcond0_0 t).mpr h0) _ _ _ _ _ _ _ (iblk m c 7 t) (iblk m c 8 t) hp (a := AA m c t) (w := WW m c t) (H1' m c hfin t) (H2 m c t) (H3' m c hfin t) (H4 m c t) R
end

/-- An entry of the final array, from what its row has seen. -/
theorem entry_seen (c : Dev nD) (hfin : ∀ b n g p k, k < 4112 → ∃ x : ℝ, LG m c b n g p k = (x : EReal)) (t : Fin cfg0.N) (r : Fin 512) (g : Fin 4) (d : Fin 128) :
    ∃ mx acc, Seen (fun k => (LG m c (bt t) (nt t) g (pt t r) k).toReal) (WG m c (bt t) (nt t)) (Finset.range (17 + (pt t r).val)) mx acc ∧
      (dats m 0 c).arrAt 9 cfg0.N (ix2 ⟨t.val / 32 * 4096 + (t.val % 8 * 512 + r.val), by have := lt64 t; omega⟩ ⟨t.val / 8 % 4 * 512 + g.val * 128 + d.val, by omega⟩ : S8192x2048.Idx) =
        (Ideal.div (acc ⟨d.val, by omega⟩) (acc ⟨128 + d.val, by omega⟩) *
          m ((c : Thread nD τ).loc main_arg5) (ix2 ⟨t.val / 32 * 4096 + (t.val % 8 * 512 + r.val), by have := lt64 t; omega⟩ ⟨2048 + (t.val / 8 % 4 * 512 + g.val * 128 + d.val), by omega⟩ : S8192x4096.Idx) +
          m ((c : Thread nD τ).loc main_arg6) (ix2 ⟨t.val / 32 * 4096 + (t.val % 8 * 512 + r.val), by have := lt64 t; omega⟩ ⟨t.val / 8 % 4 * 512 + g.val * 128 + d.val, by omega⟩ : S8192x2048.Idx) : EReal) := by
  have hR : 512 * g.val + r.val < 2048 := by omega
  have hg : (512 * g.val + r.val) / 512 = g.val := by omega
  have hr : (512 * g.val + r.val) % 512 = r.val := by omega
  obtain ⟨e0, e1, e2, e3, e4, e5, e6, e7, e8, e9, e10⟩ := idx0 t
  have hg7 : iblk m c 7 t (ix2 r ⟨128 * g.val + d.val, by omega⟩) = m ((c : Thread nD τ).loc main_arg5) (ix2 ⟨t.val / 32 * 4096 + (t.val % 8 * 512 + r.val), by have := lt64 t; omega⟩ ⟨2048 + (t.val / 8 % 4 * 512 + g.val * 128 + d.val), by omega⟩ : S8192x4096.Idx) :=
    (blk7 m c t r g d).trans (congrArg (fun e : Fin 4096 => m ((c : Thread nD τ).loc main_arg5) (ix2 ⟨t.val / 32 * 4096 + (t.val % 8 * 512 + r.val), by have := lt64 t; omega⟩ e : S8192x4096.Idx)) (Fin.ext (by simp only; omega)))
  have hg8 : iblk m c 8 t (ix2 r ⟨128 * g.val + d.val, by omega⟩) = m ((c : Thread nD τ).loc main_arg6) (ix2 ⟨t.val / 32 * 4096 + (t.val % 8 * 512 + r.val), by have := lt64 t; omega⟩ ⟨t.val / 8 % 4 * 512 + g.val * 128 + d.val, by omega⟩ : S8192x2048.Idx) :=
    (blk8 m c t r g d).trans (congrArg (fun e : Fin 2048 => m ((c : Thread nD τ).loc main_arg6) (ix2 ⟨t.val / 32 * 4096 + (t.val % 8 * 512 + r.val), by have := lt64 t; omega⟩ e : S8192x2048.Idx)) (Fin.ext (by simp only; omega)))
  obtain ⟨v, ho, hs⟩ : Left m c t := by
    by_cases h0 : t.val % 2 = 1
    · exact left_B m c hfin t h0
    · exact left_A m c hfin t h0
  rw [entry_out m c t r g d, ho]
  obtain ⟨mx, hs⟩ := hs ⟨512 * g.val + r.val, hR⟩
  refine ⟨mx, fun d => v (ix2 ⟨512 * g.val + r.val, hR⟩ d), ?_, ?_⟩
  · have eg : (⟨(⟨512 * g.val + r.val, hR⟩ : Fin 2048).val / 512, by omega⟩ : Fin 4) = g := Fin.ext hg
    have er : (⟨(⟨512 * g.val + r.val, hR⟩ : Fin 2048).val % 512, by omega⟩ : Fin 512) = r := Fin.ext hr
    have es : 17 + 512 * (grid0.coords t 2).val + (⟨512 * g.val + r.val, hR⟩ : Fin 2048).val % 512 = 17 + (pt t r).val := by
      rw [e10]
      show 17 + 512 * (t.val % 8) + (512 * g.val + r.val) % 512 = 17 + (t.val % 8 * 512 + r.val)
      omega
    have ea : AA m c t ⟨512 * g.val + r.val, hR⟩ = fun k => (LG m c (bt t) (nt t) g (pt t r) k).toReal := by
      funext k
      unfold AA
      rw [eg, er]
    rw [es, ea] at hs
    exact hs
  · unfold outE
    rw [hg7, hg8]

end Cert.Kernel7Ideal.Fox

end
-- ==== Proof.FoxSame.lean ====
/- The attention's result, entry by entry: what the blocks leave is what the reference computes. -/
module

public import proofs.«01_k».proof.Proof.FoxAlg
public import proofs.«01_k».proof.Proof.FoxEnd

@[expose] public section

set_option maxRecDepth 16384

noncomputable section

namespace Cert.Reference7Ideal.Fox

open Idealize.ShloMosaic Idealize.ShloMosaic.TcCoe Cert.Reference7Ideal Cert.Reference7Ideal.Gen Cert.FoxRow

/-- An entry of the reference's result, over arrays that its arguments equal. -/
theorem ref_entry_of (m : (ℓ : Loc nD τ sig) → Buf (Elt Ideal) ℓ) (c : Dev nD) (q kv : FVec Ideal S8192x2048 .bf16) (aux : FVec Ideal S32x2048 .bf16)
    (cm : FVec Ideal S2x16x128 .f32) (ck : FVec Ideal S2x16x4096 .f32) (gates : FVec Ideal S8192x4096 .bf16) (sb : FVec Ideal S8192x2048 .bf16)
    (h0 : m ((c.tc : Thread nD τ).loc main_arg0) = q) (h1 : m ((c.tc : Thread nD τ).loc main_arg1) = kv) (h2 : m ((c.tc : Thread nD τ).loc main_arg2) = aux)
    (h3 : m ((c.tc : Thread nD τ).loc main_arg3) = cm) (h4 : m ((c.tc : Thread nD τ).loc main_arg4) = ck) (h5 : m ((c.tc : Thread nD τ).loc main_arg5) = gates)
    (h6 : m ((c.tc : Thread nD τ).loc main_arg6) = sb) (hf : Fin7 q kv aux cm ck) (b : Fin 2) (n g : Fin 4) (p : Fin 4096) (d : Fin 128)
    {mx : Fin 128 → EReal} {acc : Fin 256 → EReal}
    (hs : Seen (fun k => (lgt q kv aux cm ck b n g p k).toReal) (wgt kv aux b n) (Finset.range (17 + p.val)) mx acc) :
    Value.res_main_v62 m c (ix2 ⟨b.val * 4096 + p.val, by omega⟩ ⟨n.val * 512 + g.val * 128 + d.val, by omega⟩ : S8192x2048.Idx) =
      (Ideal.div (acc ⟨d.val, by omega⟩) (acc ⟨128 + d.val, by omega⟩) *
        gates (ix2 ⟨b.val * 4096 + p.val, by omega⟩ ⟨2048 + (n.val * 512 + g.val * 128 + d.val), by omega⟩)
        + sb (ix2 ⟨b.val * 4096 + p.val, by omega⟩ ⟨n.val * 512 + g.val * 128 + d.val, by omega⟩) : EReal) := by
  subst h0; subst h1; subst h2; subst h3; subst h4; subst h5; subst h6
  exact ref_entry m c hf b n g p d hs

end Cert.Reference7Ideal.Fox

namespace Cert.Kernel7Ideal.Fox

open Idealize.ShloMosaic Idealize.ShloMosaic.TcCoe Cert.Kernel7Ideal Cert.Kernel7Ideal.Gen Cert.Kernel7Ideal.Value Cert.FoxRow

/-- The two results agree. -/
theorem same (m : (ℓ : Loc nD τ sig) → Buf (Elt Ideal) ℓ) (c : Dev nD)
    (hf : Fin7 (m ((c : Thread nD τ).loc main_arg0)) (m ((c : Thread nD τ).loc main_arg1)) (m ((c : Thread nD τ).loc main_arg2)) (m ((c : Thread nD τ).loc main_arg3)) (m ((c : Thread nD τ).loc main_arg4)))
    (m' : (ℓ : Loc Cert.Reference7Ideal.nD Cert.Reference7Ideal.τ Cert.Reference7Ideal.sig) → Buf (Elt Ideal) ℓ) (c' : Dev Cert.Reference7Ideal.nD)
    (h0 : m' ((c'.tc : Thread Cert.Reference7Ideal.nD Cert.Reference7Ideal.τ).loc Cert.Reference7Ideal.main_arg0) = m ((c : Thread nD τ).loc main_arg0))
    (h1 : m' ((c'.tc : Thread Cert.Reference7Ideal.nD Cert.Reference7Ideal.τ).loc Cert.Reference7Ideal.main_arg1) = m ((c : Thread nD τ).loc main_arg1))
    (h2 : m' ((c'.tc : Thread Cert.Reference7Ideal.nD Cert.Reference7Ideal.τ).loc Cert.Reference7Ideal.main_arg2) = m ((c : Thread nD τ).loc main_arg2))
    (h3 : m' ((c'.tc : Thread Cert.Reference7Ideal.nD Cert.Reference7Ideal.τ).loc Cert.Reference7Ideal.main_arg3) = m ((c : Thread nD τ).loc main_arg3))
    (h4 : m' ((c'.tc : Thread Cert.Reference7Ideal.nD Cert.Reference7Ideal.τ).loc Cert.Reference7Ideal.main_arg4) = m ((c : Thread nD τ).loc main_arg4))
    (h5 : m' ((c'.tc : Thread Cert.Reference7Ideal.nD Cert.Reference7Ideal.τ).loc Cert.Reference7Ideal.main_arg5) = m ((c : Thread nD τ).loc main_arg5))
    (h6 : m' ((c'.tc : Thread Cert.Reference7Ideal.nD Cert.Reference7Ideal.τ).loc Cert.Reference7Ideal.main_arg6) = m ((c : Thread nD τ).loc main_arg6)) :
    Cert.Reference7Ideal.Value.res_main_v62 m' c' = (dats m 0 c).arrAt 9 cfg0.N := by
  funext i
  obtain ⟨a, e, rfl⟩ : ∃ (a : Fin 8192) (e : Fin 2048), i = ix2 a e := ⟨i 0, i 1, by funext b; match b with | ⟨0, _⟩ => rfl | ⟨1, _⟩ => rfl⟩
  have ht : a.val / 4096 * 32 + e.val / 512 * 8 + a.val % 4096 / 512 < 64 := by omega
  obtain ⟨t, et⟩ : ∃ t : Fin cfg0.N, t.val = a.val / 4096 * 32 + e.val / 512 * 8 + a.val % 4096 / 512 := ⟨⟨_, ht⟩, rfl⟩
  obtain ⟨mx, acc, hs, hk⟩ := entry_seen m c (fun b n g p k _ => lgt_real hf b n g p k) t ⟨a.val % 512, by omega⟩ ⟨e.val % 512 / 128, by omega⟩ ⟨e.val % 128, by omega⟩
  have hr := Cert.Reference7Ideal.Fox.ref_entry_of m' c' _ _ _ _ _ _ _ h0 h1 h2 h3 h4 h5 h6 hf (bt t) (nt t) ⟨e.val % 512 / 128, by omega⟩ (pt t ⟨a.val % 512, by omega⟩) ⟨e.val % 128, by omega⟩ hs
  have ea : a = (⟨t.val / 32 * 4096 + (t.val % 8 * 512 + a.val % 512), by omega⟩ : Fin 8192) := Fin.ext (by simp only; omega)
  have ee : e = (⟨t.val / 8 % 4 * 512 + e.val % 512 / 128 * 128 + e.val % 128, by omega⟩ : Fin 2048) := Fin.ext (by simp only; omega)
  have ei : (ix2 a e : S8192x2048.Idx) = ix2 ⟨t.val / 32 * 4096 + (t.val % 8 * 512 + a.val % 512), by omega⟩ ⟨t.val / 8 % 4 * 512 + e.val % 512 / 128 * 128 + e.val % 128, by omega⟩ := congrArg₂ ix2 ea ee
  exact (congrArg _ ei).trans ((hr.trans hk.symm).trans (congrArg _ ei.symm))

end Cert.Kernel7Ideal.Fox

end
-- ==== Proof.Forget.lean ====
/-
  The norm and the forget gates: the kernel's split products (a high part and what is left of it, which over the reals is
  nothing) and its guarded logarithm give the same tables as the reference's plain lines, for finite inputs.
-/
module

public import proofs.«01_k».proof.Defs
public import proofs.«01_k».proof.Proof.Gen.Kernel6Ideal.Value
public import proofs.«01_k».proof.Proof.Gen.Reference6Ideal.Run
public import proofs.«01_k».proof.Proof.Finite
public import Idealize.ShloMosaic.Lib.Pipeline.ValueKit
public import Idealize.ShloMosaic.Lib.Pointwise
public import Idealize.ShloMosaic.Lib.Tactic

@[expose] public section

set_option maxRecDepth 16384

noncomputable section

namespace Cert.Kernel6Ideal.RefValue

open Cert.Kernel6Ideal Cert.Kernel6Ideal.Gen Idealize.ShloMosaic Idealize.ShloMosaic.TcCoe Idealize.SL.Sem
open Idealize.ShloMosaic.Pipeline (Dat)

/-- A normed entry of a row `x` scaled by `g`. -/
def nrm (x : Fin 2048 → EReal) (g : Fin 2048 → EReal) (k : Fin 2048) : EReal :=
  x k * Ideal.rsqrt (Ideal.div (∑ k, x k * x k) (Ideal.ofBits .f32 0x45000000#32) + Ideal.ofBits .f32 0x358637BD#32) * g k

/-- The gate's logarithm at a logit `z`. -/
def lg (z : EReal) : EReal := - (max (-z) 0 + Ideal.log1p (Ideal.exp (- max (-z) (- -z))))

/-- A logit as the kernel sums it. -/
def split (h : Fin 2048 → EReal) (hi lo : Fin 2048 → EReal) (b : EReal) : EReal :=
  ((∑ k, h k * hi k + ∑ k, (h k - h k) * hi k) + ∑ k, h k * lo k) + b

theorem out5_apply (x0 : Vec Ideal S512x2048 .f32) (x1 : Vec Ideal S1x2048 .f32) (x2 x3 : Vec Ideal S128x2048 .bf16)
    (x4 : Vec Ideal S1x16 .f32) (y : S512x2048.Idx) :
    out0_5 x0 x1 x2 x3 x4 y = nrm (fun k => x0 (ix2 (y 0) k)) (fun k => x1 (ix2 0 k)) (y 1) := by
  idx_vars y
  frame_out
  unfold_payloads
  pointwise [nrm]

theorem out6_apply (x0 : Vec Ideal S512x2048 .f32) (x1 : Vec Ideal S1x2048 .f32) (x2 x3 : Vec Ideal S128x2048 .bf16)
    (x4 : Vec Ideal S1x16 .f32) (r : Fin 512) (e : Fin 16) :
    out0_6 x0 x1 x2 x3 x4 (ix2 r e) = lg (split (nrm (fun k => x0 (ix2 r k)) (fun k => x1 (ix2 0 k)))
      (fun k => x2 (ix2 ⟨e.val, by omega⟩ k)) (fun k => x3 (ix2 ⟨e.val, by omega⟩ k)) (x4 (ix2 0 e))) := by
  frame_out
  unfold_payloads
  pointwise [nrm, lg, split]
  generalize hz : _ + x4 (ix2 0 e) = z
  change EReal at z
  show (0 : EReal) - (max (0 - z) 0 + Ideal.log1p (Ideal.exp (0 - max (0 - z) (-(0 - z))))) = _
  simp only [zero_sub]

/-- Where the blocks of grid point `t` lie. -/
theorem idx0 : ∀ t : Fin cfg0.N, win0_0.index t = ![t.val, 0] ∧ win0_1.index t = ![0, 0] ∧ win0_2.index t = ![0, 0] ∧
    win0_3.index t = ![0, 0] ∧ win0_4.index t = ![0, 0] ∧
    win0_5.index t = ![t.val, 0] ∧ win0_6.index t = ![t.val, 0] := by decide +kernel

variable (m : (ℓ : Loc nD τ sig) → Buf (Elt Ideal) ℓ)

/-- The high part of the forget weights. -/
theorem hiblk (c : Dev nD) (t : Fin cfg0.N) (e : Fin 16) (k : Fin 2048) :
    iblk m c 2 t (ix2 ⟨e.val, by omega⟩ k) = m ((c : Thread nD τ).loc main_arg2) (ix3 0 k ⟨6144 + e.val, by omega⟩) := by
  obtain ⟨e0, e1, e2, e3, e4, e5, e6⟩ := idx0 t
  have he : (win0_2.blk t).view.emb (ix2 ⟨e.val, by omega⟩ k) = (ix2 ⟨e.val, by omega⟩ k : S128x2048.Idx) := by
    funext a
    apply Fin.ext
    match a with
    | ⟨0, _⟩ => show win0_2.index t 0 * 128 + 1 * e.val = e.val; rw [e2]; simp
    | ⟨1, _⟩ => show win0_2.index t 1 * 2048 + 1 * k.val = k.val; rw [e2]; simp
  unfold iblk
  rw [View.read_apply]
  show V m c main_v4 ((win0_2.blk t).view.emb _) = _
  rw [he]
  entry_read
  try simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

/-- The low part of the forget weights: what rounding left of them. -/
theorem loblk (c : Dev nD) (t : Fin cfg0.N) (e : Fin 16) (k : Fin 2048) :
    iblk m c 3 t (ix2 ⟨e.val, by omega⟩ k) = (show EReal from m ((c : Thread nD τ).loc main_arg2) (ix3 0 k ⟨6144 + e.val, by omega⟩)) -
      (show EReal from m ((c : Thread nD τ).loc main_arg2) (ix3 0 k ⟨6144 + e.val, by omega⟩)) := by
  obtain ⟨e0, e1, e2, e3, e4, e5, e6⟩ := idx0 t
  have he : (win0_3.blk t).view.emb (ix2 ⟨e.val, by omega⟩ k) = (ix2 ⟨e.val, by omega⟩ k : S128x2048.Idx) := by
    funext a
    apply Fin.ext
    match a with
    | ⟨0, _⟩ => show win0_3.index t 0 * 128 + 1 * e.val = e.val; rw [e3]; simp
    | ⟨1, _⟩ => show win0_3.index t 1 * 2048 + 1 * k.val = k.val; rw [e3]; simp
  unfold iblk
  rw [View.read_apply]
  show V m c main_v7 ((win0_3.blk t).view.emb _) = _
  rw [he]
  entry_read
  try simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

/-- Over the reals the split products are the plain product. -/
theorem split_eq (h hi lo : Fin 2048 → EReal) (b : EReal) (hh : ∀ k, ∃ r : ℝ, h k = (r : EReal)) (hw : ∀ k, ∃ r : ℝ, hi k = (r : EReal))
    (hl : ∀ k, lo k = hi k - hi k) : split h hi lo b = (∑ k, h k * hi k) + b := by
  have e1 : ∑ k, (h k - h k) * hi k = 0 := Finset.sum_eq_zero fun k _ => by
    obtain ⟨r, hr⟩ := hh k
    rw [hr, Finite.sub_self_coe, zero_mul]
  have e2 : ∑ k, h k * lo k = 0 := Finset.sum_eq_zero fun k _ => by
    obtain ⟨r, hr⟩ := hw k
    rw [hl, hr, Finite.sub_self_coe, mul_zero]
  unfold split
  rw [e1, e2, add_zero, add_zero]

/-- A normed row of reals is a row of reals. -/
theorem nrm_real (x g : Fin 2048 → EReal) (hx : ∀ k, ∃ r : ℝ, x k = (r : EReal)) (hg : ∀ k, ∃ r : ℝ, g k = (r : EReal)) (k : Fin 2048) :
    ∃ r : ℝ, nrm x g k = (r : EReal) := by
  choose a ha using hx
  choose b hb using hg
  have e1 : Ideal.ofBits .f32 0x45000000#32 = ((2048 : ℝ) : EReal) := by
    simp [Ideal.ofBits, Ideal.ieee, -EReal.coe_mul]; norm_num
  obtain ⟨e, he, e2⟩ : ∃ e : ℝ, 0 < e ∧ Ideal.ofBits .f32 0x358637BD#32 = (e : EReal) := by
    refine ⟨_, ?_, by simp [Ideal.ofBits, Ideal.ieee, -EReal.coe_mul]; rfl⟩
    norm_num
  have e3 : ∑ k, x k * x k = ((∑ k, a k * a k : ℝ) : EReal) := by
    rw [← Finite.sum_coe]
    exact Finset.sum_congr rfl fun k _ => by rw [ha, ← EReal.coe_mul]
  have h0 : 0 ≤ ∑ k, a k * a k := Finset.sum_nonneg fun k _ => mul_self_nonneg _
  unfold nrm
  rw [e3, e1, e2, Ideal.div_coe (by norm_num), ← EReal.coe_mul, ← EReal.coe_add, Ideal.rsqrt_coe, if_neg (not_lt.mpr (by positivity)), if_neg (ne_of_gt (by positivity)),
    ha, hb, ← EReal.coe_mul, ← EReal.coe_mul]
  exact ⟨_, rfl⟩

/-- The normed rows as a function of the arguments. -/
def main0 (c : Dev nD) : Buf (Elt Ideal) ((c : Thread nD τ).loc main_v8_0) :=
  fun i : S8192x2048.Idx => nrm (fun k => m ((c : Thread nD τ).loc main_arg0) (ix2 (i 0) k)) (fun k => m ((c : Thread nD τ).loc main_arg1) (ix2 0 k)) (i 1)

/-- The gates' logarithms as a function of the arguments. -/
def main1 (c : Dev nD) : Buf (Elt Ideal) ((c : Thread nD τ).loc main_v8_1) :=
  fun i : S8192x16.Idx => lg ((∑ k, nrm (fun k => m ((c : Thread nD τ).loc main_arg0) (ix2 (i 0) k)) (fun k => m ((c : Thread nD τ).loc main_arg1) (ix2 0 k)) k *
    m ((c : Thread nD τ).loc main_arg2) (ix3 0 k ⟨6144 + (i 1).val, by have := (i 1).isLt; show _ < 10256; change _ < 16 at this; omega⟩)) + m ((c : Thread nD τ).loc main_arg3) (ix2 0 (i 1)))

/-- The normed rows after the run. -/
theorem final5 (c : Dev nD) : (dats m 0 c).arrAt 5 cfg0.N = main0 m c := by
  refine (dats m 0 c).arrAt_eq_of_covers 5 _ (by decide +kernel) fun t hf y => ?_
  blk_simp
  rw [after0_5, out5_apply]
  obtain ⟨e0, e1, e2, e3, e4, e5, e6⟩ := idx0 t
  unfold main0
  have h0 : ∀ k, iblk m c 0 t (ix2 (y 0) k) = m ((c : Thread nD τ).loc main_arg0) (ix2 (((cfg0.win 5).blk t).view.emb y 0) k) := fun k => by
    blk_ext [iblk, V, e0, e5]
  have h1 : ∀ k, iblk m c 1 t (ix2 0 k) = m ((c : Thread nD τ).loc main_arg1) (ix2 0 k) := fun k => by
    blk_ext [iblk, V, e1, e5]
  have h2 : (y 1) = (((cfg0.win 5).blk t).view.emb y 1) := by
    refine Fin.ext ?_
    show (y 1).val = win0_5.index t 1 * 2048 + 1 * (y 1).val
    rw [e5]; simp
  simp only [h0, h1]
  rw [h2]

/-- The arguments' entries that the claim takes to be finite. -/
structure Fin6 (c : Dev nD) : Prop where
  x : ∀ i, ∃ r : ℝ, m ((c : Thread nD τ).loc main_arg0) i = (r : EReal)
  g : ∀ i, ∃ r : ℝ, m ((c : Thread nD τ).loc main_arg1) i = (r : EReal)
  w : ∀ (k : Fin 2048) (e : Fin 16), ∃ r : ℝ, m ((c : Thread nD τ).loc main_arg2) (ix3 0 k ⟨6144 + e.val, by omega⟩) = (r : EReal)

/-- The gates' logarithms after the run. -/
theorem final6 (c : Dev nD) (hfin : Fin6 m c) : (dats m 0 c).arrAt 6 cfg0.N = main1 m c := by
  refine (dats m 0 c).arrAt_eq_of_covers 6 _ (by decide +kernel) fun t hf y => ?_
  obtain ⟨r, e, rfl⟩ : ∃ (r : Fin 512) (e : Fin 16), y = ix2 r e := ⟨y 0, y 1, by funext b; match b with | ⟨0, _⟩ => rfl | ⟨1, _⟩ => rfl⟩
  blk_simp
  rw [after0_6, out6_apply]
  obtain ⟨e0, e1, e2, e3, e4, e5, e6⟩ := idx0 t
  unfold main1
  have h0 : ∀ k, iblk m c 0 t (ix2 r k) = m ((c : Thread nD τ).loc main_arg0) (ix2 (((cfg0.win 6).blk t).view.emb (ix2 r e) 0) k) := fun k => by
    blk_ext [iblk, V, e0, e6]
  have h1 : ∀ k, iblk m c 1 t (ix2 0 k) = m ((c : Thread nD τ).loc main_arg1) (ix2 0 k) := fun k => by
    blk_ext [iblk, V, e1, e6]
  have h4 : iblk m c 4 t (ix2 0 e) = m ((c : Thread nD τ).loc main_arg3) (ix2 0 e) := by
    blk_ext [iblk, V, e4, e6]
  have h2 : (((cfg0.win 6).blk t).view.emb (ix2 r e) 1) = e := by
    refine Fin.ext ?_
    show win0_6.index t 1 * 16 + 1 * e.val = e.val
    rw [e6]; simp
  simp only [h0, h1, h4, hiblk, loblk]
  rw [split_eq _ _ _ _ (nrm_real _ _ (fun k => hfin.x _) (fun k => hfin.g _)) (fun k => hfin.w k e) (fun k => rfl)]
  simp only [h2]

end Cert.Kernel6Ideal.RefValue

namespace Cert.Reference6Ideal.RefValue

open Cert.Reference6Ideal Cert.Reference6Ideal.Gen Idealize.ShloMosaic Idealize.ShloMosaic.TcCoe Idealize.SL.Sem
open Cert.Kernel6Ideal.RefValue (nrm lg)

variable (m : (ℓ : Loc nD τ sig) → Buf (Elt Ideal) ℓ) (ρ : Dev nD → PrngReg)

/-- The reference's normed rows at one entry. -/
theorem full0 (x : FVec Ideal S8192x2048 .f32) (g : FVec Ideal S1x2048 .f32) (i : S8192x2048.Idx) :
    (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048))) : FVec Ideal S8192x2048 .f32) i
      = nrm (fun k => x (ix2 (i 0) k)) (fun k => g (ix2 0 k)) (i 1) := by
  idx_vars i
  pointwise [nrm]

/-- The reference's logits at one entry. -/
theorem logit (h : FVec Ideal S8192x2048 .f32) (w : FVec Ideal S1x2048x10256 .f32) (b : FVec Ideal S1x16 .f32) (r : Fin 8192) (e : Fin 16) :
    (addf (Host.dotGeneral dot_S8192x2048_S2048x16_S8192x16_1_0_0_1_n_n none h (extractStridedSlice S2048x16 ![0, 6144]
      (shapeCast S2048x10256 w shapeCasts_S1x2048x10256_S2048x10256) slices_S2048x10256_S2048x16_0_6144))
      (broadcastInDim S8192x16 ![0, 1] bcast_S1x16_S8192x16_0_1 (broadcastInDim S1x16 ![1] bcast_S16_S1x16_1 (shapeCast S16 b shapeCasts_S1x16_S16)))
        : FVec Ideal S8192x16 .f32) (ix2 r e) = (∑ k, h (ix2 r k) * w (ix3 0 k ⟨6144 + e.val, by omega⟩)) + b (ix2 0 e) := by
  pointwise

/-- The reference's guarded logarithm at one entry. -/
theorem soft (fl : FVec Ideal S8192x16 .f32) (r : Fin 8192) (e : Fin 16) :
    (Host.negf (select (cmpf .une (subf (Host.negf fl) (broadcastInDim S8192x16 ![] bcast_S_S8192x16 (constant S_ .f32 0x00000000#32)))
        (subf (Host.negf fl) (broadcastInDim S8192x16 ![] bcast_S_S8192x16 (constant S_ .f32 0x00000000#32))))
      (addf (Host.negf fl) (broadcastInDim S8192x16 ![] bcast_S_S8192x16 (constant S_ .f32 0x00000000#32)))
      (addf (maximumf (Host.negf fl) (broadcastInDim S8192x16 ![] bcast_S_S8192x16 (constant S_ .f32 0x00000000#32)))
        (Host.log1p (Host.exp (Host.negf (Host.absf (subf (Host.negf fl) (broadcastInDim S8192x16 ![] bcast_S_S8192x16 (constant S_ .f32 0x00000000#32)))))))))
        : FVec Ideal S8192x16 .f32) (ix2 r e) = lg (fl (ix2 r e)) := by
  pointwise [lg]
  rw [if_neg (fun h => h rfl)]
  rfl

/-- The reference's gates at one entry. -/
theorem full1 (c : Dev nD) (r : Fin 8192) (e : Fin 16) :
    Value.res_main_v22 m c (ix2 r e) = lg ((∑ k, nrm (fun k => m ((c : Thread nD τ).loc main_arg0) (ix2 r k)) (fun k => m ((c : Thread nD τ).loc main_arg1) (ix2 0 k)) k *
      m ((c : Thread nD τ).loc main_arg2) (ix3 0 k ⟨6144 + e.val, by omega⟩)) + m ((c : Thread nD τ).loc main_arg3) (ix2 0 e)) := by
  unfold Value.res_main_v22
  refine (soft _ r e).trans (congrArg lg ((logit _ _ _ r e).trans ?_))
  refine congrArg₂ (· + ·) (Finset.sum_congr rfl fun k _ => congrArg₂ (· * ·) ?_ rfl) rfl
  exact full0 _ _ (ix2 r k)

/-- The reference's run: both results are the same tables. -/
theorem run : θ_run defs (onTc (τ := τ) (main (F := Ideal))) ⟨m, fun _ => 0, ρ⟩ fun r => ∀ c : Dev nD,
      (∀ i : S8192x2048.Idx, r.2.mem ((c.tc : Thread nD τ).loc main_v17) i =
        nrm (fun k => m ((c.tc : Thread nD τ).loc main_arg0) (ix2 (i 0) k)) (fun k => m ((c.tc : Thread nD τ).loc main_arg1) (ix2 0 k)) (i 1))
      ∧ (∀ (a : Fin 8192) (e : Fin 16), r.2.mem ((c.tc : Thread nD τ).loc main_v22) (ix2 a e) =
        lg ((∑ k, nrm (fun k => m ((c : Thread nD τ).loc main_arg0) (ix2 a k)) (fun k => m ((c : Thread nD τ).loc main_arg1) (ix2 0 k)) k *
          m ((c : Thread nD τ).loc main_arg2) (ix3 0 k ⟨6144 + e.val, by omega⟩)) + m ((c : Thread nD τ).loc main_arg3) (ix2 0 e)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i => ?_, fun a e => ?_, (h c).2.2⟩) (Cert.Reference6Ideal.Value.run m ρ)
  · rw [(h c).1]
    exact full0 _ _ i
  · rw [(h c).2.1]
    exact full1 m c a e

end Cert.Reference6Ideal.RefValue

end
-- ==== Proof.Forget8.lean ====
/-
  The norm and the forget gates on the auxiliary rows: the same equalities as on the main rows, in one block.
-/
module

public import proofs.«01_k».proof.Defs
public import proofs.«01_k».proof.Proof.Gen.Kernel8Ideal.Value
public import proofs.«01_k».proof.Proof.Gen.Reference8Ideal.Run
public import proofs.«01_k».proof.Proof.Finite
public import proofs.«01_k».proof.Proof.Forget
public import Idealize.ShloMosaic.Lib.Pipeline.ValueKit
public import Idealize.ShloMosaic.Lib.Pointwise
public import Idealize.ShloMosaic.Lib.Tactic

@[expose] public section

set_option maxRecDepth 16384

noncomputable section

namespace Cert.Kernel8Ideal.RefValue

open Cert.Kernel8Ideal Cert.Kernel8Ideal.Gen Idealize.ShloMosaic Idealize.ShloMosaic.TcCoe Idealize.SL.Sem
open Idealize.ShloMosaic.Pipeline (Dat)
open Cert.Kernel6Ideal.RefValue (nrm lg split split_eq nrm_real)

theorem out5_apply (x0 : Vec Ideal S32x2048 .f32) (x1 : Vec Ideal S1x2048 .f32) (x2 x3 : Vec Ideal S128x2048 .bf16)
    (x4 : Vec Ideal S1x16 .f32) (y : S32x2048.Idx) :
    out0_5 x0 x1 x2 x3 x4 y = nrm (fun k => x0 (ix2 (y 0) k)) (fun k => x1 (ix2 0 k)) (y 1) := by
  idx_vars y
  frame_out
  unfold_payloads
  pointwise [nrm]

theorem out6_apply (x0 : Vec Ideal S32x2048 .f32) (x1 : Vec Ideal S1x2048 .f32) (x2 x3 : Vec Ideal S128x2048 .bf16)
    (x4 : Vec Ideal S1x16 .f32) (r : Fin 32) (e : Fin 16) :
    out0_6 x0 x1 x2 x3 x4 (ix2 r e) = lg (split (nrm (fun k => x0 (ix2 r k)) (fun k => x1 (ix2 0 k)))
      (fun k => x2 (ix2 ⟨e.val, by omega⟩ k)) (fun k => x3 (ix2 ⟨e.val, by omega⟩ k)) (x4 (ix2 0 e))) := by
  frame_out
  unfold_payloads
  pointwise [nrm, lg, split]
  generalize hz : _ + x4 (ix2 0 e) = z
  change EReal at z
  show (0 : EReal) - (max (0 - z) 0 + Ideal.log1p (Ideal.exp (0 - max (0 - z) (-(0 - z))))) = _
  simp only [zero_sub]

/-- Where the blocks of grid point `t` lie. -/
theorem idx0 : ∀ t : Fin cfg0.N, win0_0.index t = ![t.val, 0] ∧ win0_1.index t = ![0, 0] ∧ win0_2.index t = ![0, 0] ∧
    win0_3.index t = ![0, 0] ∧ win0_4.index t = ![0, 0] ∧
    win0_5.index t = ![t.val, 0] ∧ win0_6.index t = ![t.val, 0] := by decide +kernel

variable (m : (ℓ : Loc nD τ sig) → Buf (Elt Ideal) ℓ)

/-- The high part of the forget weights. -/
theorem hiblk (c : Dev nD) (t : Fin cfg0.N) (e : Fin 16) (k : Fin 2048) :
    iblk m c 2 t (ix2 ⟨e.val, by omega⟩ k) = m ((c : Thread nD τ).loc main_arg2) (ix3 0 k ⟨6144 + e.val, by omega⟩) := by
  obtain ⟨e0, e1, e2, e3, e4, e5, e6⟩ := idx0 t
  have he : (win0_2.blk t).view.emb (ix2 ⟨e.val, by omega⟩ k) = (ix2 ⟨e.val, by omega⟩ k : S128x2048.Idx) := by
    funext a
    apply Fin.ext
    match a with
    | ⟨0, _⟩ => show win0_2.index t 0 * 128 + 1 * e.val = e.val; rw [e2]; simp
    | ⟨1, _⟩ => show win0_2.index t 1 * 2048 + 1 * k.val = k.val; rw [e2]; simp
  unfold iblk
  rw [View.read_apply]
  show V m c main_v4 ((win0_2.blk t).view.emb _) = _
  rw [he]
  entry_read
  try simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

/-- The low part of the forget weights: what rounding left of them. -/
theorem loblk (c : Dev nD) (t : Fin cfg0.N) (e : Fin 16) (k : Fin 2048) :
    iblk m c 3 t (ix2 ⟨e.val, by omega⟩ k) = (show EReal from m ((c : Thread nD τ).loc main_arg2) (ix3 0 k ⟨6144 + e.val, by omega⟩)) -
      (show EReal from m ((c : Thread nD τ).loc main_arg2) (ix3 0 k ⟨6144 + e.val, by omega⟩)) := by
  obtain ⟨e0, e1, e2, e3, e4, e5, e6⟩ := idx0 t
  have he : (win0_3.blk t).view.emb (ix2 ⟨e.val, by omega⟩ k) = (ix2 ⟨e.val, by omega⟩ k : S128x2048.Idx) := by
    funext a
    apply Fin.ext
    match a with
    | ⟨0, _⟩ => show win0_3.index t 0 * 128 + 1 * e.val = e.val; rw [e3]; simp
    | ⟨1, _⟩ => show win0_3.index t 1 * 2048 + 1 * k.val = k.val; rw [e3]; simp
  unfold iblk
  rw [View.read_apply]
  show V m c main_v7 ((win0_3.blk t).view.emb _) = _
  rw [he]
  entry_read
  try simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  try after_results_simp
  pointwise

/-- The normed rows as a function of the arguments. -/
def main0 (c : Dev nD) : Buf (Elt Ideal) ((c : Thread nD τ).loc main_v8_0) :=
  fun i : S32x2048.Idx => nrm (fun k => m ((c : Thread nD τ).loc main_arg0) (ix2 (i 0) k)) (fun k => m ((c : Thread nD τ).loc main_arg1) (ix2 0 k)) (i 1)

/-- The gates' logarithms as a function of the arguments. -/
def main1 (c : Dev nD) : Buf (Elt Ideal) ((c : Thread nD τ).loc main_v8_1) :=
  fun i : S32x16.Idx => lg ((∑ k, nrm (fun k => m ((c : Thread nD τ).loc main_arg0) (ix2 (i 0) k)) (fun k => m ((c : Thread nD τ).loc main_arg1) (ix2 0 k)) k *
    m ((c : Thread nD τ).loc main_arg2) (ix3 0 k ⟨6144 + (i 1).val, by have := (i 1).isLt; show _ < 10256; change _ < 16 at this; omega⟩)) + m ((c : Thread nD τ).loc main_arg3) (ix2 0 (i 1)))

/-- The normed rows after the run. -/
theorem final5 (c : Dev nD) : (dats m 0 c).arrAt 5 cfg0.N = main0 m c := by
  refine (dats m 0 c).arrAt_eq_of_covers 5 _ (by decide +kernel) fun t hf y => ?_
  blk_simp
  rw [after0_5, out5_apply]
  obtain ⟨e0, e1, e2, e3, e4, e5, e6⟩ := idx0 t
  unfold main0
  have h0 : ∀ k, iblk m c 0 t (ix2 (y 0) k) = m ((c : Thread nD τ).loc main_arg0) (ix2 (((cfg0.win 5).blk t).view.emb y 0) k) := fun k => by
    blk_ext [iblk, V, e0, e5]
  have h1 : ∀ k, iblk m c 1 t (ix2 0 k) = m ((c : Thread nD τ).loc main_arg1) (ix2 0 k) := fun k => by
    blk_ext [iblk, V, e1, e5]
  have h2 : (y 1) = (((cfg0.win 5).blk t).view.emb y 1) := by
    refine Fin.ext ?_
    show (y 1).val = win0_5.index t 1 * 2048 + 1 * (y 1).val
    rw [e5]; simp
  simp only [h0, h1]
  rw [h2]

/-- The arguments' entries that the claim takes to be finite. -/
structure Fin8 (c : Dev nD) : Prop where
  x : ∀ i, ∃ r : ℝ, m ((c : Thread nD τ).loc main_arg0) i = (r : EReal)
  g : ∀ i, ∃ r : ℝ, m ((c : Thread nD τ).loc main_arg1) i = (r : EReal)
  w : ∀ (k : Fin 2048) (e : Fin 16), ∃ r : ℝ, m ((c : Thread nD τ).loc main_arg2) (ix3 0 k ⟨6144 + e.val, by omega⟩) = (r : EReal)

/-- The gates' logarithms after the run. -/
theorem final6 (c : Dev nD) (hfin : Fin8 m c) : (dats m 0 c).arrAt 6 cfg0.N = main1 m c := by
  refine (dats m 0 c).arrAt_eq_of_covers 6 _ (by decide +kernel) fun t hf y => ?_
  obtain ⟨r, e, rfl⟩ : ∃ (r : Fin 32) (e : Fin 16), y = ix2 r e := ⟨y 0, y 1, by funext b; match b with | ⟨0, _⟩ => rfl | ⟨1, _⟩ => rfl⟩
  blk_simp
  rw [after0_6, out6_apply]
  obtain ⟨e0, e1, e2, e3, e4, e5, e6⟩ := idx0 t
  unfold main1
  have h0 : ∀ k, iblk m c 0 t (ix2 r k) = m ((c : Thread nD τ).loc main_arg0) (ix2 (((cfg0.win 6).blk t).view.emb (ix2 r e) 0) k) := fun k => by
    blk_ext [iblk, V, e0, e6]
  have h1 : ∀ k, iblk m c 1 t (ix2 0 k) = m ((c : Thread nD τ).loc main_arg1) (ix2 0 k) := fun k => by
    blk_ext [iblk, V, e1, e6]
  have h4 : iblk m c 4 t (ix2 0 e) = m ((c : Thread nD τ).loc main_arg3) (ix2 0 e) := by
    blk_ext [iblk, V, e4, e6]
  have h2 : (((cfg0.win 6).blk t).view.emb (ix2 r e) 1) = e := by
    refine Fin.ext ?_
    show win0_6.index t 1 * 16 + 1 * e.val = e.val
    rw [e6]; simp
  simp only [h0, h1, h4, hiblk, loblk]
  rw [split_eq _ _ _ _ (nrm_real _ _ (fun k => hfin.x _) (fun k => hfin.g _)) (fun k => hfin.w k e) (fun k => rfl)]
  simp only [h2]

end Cert.Kernel8Ideal.RefValue

namespace Cert.Reference8Ideal.RefValue

open Cert.Reference8Ideal Cert.Reference8Ideal.Gen Idealize.ShloMosaic Idealize.ShloMosaic.TcCoe Idealize.SL.Sem
open Cert.Kernel6Ideal.RefValue (nrm lg)

variable (m : (ℓ : Loc nD τ sig) → Buf (Elt Ideal) ℓ) (ρ : Dev nD → PrngReg)

/-- The reference's normed rows at one entry. -/
theorem full0 (x : FVec Ideal S32x2048 .f32) (g : FVec Ideal S1x2048 .f32) (i : S32x2048.Idx) :
    (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048))) : FVec Ideal S32x2048 .f32) i
      = nrm (fun k => x (ix2 (i 0) k)) (fun k => g (ix2 0 k)) (i 1) := by
  idx_vars i
  pointwise [nrm]

/-- The reference's logits at one entry. -/
theorem logit (h : FVec Ideal S32x2048 .f32) (w : FVec Ideal S1x2048x10256 .f32) (b : FVec Ideal S1x16 .f32) (r : Fin 32) (e : Fin 16) :
    (addf (Host.dotGeneral dot_S32x2048_S2048x16_S32x16_1_0_0_1_n_n none h (extractStridedSlice S2048x16 ![0, 6144]
      (shapeCast S2048x10256 w shapeCasts_S1x2048x10256_S2048x10256) slices_S2048x10256_S2048x16_0_6144))
      (broadcastInDim S32x16 ![0, 1] bcast_S1x16_S32x16_0_1 (broadcastInDim S1x16 ![1] bcast_S16_S1x16_1 (shapeCast S16 b shapeCasts_S1x16_S16)))
        : FVec Ideal S32x16 .f32) (ix2 r e) = (∑ k, h (ix2 r k) * w (ix3 0 k ⟨6144 + e.val, by omega⟩)) + b (ix2 0 e) := by
  pointwise

/-- The reference's guarded logarithm at one entry. -/
theorem soft (fl : FVec Ideal S32x16 .f32) (r : Fin 32) (e : Fin 16) :
    (Host.negf (select (cmpf .une (subf (Host.negf fl) (broadcastInDim S32x16 ![] bcast_S_S32x16 (constant S_ .f32 0x00000000#32)))
        (subf (Host.negf fl) (broadcastInDim S32x16 ![] bcast_S_S32x16 (constant S_ .f32 0x00000000#32))))
      (addf (Host.negf fl) (broadcastInDim S32x16 ![] bcast_S_S32x16 (constant S_ .f32 0x00000000#32)))
      (addf (maximumf (Host.negf fl) (broadcastInDim S32x16 ![] bcast_S_S32x16 (constant S_ .f32 0x00000000#32)))
        (Host.log1p (Host.exp (Host.negf (Host.absf (subf (Host.negf fl) (broadcastInDim S32x16 ![] bcast_S_S32x16 (constant S_ .f32 0x00000000#32)))))))))
        : FVec Ideal S32x16 .f32) (ix2 r e) = lg (fl (ix2 r e)) := by
  pointwise [lg]
  rw [if_neg (fun h => h rfl)]
  rfl

/-- The reference's gates at one entry. -/
theorem full1 (c : Dev nD) (r : Fin 32) (e : Fin 16) :
    Value.res_main_v22 m c (ix2 r e) = lg ((∑ k, nrm (fun k => m ((c : Thread nD τ).loc main_arg0) (ix2 r k)) (fun k => m ((c : Thread nD τ).loc main_arg1) (ix2 0 k)) k *
      m ((c : Thread nD τ).loc main_arg2) (ix3 0 k ⟨6144 + e.val, by omega⟩)) + m ((c : Thread nD τ).loc main_arg3) (ix2 0 e)) := by
  unfold Value.res_main_v22
  refine (soft _ r e).trans (congrArg lg ((logit _ _ _ r e).trans ?_))
  refine congrArg₂ (· + ·) (Finset.sum_congr rfl fun k _ => congrArg₂ (· * ·) ?_ rfl) rfl
  exact full0 _ _ (ix2 r k)

/-- The reference's run: both results are the same tables. -/
theorem run : θ_run defs (onTc (τ := τ) (main (F := Ideal))) ⟨m, fun _ => 0, ρ⟩ fun r => ∀ c : Dev nD,
      (∀ i : S32x2048.Idx, r.2.mem ((c.tc : Thread nD τ).loc main_v17) i =
        nrm (fun k => m ((c.tc : Thread nD τ).loc main_arg0) (ix2 (i 0) k)) (fun k => m ((c.tc : Thread nD τ).loc main_arg1) (ix2 0 k)) (i 1))
      ∧ (∀ (a : Fin 32) (e : Fin 16), r.2.mem ((c.tc : Thread nD τ).loc main_v22) (ix2 a e) =
        lg ((∑ k, nrm (fun k => m ((c : Thread nD τ).loc main_arg0) (ix2 a k)) (fun k => m ((c : Thread nD τ).loc main_arg1) (ix2 0 k)) k *
          m ((c : Thread nD τ).loc main_arg2) (ix3 0 k ⟨6144 + e.val, by omega⟩)) + m ((c : Thread nD τ).loc main_arg3) (ix2 0 e)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i => ?_, fun a e => ?_, (h c).2.2⟩) (Cert.Reference8Ideal.Value.run m ρ)
  · rw [(h c).1]
    exact full0 _ _ i
  · rw [(h c).2.1]
    exact full1 m c a e

end Cert.Reference8Ideal.RefValue

end
-- ==== Proof.Gates.lean ====
/-
  The gate projection: what the kernel leaves in its two results, and what the reference computes, are the same tables of
  gates. The kernel's transposed weights are staged through an element window (512 rows from row 6160 + 512 j on).
-/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Tactic

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)

/-- A column of the main result is below 4096. -/
theorem idx_lt1 (i : (⟨2, ![8192, 4096]⟩ : Shape).Idx) : (i 1).val < 4096 := (i 1).isLt
/-- A column of the auxiliary result is below 4096. -/
theorem idx_lt2 (i : (⟨3, ![4, 32, 4096]⟩ : Shape).Idx) : (i 2).val < 4096 := (i 2).isLt

/-- One gate: the logistic function of a row's product with a column of the weights. -/
def gate (x y : Fin 2048 → EReal) : EReal := Ideal.logistic (∑ k, x k * y k)

/-- What one grid point leaves in its block of the main result: the eight runs of 256 rows are one table of gates. -/
theorem out4_apply (x0 : Vec Ideal S2048x2048 .bf16) (x1 : Vec Ideal S32x2048 .bf16) (x2 : Vec Ideal S512x2048 .f32)
    (x3 : Vec Ideal S1x128 .f32) (y : S2048x512.Idx) :
    out0_4 x0 x1 x2 x3 y = gate (fun k => x0 (ix2 (y 0) k)) (fun k => x2 (ix2 (y 1) k)) := by
  unfold out0_4
  canon_tiles x h
  all_goals
    idx_vars y
    idx_vars x
    unfold_payloads
    pointwise [gate]
    refine congrArg Ideal.logistic (Finset.sum_congr rfl fun k _ => ?_)
    congr 1 <;> blk_ext []

/-- What one grid point leaves in its block of the auxiliary result. -/
theorem out5_apply (x0 : Vec Ideal S2048x2048 .bf16) (x1 : Vec Ideal S32x2048 .bf16) (x2 : Vec Ideal S512x2048 .f32)
    (x3 : Vec Ideal S1x128 .f32) (y : S1x32x512.Idx) :
    out0_5 x0 x1 x2 x3 y = gate (fun k => x1 (ix2 (y 1) k)) (fun k => x2 (ix2 (y 2) k)) := by
  frame_out
  unfold_payloads
  pointwise [gate]

/-- Where the blocks of grid point `t` lie. -/
theorem idx0 : ∀ t : Fin cfg0.N, win0_0.index t = ![t.val / 8, 0] ∧ win0_1.index t = ![0, 0] ∧ win0_2.index t = ![6160 + 512 * (t.val % 8), 0] ∧
    win0_4.index t = ![t.val / 8, t.val % 8] ∧ win0_5.index t = ![t.val / 8, 0, t.val % 8] := by decide +kernel

variable (m : (ℓ : Loc nD τ sig) → Buf (Elt Ideal) ℓ)

/-- Block `t` of the transposed weights is a run of 512 rows of it from row `6160 + 512 (t mod 8)` on: an element
    window, whose offset is no multiple of its extent. -/
theorem wblk (c : Dev nD) (t : Fin cfg0.N) (e : Fin 512) (k : Fin 2048) :
    iblk m c 2 t (ix2 e k) = m ((c : Thread nD τ).loc main_arg2) (ix3 0 k ⟨6160 + (512 * (t.val % 8) + e.val), by omega⟩) := by
  obtain ⟨e0, e1, e2, e4, e5⟩ := idx0 t
  have he : (win0_2.blk t).view.emb (ix2 e k) = (ix2 ⟨6160 + (512 * (t.val % 8) + e.val), by omega⟩ k : S10256x2048.Idx) := by
    funext a
    apply Fin.ext
    match a with
    | ⟨0, _⟩ => show win0_2.index t 0 + 1 * e.val = 6160 + (512 * (t.val % 8) + e.val); rw [e2]; simp; omega
    | ⟨1, _⟩ => show win0_2.index t 1 + 1 * k.val = k.val; rw [e2]; simp
  unfold iblk
  rw [View.read_apply]
  show V m c main_v1 ((win0_2.blk t).view.emb (ix2 e k)) = _
  rw [he]
  entry_read
  pointwise

/-- The gates of the main rows. -/
def gates0 (c : Dev nD) : Buf (Elt Ideal) ((c : Thread nD τ).loc main_v2_0) :=
  fun i : S8192x4096.Idx => gate (fun k => m ((c : Thread nD τ).loc main_arg0) (ix2 (i 0) k))
     (fun k => m ((c : Thread nD τ).loc main_arg2) (ix3 0 k ⟨6160 + (i 1).val, by have := idx_lt1 i; omega⟩))

/-- The gates of the auxiliary rows, once for each of the four row blocks of the grid. -/
def gates1 (c : Dev nD) : Buf (Elt Ideal) ((c : Thread nD τ).loc main_v2_1) :=
  fun i : S4x32x4096.Idx => gate (fun k => m ((c : Thread nD τ).loc main_arg1) (ix2 (i 1) k))
     (fun k => m ((c : Thread nD τ).loc main_arg2) (ix3 0 k ⟨6160 + (i 2).val, by have := idx_lt2 i; omega⟩))

/-- The main result after the run: every block is written once and they fill the array. -/
theorem final4 (c : Dev nD) : (dats m 0 c).arrAt 4 cfg0.N = gates0 m c := by
  refine (dats m 0 c).arrAt_eq_of_covers 4 _ (by decide +kernel) fun t hf y => ?_
  blk_simp
  rw [after0_4, out4_apply]
  obtain ⟨e0, e1, e2, e4, e5⟩ := idx0 t
  unfold gates0 gate
  refine congrArg Ideal.logistic (Finset.sum_congr rfl fun k _ => ?_)
  congr 1
  · blk_ext [iblk, V, e0, e4]
  · refine (wblk m c t (y 1) k).trans ?_
    blk_ext [e4]

/-- The auxiliary result after the run. -/
theorem final5 (c : Dev nD) : (dats m 0 c).arrAt 5 cfg0.N = gates1 m c := by
  refine (dats m 0 c).arrAt_eq_of_covers 5 _ (by decide +kernel) fun t hf y => ?_
  blk_simp
  rw [after0_5, out5_apply]
  obtain ⟨e0, e1, e2, e4, e5⟩ := idx0 t
  unfold gates1 gate
  refine congrArg Ideal.logistic (Finset.sum_congr rfl fun k _ => ?_)
  congr 1
  · blk_ext [iblk, V, e1, e5]
  · refine (wblk m c t (y 2) k).trans ?_
    blk_ext [e5]

end Cert.KernelIdeal.RefValue

namespace Cert.ReferenceIdeal.RefValue

open Cert.ReferenceIdeal Cert.ReferenceIdeal.Gen Idealize.ShloMosaic Idealize.ShloMosaic.TcCoe Idealize.SL.Sem
open Cert.KernelIdeal.RefValue (gate idx_lt1 idx_lt2)

variable (m : (ℓ : Loc nD τ sig) → Buf (Elt Ideal) ℓ) (ρ : Dev nD → PrngReg)

/-- A product of rows with the gate columns of the weights, at one entry. -/
theorem dot0 (a : FVec Ideal S8192x2048 .bf16) (w : FVec Ideal S1x2048x10256 .f32) (i : S8192x4096.Idx) :
    (Host.dotGeneral dot_S8192x2048_S2048x4096_S8192x4096_1_0_0_1_n_n none (extf FTy.f32 a bitsLt_bf16_f32)
      (extractStridedSlice S2048x4096 ![0, 6160] (shapeCast S2048x10256 w shapeCasts_S1x2048x10256_S2048x10256)
        slices_S2048x10256_S2048x4096_0_6160) : FVec Ideal S8192x4096 .f32) i =
    ∑ k : Fin 2048, a (ix2 (i 0) k) * w (ix3 0 k ⟨6160 + (i 1).val, by have := idx_lt1 i; omega⟩) := by
  idx_vars i
  pointwise

/-- The same for the auxiliary rows. -/
theorem dot1 (a : FVec Ideal S32x2048 .bf16) (w : FVec Ideal S1x2048x10256 .f32) (r : Fin 32) (e : Fin 4096) :
    (Host.dotGeneral dot_S32x2048_S2048x4096_S32x4096_1_0_0_1_n_n none (extf FTy.f32 a bitsLt_bf16_f32)
      (extractStridedSlice S2048x4096 ![0, 6160] (shapeCast S2048x10256 w shapeCasts_S1x2048x10256_S2048x10256)
        slices_S2048x10256_S2048x4096_0_6160) : FVec Ideal S32x4096 .f32) (ix2 r e) =
    ∑ k : Fin 2048, a (ix2 r k) * w (ix3 0 k ⟨6160 + e.val, by omega⟩) := by
  pointwise

/-- One over one plus the exponential of the negated argument is the logistic function, entry by entry. -/
theorem sig0 (s : FVec Ideal S8192x4096 .f32) (i : S8192x4096.Idx) :
    (truncf .bf16 (Host.divf (broadcastInDim S8192x4096 ![] bcast_S_S8192x4096 (constant S_ FTy.f32 0x3F800000#32))
        (addf (broadcastInDim S8192x4096 ![] bcast_S_S8192x4096 (constant S_ FTy.f32 0x3F800000#32))
          (Host.exp (Host.negf s)))) bitsLt_bf16_f32 : FVec Ideal S8192x4096 .bf16) i = Ideal.logistic (s i) := by
  pointwise
  rfl

/-- The same for the auxiliary rows, repeated for each of the four row blocks. -/
theorem sig1 (s : FVec Ideal S32x4096 .f32) (i : S4x32x4096.Idx) :
    (broadcastInDim S4x32x4096 ![0, 1, 2] bcast_S1x32x4096_S4x32x4096_0_1_2 (broadcastInDim S1x32x4096 ![1, 2] bcast_S32x4096_S1x32x4096_1_2
      (truncf .bf16 (Host.divf (broadcastInDim S32x4096 ![] bcast_S_S32x4096 (constant S_ FTy.f32 0x3F800000#32))
        (addf (broadcastInDim S32x4096 ![] bcast_S_S32x4096 (constant S_ FTy.f32 0x3F800000#32))
          (Host.exp (Host.negf s)))) bitsLt_bf16_f32)) : FVec Ideal S4x32x4096 .bf16) i = Ideal.logistic (s (ix2 (i 1) (i 2))) := by
  pointwise
  rfl

/-- The reference's run: both results are the gates. -/
theorem run : θ_run defs (onTc (τ := τ) (main (F := Ideal))) ⟨m, fun _ => 0, ρ⟩ fun r => ∀ c : Dev nD,
      (∀ i : S8192x4096.Idx, r.2.mem ((c.tc : Thread nD τ).loc main_v10) i = gate (fun k => m ((c.tc : Thread nD τ).loc main_arg0) (ix2 (i 0) k))
        (fun k => m ((c.tc : Thread nD τ).loc main_arg2) (ix3 0 k ⟨6160 + (i 1).val, by have := idx_lt1 i; omega⟩)))
      ∧ (∀ i : S4x32x4096.Idx, r.2.mem ((c.tc : Thread nD τ).loc main_v21) i = gate (fun k => m ((c.tc : Thread nD τ).loc main_arg1) (ix2 (i 1) k))
        (fun k => m ((c.tc : Thread nD τ).loc main_arg2) (ix3 0 k ⟨6160 + (i 2).val, by have := idx_lt2 i; omega⟩)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i => ?_, fun i => ?_, (h c).2.2⟩) (Cert.ReferenceIdeal.Value.run m ρ)
  · rw [(h c).1]
    exact (sig0 _ i).trans (congrArg Ideal.logistic (dot0 _ _ i))
  · rw [(h c).2.1]
    exact (sig1 _ i).trans (congrArg Ideal.logistic (dot1 _ _ (i 1) (i 2)))

end Cert.ReferenceIdeal.RefValue

end
-- ==== Proof.FfnRun.lean ====
/- The feed-forward block's run, at any floating-point instance: what each grid point leaves in the two results and in
   the two scratch buffers, the body's triple in each of its four cases, and the frame run. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.ValueKit
public import Idealize.ShloMosaic.Lib.Pipeline.ReadBack
public import Idealize.ShloMosaic.Lib.WritesUnit
public import Idealize.ShloMosaic.Lib.Tactic

@[expose] public section

set_option maxRecDepth 16384

noncomputable section

namespace Cert.Kernel2Ideal.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is the first one of its row block. -/
abbrev cond1 (i : grid0.Coords) : BitVec 1 :=
  Scalar.cmpi .ne (Scalar.extui (Scalar.cmpi .eq (BitVec.ofNat 32 (i 1).val) 0#32)) 0#32

/-- A store of the whole buffer, made last, leaves its payload. -/
theorem read_writes_full {sp : Space} {S : Shape} {e : EltTy} (v : View sig .tc sp S e) (f : v.ty.Contents (Elt F))
    {off : Fin S.rank → ℕ} (inb : ∀ a, off a + S.size a ≤ S.size a) (w : S.Idx → Elt F e)
    (L : List (View.Piece (Elt F) S e)) (h : ∀ a, off a = 0) :
    v.read (Elt F) (v.writes (Elt F) f ((⟨Rect.unit off (no_index S.size) inb, w⟩ : View.Piece (Elt F) S e) :: L)) = w :=
  funext fun y => View.read_writes_cons_unit_of_mem v f inb w L y y rfl fun a => by rw [h a, Nat.zero_add]

/-- The first point: both scratch buffers and both results are started, then both results take their step. -/
theorem runA (c : Dev nD) (i : grid0.Coords) (hc1 : cond1 i = 1#1) (hc2 : k0_cond2 i = 1#1) (hc3 : k0_cond3 i = 1#1)
    (M0 : Memref sig .tc .vmem S1024x2048 .f32) (h0 : M0.IsWhole)
    (M1 : Memref sig .tc .vmem S32x2048 .f32) (h1 : M1.IsWhole)
    (M2 : Memref sig .tc .vmem S1x2048 .f32) (h2 : M2.IsWhole)
    (M3 : Memref sig .tc .vmem S2048x1024 .bf16) (h3 : M3.IsWhole)
    (M4 : Memref sig .tc .vmem S1024x2048 .bf16) (h4 : M4.IsWhole)
    (M5 : Memref sig .tc .vmem S1024x2048 .f32) (h5 : M5.IsWhole)
    (M6 : Memref sig .tc .vmem S32x2048 .f32) (h6 : M6.IsWhole)
    (M7 : Memref sig .tc .vmem S1024x2048 .bf16) (h7 : M7.IsWhole)
    (M8 : Memref sig .tc .vmem S32x2048 .bf16) (h8 : M8.IsWhole)
    (x0 : Vec F S1024x2048 .f32) (x1 : Vec F S32x2048 .f32) (x2 : Vec F S1x2048 .f32) (x3 : Vec F S2048x1024 .bf16) (x4 : Vec F S1024x2048 .bf16) (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ (∃ d, owns (c : Thread nD τ) M5 fullShare d)
        ∗ (∃ d, owns (c : Thread nD τ) M6 fullShare d)
        ∗ (∃ d, owns (c : Thread nD τ) M7 fullShare d)
        ∗ (∃ d, owns (c : Thread nD τ) M8 fullShare d)
        ∗ (iprop(owns (c : Thread nD τ) M0 fullShare x0
            ∗ owns (c : Thread nD τ) M1 fullShare x1
            ∗ owns (c : Thread nD τ) M2 fullShare x2
            ∗ owns (c : Thread nD τ) M3 fullShare x3
            ∗ owns (c : Thread nD τ) M4 fullShare x4
            ∗ owns (c : Thread nD τ) M5 fullShare (k0_pay3 (k0_pay1 x0 x2) x3 x0 x4)
            ∗ owns (c : Thread nD τ) M6 fullShare (k0_pay4 (k0_pay2 x1 x2) x3 x1 x4)
            ∗ owns (c : Thread nD τ) M7 fullShare (k0_pay1 x0 x2)
            ∗ owns (c : Thread nD τ) M8 fullShare (k0_pay2 x1 x2)) -∗ K ⟨⟩))
      ⊢ wp frame (wpE (defs₀ (F := F)) Variants.none c none) E (cc0_ffn i M0 h0 M1 h1 M2 h2 M3 h3 M4 h4 M5 h5 M6 h6 M7 h7 M8 h8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := h0.eq_unread hf0; obtain rfl := h1.eq_unread hf1; obtain rfl := h2.eq_unread hf2; obtain rfl := h3.eq_unread hf3; obtain rfl := h4.eq_unread hf4
  sl_exec (disch := first | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    sl_unfold_words
    simp (disch := decide) only [read_writes_full, View.ld_unit_lit', View.readCov_unit_lit', View.readCov_cons_unit_lit', View.readAt_eq_ld,
      Memref.IsWhole.read_unread]
  isplitl [H6]
  · iexists _; isplitr; swap; · iexact H6
    ipureintro
    sl_unfold_words
    simp (disch := decide) only [read_writes_full, View.ld_unit_lit', View.readCov_unit_lit', View.readCov_cons_unit_lit', View.readAt_eq_ld,
      Memref.IsWhole.read_unread]
  isplitl [H7]
  · iexists _; isplitr; swap; · iexact H7
    ipureintro
    sl_unfold_words
    simp (disch := decide) only [read_writes_full, View.ld_unit_lit', View.readCov_unit_lit', View.readCov_cons_unit_lit', View.readAt_eq_ld,
      Memref.IsWhole.read_unread]
  iexists _; isplitr; swap; · iexact H8
  ipureintro
  sl_unfold_words
  simp (disch := decide) only [read_writes_full, View.ld_unit_lit', View.readCov_unit_lit', View.readCov_cons_unit_lit', View.readAt_eq_ld,
    Memref.IsWhole.read_unread]

/-- A later point of the first row block: both results take their step over what the scratch buffers hold. -/
theorem runB (c : Dev nD) (i : grid0.Coords) (hc1 : ¬ cond1 i = 1#1) (hc2 : ¬ k0_cond2 i = 1#1) (hc3 : k0_cond3 i = 1#1)
    (M0 : Memref sig .tc .vmem S1024x2048 .f32) (h0 : M0.IsWhole)
    (M1 : Memref sig .tc .vmem S32x2048 .f32) (h1 : M1.IsWhole)
    (M2 : Memref sig .tc .vmem S1x2048 .f32) (h2 : M2.IsWhole)
    (M3 : Memref sig .tc .vmem S2048x1024 .bf16) (h3 : M3.IsWhole)
    (M4 : Memref sig .tc .vmem S1024x2048 .bf16) (h4 : M4.IsWhole)
    (M5 : Memref sig .tc .vmem S1024x2048 .f32) (h5 : M5.IsWhole)
    (M6 : Memref sig .tc .vmem S32x2048 .f32) (h6 : M6.IsWhole)
    (M7 : Memref sig .tc .vmem S1024x2048 .bf16) (h7 : M7.IsWhole)
    (M8 : Memref sig .tc .vmem S32x2048 .bf16) (h8 : M8.IsWhole)
    (x0 : Vec F S1024x2048 .f32) (x1 : Vec F S32x2048 .f32) (x2 : Vec F S1x2048 .f32) (x3 : Vec F S2048x1024 .bf16) (x4 : Vec F S1024x2048 .bf16) (x5 : Vec F S1024x2048 .f32) (x6 : Vec F S32x2048 .f32) (x7 : Vec F S1024x2048 .bf16) (x8 : Vec F S32x2048 .bf16) (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ owns (c : Thread nD τ) M5 fullShare x5
        ∗ owns (c : Thread nD τ) M6 fullShare x6
        ∗ owns (c : Thread nD τ) M7 fullShare x7
        ∗ owns (c : Thread nD τ) M8 fullShare x8
        ∗ (iprop(owns (c : Thread nD τ) M0 fullShare x0
            ∗ owns (c : Thread nD τ) M1 fullShare x1
            ∗ owns (c : Thread nD τ) M2 fullShare x2
            ∗ owns (c : Thread nD τ) M3 fullShare x3
            ∗ owns (c : Thread nD τ) M4 fullShare x4
            ∗ owns (c : Thread nD τ) M5 fullShare (k0_pay3 x7 x3 x5 x4)
            ∗ owns (c : Thread nD τ) M6 fullShare (k0_pay4 x8 x3 x6 x4)
            ∗ owns (c : Thread nD τ) M7 fullShare x7
            ∗ owns (c : Thread nD τ) M8 fullShare x8) -∗ K ⟨⟩))
      ⊢ wp frame (wpE (defs₀ (F := F)) Variants.none c none) E (cc0_ffn i M0 h0 M1 h1 M2 h2 M3 h3 M4 h4 M5 h5 M6 h6 M7 h7 M8 h8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    sl_unfold_words
    simp (disch := decide) only [read_writes_full, View.ld_unit_lit', View.readCov_unit_lit', View.readCov_cons_unit_lit', View.readAt_eq_ld,
      Memref.IsWhole.read_unread]
  isplitl [H6]
  · iexists _; isplitr; swap; · iexact H6
    ipureintro
    sl_unfold_words
    simp (disch := decide) only [read_writes_full, View.ld_unit_lit', View.readCov_unit_lit', View.readCov_cons_unit_lit', View.readAt_eq_ld,
      Memref.IsWhole.read_unread]
  isplitl [H7]
  · iexists _; isplitr; · ipureintro; exact h7.read_unread _
    iexact H7
  iexists _; isplitr; · ipureintro; exact h8.read_unread _
  iexact H8

/-- The first point of a later row block: the block's scratch and result are started, and the result takes its step. -/
theorem runC (c : Dev nD) (i : grid0.Coords) (hc1 : cond1 i = 1#1) (hc2 : ¬ k0_cond2 i = 1#1) (hc3 : ¬ k0_cond3 i = 1#1)
    (M0 : Memref sig .tc .vmem S1024x2048 .f32) (h0 : M0.IsWhole)
    (M1 : Memref sig .tc .vmem S32x2048 .f32) (h1 : M1.IsWhole)
    (M2 : Memref sig .tc .vmem S1x2048 .f32) (h2 : M2.IsWhole)
    (M3 : Memref sig .tc .vmem S2048x1024 .bf16) (h3 : M3.IsWhole)
    (M4 : Memref sig .tc .vmem S1024x2048 .bf16) (h4 : M4.IsWhole)
    (M5 : Memref sig .tc .vmem S1024x2048 .f32) (h5 : M5.IsWhole)
    (M6 : Memref sig .tc .vmem S32x2048 .f32) (h6 : M6.IsWhole)
    (M7 : Memref sig .tc .vmem S1024x2048 .bf16) (h7 : M7.IsWhole)
    (M8 : Memref sig .tc .vmem S32x2048 .bf16) (h8 : M8.IsWhole)
    (x0 : Vec F S1024x2048 .f32) (x1 : Vec F S32x2048 .f32) (x2 : Vec F S1x2048 .f32) (x3 : Vec F S2048x1024 .bf16) (x4 : Vec F S1024x2048 .bf16) (x6 : Vec F S32x2048 .f32) (x8 : Vec F S32x2048 .bf16) (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ (∃ d, owns (c : Thread nD τ) M5 fullShare d)
        ∗ owns (c : Thread nD τ) M6 fullShare x6
        ∗ (∃ d, owns (c : Thread nD τ) M7 fullShare d)
        ∗ owns (c : Thread nD τ) M8 fullShare x8
        ∗ (iprop(owns (c : Thread nD τ) M0 fullShare x0
            ∗ owns (c : Thread nD τ) M1 fullShare x1
            ∗ owns (c : Thread nD τ) M2 fullShare x2
            ∗ owns (c : Thread nD τ) M3 fullShare x3
            ∗ owns (c : Thread nD τ) M4 fullShare x4
            ∗ owns (c : Thread nD τ) M5 fullShare (k0_pay3 (k0_pay1 x0 x2) x3 x0 x4)
            ∗ owns (c : Thread nD τ) M6 fullShare x6
            ∗ owns (c : Thread nD τ) M7 fullShare (k0_pay1 x0 x2)
            ∗ owns (c : Thread nD τ) M8 fullShare x8) -∗ K ⟨⟩))
      ⊢ wp frame (wpE (defs₀ (F := F)) Variants.none c none) E (cc0_ffn i M0 h0 M1 h1 M2 h2 M3 h3 M4 h4 M5 h5 M6 h6 M7 h7 M8 h8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, Hk⟩
  obtain rfl := h0.eq_unread hf0; obtain rfl := h1.eq_unread hf1; obtain rfl := h2.eq_unread hf2; obtain rfl := h3.eq_unread hf3; obtain rfl := h4.eq_unread hf4; obtain rfl := h6.eq_unread hf6; obtain rfl := h8.eq_unread hf8
  sl_exec (disch := first | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    sl_unfold_words
    simp (disch := decide) only [read_writes_full, View.ld_unit_lit', View.readCov_unit_lit', View.readCov_cons_unit_lit', View.readAt_eq_ld,
      Memref.IsWhole.read_unread]
  isplitl [H6]
  · iexists _; isplitr; · ipureintro; exact h6.read_unread _
    iexact H6
  isplitl [H7]
  · iexists _; isplitr; swap; · iexact H7
    ipureintro
    sl_unfold_words
    simp (disch := decide) only [read_writes_full, View.ld_unit_lit', View.readCov_unit_lit', View.readCov_cons_unit_lit', View.readAt_eq_ld,
      Memref.IsWhole.read_unread]
  iexists _; isplitr; · ipureintro; exact h8.read_unread _
  iexact H8

/-- A later point of a later row block: the block's result takes its step. -/
theorem runD (c : Dev nD) (i : grid0.Coords) (hc1 : ¬ cond1 i = 1#1) (hc2 : ¬ k0_cond2 i = 1#1) (hc3 : ¬ k0_cond3 i = 1#1)
    (M0 : Memref sig .tc .vmem S1024x2048 .f32) (h0 : M0.IsWhole)
    (M1 : Memref sig .tc .vmem S32x2048 .f32) (h1 : M1.IsWhole)
    (M2 : Memref sig .tc .vmem S1x2048 .f32) (h2 : M2.IsWhole)
    (M3 : Memref sig .tc .vmem S2048x1024 .bf16) (h3 : M3.IsWhole)
    (M4 : Memref sig .tc .vmem S1024x2048 .bf16) (h4 : M4.IsWhole)
    (M5 : Memref sig .tc .vmem S1024x2048 .f32) (h5 : M5.IsWhole)
    (M6 : Memref sig .tc .vmem S32x2048 .f32) (h6 : M6.IsWhole)
    (M7 : Memref sig .tc .vmem S1024x2048 .bf16) (h7 : M7.IsWhole)
    (M8 : Memref sig .tc .vmem S32x2048 .bf16) (h8 : M8.IsWhole)
    (x0 : Vec F S1024x2048 .f32) (x1 : Vec F S32x2048 .f32) (x2 : Vec F S1x2048 .f32) (x3 : Vec F S2048x1024 .bf16) (x4 : Vec F S1024x2048 .bf16) (x5 : Vec F S1024x2048 .f32) (x6 : Vec F S32x2048 .f32) (x7 : Vec F S1024x2048 .bf16) (x8 : Vec F S32x2048 .bf16) (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ owns (c : Thread nD τ) M5 fullShare x5
        ∗ owns (c : Thread nD τ) M6 fullShare x6
        ∗ owns (c : Thread nD τ) M7 fullShare x7
        ∗ owns (c : Thread nD τ) M8 fullShare x8
        ∗ (iprop(owns (c : Thread nD τ) M0 fullShare x0
            ∗ owns (c : Thread nD τ) M1 fullShare x1
            ∗ owns (c : Thread nD τ) M2 fullShare x2
            ∗ owns (c : Thread nD τ) M3 fullShare x3
            ∗ owns (c : Thread nD τ) M4 fullShare x4
            ∗ owns (c : Thread nD τ) M5 fullShare (k0_pay3 x7 x3 x5 x4)
            ∗ owns (c : Thread nD τ) M6 fullShare x6
            ∗ owns (c : Thread nD τ) M7 fullShare x7
            ∗ owns (c : Thread nD τ) M8 fullShare x8) -∗ K ⟨⟩))
      ⊢ wp frame (wpE (defs₀ (F := F)) Variants.none c none) E (cc0_ffn i M0 h0 M1 h1 M2 h2 M3 h3 M4 h4 M5 h5 M6 h6 M7 h7 M8 h8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    sl_unfold_words
    simp (disch := decide) only [read_writes_full, View.ld_unit_lit', View.readCov_unit_lit', View.readCov_cons_unit_lit', View.readAt_eq_ld,
      Memref.IsWhole.read_unread]
  isplitl [H6]
  · iexists _; isplitr; · ipureintro; exact h6.read_unread _
    iexact H6
  isplitl [H7]
  · iexists _; isplitr; · ipureintro; exact h7.read_unread _
    iexact H7
  iexists _; isplitr; · ipureintro; exact h8.read_unread _
  iexact H8

/-! ## What each grid point leaves -/

/-- Grid point `n`. -/
abbrev pt (n : ℕ) (h : n < cfg0.N) : Fin cfg0.N := ⟨n, h⟩

/-- The row block's normalised rows, as the first scratch buffer holds them after point `n`. -/
def hs (c : Dev nD) : (n : ℕ) → n < cfg0.N → Vec F S1024x2048 .bf16
  | 0, h => k0_pay1 (iblk m c 0 (pt 0 h)) (iblk m c 2 (pt 0 h))
  | n + 1, h => if (n + 1) % 8 = 0 then k0_pay1 (iblk m c 0 (pt (n + 1) h)) (iblk m c 2 (pt (n + 1) h)) else hs c n (by omega)

/-- The auxiliary rows, normalised: what the second scratch buffer holds after every point. -/
def ha (c : Dev nD) : Vec F S32x2048 .bf16 := k0_pay2 (iblk m c 1 (pt 0 (by decide))) (iblk m c 2 (pt 0 (by decide)))

/-- The row block's running result after point `n`. -/
def o5 (c : Dev nD) : (n : ℕ) → n < cfg0.N → Vec F S1024x2048 .f32
  | 0, h => k0_pay3 (hs m c 0 h) (iblk m c 3 (pt 0 h)) (iblk m c 0 (pt 0 h)) (iblk m c 4 (pt 0 h))
  | n + 1, h => k0_pay3 (hs m c (n + 1) h) (iblk m c 3 (pt (n + 1) h))
      (if (n + 1) % 8 = 0 then iblk m c 0 (pt (n + 1) h) else o5 c n (by omega)) (iblk m c 4 (pt (n + 1) h))

/-- The auxiliary rows' running result after point `n`: a step at each point of the first row block, kept afterwards. -/
def o6 (c : Dev nD) : (n : ℕ) → n < cfg0.N → Vec F S32x2048 .f32
  | 0, h => k0_pay4 (ha m c) (iblk m c 3 (pt 0 h)) (iblk m c 1 (pt 0 h)) (iblk m c 4 (pt 0 h))
  | n + 1, h => if n + 1 < 8 then k0_pay4 (ha m c) (iblk m c 3 (pt (n + 1) h)) (o6 c n (by omega)) (iblk m c 4 (pt (n + 1) h))
      else o6 c n (by omega)

/-- The invariant before point `n`: the class's at the first, afterwards the two scratch buffers at what they hold. -/
def Phi (c : Dev nD) : (n : ℕ) → n ≤ cfg0.N → sProp 𝕄
  | 0, _ => ΦA spec0 c
  | n + 1, h => iprop((owns (c : Thread nD τ) (Memref.whole cc0_scratch0) fullShare (hs m c n h)
      ∗ owns (c : Thread nD τ) (Memref.whole cc0_scratch1) fullShare (ha m c)) ∗ ∃ r, prngReg c r)

/-- The class's invariant with the scratch buffers owned as memrefs at some contents. -/
theorem PhiA_eq (c : Dev nD) :
    (ΦA spec0 c : sProp 𝕄) = iprop(((∃ d, owns (c : Thread nD τ) (Memref.whole cc0_scratch0) fullShare d)
      ∗ ∃ d, owns (c : Thread nD τ) (Memref.whole cc0_scratch1) fullShare d) ∗ ∃ r, prngReg c r) := by
  unfold ΦA; rw [scopedRest0_eq]; simp only [owns_whole]

/-! ## The conditions over the grid -/

theorem cond1_iff : ∀ t : Fin cfg0.N, cond1 (grid0.coords t) = 1#1 ↔ t.val % 8 = 0 := by decide +kernel
theorem cond2_iff : ∀ t : Fin cfg0.N, k0_cond2 (grid0.coords t) = 1#1 ↔ t.val = 0 := by decide +kernel
theorem cond3_iff : ∀ t : Fin cfg0.N, k0_cond3 (grid0.coords t) = 1#1 ↔ t.val < 8 := by decide +kernel
theorem idle6 : ∀ t : Fin cfg0.N, cfg0.idle 6 (cfg0.grid.coords t) = decide (8 ≤ t.val) := by decide +kernel

/-! ## The proof data -/

/-- The arrays as the region finds them; after the body each input's buffer at its block, each result's at its running
    value; the invariant tracks the scratch buffers; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t.val t.isLt
    | ⟨6, _⟩ => o6 m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = o5 m c t.val t.isLt := by dsimp only [dats]
theorem after0_6 (c : Dev nD) (t : Fin cfg0.N) : (dats m 0 c).after 6 t = o6 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The auxiliary result is never rewritten to another value at a point that leaves it alone. -/
theorem o6_carry (c : Dev nD) (n : ℕ) (h : n < cfg0.N) (h8 : 8 ≤ n) (h' : n - 1 < cfg0.N) : o6 m c n h = o6 m c (n - 1) h' := by
  obtain ⟨n, rfl⟩ : ∃ k, n = k + 1 := ⟨n - 1, by omega⟩
  simp only [o6]; rw [if_neg (by omega)]; rfl

/-- The row block's buffer, at a point that is not the first of its row block, holds the running result. -/
theorem before5 (c : Dev nD) (t : Fin cfg0.N) (ht : t.val % 8 ≠ 0) (d) :
    (dats m 0 c).before 5 t d = o5 m c (t.val - 1) (by omega) := by
  rw [(dats m 0 c).before_out_kept 5 rfl t (by omega) (by
    rw [← Bool.not_eq_true, flush0_5]; dsimp only; omega) (fun _ => rfl) (fun _ _ => rfl)]
  exact after0_5 m c _

theorem fresh6 : ∀ t : Fin cfg0.N, cfg0.fresh 6 t.val = decide (t.val = 0) := by decide +kernel

/-- The auxiliary buffer, at a later point, holds its running result. -/
theorem before6 (c : Dev nD) (t : Fin cfg0.N) (ht : t.val ≠ 0) (d) :
    (dats m 0 c).before 6 t d = o6 m c (t.val - 1) (by omega) := by
  rw [(dats m 0 c).before_out_traj 6 rfl (fun _ _ => rfl) (fun t h0 hi hf => ?_) t.val t rfl d, fresh6, if_neg (by simpa using ht)]
  · exact after0_6 m c _
  · rw [idle6, decide_eq_true_eq] at hi
    rw [after0_6, after0_6]; exact o6_carry m c _ _ hi _

/-- The running auxiliary result is what the body obligation asks of its buffer after a point, stored there or not. -/
theorem post6 (c : Dev nD) (t : Fin cfg0.N) :
    (owns (c : Thread nD τ) ((cfg0.win 6).stage (cfg0.slots t 6)) fullShare (o6 m c t.val t.isLt) : sProp 𝕄)
      ⊢ (match cfg0.idle 6 (cfg0.grid.coords t) with
          | true => match (cfg0.win 6).flush t with
            | false => iprop(∃ d, owns (c : Thread nD τ) ((cfg0.win 6).stage (cfg0.slots t 6)) fullShare ((dats m 0 c).before 6 t d))
            | true => owns (c : Thread nD τ) ((cfg0.win 6).stage (cfg0.slots t 6)) fullShare ((dats m 0 c).after 6 t)
          | false => owns (c : Thread nD τ) ((cfg0.win 6).stage (cfg0.slots t 6)) fullShare ((dats m 0 c).after 6 t)) := by
  rw [idle6, after0_6]
  by_cases h8 : 8 ≤ t.val
  · rw [decide_eq_true h8]
    cases hf : (cfg0.win 6).flush t
    · dsimp only
      iintro H; iexists (fun _ => FloatOps.ofBits .f32 0)
      rw [before6 m c t (by omega), ← o6_carry m c t.val t.isLt h8]; iexact H
    · dsimp only; exact .rfl
  · rw [decide_eq_false h8]

theorem hs_first (c : Dev nD) (n : ℕ) (h : n < cfg0.N) (h8 : n % 8 = 0) :
    hs m c n h = k0_pay1 (iblk m c 0 (pt n h)) (iblk m c 2 (pt n h)) := by
  cases n with
  | zero => rfl
  | succ n => simp only [hs]; rw [if_pos h8]

theorem hs_later (c : Dev nD) (n : ℕ) (h : n < cfg0.N) (h8 : n % 8 ≠ 0) (h' : n - 1 < cfg0.N) : hs m c n h = hs m c (n - 1) h' := by
  obtain ⟨n, rfl⟩ : ∃ k, n = k + 1 := ⟨n - 1, by omega⟩
  simp only [hs]; rw [if_neg h8]; rfl

theorem o5_first (c : Dev nD) (n : ℕ) (h : n < cfg0.N) (h8 : n % 8 = 0) :
    o5 m c n h = k0_pay3 (hs m c n h) (iblk m c 3 (pt n h)) (iblk m c 0 (pt n h)) (iblk m c 4 (pt n h)) := by
  cases n with
  | zero => rfl
  | succ n => simp only [o5]; rw [if_pos h8]

theorem o5_later (c : Dev nD) (n : ℕ) (h : n < cfg0.N) (h8 : n % 8 ≠ 0) (h' : n - 1 < cfg0.N) :
    o5 m c n h = k0_pay3 (hs m c n h) (iblk m c 3 (pt n h)) (o5 m c (n - 1) h') (iblk m c 4 (pt n h)) := by
  obtain ⟨n, rfl⟩ : ∃ k, n = k + 1 := ⟨n - 1, by omega⟩
  simp only [o5]; rw [if_neg h8]; rfl

theorem o6_step (c : Dev nD) (n : ℕ) (h : n < cfg0.N) (h0 : n ≠ 0) (h8 : n < 8) (h' : n - 1 < cfg0.N) :
    o6 m c n h = k0_pay4 (ha m c) (iblk m c 3 (pt n h)) (o6 m c (n - 1) h') (iblk m c 4 (pt n h)) := by
  obtain ⟨n, rfl⟩ : ∃ k, n = k + 1 := ⟨n - 1, by omega⟩
  simp only [o6]; rw [if_pos h8]; rfl

theorem ha_first (c : Dev nD) (t : Fin cfg0.N) (h0 : t.val = 0) : ha m c = k0_pay2 (iblk m c 1 t) (iblk m c 2 t) := by
  obtain rfl : t = pt 0 (by decide) := Fin.ext h0
  rfl

theorem o6_first (c : Dev nD) (t : Fin cfg0.N) (h0 : t.val = 0) :
    o6 m c t.val t.isLt = k0_pay4 (k0_pay2 (iblk m c 1 t) (iblk m c 2 t)) (iblk m c 3 t) (iblk m c 1 t) (iblk m c 4 t) := by
  obtain rfl : t = pt 0 (by decide) := Fin.ext h0
  rfl

theorem Phi_zero (c : Dev nD) (n : ℕ) (h : n ≤ cfg0.N) (h0 : n = 0) : Phi m c n h = ΦA spec0 c := by
  subst h0; rfl

theorem Phi_pos (c : Dev nD) (n : ℕ) (h : n ≤ cfg0.N) (h0 : n ≠ 0) (h' : n - 1 < cfg0.N) :
    Phi m c n h = iprop((owns (c : Thread nD τ) (Memref.whole cc0_scratch0) fullShare (hs m c (n - 1) h')
      ∗ owns (c : Thread nD τ) (Memref.whole cc0_scratch1) fullShare (ha m c)) ∗ ∃ r, prngReg c r) := by
  obtain ⟨n, rfl⟩ : ∃ k, n = k + 1 := ⟨n - 1, by omega⟩
  rfl

/-! ## The body obligation -/

set_option maxHeartbeats 1600000 in
/-- At every grid point the body takes the buffers as found to the buffers as the proof data says: the case of the point's
    conditions, each by its triple. -/
theorem body_obligation (c : Dev nD) : BodyObligation (dats (F := F) m 0 c) (defs₀ (F := F)) Variants.none () Set.univ := fun t => by
  have hN : t.val < 64 := t.isLt
  rw [bigSep_W0, bigSep_W0]
  sl_whnfR [defs₀, Defs.onTc]
  simp only [before0_0, before0_1, before0_2, before0_3, before0_4]
  rw [show (dats m 0 c).owesAt () t.succ = (dats m 0 c).owesAt () t.castSucc from rfl, after0_0, after0_1, after0_2, after0_3, after0_4,
    after0_5, show (dats m 0 c).Φ t.succ = Phi m c (t.val + 1) t.isLt from rfl,
    show (dats m 0 c).Φ t.castSucc = Phi m c t.val (Nat.le_of_lt t.isLt) from rfl,
    show Phi m c (t.val + 1) t.isLt = iprop((owns (c : Thread nD τ) (Memref.whole cc0_scratch0) fullShare (hs m c t.val t.isLt)
      ∗ owns (c : Thread nD τ) (Memref.whole cc0_scratch1) fullShare (ha m c)) ∗ ∃ r, prngReg c r) from rfl]
  have e1 := cond1_iff t
  have e2 := cond2_iff t
  have e3 := cond3_iff t
  by_cases h0 : t.val = 0
  · rw [Phi_zero m c t.val _ h0, PhiA_eq, o5_first m c t.val _ (by omega), hs_first m c t.val _ (by omega), ha_first m c t h0]
    have ho6 := o6_first m c t h0
    iintro ⟨⟨⟨⟨%s0, S0⟩, ⟨%s1, S1⟩⟩, Hp⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (e1.mpr (by omega)) (e2.mpr h0) (e3.mpr (by omega)) _ _ _ _ _ _ _ _ _ _ _ _ _ _ _ _ _ _
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [S0]; · iexists _; iexact S0
    isplitl [S1]; · iexists _; iexact S1
    iintro ⟨H0, H1, H2, H3, H4, H5, H6, S0, S1⟩
    isplitl [S0 S1 Hp]
    · isplitl [S0 S1]
      · isplitl [S0]; · iexact S0
        iexact S1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← ho6]
    iapply (post6 m c t); iexact H6
  · rw [Phi_pos m c t.val _ h0 (by omega)]
    have hb5 := before5 m c t
    have hb6 := before6 m c t h0
    have hc2 : ¬ k0_cond2 (grid0.coords t) = 1#1 := fun h => h0 (e2.mp h)
    by_cases h1 : t.val % 8 = 0
    · have hc1 := e1.mpr h1
      have hc3 : ¬ k0_cond3 (grid0.coords t) = 1#1 := fun h => by have := e3.mp h; omega
      rw [o5_first m c t.val _ h1, hs_first m c t.val _ h1]
      iintro ⟨⟨⟨S0, S1⟩, Hp⟩, Ho, ⟨%d0, H0⟩, ⟨%d1, H1⟩, ⟨%d2, H2⟩, ⟨%d3, H3⟩, ⟨%d4, H4⟩, ⟨%d5, H5⟩, ⟨%d6, H6⟩⟩
      rw [hb6]
      iapply (runC c (grid0.coords t) hc1 hc2 hc3 _ _ _ _ _ _ _ _ _ _ _ _ _ _ _ _ _ _
        (iblk m c 0 t) (iblk m c 1 t) (iblk m c 2 t) (iblk m c 3 t) (iblk m c 4 t) (o6 m c (t.val - 1) (by omega)) (ha m c) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [S0]; · iexists _; iexact S0
      isplitl [S1]; · iexact S1
      iintro ⟨H0, H1, H2, H3, H4, H5, H6, S0, S1⟩
      isplitl [S0 S1 Hp]
      · isplitl [S0 S1]
        · isplitl [S0]; · iexact S0
          iexact S1
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← o6_carry m c t.val t.isLt (by omega)]
      iapply (post6 m c t); iexact H6
    · have hc1 : ¬ cond1 (grid0.coords t) = 1#1 := fun h => h1 (e1.mp h)
      have hb5 := hb5 h1
      rw [o5_later m c t.val _ h1 (by omega), hs_later m c t.val _ h1 (by omega)]
      by_cases h8 : t.val < 8
      · have hc3 := e3.mpr h8
        have ho6 := o6_step m c t.val t.isLt h0 h8 (by omega)
        iintro ⟨⟨⟨S0, S1⟩, Hp⟩, Ho, ⟨%d0, H0⟩, ⟨%d1, H1⟩, ⟨%d2, H2⟩, ⟨%d3, H3⟩, ⟨%d4, H4⟩, ⟨%d5, H5⟩, ⟨%d6, H6⟩⟩
        rw [hb5, hb6]
        iapply (runB c (grid0.coords t) hc1 hc2 hc3 _ _ _ _ _ _ _ _ _ _ _ _ _ _ _ _ _ _
          (iblk m c 0 t) (iblk m c 1 t) (iblk m c 2 t) (iblk m c 3 t) (iblk m c 4 t) (o5 m c (t.val - 1) (by omega))
          (o6 m c (t.val - 1) (by omega)) (hs m c (t.val - 1) (by omega)) (ha m c) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        iintro ⟨H0, H1, H2, H3, H4, H5, H6, S0, S1⟩
        isplitl [S0 S1 Hp]
        · isplitl [S0 S1]
          · isplitl [S0]; · iexact S0
            iexact S1
          iexact Hp
        isplitl [Ho]; · iexact Ho
        isplitl [H0]; · iexact H0
        isplitl [H1]; · iexact H1
        isplitl [H2]; · iexact H2
        isplitl [H3]; · iexact H3
        isplitl [H4]; · iexact H4
        isplitl [H5]; · iexact H5
        rw [← ho6]
        iapply (post6 m c t); iexact H6
      · have hc3 : ¬ k0_cond3 (grid0.coords t) = 1#1 := fun h => h8 (e3.mp h)
        iintro ⟨⟨⟨S0, S1⟩, Hp⟩, Ho, ⟨%d0, H0⟩, ⟨%d1, H1⟩, ⟨%d2, H2⟩, ⟨%d3, H3⟩, ⟨%d4, H4⟩, ⟨%d5, H5⟩, ⟨%d6, H6⟩⟩
        rw [hb5, hb6]
        iapply (runD c (grid0.coords t) hc1 hc2 hc3 _ _ _ _ _ _ _ _ _ _ _ _ _ _ _ _ _ _
          (iblk m c 0 t) (iblk m c 1 t) (iblk m c 2 t) (iblk m c 3 t) (iblk m c 4 t) (o5 m c (t.val - 1) (by omega))
          (o6 m c (t.val - 1) (by omega)) (hs m c (t.val - 1) (by omega)) (ha m c) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        iintro ⟨H0, H1, H2, H3, H4, H5, H6, S0, S1⟩
        isplitl [S0 S1 Hp]
        · isplitl [S0 S1]
          · isplitl [S0]; · iexact S0
            iexact S1
          iexact Hp
        isplitl [Ho]; · iexact Ho
        isplitl [H0]; · iexact H0
        isplitl [H1]; · iexact H1
        isplitl [H2]; · iexact H2
        isplitl [H3]; · iexact H3
        isplitl [H4]; · iexact H4
        isplitl [H5]; · iexact H5
        rw [← o6_carry m c t.val t.isLt (by omega)]
        iapply (post6 m c t); iexact H6

/-! ## The run and the frame -/

/-- The last invariant gives the class's back. -/
theorem Phi_out (c : Dev nD) : (dats m 0 c).Φ (Fin.last cfg0.N) ⊢ ΦA spec0 c := by
  rw [PhiA_eq, show (dats m 0 c).Φ (Fin.last cfg0.N) = Phi m c 64 (show 64 ≤ cfg0.N from le_rfl) from rfl,
    Phi_pos m c 64 _ (by decide) (show 64 - 1 < cfg0.N by decide)]
  iintro ⟨⟨S0, S1⟩, Hp⟩
  isplitl [S0 S1]
  · isplitl [S0]; · iexists _; iexact S0
    iexists _; iexact S1
  iexact Hp

set_option backward.isDefEq.respectTransparency.types false in
/-- From any memory with zero counters every fair execution terminates, every array of the pipeline ends at what the proof
    data says, and every semaphore counter is zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := fun c => .rfl) (hout := fun c => Phi_out m c)

/-- The arguments are left as they were and every semaphore counter is zero, at any floating-point instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Kernel2Ideal.FfnRun

end
-- ==== Proof.Ffn.lean ====
/-
  The feed-forward block: what the kernel leaves in its two results, and what the reference computes, are the same tables.
  The kernel accumulates a row block's result over eight runs of 1024 inner columns.
-/
module

public import proofs.«01_k».proof.Proof.FfnRun
public import proofs.«01_k».proof.Proof.Gen.Reference2Ideal.Run
public import Idealize.ShloMosaic.Lib.Pipeline.ValueKit
public import Idealize.ShloMosaic.Lib.Pointwise
public import Idealize.ShloMosaic.Lib.Tactic

@[expose] public section

set_option maxRecDepth 16384

noncomputable section

namespace Cert.FfnSpec

open Idealize.ShloMosaic

/-- One entry of a row normalised by the root of its mean square and scaled by the gains. -/
def rms (x g : Fin 2048 → EReal) (j : Fin 2048) : EReal :=
  x j * Ideal.rsqrt (Ideal.div (∑ k, x k * x k) (Ideal.ofBits .f32 0x45000000#32) + Ideal.ofBits .f32 0x358637BD#32) * g j

/-- The square of the positive part of a row's product with a column. -/
def act (h w : Fin 2048 → EReal) : EReal := max (∑ k, h k * w k) 0 * max (∑ k, h k * w k) 0

/-- What one inner column adds to an entry of the result. -/
def term (x g : Fin 2048 → EReal) (wu : Fin 2048 → Fin 8192 → EReal) (wd : Fin 8192 → EReal) (j : Fin 8192) : EReal :=
  act (rms x g) (fun k => wu k j) * wd j

/-- One entry of the feed-forward block's result: the row's own entry and the sum over the inner columns. -/
def ffn (x g : Fin 2048 → EReal) (wu : Fin 2048 → Fin 8192 → EReal) (wd : Fin 8192 → EReal) (e : Fin 2048) : EReal :=
  x e + ∑ j, term x g wu wd j

end Cert.FfnSpec

namespace Cert.Kernel2Ideal.RefValue

open Cert.Kernel2Ideal Cert.Kernel2Ideal.Gen Cert.Kernel2Ideal.FfnRun Idealize.ShloMosaic Idealize.ShloMosaic.TcCoe Idealize.SL.Sem
open Idealize.ShloMosaic.Pipeline (Dat)
open Cert.FfnSpec

theorem pay1_apply (x : Vec Ideal S1024x2048 .f32) (g : Vec Ideal S1x2048 .f32) (y : S1024x2048.Idx) :
    k0_pay1 x g y = rms (fun k => x (ix2 (y 0) k)) (fun k => g (ix2 0 k)) (y 1) := by
  idx_vars y
  unfold_payloads
  pointwise [rms]

theorem pay2_apply (x : Vec Ideal S32x2048 .f32) (g : Vec Ideal S1x2048 .f32) (y : S32x2048.Idx) :
    k0_pay2 x g y = rms (fun k => x (ix2 (y 0) k)) (fun k => g (ix2 0 k)) (y 1) := by
  idx_vars y
  unfold_payloads
  pointwise [rms]

theorem pay3_apply (h : Vec Ideal S1024x2048 .bf16) (w : Vec Ideal S2048x1024 .bf16) (a : Vec Ideal S1024x2048 .f32)
    (d : Vec Ideal S1024x2048 .bf16) (y : S1024x2048.Idx) :
    k0_pay3 h w a d y = a y + ∑ l : Fin 1024, act (fun k => h (ix2 (y 0) k)) (fun k => w (ix2 k l)) * d (ix2 l (y 1)) := by
  idx_vars y
  unfold_payloads
  pointwise [act]

theorem pay4_apply (h : Vec Ideal S32x2048 .bf16) (w : Vec Ideal S2048x1024 .bf16) (a : Vec Ideal S32x2048 .f32)
    (d : Vec Ideal S1024x2048 .bf16) (y : S32x2048.Idx) :
    k0_pay4 h w a d y = a y + ∑ l : Fin 1024, act (fun k => h (ix2 (y 0) k)) (fun k => w (ix2 k l)) * d (ix2 l (y 1)) := by
  idx_vars y
  unfold_payloads
  pointwise [act]

/-- Where the blocks of grid point `t` lie. -/
theorem idx0 : ∀ t : Fin cfg0.N, win0_0.index t = ![t.val / 8, 0] ∧ win0_1.index t = ![0, 0] ∧ win0_2.index t = ![0, 0] ∧
    win0_3.index t = ![0, t.val % 8] ∧ win0_4.index t = ![t.val % 8, 0] ∧ win0_5.index t = ![t.val / 8, 0] ∧
    win0_6.index t = ![0, 0] := by decide +kernel

variable (m : (ℓ : Loc nD τ sig) → Buf (Elt Ideal) ℓ)

/-- A main row, an auxiliary row, the gains, the up-projection and the down-projection, as launched. -/
def xrow (c : Dev nD) (r : Fin 8192) (k : Fin 2048) : EReal := m ((c : Thread nD τ).loc main_arg0) (ix2 r k)
def arow (c : Dev nD) (r : Fin 32) (k : Fin 2048) : EReal := m ((c : Thread nD τ).loc main_arg1) (ix2 r k)
def gain (c : Dev nD) (k : Fin 2048) : EReal := m ((c : Thread nD τ).loc main_arg2) (ix2 0 k)
def wup (c : Dev nD) (k : Fin 2048) (j : Fin 8192) : EReal := m ((c : Thread nD τ).loc main_arg3) (ix3 0 k j)
def wdn (c : Dev nD) (e : Fin 2048) (j : Fin 8192) : EReal := m ((c : Thread nD τ).loc main_arg4) (ix3 0 j e)

theorem blk0 (c : Dev nD) (t : Fin cfg0.N) (a : Fin 1024) (k : Fin 2048) :
    iblk m c 0 t (ix2 a k) = xrow m c ⟨1024 * (t.val / 8) + a.val, by have : t.val < 64 := t.isLt; omega⟩ k := by
  obtain ⟨e0, e1, e2, e3, e4, e5, e6⟩ := idx0 t
  unfold xrow
  blk_ext [iblk, V, e0]

theorem blk1 (c : Dev nD) (t : Fin cfg0.N) (a : Fin 32) (k : Fin 2048) : iblk m c 1 t (ix2 a k) = arow m c a k := by
  obtain ⟨e0, e1, e2, e3, e4, e5, e6⟩ := idx0 t
  unfold arow
  blk_ext [iblk, V, e1]

theorem blk2 (c : Dev nD) (t : Fin cfg0.N) (k : Fin 2048) : iblk m c 2 t (ix2 0 k) = gain m c k := by
  obtain ⟨e0, e1, e2, e3, e4, e5, e6⟩ := idx0 t
  unfold gain
  blk_ext [iblk, V, e2]

theorem V1_apply (c : Dev nD) (k : Fin 2048) (j : Fin 8192) : V m c main_v1 (ix2 k j) = wup m c k j := by
  unfold wup
  entry_read
  pointwise

theorem V3_apply (c : Dev nD) (j : Fin 8192) (e : Fin 2048) : V m c main_v3 (ix2 j e) = wdn m c e j := by
  unfold wdn
  entry_read
  pointwise

theorem blk3 (c : Dev nD) (t : Fin cfg0.N) (k : Fin 2048) (l : Fin 1024) :
    iblk m c 3 t (ix2 k l) = wup m c k ⟨1024 * (t.val % 8) + l.val, by omega⟩ := by
  obtain ⟨e0, e1, e2, e3, e4, e5, e6⟩ := idx0 t
  rw [← V1_apply]
  blk_ext [iblk, e3]

theorem blk4 (c : Dev nD) (t : Fin cfg0.N) (l : Fin 1024) (e : Fin 2048) :
    iblk m c 4 t (ix2 l e) = wdn m c e ⟨1024 * (t.val % 8) + l.val, by omega⟩ := by
  obtain ⟨e0, e1, e2, e3, e4, e5, e6⟩ := idx0 t
  rw [← V3_apply]
  blk_ext [iblk, e4]

/-! ## The accumulation -/

/-- The first scratch buffer holds the row block's normalised rows at every point of its eight. -/
theorem hs_apply (c : Dev nD) : ∀ (n : ℕ) (h : n < cfg0.N) (a : Fin 1024) (k : Fin 2048),
    hs m c n h (ix2 a k) = rms (xrow m c ⟨1024 * (n / 8) + a.val, by have : n < 64 := h; omega⟩) (gain m c) k := by
  have first : ∀ (n : ℕ) (h : n < cfg0.N) (h8 : n % 8 = 0) (a : Fin 1024) (k : Fin 2048),
      hs m c n h (ix2 a k) = rms (xrow m c ⟨1024 * (n / 8) + a.val, by have : n < 64 := h; omega⟩) (gain m c) k := by
    intro n h h8 a k
    rw [hs_first m c n h h8, pay1_apply]
    refine congrArg₂ (fun x g => rms x g k) (funext fun k => ?_) (funext fun k => blk2 m c _ k)
    exact blk0 m c _ a k
  intro n
  induction n with
  | zero => exact fun h => first 0 h rfl
  | succ n ih =>
    intro h a k
    by_cases h8 : (n + 1) % 8 = 0
    · exact first _ h h8 a k
    · rw [hs_later m c _ h h8 (by omega)]
      refine (ih (by omega) a k).trans ?_
      have e : n / 8 = (n + 1) / 8 := by omega
      simp only [e]

/-- The second scratch buffer holds the auxiliary rows, normalised. -/
theorem ha_apply (c : Dev nD) (a : Fin 32) (k : Fin 2048) : ha m c (ix2 a k) = rms (arow m c a) (gain m c) k := by
  unfold ha
  rw [pay2_apply]
  exact congrArg₂ (fun x g => rms x g k) (funext fun k => blk1 m c _ a k) (funext fun k => blk2 m c _ k)

/-- What the `s`-th run of 1024 inner columns adds to an entry. -/
def run8 (x g : Fin 2048 → EReal) (wu : Fin 2048 → Fin 8192 → EReal) (wd : Fin 8192 → EReal) (s : ℕ) : EReal :=
  ∑ l : Fin 1024, term x g wu wd ⟨1024 * (s % 8) + l.val, by omega⟩

/-- The eight runs are all the inner columns. -/
theorem sum_run8 (x g : Fin 2048 → EReal) (wu : Fin 2048 → Fin 8192 → EReal) (wd : Fin 8192 → EReal) :
    ∑ s ∈ Finset.range 8, run8 x g wu wd s = ∑ j, term x g wu wd j := by
  rw [Finset.sum_range]
  unfold run8
  refine Eq.trans (Finset.sum_congr rfl fun s _ => Finset.sum_congr rfl fun l _ => ?_)
    (Fin.sum_mul_add_fin 8 1024 (fun j : Fin 8192 => term x g wu wd j) (by decide))
  congr 1
  apply Fin.ext
  show 1024 * (s.val % 8) + l.val = s.val * 1024 + l.val
  omega

/-- One step of a main row's entry. -/
theorem step5 (c : Dev nD) (n : ℕ) (h : n < cfg0.N) (x5 : Vec Ideal S1024x2048 .f32) (a : Fin 1024) (e : Fin 2048) :
    k0_pay3 (hs m c n h) (iblk m c 3 (pt n h)) x5 (iblk m c 4 (pt n h)) (ix2 a e) = x5 (ix2 a e)
      + run8 (xrow m c ⟨1024 * (n / 8) + a.val, by have : n < 64 := h; omega⟩) (gain m c) (wup m c) (wdn m c e) n := by
  rw [pay3_apply]
  refine congrArg (x5 (ix2 a e) + ·) (Finset.sum_congr rfl fun l _ => ?_)
  unfold term
  refine congrArg₂ (· * ·) (congrArg₂ act (funext fun k => hs_apply m c n h a k) (funext fun k => blk3 m c _ k l)) (blk4 m c _ l e)

/-- One step of an auxiliary row's entry. -/
theorem step6 (c : Dev nD) (n : ℕ) (h : n < cfg0.N) (x6 : Vec Ideal S32x2048 .f32) (a : Fin 32) (e : Fin 2048) :
    k0_pay4 (ha m c) (iblk m c 3 (pt n h)) x6 (iblk m c 4 (pt n h)) (ix2 a e) = x6 (ix2 a e)
      + run8 (arow m c a) (gain m c) (wup m c) (wdn m c e) n := by
  rw [pay4_apply]
  refine congrArg (x6 (ix2 a e) + ·) (Finset.sum_congr rfl fun l _ => ?_)
  unfold term
  refine congrArg₂ (· * ·) (congrArg₂ act (funext fun k => ha_apply m c a k) (funext fun k => blk3 m c _ k l)) (blk4 m c _ l e)

/-- A row block's running result after point `n`: the rows and the runs of inner columns so far. -/
theorem o5_apply (c : Dev nD) : ∀ (n : ℕ) (h : n < cfg0.N) (a : Fin 1024) (e : Fin 2048),
    o5 m c n h (ix2 a e) = xrow m c ⟨1024 * (n / 8) + a.val, by have : n < 64 := h; omega⟩ e
      + ∑ s ∈ Finset.range (n % 8 + 1),
          run8 (xrow m c ⟨1024 * (n / 8) + a.val, by have : n < 64 := h; omega⟩) (gain m c) (wup m c) (wdn m c e) s := by
  have first : ∀ (n : ℕ) (h : n < cfg0.N) (h8 : n % 8 = 0) (a : Fin 1024) (e : Fin 2048),
      o5 m c n h (ix2 a e) = xrow m c ⟨1024 * (n / 8) + a.val, by have : n < 64 := h; omega⟩ e
      + ∑ s ∈ Finset.range (n % 8 + 1),
          run8 (xrow m c ⟨1024 * (n / 8) + a.val, by have : n < 64 := h; omega⟩) (gain m c) (wup m c) (wdn m c e) s := by
    intro n h h8 a e
    rw [o5_first m c n h h8, step5, h8, Finset.sum_range_one]
    refine congrArg₂ (· + ·) (blk0 m c _ a e) ?_
    unfold run8
    simp only [h8, Nat.zero_mod]
  intro n
  induction n with
  | zero => exact fun h => first 0 h rfl
  | succ n ih =>
    intro h a e
    by_cases h8 : (n + 1) % 8 = 0
    · exact first _ h h8 a e
    · rw [o5_later m c _ h h8 (by omega), step5]
      have e1 : (n + 1) / 8 = n / 8 := by omega
      have e2 : (n + 1) % 8 = n % 8 + 1 := by omega
      simp only [e1, e2]
      rw [Finset.sum_range_succ _ (n % 8 + 1), ← add_assoc]
      refine congrArg₂ (· + ·) (ih (by omega) a e) ?_
      unfold run8
      have e3 : (n % 8 + 1) % 8 = (n + 1) % 8 := by omega
      simp only [e3]

/-- The auxiliary rows' running result after point `n` of the first row block. -/
theorem o6_apply (c : Dev nD) : ∀ (n : ℕ) (h : n < cfg0.N) (h8 : n < 8) (a : Fin 32) (e : Fin 2048),
    o6 m c n h (ix2 a e) = arow m c a e
      + ∑ s ∈ Finset.range (n + 1), run8 (arow m c a) (gain m c) (wup m c) (wdn m c e) s := by
  intro n
  induction n with
  | zero =>
    intro h h8 a e
    show k0_pay4 (ha m c) (iblk m c 3 (pt 0 h)) (iblk m c 1 (pt 0 h)) (iblk m c 4 (pt 0 h)) (ix2 a e) = _
    rw [step6, Finset.sum_range_one]
    exact congrArg (· + _) (blk1 m c _ a e)
  | succ n ih =>
    intro h h8 a e
    rw [o6_step m c _ h (by omega) h8 (by omega), step6, Finset.sum_range_succ _ (n + 1), ← add_assoc]
    exact congrArg (· + _) (ih (by omega) (by omega) a e)

/-- It is kept from the eighth point on. -/
theorem o6_kept (c : Dev nD) : ∀ (n : ℕ) (h : n < cfg0.N) (h7 : 7 ≤ n), o6 m c n h = o6 m c 7 (by decide) := by
  intro n h h7
  induction n, h7 using Nat.le_induction with
  | base => rfl
  | succ n hn ih => exact (o6_carry m c (n + 1) h (by omega) (by have : n + 1 < 64 := h; show n < 64; omega)).trans (ih _)

/-- The main result: every row's feed-forward block. -/
def main0 (c : Dev nD) : Buf (Elt Ideal) ((c : Thread nD τ).loc main_v4_0) :=
  fun i : S8192x2048.Idx => ffn (xrow m c (i 0)) (gain m c) (wup m c) (wdn m c (i 1)) (i 1)

/-- The auxiliary result. -/
def main1 (c : Dev nD) : Buf (Elt Ideal) ((c : Thread nD τ).loc main_v4_1) :=
  fun i : S32x2048.Idx => ffn (arow m c (i 0)) (gain m c) (wup m c) (wdn m c (i 1)) (i 1)

theorem final5 (c : Dev nD) : (dats m 0 c).arrAt 5 cfg0.N = main0 m c := by
  refine (dats m 0 c).arrAt_eq_of_covers 5 _ (by decide +kernel) fun t hf y => ?_
  have h7 := (flush0_5 t).mp hf
  obtain ⟨e0, e1, e2, e3, e4, e5, e6⟩ := idx0 t
  blk_simp
  rw [after0_5]
  idx_vars y
  rw [o5_apply, h7, sum_run8]
  have h0 : (win0_5.blk t).view.emb (ix2 y0 y1) 0 = (⟨1024 * (t.val / 8) + y0.val, by have : t.val < 64 := t.isLt; omega⟩ : Fin 8192) := by
    apply Fin.ext
    show win0_5.index t 0 * 1024 + 1 * y0.val = _
    rw [e5]; simp; try omega
  have h1 : (win0_5.blk t).view.emb (ix2 y0 y1) 1 = y1 := by
    apply Fin.ext
    show win0_5.index t 1 * 2048 + 1 * y1.val = _
    rw [e5]; simp
  unfold main0 ffn
  rw [h0, h1]

theorem final6 (c : Dev nD) : (dats m 0 c).arrAt 6 cfg0.N = main1 m c := by
  refine (dats m 0 c).arrAt_eq_of_covers 6 _ (by decide +kernel) fun t hf y => ?_
  have h7 := (flush0_6 t).mp hf
  obtain ⟨e0, e1, e2, e3, e4, e5, e6⟩ := idx0 t
  blk_simp
  rw [after0_6]
  idx_vars y
  rw [o6_kept m c _ _ (by omega), o6_apply m c 7 _ (by decide), sum_run8]
  have h0 : (win0_6.blk t).view.emb (ix2 y0 y1) 0 = (y0 : Fin 32) := by
    apply Fin.ext
    show win0_6.index t 0 * 32 + 1 * y0.val = _
    rw [e6]; simp; try omega
  have h1 : (win0_6.blk t).view.emb (ix2 y0 y1) 1 = y1 := by
    apply Fin.ext
    show win0_6.index t 1 * 2048 + 1 * y1.val = _
    rw [e6]; simp
  unfold main1 ffn
  rw [h0, h1]

/-- After the run the arguments are as launched. -/
theorem kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel2Ideal.RefValue

namespace Cert.Reference2Ideal.RefValue

open Cert.Reference2Ideal Cert.Reference2Ideal.Gen Idealize.ShloMosaic Idealize.ShloMosaic.TcCoe Idealize.SL.Sem
open Cert.FfnSpec

variable (m : (ℓ : Loc nD τ sig) → Buf (Elt Ideal) ℓ) (ρ : Dev nD → PrngReg)

/-- The normalised main rows, entry by entry. -/
theorem norm0 (x : FVec Ideal S8192x2048 .f32) (g : FVec Ideal S1x2048 .f32) (r : Fin 8192) (k : Fin 2048) :
    (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048))) : FVec Ideal S8192x2048 .f32) (ix2 r k)
      = rms (fun k => x (ix2 r k)) (fun k => g (ix2 0 k)) k := by
  pointwise [rms]

/-- The main rows' product with the up-projection. -/
theorem up0 (h : FVec Ideal S8192x2048 .f32) (w : FVec Ideal S1x2048x8192 .f32) (r : Fin 8192) (j : Fin 8192) :
    (Host.dotGeneral dot_S8192x2048_S2048x8192_S8192x8192_1_0_0_1_n_n none h (shapeCast _ w shapeCasts_S1x2048x8192_S2048x8192) : FVec Ideal S8192x8192 .f32) (ix2 r j)
      = ∑ k : Fin 2048, h (ix2 r k) * w (ix3 0 k j) := by
  pointwise

/-- The squared positive part, entry by entry. -/
theorem sq0 (u : FVec Ideal S8192x8192 .f32) (i : S8192x8192.Idx) :
    (mulf (maximumf u (broadcastInDim S8192x8192 ![] bcast_S_S8192x8192 (constant S_ .f32 0x00000000#32))) (maximumf u (broadcastInDim S8192x8192 ![] bcast_S_S8192x8192 (constant S_ .f32 0x00000000#32))) : FVec Ideal S8192x8192 .f32) i
      = max (u i) 0 * max (u i) 0 := by
  pointwise

/-- The main rows added to a product with the down-projection. -/
theorem down0 (x : FVec Ideal S8192x2048 .f32) (u : FVec Ideal S8192x8192 .f32) (w : FVec Ideal S1x8192x2048 .f32) (r : Fin 8192) (e : Fin 2048) :
    (addf x (Host.dotGeneral dot_S8192x8192_S8192x2048_S8192x2048_1_0_0_1_n_n none u (shapeCast _ w shapeCasts_S1x8192x2048_S8192x2048)) : FVec Ideal S8192x2048 .f32) (ix2 r e)
      = x (ix2 r e) + ∑ j : Fin 8192, u (ix2 r j) * w (ix3 0 j e) := by
  pointwise

/-- The normalised auxiliary rows, entry by entry. -/
theorem norm1 (x : FVec Ideal S32x2048 .f32) (g : FVec Ideal S1x2048 .f32) (r : Fin 32) (k : Fin 2048) :
    (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048))) : FVec Ideal S32x2048 .f32) (ix2 r k)
      = rms (fun k => x (ix2 r k)) (fun k => g (ix2 0 k)) k := by
  pointwise [rms]

/-- The auxiliary rows' product with the up-projection. -/
theorem up1 (h : FVec Ideal S32x2048 .f32) (w : FVec Ideal S1x2048x8192 .f32) (r : Fin 32) (j : Fin 8192) :
    (Host.dotGeneral dot_S32x2048_S2048x8192_S32x8192_1_0_0_1_n_n none h (shapeCast _ w shapeCasts_S1x2048x8192_S2048x8192) : FVec Ideal S32x8192 .f32) (ix2 r j)
      = ∑ k : Fin 2048, h (ix2 r k) * w (ix3 0 k j) := by
  pointwise

/-- The squared positive part, entry by entry. -/
theorem sq1 (u : FVec Ideal S32x8192 .f32) (i : S32x8192.Idx) :
    (mulf (maximumf u (broadcastInDim S32x8192 ![] bcast_S_S32x8192 (constant S_ .f32 0x00000000#32))) (maximumf u (broadcastInDim S32x8192 ![] bcast_S_S32x8192 (constant S_ .f32 0x00000000#32))) : FVec Ideal S32x8192 .f32) i
      = max (u i) 0 * max (u i) 0 := by
  pointwise

/-- The auxiliary rows added to a product with the down-projection. -/
theorem down1 (x : FVec Ideal S32x2048 .f32) (u : FVec Ideal S32x8192 .f32) (w : FVec Ideal S1x8192x2048 .f32) (r : Fin 32) (e : Fin 2048) :
    (addf x (Host.dotGeneral dot_S32x8192_S8192x2048_S32x2048_1_0_0_1_n_n none u (shapeCast _ w shapeCasts_S1x8192x2048_S8192x2048)) : FVec Ideal S32x2048 .f32) (ix2 r e)
      = x (ix2 r e) + ∑ j : Fin 8192, u (ix2 r j) * w (ix3 0 j e) := by
  pointwise

/-- The main rows' composed result, entry by entry. -/
theorem full0 (x : FVec Ideal S8192x2048 .f32) (g : FVec Ideal S1x2048 .f32) (w : FVec Ideal S1x2048x8192 .f32) (d : FVec Ideal S1x8192x2048 .f32)
    (a : Fin 8192) (e : Fin 2048) :
    (addf x (Host.dotGeneral dot_S8192x8192_S8192x2048_S8192x2048_1_0_0_1_n_n none (mulf (maximumf (Host.dotGeneral dot_S8192x2048_S2048x8192_S8192x8192_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))) (shapeCast _ w shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))) (shapeCast _ w shapeCasts_S1x2048x8192_S2048x8192)) (broadcastInDim S8192x8192 ![] bcast_S_S8192x8192 (constant S_ .f32 0x00000000#32)))) (shapeCast _ d shapeCasts_S1x8192x2048_S8192x2048)) : FVec Ideal S8192x2048 .f32) (ix2 a e)
      = ffn (fun k => x (ix2 a k)) (fun k => g (ix2 0 k)) (fun k j => w (ix3 0 k j)) (fun j => d (ix3 0 j e)) e := by
  refine (down0 _ _ _ a e).trans ?_
  unfold ffn term act
  refine congrArg (x (ix2 a e) + ·) (Finset.sum_congr rfl fun j _ => congrArg (· * d (ix3 0 j e)) ?_)
  have hu : ∀ j, (Host.dotGeneral dot_S8192x2048_S2048x8192_S8192x8192_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))) (shapeCast _ w shapeCasts_S1x2048x8192_S2048x8192)) (ix2 a j) = ∑ k : Fin 2048, rms (fun k => x (ix2 a k)) (fun k => g (ix2 0 k)) k * w (ix3 0 k j) := fun j =>
    (up0 _ _ a j).trans (Finset.sum_congr rfl fun k _ => congrArg (· * w (ix3 0 k j)) (norm0 x g a k))
  exact (sq0 _ _).trans (congrArg (fun u => max u 0 * max u 0) (hu j))

/-- The auxiliary rows' composed result, entry by entry. -/
theorem full1 (x : FVec Ideal S32x2048 .f32) (g : FVec Ideal S1x2048 .f32) (w : FVec Ideal S1x2048x8192 .f32) (d : FVec Ideal S1x8192x2048 .f32)
    (a : Fin 32) (e : Fin 2048) :
    (addf x (Host.dotGeneral dot_S32x8192_S8192x2048_S32x2048_1_0_0_1_n_n none (mulf (maximumf (Host.dotGeneral dot_S32x2048_S2048x8192_S32x8192_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048)))) (shapeCast _ w shapeCasts_S1x2048x8192_S2048x8192)) (broadcastInDim S32x8192 ![] bcast_S_S32x8192 (constant S_ .f32 0x00000000#32))) (maximumf (Host.dotGeneral dot_S32x2048_S2048x8192_S32x8192_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048)))) (shapeCast _ w shapeCasts_S1x2048x8192_S2048x8192)) (broadcastInDim S32x8192 ![] bcast_S_S32x8192 (constant S_ .f32 0x00000000#32)))) (shapeCast _ d shapeCasts_S1x8192x2048_S8192x2048)) : FVec Ideal S32x2048 .f32) (ix2 a e)
      = ffn (fun k => x (ix2 a k)) (fun k => g (ix2 0 k)) (fun k j => w (ix3 0 k j)) (fun j => d (ix3 0 j e)) e := by
  refine (down1 _ _ _ a e).trans ?_
  unfold ffn term act
  refine congrArg (x (ix2 a e) + ·) (Finset.sum_congr rfl fun j _ => congrArg (· * d (ix3 0 j e)) ?_)
  have hu : ∀ j, (Host.dotGeneral dot_S32x2048_S2048x8192_S32x8192_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 (shapeCast _ g shapeCasts_S1x2048_S2048)))) (shapeCast _ w shapeCasts_S1x2048x8192_S2048x8192)) (ix2 a j) = ∑ k : Fin 2048, rms (fun k => x (ix2 a k)) (fun k => g (ix2 0 k)) k * w (ix3 0 k j) := fun j =>
    (up1 _ _ a j).trans (Finset.sum_congr rfl fun k _ => congrArg (· * w (ix3 0 k j)) (norm1 x g a k))
  exact (sq1 _ _).trans (congrArg (fun u => max u 0 * max u 0) (hu j))

/-- The reference's run: both results are the rows' feed-forward blocks. -/
theorem run : θ_run defs (onTc (τ := τ) (main (F := Ideal))) ⟨m, fun _ => 0, ρ⟩ fun r => ∀ c : Dev nD,
      (∀ (a : Fin 8192) (e : Fin 2048), r.2.mem ((c.tc : Thread nD τ).loc main_v20) (ix2 a e)
        = ffn (fun k => m ((c.tc : Thread nD τ).loc main_arg0) (ix2 a k)) (fun k => m ((c.tc : Thread nD τ).loc main_arg2) (ix2 0 k))
            (fun k j => m ((c.tc : Thread nD τ).loc main_arg3) (ix3 0 k j)) (fun j => m ((c.tc : Thread nD τ).loc main_arg4) (ix3 0 j e)) e)
      ∧ (∀ (a : Fin 32) (e : Fin 2048), r.2.mem ((c.tc : Thread nD τ).loc main_v41) (ix2 a e)
        = ffn (fun k => m ((c.tc : Thread nD τ).loc main_arg1) (ix2 a k)) (fun k => m ((c.tc : Thread nD τ).loc main_arg2) (ix2 0 k))
            (fun k j => m ((c.tc : Thread nD τ).loc main_arg3) (ix3 0 k j)) (fun j => m ((c.tc : Thread nD τ).loc main_arg4) (ix3 0 j e)) e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun a e => ?_, fun a e => ?_, (h c).2.2⟩) (Cert.Reference2Ideal.Value.run m ρ)
  · rw [(h c).1]
    exact full0 _ _ _ _ a e
  · rw [(h c).2.1]
    exact full1 _ _ _ _ a e

end Cert.Reference2Ideal.RefValue

end
-- ==== Proof.OutProj.lean ====
/-
  The output projection with its residual: what the kernel leaves in its two results, and what the reference computes,
  are the same table, each entry a residual entry plus a row's product with a column of the weights.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic

@[expose] public section

set_option maxRecDepth 16384

noncomputable section

namespace Cert.Kernel3Ideal.RefValue

open Cert.Kernel3Ideal Cert.Kernel3Ideal.Gen Idealize.ShloMosaic Idealize.ShloMosaic.TcCoe Idealize.SL.Sem
open Idealize.ShloMosaic.Pipeline (Dat)

/-- One entry: a residual entry plus a row's product with a column of the weights. -/
def proj (z : EReal) (x y : Fin 2048 → EReal) : EReal := z + ∑ k, x k * y k

/-- What one grid point leaves in its block of the main result. -/
theorem out5_apply (x0 : Vec Ideal S2048x2048 .bf16) (x1 : Vec Ideal S32x2048 .bf16) (x2 : Vec Ideal S2048x512 .bf16)
    (x3 : Vec Ideal S2048x512 .f32) (x4 : Vec Ideal S32x512 .f32) (y : S2048x512.Idx) :
    out0_5 x0 x1 x2 x3 x4 y = proj (x3 y) (fun k => x0 (ix2 (y 0) k)) (fun k => x2 (ix2 k (y 1))) := by
  idx_vars y
  frame_out
  unfold_payloads
  pointwise [proj]

/-- What one grid point leaves in its block of the auxiliary result. -/
theorem out6_apply (x0 : Vec Ideal S2048x2048 .bf16) (x1 : Vec Ideal S32x2048 .bf16) (x2 : Vec Ideal S2048x512 .bf16)
    (x3 : Vec Ideal S2048x512 .f32) (x4 : Vec Ideal S32x512 .f32) (y : S1x32x512.Idx) :
    out0_6 x0 x1 x2 x3 x4 y = proj (x4 (ix2 (y 1) (y 2))) (fun k => x1 (ix2 (y 1) k)) (fun k => x2 (ix2 k (y 2))) := by
  frame_out
  unfold_payloads
  pointwise [proj]

/-- Where the blocks of grid point `t` lie. -/
theorem idx0 : ∀ t : Fin cfg0.N, win0_0.index t = ![t.val / 4, 0] ∧ win0_1.index t = ![0, 0] ∧ win0_2.index t = ![0, t.val % 4] ∧
    win0_3.index t = ![t.val / 4, t.val % 4] ∧ win0_4.index t = ![0, t.val % 4] ∧
    win0_5.index t = ![t.val / 4, t.val % 4] ∧ win0_6.index t = ![t.val / 4, 0, t.val % 4] := by decide +kernel

variable (m : (ℓ : Loc nD τ sig) → Buf (Elt Ideal) ℓ)

/-- Block `t` of the weights is a run of 512 columns of them. -/
theorem wblk (c : Dev nD) (t : Fin cfg0.N) (k : Fin 2048) (e : Fin 512) :
    iblk m c 2 t (ix2 k e) = m ((c : Thread nD τ).loc main_arg2) (ix3 0 k ⟨512 * (t.val % 4) + e.val, by omega⟩) := by
  obtain ⟨e0, e1, e2, e3, e4, e5, e6⟩ := idx0 t
  have he : (win0_2.blk t).view.emb (ix2 k e) = (ix2 k ⟨512 * (t.val % 4) + e.val, by omega⟩ : S2048x2048.Idx) := by
    funext a
    apply Fin.ext
    match a with
    | ⟨0, _⟩ => show win0_2.index t 0 * 2048 + 1 * k.val = k.val; rw [e2]; simp
    | ⟨1, _⟩ => show win0_2.index t 1 * 512 + 1 * e.val = 512 * (t.val % 4) + e.val; rw [e2]; simp; omega
  unfold iblk
  rw [View.read_apply]
  show V m c main_v1 ((win0_2.blk t).view.emb (ix2 k e)) = _
  rw [he]
  entry_read
  pointwise

/-- The main result as a function of the arguments. -/
def main0 (c : Dev nD) : Buf (Elt Ideal) ((c : Thread nD τ).loc main_v2_0) :=
  fun i : S8192x2048.Idx => proj (m ((c : Thread nD τ).loc main_arg3) i) (fun k => m ((c : Thread nD τ).loc main_arg0) (ix2 (i 0) k))
     (fun k => m ((c : Thread nD τ).loc main_arg2) (ix3 0 k (i 1)))

/-- The auxiliary result, once for each of the four row blocks of the grid. -/
def main1 (c : Dev nD) : Buf (Elt Ideal) ((c : Thread nD τ).loc main_v2_1) :=
  fun i : S4x32x2048.Idx => proj (m ((c : Thread nD τ).loc main_arg4) (ix2 (i 1) (i 2))) (fun k => m ((c : Thread nD τ).loc main_arg1) (ix2 (i 1) k))
     (fun k => m ((c : Thread nD τ).loc main_arg2) (ix3 0 k (i 2)))

/-- The main result after the run: every block is written once and they fill the array. -/
theorem final5 (c : Dev nD) : (dats m 0 c).arrAt 5 cfg0.N = main0 m c := by
  refine (dats m 0 c).arrAt_eq_of_covers 5 _ (by decide +kernel) fun t hf y => ?_
  blk_simp
  rw [after0_5, out5_apply]
  obtain ⟨e0, e1, e2, e3, e4, e5, e6⟩ := idx0 t
  unfold main0 proj
  refine congrArg₂ (· + ·) ?_ (Finset.sum_congr rfl fun k _ => congrArg₂ (· * ·) ?_ ?_)
  · blk_ext [iblk, V, e3, e5]
  · blk_ext [iblk, V, e0, e5]
  · refine (wblk m c t k (y 1)).trans ?_
    blk_ext [e5]

/-- The auxiliary result after the run. -/
theorem final6 (c : Dev nD) : (dats m 0 c).arrAt 6 cfg0.N = main1 m c := by
  refine (dats m 0 c).arrAt_eq_of_covers 6 _ (by decide +kernel) fun t hf y => ?_
  blk_simp
  rw [after0_6, out6_apply]
  obtain ⟨e0, e1, e2, e3, e4, e5, e6⟩ := idx0 t
  unfold main1 proj
  refine congrArg₂ (· + ·) ?_ (Finset.sum_congr rfl fun k _ => congrArg₂ (· * ·) ?_ ?_)
  · blk_ext [iblk, V, e4, e6]
  · blk_ext [iblk, V, e1, e6]
  · refine (wblk m c t k (y 2)).trans ?_
    blk_ext [e6]

end Cert.Kernel3Ideal.RefValue

namespace Cert.Reference3Ideal.RefValue

open Cert.Reference3Ideal Cert.Reference3Ideal.Gen Idealize.ShloMosaic Idealize.ShloMosaic.TcCoe Idealize.SL.Sem
open Cert.Kernel3Ideal.RefValue (proj)

variable (m : (ℓ : Loc nD τ sig) → Buf (Elt Ideal) ℓ) (ρ : Dev nD → PrngReg)

/-- The reference's main result at one entry. -/
theorem full0 (z : FVec Ideal S8192x2048 .f32) (a : FVec Ideal S8192x2048 .bf16) (w : FVec Ideal S1x2048x2048 .f32) (i : S8192x2048.Idx) :
    (addf z (Host.dotGeneral dot_S8192x2048_S2048x2048_S8192x2048_1_0_0_1_n_n none (extf .f32 a bitsLt_bf16_f32)
      (shapeCast S2048x2048 w shapeCasts_S1x2048x2048_S2048x2048)) : FVec Ideal S8192x2048 .f32) i =
    proj (z i) (fun k => a (ix2 (i 0) k)) (fun k => w (ix3 0 k (i 1))) := by
  idx_vars i
  pointwise [proj]

/-- The auxiliary sum at one entry. -/
theorem aux1 (z : FVec Ideal S32x2048 .f32) (a : FVec Ideal S32x2048 .bf16) (w : FVec Ideal S1x2048x2048 .f32) (r : Fin 32) (e : Fin 2048) :
    (addf z (Host.dotGeneral dot_S32x2048_S2048x2048_S32x2048_1_0_0_1_n_n none (extf .f32 a bitsLt_bf16_f32)
      (shapeCast S2048x2048 w shapeCasts_S1x2048x2048_S2048x2048)) : FVec Ideal S32x2048 .f32) (ix2 r e) =
    proj (z (ix2 r e)) (fun k => a (ix2 r k)) (fun k => w (ix3 0 k e)) := by
  pointwise [proj]

/-- Repeating the auxiliary rows for each of the four row blocks. -/
theorem rep1 (s : FVec Ideal S32x2048 .f32) (i : S4x32x2048.Idx) :
    (broadcastInDim S4x32x2048 ![0, 1, 2] bcast_S1x32x2048_S4x32x2048_0_1_2 (broadcastInDim S1x32x2048 ![1, 2] bcast_S32x2048_S1x32x2048_1_2 s)
      : FVec Ideal S4x32x2048 .f32) i = s (ix2 (i 1) (i 2)) := by
  pointwise

/-- The reference's run: both results are the same tables. -/
theorem run : θ_run defs (onTc (τ := τ) (main (F := Ideal))) ⟨m, fun _ => 0, ρ⟩ fun r => ∀ c : Dev nD,
      (∀ i : S8192x2048.Idx, r.2.mem ((c.tc : Thread nD τ).loc main_v3) i = proj (m ((c.tc : Thread nD τ).loc main_arg3) i)
        (fun k => m ((c.tc : Thread nD τ).loc main_arg0) (ix2 (i 0) k)) (fun k => m ((c.tc : Thread nD τ).loc main_arg2) (ix3 0 k (i 1))))
      ∧ (∀ i : S4x32x2048.Idx, r.2.mem ((c.tc : Thread nD τ).loc main_v9) i = proj (m ((c.tc : Thread nD τ).loc main_arg4) (ix2 (i 1) (i 2)))
        (fun k => m ((c.tc : Thread nD τ).loc main_arg1) (ix2 (i 1) k)) (fun k => m ((c.tc : Thread nD τ).loc main_arg2) (ix3 0 k (i 2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun i => ?_, fun i => ?_, (h c).2.2⟩) (Cert.Reference3Ideal.Value.run m ρ)
  · rw [(h c).1]
    exact full0 _ _ _ i
  · rw [(h c).2.1]
    exact (rep1 _ i).trans (aux1 _ _ _ (i 1) (i 2))

end Cert.Reference3Ideal.RefValue

end
-- ==== Proof.Scale.lean ====
/-
  The scale of the queries: the kernel multiplies by one constant, named as one over the root of 128 times the logarithm of
  two; the references divide by the root and then by the logarithm.
-/
module

public import Idealize.ShloMosaic.Lib.Pointwise
public import Idealize.ShloMosaic.PureOps.Ideal

@[expose] public section

noncomputable section

namespace Cert.Scale

open Idealize.ShloMosaic

/-- One over the root of the head width times the logarithm of two. -/
def sc : EReal := (((Real.sqrt 128)⁻¹ * (Real.log 2)⁻¹ : ℝ) : EReal)

/-- The pattern of the head width denotes 128. -/
theorem ofBits_128 : Ideal.ofBits .f32 0x43000000#32 = ((128 : ℝ) : EReal) := by
  simp [Ideal.ofBits, Ideal.ieee, -EReal.coe_mul]; norm_num

/-- The pattern of two denotes 2. -/
theorem ofBits_two : Ideal.ofBits .f32 0x40000000#32 = ((2 : ℝ) : EReal) := by
  simp [Ideal.ofBits, Ideal.ieee, -EReal.coe_mul]; norm_num

/-- Dividing by the root and then by the logarithm is multiplying by the scale. -/
theorem two_div (x : EReal) : Ideal.div (Ideal.div x (Ideal.sqrt (Ideal.ofBits .f32 0x43000000#32))) (Ideal.log (Ideal.ofBits .f32 0x40000000#32)) = x * sc := by
  rw [ofBits_128, ofBits_two, Ideal.sqrt_coe, Ideal.log_coe]
  have h1 : Real.sqrt 128 ≠ 0 := (Real.sqrt_pos.mpr (by norm_num)).ne'
  have h2 : Real.log 2 ≠ 0 := (Real.log_pos (by norm_num)).ne'
  rw [if_neg (by norm_num), if_neg (by norm_num), Ideal.div_coe h1, Ideal.div_coe h2, mul_assoc, ← EReal.coe_mul, sc, one_div, one_div]

end Cert.Scale

end
-- ==== Proof.ProjSq.lean ====
/-
  The projection of the stick-breaking queries, scaled: what the kernel leaves in its two results, and what the reference
  computes, are the same table.
-/
module

public import proofs.«01_k».proof.Proof.Gen.Kernel4Ideal.Value
public import proofs.«01_k».proof.Proof.Gen.Reference4Ideal.Run
public import proofs.«01_k».proof.Proof.Scale
public import Idealize.ShloMosaic.Lib.Pipeline.ValueKit
public import Idealize.ShloMosaic.Lib.Pointwise
public import Idealize.ShloMosaic.Lib.Tactic

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Pipeline (Dat)
open Cert.Scale (sc)

/-- The constant the kernel multiplies by, at its name's value. -/
theorem scale : Named.named (F := Ideal) Cert.Kernel4Ideal.κ "scale" (φ := .f32) 0x3E0293EE#32 = sc :=
  IdealRules.named_const.ideal_named_scalar _ _ _ _ rfl

/-- A column of the main result is below 2048. -/
theorem idx_lt1 (i : (⟨2, ![8192, 2048]⟩ : Shape).Idx) : (i 1).val < 2048 := (i 1).isLt
/-- A column of the auxiliary result is below 2048. -/
theorem idx_lt2 (i : (⟨3, ![4, 32, 2048]⟩ : Shape).Idx) : (i 2).val < 2048 := (i 2).isLt

/-- One entry: a row's product with a column of the weights, scaled. -/
def query (x y : Fin 2048 → EReal) : EReal := (∑ k, x k * y k) * sc

variable (m : (ℓ : Loc nD τ sig) → Buf (Elt Ideal) ℓ)

/-- What one grid point leaves in its block of the main result. -/
theorem out4_apply (c : Dev nD) (t : Fin cfg0.N) (y : S2048x512.Idx) :
    (outsAt0 m c t).1 y = query (fun k => iblk m c 0 t (ix2 (y 0) k)) (fun k => X0_2 m c t (ix2 (y 1) k)) := by
  unfold outsAt0
  frame_out
  generalize iblk m c 0 t = x0
  generalize X0_2 m c t = x2
  canon_tiles x h
  all_goals
    idx_vars y
    idx_vars x
    unfold_payloads
    pointwise [query, scale]
    refine congrArg (· * sc) (Finset.sum_congr rfl fun k _ => ?_)
    congr 1 <;> blk_ext []

/-- What one grid point leaves in its block of the auxiliary result. -/
theorem out5_apply (c : Dev nD) (t : Fin cfg0.N) (y : S1x32x512.Idx) :
    (outsAt0 m c t).2 y = query (fun k => iblk m c 1 t (ix2 (y 1) k)) (fun k => X0_2 m c t (ix2 (y 2) k)) := by
  unfold outsAt0
  frame_out
  unfold_payloads
  pointwise [query, scale]

/-- Where the blocks of grid point `t` lie. -/
theorem idx0 : ∀ t : Fin cfg0.N, win0_0.index t = ![t.val / 4, 0] ∧ win0_1.index t = ![0, 0] ∧ win0_2.index t = ![t.val % 4, 0] ∧
    win0_4.index t = ![t.val / 4, t.val % 4] ∧ win0_5.index t = ![t.val / 4, 0, t.val % 4] := by decide +kernel

/-- Block `t` of the transposed weights is a run of 512 rows of it. -/
theorem wblk (c : Dev nD) (t : Fin cfg0.N) (e : Fin 512) (k : Fin 2048) :
    X0_2 m c t (ix2 e k) = m ((c : Thread nD τ).loc main_arg2) (ix3 0 k ⟨512 * (t.val % 4) + e.val, by omega⟩) := by
  obtain ⟨e0, e1, e2, e4, e5⟩ := idx0 t
  unfold X0_2 Pipeline.Window.fill
  rw [dif_pos (moved0_2 t _)]
  unfold iblk
  rw [View.read_apply]
  have he : (win0_2.blk t).view.emb (fun a => ⟨((ix2 e k : S512x2048.Idx) a).val, ((cfg0.win 2).moved_iff _ _).mp (moved0_2 t _) a⟩) = (ix2 ⟨512 * (t.val % 4) + e.val, by omega⟩ k : S10256x2048.Idx) := by
    funext a
    apply Fin.ext
    match a with
    | ⟨0, _⟩ => show win0_2.index t 0 * 512 + 1 * e.val = 512 * (t.val % 4) + e.val; rw [e2]; simp; omega
    | ⟨1, _⟩ => show win0_2.index t 1 * 2048 + 1 * k.val = k.val; rw [e2]; simp
  show V m c main_v1 ((win0_2.blk t).view.emb _) = _
  refine (congrArg (V m c main_v1) he).trans ?_
  entry_read
  pointwise

/-- The main result as a function of the arguments. -/
def main0 (c : Dev nD) : Buf (Elt Ideal) ((c : Thread nD τ).loc main_v2_0) :=
  fun i : S8192x2048.Idx => query (fun k => m ((c : Thread nD τ).loc main_arg0) (ix2 (i 0) k))
     (fun k => m ((c : Thread nD τ).loc main_arg2) (ix3 0 k ⟨(i 1).val, by have := idx_lt1 i; omega⟩))

/-- The auxiliary result, once for each of the four row blocks of the grid. -/
def main1 (c : Dev nD) : Buf (Elt Ideal) ((c : Thread nD τ).loc main_v2_1) :=
  fun i : S4x32x2048.Idx => query (fun k => m ((c : Thread nD τ).loc main_arg1) (ix2 (i 1) k))
     (fun k => m ((c : Thread nD τ).loc main_arg2) (ix3 0 k ⟨(i 2).val, by have := idx_lt2 i; omega⟩))

/-- The main result after the run: every block is written once and they fill the array. -/
theorem final4 (c : Dev nD) : (dats m 0 c).arrAt 4 cfg0.N = main0 m c := by
  refine (dats m 0 c).arrAt_eq_of_covers 4 _ (by decide +kernel) fun t hf y => ?_
  blk_simp
  rw [after0_4, out4_apply]
  obtain ⟨e0, e1, e2, e4, e5⟩ := idx0 t
  unfold main0 query
  refine congrArg (· * sc) (Finset.sum_congr rfl fun k _ => congrArg₂ (· * ·) ?_ ?_)
  · blk_ext [iblk, V, e0, e4]
  · refine (wblk m c t (y 1) k).trans ?_
    blk_ext [e4]

/-- The auxiliary result after the run. -/
theorem final5 (c : Dev nD) : (dats m 0 c).arrAt 5 cfg0.N = main1 m c := by
  refine (dats m 0 c).arrAt_eq_of_covers 5 _ (by decide +kernel) fun t hf y => ?_
  blk_simp
  rw [after0_5, out5_apply]
  obtain ⟨e0, e1, e2, e4, e5⟩ := idx0 t
  unfold main1 query
  refine congrArg (· * sc) (Finset.sum_congr rfl fun k _ => congrArg₂ (· * ·) ?_ ?_)
  · blk_ext [iblk, V, e1, e5]
  · refine (wblk m c t (y 2) k).trans ?_
    blk_ext [e5]

end Cert.Kernel4Ideal.RefValue

namespace Cert.Reference4Ideal.RefValue

open Cert.Reference4Ideal Cert.Reference4Ideal.Gen Idealize.ShloMosaic Idealize.ShloMosaic.TcCoe Idealize.SL.Sem
open Cert.Kernel4Ideal.RefValue (query idx_lt1 idx_lt2)

variable (m : (ℓ : Loc nD τ sig) → Buf (Elt Ideal) ℓ) (ρ : Dev nD → PrngReg)

/-- A product of rows with the query columns of the weights, at one entry. -/
theorem dot0 (a : FVec Ideal S8192x2048 .bf16) (w : FVec Ideal S1x2048x10256 .f32) (i : S8192x2048.Idx) :
    (Host.dotGeneral dot_S8192x2048_S2048x2048_S8192x2048_1_0_0_1_n_n none (extf FTy.f32 a bitsLt_bf16_f32)
      (extractStridedSlice S2048x2048 ![0, 0] (shapeCast S2048x10256 w shapeCasts_S1x2048x10256_S2048x10256)
        slices_S2048x10256_S2048x2048_0_0) : FVec Ideal S8192x2048 .f32) i =
    ∑ k : Fin 2048, a (ix2 (i 0) k) * w (ix3 0 k ⟨(i 1).val, by have := idx_lt1 i; omega⟩) := by
  idx_vars i
  pointwise

/-- The same for the auxiliary rows. -/
theorem dot1 (a : FVec Ideal S32x2048 .bf16) (w : FVec Ideal S1x2048x10256 .f32) (r : Fin 32) (e : Fin 2048) :
    (Host.dotGeneral dot_S32x2048_S2048x2048_S32x2048_1_0_0_1_n_n none (extf FTy.f32 a bitsLt_bf16_f32)
      (extractStridedSlice S2048x2048 ![0, 0] (shapeCast S2048x10256 w shapeCasts_S1x2048x10256_S2048x10256)
        slices_S2048x10256_S2048x2048_0_0) : FVec Ideal S32x2048 .f32) (ix2 r e) =
    ∑ k : Fin 2048, a (ix2 r k) * w (ix3 0 k ⟨e.val, by omega⟩) := by
  pointwise

/-- The two divisions are the scale, entry by entry. -/
theorem div0 (s : FVec Ideal S8192x2048 .f32) (i : S8192x2048.Idx) :
    (truncf .bf16 (Host.divf (Host.divf s (broadcastInDim S8192x2048 ![] bcast_S_S8192x2048 (Host.sqrt (constant S_ .f32 0x43000000#32))))
      (broadcastInDim S8192x2048 ![] bcast_S_S8192x2048 (Host.log (constant S_ .f32 0x40000000#32)))) bitsLt_bf16_f32 : FVec Ideal S8192x2048 .bf16) i =
    s i * Cert.Scale.sc := by
  refine Eq.trans ?_ (Cert.Scale.two_div (s i))
  pointwise
  try rfl

/-- The same for the auxiliary rows, repeated for each of the four row blocks. -/
theorem div1 (s : FVec Ideal S32x2048 .f32) (i : S4x32x2048.Idx) :
    (broadcastInDim S4x32x2048 ![0, 1, 2] bcast_S1x32x2048_S4x32x2048_0_1_2 (broadcastInDim S1x32x2048 ![1, 2] bcast_S32x2048_S1x32x2048_1_2
      (truncf .bf16 (Host.divf (Host.divf s (broadcastInDim S32x2048 ![] bcast_S_S32x2048 (Host.sqrt (constant S_ .f32 0x43000000#32))))
      (broadcastInDim S32x2048 ![] bcast_S_S32x2048 (Host.log (constant S_ .f32 0x40000000#32)))) bitsLt_bf16_f32)) : FVec Ideal S4x32x2048 .bf16) i =
    s (ix2 (i 1) (i 2)) * Cert.Scale.sc := by
  refine Eq.trans ?_ (Cert.Scale.two_div (s (ix2 (i 1) (i 2))))
  pointwise
  try rfl

/-- The reference's run: both results are the same tables. -/
theorem run : θ_run defs (onTc (τ := τ) (main (F := Ideal))) ⟨m, fun _ => 0, ρ⟩ fun r => ∀ c : Dev nD,
      (∀ i : S8192x2048.Idx, r.2.mem ((c.tc : Thread nD τ).loc main_v10) i = query (fun k => m ((c.tc : Thread nD τ).loc main_arg0) (ix2 (i 0) k))
        (fun k => m ((c.tc : Thread nD τ).loc main_arg2) (ix3 0 k ⟨(i 1).val, by have := idx_lt1 i; omega⟩)))
      ∧ (∀ i : S4x32x2048.Idx, r.2.mem ((c.tc : Thread nD τ).loc main_v23) i = query (fun k => m ((c.tc : Thread nD τ).loc main_arg1) (ix2 (i 1) k))
        (fun k => m ((c.tc : Thread nD τ).loc main_arg2) (ix3 0 k ⟨(i 2).val, by have := idx_lt2 i; omega⟩)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i => ?_, fun i => ?_, (h c).2.2⟩) (Cert.Reference4Ideal.Value.run m ρ)
  · rw [(h c).1]
    exact (div0 _ i).trans (congrArg (· * Cert.Scale.sc) (dot0 _ _ i))
  · rw [(h c).2.1]
    exact (div1 _ i).trans (congrArg (· * Cert.Scale.sc) (dot1 _ _ (i 1) (i 2)))

end Cert.Reference4Ideal.RefValue

end
-- ==== Proof.ProjFq.lean ====
/-
  The projection of the forgetting queries, normalised head by head and scaled: what the kernel leaves in its two results,
  and what the reference computes, are the same table.
-/
module

public import proofs.«01_k».proof.Proof.Gen.Kernel5Ideal.Value
public import proofs.«01_k».proof.Proof.Gen.Reference5Ideal.Run
public import proofs.«01_k».proof.Proof.Scale
public import Idealize.ShloMosaic.Lib.Pipeline.ValueKit
public import Idealize.ShloMosaic.Lib.Pointwise
public import Idealize.ShloMosaic.Lib.Tactic

@[expose] public section

set_option maxRecDepth 16384

noncomputable section

namespace Cert.Kernel5Ideal.RefValue

open Cert.Kernel5Ideal Cert.Kernel5Ideal.Gen Idealize.ShloMosaic Idealize.ShloMosaic.TcCoe Idealize.SL.Sem
open Idealize.ShloMosaic.Pipeline (Dat)
open Cert.Scale (sc)

/-- The constant the kernel multiplies by, at its name's value. -/
theorem scale : Named.named (F := Ideal) Cert.Kernel5Ideal.κ "scale" (φ := .f32) 0x3E0293EE#32 = sc :=
  IdealRules.named_const.ideal_named_scalar _ _ _ _ rfl

/-- A column of the main result is below 2048. -/
theorem idx_lt1 (i : (⟨2, ![8192, 2048]⟩ : Shape).Idx) : (i 1).val < 2048 := (i 1).isLt
/-- A column of the auxiliary result is below 2048. -/
theorem idx_lt2 (i : (⟨3, ![4, 32, 2048]⟩ : Shape).Idx) : (i 2).val < 2048 := (i 2).isLt

/-- One entry of a normalised head: the head's values `p` over the root of their mean square, with a gain, scaled. -/
def head (p g : Fin 128 → EReal) (d : Fin 128) : EReal :=
  p d * Ideal.rsqrt (Ideal.div (∑ e, p e * p e) (Ideal.ofBits .f32 0x43000000#32) + Ideal.ofBits .f32 0x358637BD#32) * g d * sc

/-- The head's values: a row's products with the head's columns of the weights. -/
def vals (x : Fin 2048 → EReal) (w : Fin 128 → Fin 2048 → EReal) (e : Fin 128) : EReal := ∑ k, x k * w e k

variable (m : (ℓ : Loc nD τ sig) → Buf (Elt Ideal) ℓ)

/-- The head a column of a block of 512 lies in starts at a multiple of 128. -/
theorem lt512 (y : Fin 512) (e : Fin 128) : 128 * (y.val / 128) + e.val < 512 := by omega

set_option maxHeartbeats 2000000 in
/-- What one grid point leaves in its block of the main result. -/
theorem out4_apply (c : Dev nD) (t : Fin cfg0.N) (y : S2048x512.Idx) :
    (outsAt0 m c t).1 y = head (vals (fun k => iblk m c 0 t (ix2 (y 0) k)) (fun e k => X0_2 m c t (ix2 ⟨128 * ((y 1).val / 128) + e.val, lt512 (y 1) e⟩ k)))
      (fun e => iblk m c 3 t (ix2 0 e)) ⟨(y 1).val % 128, Nat.mod_lt _ (by omega)⟩ := by
  unfold outsAt0
  frame_out
  generalize iblk m c 0 t = x0
  generalize X0_2 m c t = x2
  generalize iblk m c 3 t = x3
  canon_tiles x h
  all_goals
    idx_vars y
    idx_vars x
    unfold_payloads
    pointwise [head, vals, scale]
    refine congrArg (· * sc) ?_
    split_ifs with p1 p2 p3
    all_goals
      refine congrArg₂ (· * ·) (congrArg₂ (· * ·) (Finset.sum_congr rfl fun k _ => congrArg₂ (· * ·) ?_ ?_)
        (congrArg Ideal.rsqrt (congrArg₂ (· + ·) (congrArg₂ Ideal.div (Finset.sum_congr rfl fun e _ => congrArg₂ (· * ·)
          (Finset.sum_congr rfl fun k _ => congrArg₂ (· * ·) ?_ ?_) (Finset.sum_congr rfl fun k _ => congrArg₂ (· * ·) ?_ ?_)) rfl) rfl))) ?_
    all_goals blk_ext []

/-- What one grid point leaves in its block of the auxiliary result. -/
theorem out5_apply (c : Dev nD) (t : Fin cfg0.N) (y : S1x32x512.Idx) :
    (outsAt0 m c t).2 y = head (vals (fun k => iblk m c 1 t (ix2 (y 1) k)) (fun e k => X0_2 m c t (ix2 ⟨128 * ((y 2).val / 128) + e.val, lt512 (y 2) e⟩ k)))
      (fun e => iblk m c 3 t (ix2 0 e)) ⟨(y 2).val % 128, Nat.mod_lt _ (by omega)⟩ := by
  unfold outsAt0
  frame_out
  generalize iblk m c 1 t = x1
  generalize X0_2 m c t = x2
  generalize iblk m c 3 t = x3
  idx_vars y
  unfold_payloads
  pointwise [head, vals, scale]
  refine congrArg (· * sc) ?_
  split_ifs with p1 p2 p3
  all_goals
    refine congrArg₂ (· * ·) (congrArg₂ (· * ·) (Finset.sum_congr rfl fun k _ => congrArg₂ (· * ·) ?_ ?_)
      (congrArg Ideal.rsqrt (congrArg₂ (· + ·) (congrArg₂ Ideal.div (Finset.sum_congr rfl fun e _ => congrArg₂ (· * ·)
        (Finset.sum_congr rfl fun k _ => congrArg₂ (· * ·) ?_ ?_) (Finset.sum_congr rfl fun k _ => congrArg₂ (· * ·) ?_ ?_)) rfl) rfl))) ?_
  all_goals blk_ext []

/-- Where the blocks of grid point `t` lie. -/
theorem idx0 : ∀ t : Fin cfg0.N, win0_0.index t = ![t.val / 4, 0] ∧ win0_1.index t = ![0, 0] ∧ win0_2.index t = ![t.val % 4 + 6, 0] ∧
    win0_3.index t = ![0, 0] ∧ win0_4.index t = ![t.val / 4, t.val % 4] ∧ win0_5.index t = ![t.val / 4, 0, t.val % 4] := by decide +kernel

/-- Block `t` of the transposed weights is a run of 512 rows of it. -/
theorem wblk (c : Dev nD) (t : Fin cfg0.N) (e : Fin 512) (k : Fin 2048) :
    X0_2 m c t (ix2 e k) = m ((c : Thread nD τ).loc main_arg2) (ix3 0 k ⟨3072 + (512 * (t.val % 4) + e.val), by omega⟩) := by
  obtain ⟨e0, e1, e2, e3, e4, e5⟩ := idx0 t
  unfold X0_2 Pipeline.Window.fill
  rw [dif_pos (moved0_2 t _)]
  unfold iblk
  rw [View.read_apply]
  have he : (win0_2.blk t).view.emb (fun a => ⟨((ix2 e k : S512x2048.Idx) a).val, ((cfg0.win 2).moved_iff _ _).mp (moved0_2 t _) a⟩) = (ix2 ⟨3072 + (512 * (t.val % 4) + e.val), by omega⟩ k : S10256x2048.Idx) := by
    funext a
    apply Fin.ext
    match a with
    | ⟨0, _⟩ => show win0_2.index t 0 * 512 + 1 * e.val = 3072 + (512 * (t.val % 4) + e.val); rw [e2]; simp; omega
    | ⟨1, _⟩ => show win0_2.index t 1 * 2048 + 1 * k.val = k.val; rw [e2]; simp
  show V m c main_v1 ((win0_2.blk t).view.emb _) = _
  refine (congrArg (V m c main_v1) he).trans ?_
  entry_read
  pointwise

/-- A column of a head, as a column of the weights. -/
theorem lt2048 (y : Fin 2048) (e : Fin 128) : 3072 + (128 * (y.val / 128) + e.val) < 10256 := by omega

/-- One result entry: the row `x`, all the weights `w`, the gain `g`, at column `j`. -/
def query (x : Fin 2048 → EReal) (w : Fin 2048 → Fin 10256 → EReal) (g : Fin 128 → EReal) (j : Fin 2048) : EReal :=
  head (vals x (fun e k => w k ⟨3072 + (128 * (j.val / 128) + e.val), lt2048 j e⟩)) g ⟨j.val % 128, Nat.mod_lt _ (by omega)⟩

/-- The main result as a function of the arguments. -/
def main0 (c : Dev nD) : Buf (Elt Ideal) ((c : Thread nD τ).loc main_v2_0) :=
  fun i : S8192x2048.Idx => query (fun k => m ((c : Thread nD τ).loc main_arg0) (ix2 (i 0) k))
     (fun k j => m ((c : Thread nD τ).loc main_arg2) (ix3 0 k j)) (fun e => m ((c : Thread nD τ).loc main_arg3) (ix2 0 e)) (i 1)

/-- The auxiliary result, once for each of the four row blocks of the grid. -/
def main1 (c : Dev nD) : Buf (Elt Ideal) ((c : Thread nD τ).loc main_v2_1) :=
  fun i : S4x32x2048.Idx => query (fun k => m ((c : Thread nD τ).loc main_arg1) (ix2 (i 1) k))
     (fun k j => m ((c : Thread nD τ).loc main_arg2) (ix3 0 k j)) (fun e => m ((c : Thread nD τ).loc main_arg3) (ix2 0 e)) (i 2)

/-- The gain's block is the gain. -/
theorem gblk (c : Dev nD) (t : Fin cfg0.N) (e : Fin 128) : iblk m c 3 t (ix2 0 e) = m ((c : Thread nD τ).loc main_arg3) (ix2 0 e) := by
  obtain ⟨e0, e1, e2, e3, e4, e5⟩ := idx0 t
  blk_ext [iblk, V, e3]

/-- A head's entry read through the blocks is the result's entry. -/
theorem block_query (c : Dev nD) (t : Fin cfg0.N) (x : Fin 2048 → EReal) (y : Fin 512) (j : Fin 2048) (hj : j.val = 512 * (t.val % 4) + y.val) :
    head (vals x (fun e k => X0_2 m c t (ix2 ⟨128 * (y.val / 128) + e.val, lt512 y e⟩ k))) (fun e => iblk m c 3 t (ix2 0 e)) ⟨y.val % 128, Nat.mod_lt _ (by omega)⟩ =
    query x (fun k j => m ((c : Thread nD τ).loc main_arg2) (ix3 0 k j)) (fun e => m ((c : Thread nD τ).loc main_arg3) (ix2 0 e)) j := by
  unfold query
  have hw : (fun (e : Fin 128) k => X0_2 m c t (ix2 ⟨128 * (y.val / 128) + e.val, lt512 y e⟩ k)) =
      fun (e : Fin 128) k => m ((c : Thread nD τ).loc main_arg2) (ix3 0 k ⟨3072 + (128 * (j.val / 128) + e.val), lt2048 j e⟩) := by
    funext e k
    rw [wblk]
    refine congrArg _ (congrArg (ix3 0 k) (Fin.ext ?_))
    show 3072 + (512 * (t.val % 4) + (128 * (y.val / 128) + e.val)) = 3072 + (128 * (j.val / 128) + e.val)
    omega
  have hg : (fun e => iblk m c 3 t (ix2 0 e)) = fun e => m ((c : Thread nD τ).loc main_arg3) (ix2 0 e) := funext (gblk m c t)
  rw [hg]
  refine congrArg₂ (fun w d => head (vals x w) _ d) hw (Fin.ext ?_)
  show y.val % 128 = j.val % 128
  omega

/-- The main result after the run: every block is written once and they fill the array. -/
theorem final4 (c : Dev nD) : (dats m 0 c).arrAt 4 cfg0.N = main0 m c := by
  refine (dats m 0 c).arrAt_eq_of_covers 4 _ (by decide +kernel) fun t hf y => ?_
  blk_simp
  rw [after0_4, out4_apply]
  obtain ⟨e0, e1, e2, e3, e4, e5⟩ := idx0 t
  unfold main0
  rw [block_query m c t _ (y 1) ((win0_4.blk t).view.emb y 1) (by show win0_4.index t 1 * 512 + 1 * (y 1).val = _; rw [e4]; simp; try omega)]
  refine congrArg (fun x => query x _ _ _) (funext fun k => ?_)
  blk_ext [iblk, V, e0, e4]

/-- The auxiliary result after the run. -/
theorem final5 (c : Dev nD) : (dats m 0 c).arrAt 5 cfg0.N = main1 m c := by
  refine (dats m 0 c).arrAt_eq_of_covers 5 _ (by decide +kernel) fun t hf y => ?_
  blk_simp
  rw [after0_5, out5_apply]
  obtain ⟨e0, e1, e2, e3, e4, e5⟩ := idx0 t
  unfold main1
  rw [block_query m c t _ (y 2) ((win0_5.blk t).view.emb y 2) (by show win0_5.index t 2 * 512 + 1 * (y 2).val = _; rw [e5]; simp; try omega)]
  refine congrArg (fun x => query x _ _ _) (funext fun k => ?_)
  blk_ext [iblk, V, e1, e5]

end Cert.Kernel5Ideal.RefValue

namespace Cert.Reference5Ideal.RefValue

open Cert.Reference5Ideal Cert.Reference5Ideal.Gen Idealize.ShloMosaic Idealize.ShloMosaic.TcCoe Idealize.SL.Sem
open Cert.Kernel5Ideal.RefValue (query head vals idx_lt1 idx_lt2 lt2048)

variable (m : (ℓ : Loc nD τ sig) → Buf (Elt Ideal) ℓ) (ρ : Dev nD → PrngReg)

/-- A product of rows with the query columns of the weights, at one entry. -/
theorem dot0 (a : FVec Ideal S8192x2048 .bf16) (w : FVec Ideal S1x2048x10256 .f32) (r : Fin 8192) (e : Fin 2048) :
    (Host.dotGeneral dot_S8192x2048_S2048x2048_S8192x2048_1_0_0_1_n_n none (extf FTy.f32 a bitsLt_bf16_f32)
      (extractStridedSlice S2048x2048 ![0, 3072] (shapeCast S2048x10256 w shapeCasts_S1x2048x10256_S2048x10256)
        slices_S2048x10256_S2048x2048_0_3072) : FVec Ideal S8192x2048 .f32) (ix2 r e) =
    ∑ k : Fin 2048, a (ix2 r k) * w (ix3 0 k ⟨3072 + e.val, by omega⟩) := by
  pointwise

/-- A head's normalised row, at one entry, from the row of products. -/
theorem norm0 (s : FVec Ideal S8192x2048 .f32) (g : FVec Ideal S1x128 .f32) (r : Fin 8192) (j : Fin 2048) :
    (truncf .bf16 (Host.divf (Host.divf (shapeCast S8192x2048 (mulf (mulf (shapeCast S8192x16x128 s shapeCasts_S8192x2048_S8192x16x128)
      (broadcastInDim S8192x16x128 ![0, 1, 2] bcast_S8192x16x1_S8192x16x128_0_1_2 (Host.rsqrt (addf (Host.divf
        (broadcastInDim S8192x16x1 ![0, 1] bcast_S8192x16_S8192x16x1_0_1 (Host.reduceAdd (mulf (shapeCast S8192x16x128 s shapeCasts_S8192x2048_S8192x16x128)
          (shapeCast S8192x16x128 s shapeCasts_S8192x2048_S8192x16x128)) (constant S_ .f32 0x00000000#32) reducesTo_S8192x16x128_S8192x16_d2 h_S_))
        (broadcastInDim S8192x16x1 ![] bcast_S_S8192x16x1 (constant S_ .f32 0x43000000#32)))
        (broadcastInDim S8192x16x1 ![] bcast_S_S8192x16x1 (constant S_ .f32 0x358637BD#32))))))
      (broadcastInDim S8192x16x128 ![0, 1, 2] bcast_S1x1x128_S8192x16x128_0_1_2 (broadcastInDim S1x1x128 ![2] bcast_S128_S1x1x128_2
        (shapeCast S128 g shapeCasts_S1x128_S128)))) shapeCasts_S8192x16x128_S8192x2048)
      (broadcastInDim S8192x2048 ![] bcast_S_S8192x2048 (Host.sqrt (constant S_ .f32 0x43000000#32))))
      (broadcastInDim S8192x2048 ![] bcast_S_S8192x2048 (Host.log (constant S_ .f32 0x40000000#32)))) bitsLt_bf16_f32 : FVec Ideal S8192x2048 .bf16) (ix2 r j) =
    head (fun e => s (ix2 r ⟨128 * (j.val / 128) + e.val, by omega⟩)) (fun e => g (ix2 0 e)) ⟨j.val % 128, Nat.mod_lt _ (by omega)⟩ := by
  unfold head
  rw [← Cert.Scale.two_div]
  pointwise
  simp only [Nat.mul_comm 128, Nat.div_add_mod', Fin.eta]

/-- The whole chain at one entry. -/
theorem full0 (a : FVec Ideal S8192x2048 .bf16) (w : FVec Ideal S1x2048x10256 .f32) (s : FVec Ideal S8192x2048 .f32)
    (hs : s = Host.dotGeneral dot_S8192x2048_S2048x2048_S8192x2048_1_0_0_1_n_n none (extf FTy.f32 a bitsLt_bf16_f32)
      (extractStridedSlice S2048x2048 ![0, 3072] (shapeCast S2048x10256 w shapeCasts_S1x2048x10256_S2048x10256)
        slices_S2048x10256_S2048x2048_0_3072)) (g : FVec Ideal S1x128 .f32) (r : Fin 8192) (j : Fin 2048) :
    head (fun e => s (ix2 r ⟨128 * (j.val / 128) + e.val, by omega⟩)) (fun e => g (ix2 0 e)) ⟨j.val % 128, Nat.mod_lt _ (by omega)⟩ =
    query (fun k => a (ix2 r k)) (fun k j => w (ix3 0 k j)) (fun e => g (ix2 0 e)) j := by
  subst hs
  unfold query
  refine congrArg (fun p => head p _ _) (funext fun e => ?_)
  exact dot0 a w r _

/-- A product of rows with the query columns of the weights, at one entry. -/
theorem dot1 (a : FVec Ideal S32x2048 .bf16) (w : FVec Ideal S1x2048x10256 .f32) (r : Fin 32) (e : Fin 2048) :
    (Host.dotGeneral dot_S32x2048_S2048x2048_S32x2048_1_0_0_1_n_n none (extf FTy.f32 a bitsLt_bf16_f32)
      (extractStridedSlice S2048x2048 ![0, 3072] (shapeCast S2048x10256 w shapeCasts_S1x2048x10256_S2048x10256)
        slices_S2048x10256_S2048x2048_0_3072) : FVec Ideal S32x2048 .f32) (ix2 r e) =
    ∑ k : Fin 2048, a (ix2 r k) * w (ix3 0 k ⟨3072 + e.val, by omega⟩) := by
  pointwise

/-- A head's normalised row, at one entry, from the row of products. -/
theorem norm1 (s : FVec Ideal S32x2048 .f32) (g : FVec Ideal S1x128 .f32) (r : Fin 32) (j : Fin 2048) :
    (truncf .bf16 (Host.divf (Host.divf (shapeCast S32x2048 (mulf (mulf (shapeCast S32x16x128 s shapeCasts_S32x2048_S32x16x128)
      (broadcastInDim S32x16x128 ![0, 1, 2] bcast_S32x16x1_S32x16x128_0_1_2 (Host.rsqrt (addf (Host.divf
        (broadcastInDim S32x16x1 ![0, 1] bcast_S32x16_S32x16x1_0_1 (Host.reduceAdd (mulf (shapeCast S32x16x128 s shapeCasts_S32x2048_S32x16x128)
          (shapeCast S32x16x128 s shapeCasts_S32x2048_S32x16x128)) (constant S_ .f32 0x00000000#32) reducesTo_S32x16x128_S32x16_d2 h_S_))
        (broadcastInDim S32x16x1 ![] bcast_S_S32x16x1 (constant S_ .f32 0x43000000#32)))
        (broadcastInDim S32x16x1 ![] bcast_S_S32x16x1 (constant S_ .f32 0x358637BD#32))))))
      (broadcastInDim S32x16x128 ![0, 1, 2] bcast_S1x1x128_S32x16x128_0_1_2 (broadcastInDim S1x1x128 ![2] bcast_S128_S1x1x128_2
        (shapeCast S128 g shapeCasts_S1x128_S128)))) shapeCasts_S32x16x128_S32x2048)
      (broadcastInDim S32x2048 ![] bcast_S_S32x2048 (Host.sqrt (constant S_ .f32 0x43000000#32))))
      (broadcastInDim S32x2048 ![] bcast_S_S32x2048 (Host.log (constant S_ .f32 0x40000000#32)))) bitsLt_bf16_f32 : FVec Ideal S32x2048 .bf16) (ix2 r j) =
    head (fun e => s (ix2 r ⟨128 * (j.val / 128) + e.val, by omega⟩)) (fun e => g (ix2 0 e)) ⟨j.val % 128, Nat.mod_lt _ (by omega)⟩ := by
  unfold head
  rw [← Cert.Scale.two_div]
  pointwise
  simp only [Nat.mul_comm 128, Nat.div_add_mod', Fin.eta]

/-- The whole chain at one entry. -/
theorem full1 (a : FVec Ideal S32x2048 .bf16) (w : FVec Ideal S1x2048x10256 .f32) (s : FVec Ideal S32x2048 .f32)
    (hs : s = Host.dotGeneral dot_S32x2048_S2048x2048_S32x2048_1_0_0_1_n_n none (extf FTy.f32 a bitsLt_bf16_f32)
      (extractStridedSlice S2048x2048 ![0, 3072] (shapeCast S2048x10256 w shapeCasts_S1x2048x10256_S2048x10256)
        slices_S2048x10256_S2048x2048_0_3072)) (g : FVec Ideal S1x128 .f32) (r : Fin 32) (j : Fin 2048) :
    head (fun e => s (ix2 r ⟨128 * (j.val / 128) + e.val, by omega⟩)) (fun e => g (ix2 0 e)) ⟨j.val % 128, Nat.mod_lt _ (by omega)⟩ =
    query (fun k => a (ix2 r k)) (fun k j => w (ix3 0 k j)) (fun e => g (ix2 0 e)) j := by
  subst hs
  unfold query
  refine congrArg (fun p => head p _ _) (funext fun e => ?_)
  exact dot1 a w r _

/-- Repeating the auxiliary rows for each of the four row blocks. -/
theorem rep1 (s : FVec Ideal S32x2048 .bf16) (i : S4x32x2048.Idx) :
    (broadcastInDim S4x32x2048 ![0, 1, 2] bcast_S1x32x2048_S4x32x2048_0_1_2 (broadcastInDim S1x32x2048 ![1, 2] bcast_S32x2048_S1x32x2048_1_2 s)
      : FVec Ideal S4x32x2048 .bf16) i = s (ix2 (i 1) (i 2)) := by
  pointwise

/-- The reference's run: both results are the same tables. -/
theorem run : θ_run defs (onTc (τ := τ) (main (F := Ideal))) ⟨m, fun _ => 0, ρ⟩ fun r => ∀ c : Dev nD,
      (∀ (a : Fin 8192) (j : Fin 2048), r.2.mem ((c.tc : Thread nD τ).loc main_v26) (ix2 a j) = query (fun k => m ((c.tc : Thread nD τ).loc main_arg0) (ix2 a k))
        (fun k j => m ((c.tc : Thread nD τ).loc main_arg2) (ix3 0 k j)) (fun e => m ((c.tc : Thread nD τ).loc main_arg3) (ix2 0 e)) j)
      ∧ (∀ i : S4x32x2048.Idx, r.2.mem ((c.tc : Thread nD τ).loc main_v55) i = query (fun k => m ((c.tc : Thread nD τ).loc main_arg1) (ix2 (i 1) k))
        (fun k j => m ((c.tc : Thread nD τ).loc main_arg2) (ix3 0 k j)) (fun e => m ((c.tc : Thread nD τ).loc main_arg3) (ix2 0 e)) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun a j => ?_, fun i => ?_, (h c).2.2⟩) (Cert.Reference5Ideal.Value.run m ρ)
  · rw [(h c).1]
    exact (norm0 _ _ a j).trans (full0 _ _ _ rfl _ a j)
  · rw [(h c).2.1]
    exact (rep1 _ i).trans ((norm1 _ _ (i 1) (i 2)).trans (full1 _ _ _ rfl _ (i 1) (i 2)))

end Cert.Reference5Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.FoxSame
public import proofs.«01_k».proof.Proof.Forget8
public import proofs.«01_k».proof.Proof.Gates
public import proofs.«01_k».proof.Proof.FfnRun
public import proofs.«01_k».proof.Proof.Ffn
public import proofs.«01_k».proof.Proof.OutProj
public import proofs.«01_k».proof.Proof.ProjSq
public import proofs.«01_k».proof.Proof.ProjFq
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Finite
public import proofs.«01_k».proof.Proof.Forget
public import Idealize.ShloMosaic.Adequacy
public import Idealize.ShloMosaic.Init
public import Idealize.ShloMosaic.Lib.Quiescent
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite8
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run

@[expose] public section

noncomputable section

namespace Cert.Proof

open Idealize.ShloMosaic Idealize.SL.Sem

/-- The reference of the gates runs, keeps its arguments and has no counter. -/
theorem frame_gates_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both runs of the gate projection end with the same gates. -/
theorem algebraic_gates : Cert.algebraic_KernelIdeal_ReferenceIdeal := by
  intro m ρ m' ρ' _ hagree
  refine ⟨fun c => Cert.KernelIdeal.RefValue.gates0 m c, fun c => Cert.KernelIdeal.RefValue.gates1 m c, ?_, ?_⟩
  · refine (θ_run _ _ _).mono (fun r h c => ⟨(h c).1.trans (Cert.KernelIdeal.RefValue.final4 m c),
      (h c).2.1.trans (Cert.KernelIdeal.RefValue.final5 m c), (h c).2.2⟩) (Cert.KernelIdeal.Value.run_blocks m ρ)
  · refine (θ_run _ _ _).mono (fun r h c => ⟨?_, ?_, (h c).2.2⟩) (Cert.ReferenceIdeal.RefValue.run m' ρ')
    · funext i
      refine ((h c).1 i).trans ?_
      rw [(hagree c).1, (hagree c).2.2.1]
      rfl
    · funext i
      refine ((h c).2.1 i).trans ?_
      rw [(hagree c).2.1, (hagree c).2.2.1]
      rfl

/-- The reference of call 2 runs, keeps its arguments and has no counter. -/
theorem frame_ffn_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference of call 3 runs, keeps its arguments and has no counter. -/
theorem frame_out_proj_ref : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference of call 4 runs, keeps its arguments and has no counter. -/
theorem frame_proj_sq_ref : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference of call 5 runs, keeps its arguments and has no counter. -/
theorem frame_proj_fq_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The two texts of the feed-forward's body are one text. -/
theorem ffn_body : @Cert.Kernel2.defs₀ Bits _ Cert.Kernel2.Gen.facts = @Cert.Kernel2Ideal.defs₀ Bits _ Cert.Kernel2Ideal.Gen.facts := by
  funext l k x
  cases l with
  | tc =>
    match k, x with
    | 0, (t, s) => rfl
  | _ => rfl

/-- So are their body tables. -/
theorem ffn_bodies : @Cert.Kernel2.defs Bits _ Cert.Kernel2.Gen.facts = @Cert.Kernel2Ideal.defs Bits _ Cert.Kernel2Ideal.Gen.facts :=
  congrArg (Pipeline.defs Cert.Kernel2.pcfgs) ffn_body

/-- The feed-forward's run over any floats gives the frame of the program as printed. -/
theorem frame_ffn : @Cert.quiescent_Kernel2 Cert.Kernel2.Gen.facts := by
  intro m ρ _
  have h := Cert.Kernel2Ideal.FfnRun.frame (F := Bits) m ρ
  rw [ffn_bodies]
  exact h

/-- Both runs of the feed-forward end with the same rows. -/
theorem algebraic_ffn : Cert.algebraic_Kernel2Ideal_Reference2Ideal := by
  intro m ρ m' ρ' _ hagree
  refine ⟨fun c => Cert.Kernel2Ideal.RefValue.main0 m c, fun c => Cert.Kernel2Ideal.RefValue.main1 m c, ?_, ?_⟩
  · refine (θ_run _ _ _).mono (fun r h c => ⟨((h.1 c).1 5).trans (Cert.Kernel2Ideal.RefValue.final5 m c),
      ((h.1 c).1 6).trans (Cert.Kernel2Ideal.RefValue.final6 m c), Cert.Kernel2Ideal.RefValue.kept m r h.1 c⟩) (Cert.Kernel2Ideal.FfnRun.run_main m ρ)
  · refine (θ_run _ _ _).mono (fun r h c => ⟨?_, ?_, (h c).2.2⟩) (Cert.Reference2Ideal.RefValue.run m' ρ')
    · funext i
      obtain ⟨a, e, rfl⟩ : ∃ (a : Fin 8192) (e : Fin 2048), i = ix2 a e := ⟨i 0, i 1, by funext b; match b with | ⟨0, _⟩ => rfl | ⟨1, _⟩ => rfl⟩
      refine ((h c).1 a e).trans ?_
      rw [(hagree c).1, (hagree c).2.2.1, (hagree c).2.2.2.1, (hagree c).2.2.2.2]
      rfl
    · funext i
      obtain ⟨a, e, rfl⟩ : ∃ (a : Fin 32) (e : Fin 2048), i = ix2 a e := ⟨i 0, i 1, by funext b; match b with | ⟨0, _⟩ => rfl | ⟨1, _⟩ => rfl⟩
      refine ((h c).2.1 a e).trans ?_
      rw [(hagree c).2.1, (hagree c).2.2.1, (hagree c).2.2.2.1, (hagree c).2.2.2.2]
      rfl

/-- Both runs of the output projection end with the same rows. -/
theorem algebraic_out_proj : Cert.algebraic_Kernel3Ideal_Reference3Ideal := by
  intro m ρ m' ρ' _ hagree
  refine ⟨fun c => Cert.Kernel3Ideal.RefValue.main0 m c, fun c => Cert.Kernel3Ideal.RefValue.main1 m c, ?_, ?_⟩
  · refine (θ_run _ _ _).mono (fun r h c => ⟨(h c).1.trans (Cert.Kernel3Ideal.RefValue.final5 m c),
      (h c).2.1.trans (Cert.Kernel3Ideal.RefValue.final6 m c), (h c).2.2⟩) (Cert.Kernel3Ideal.Value.run_blocks m ρ)
  · refine (θ_run _ _ _).mono (fun r h c => ⟨?_, ?_, (h c).2.2⟩) (Cert.Reference3Ideal.RefValue.run m' ρ')
    · funext i
      refine ((h c).1 i).trans ?_
      rw [(hagree c).1, (hagree c).2.2.1, (hagree c).2.2.2.1]
      rfl
    · funext i
      refine ((h c).2.1 i).trans ?_
      rw [(hagree c).2.1, (hagree c).2.2.1, (hagree c).2.2.2.2]
      rfl

/-- Both runs of the stick-breaking query projection end with the same scaled queries. -/
theorem algebraic_proj_sq : Cert.algebraic_Kernel4Ideal_Reference4Ideal := by
  intro m ρ m' ρ' _ hagree
  refine ⟨fun c => Cert.Kernel4Ideal.RefValue.main0 m c, fun c => Cert.Kernel4Ideal.RefValue.main1 m c, ?_, ?_⟩
  · refine (θ_run _ _ _).mono (fun r h c => ⟨(h c).1.trans (Cert.Kernel4Ideal.RefValue.final4 m c),
      (h c).2.1.trans (Cert.Kernel4Ideal.RefValue.final5 m c), (h c).2.2⟩) (Cert.Kernel4Ideal.Value.run_blocks m ρ)
  · refine (θ_run _ _ _).mono (fun r h c => ⟨?_, ?_, (h c).2.2⟩) (Cert.Reference4Ideal.RefValue.run m' ρ')
    · funext i
      refine ((h c).1 i).trans ?_
      rw [(hagree c).1, (hagree c).2.2.1]
      rfl
    · funext i
      refine ((h c).2.1 i).trans ?_
      rw [(hagree c).2.1, (hagree c).2.2.1]
      rfl

/-- Both runs of the forgetting query projection end with the same normalised, scaled queries. -/
theorem algebraic_proj_fq : Cert.algebraic_Kernel5Ideal_Reference5Ideal := by
  intro m ρ m' ρ' _ hagree
  refine ⟨fun c => Cert.Kernel5Ideal.RefValue.main0 m c, fun c => Cert.Kernel5Ideal.RefValue.main1 m c, ?_, ?_⟩
  · refine (θ_run _ _ _).mono (fun r h c => ⟨(h c).1.trans (Cert.Kernel5Ideal.RefValue.final4 m c),
      (h c).2.1.trans (Cert.Kernel5Ideal.RefValue.final5 m c), (h c).2.2⟩) (Cert.Kernel5Ideal.Value.run_blocks m ρ)
  · refine (θ_run _ _ _).mono (fun r h c => ⟨?_, ?_, (h c).2.2⟩) (Cert.Reference5Ideal.RefValue.run m' ρ')
    · funext i
      obtain ⟨a, e, rfl⟩ : ∃ (a : Fin 8192) (e : Fin 2048), i = ix2 a e := ⟨i 0, i 1, by funext b; match b with | ⟨0, _⟩ => rfl | ⟨1, _⟩ => rfl⟩
      refine ((h c).1 a e).trans ?_
      rw [(hagree c).1, (hagree c).2.2.1, (hagree c).2.2.2]
      rfl
    · funext i
      refine ((h c).2.1 i).trans ?_
      rw [(hagree c).2.1, (hagree c).2.2.1, (hagree c).2.2.2]
      rfl

/-- The scale's name, at the value it stands for. -/
theorem scale_sq : Cert.preserves_Kernel4_Kernel4Ideal :=
  IdealRules.named_const.statement Cert.Kernel4Ideal.κ "scale" .f32 0x3E0293EE#32 (((Real.sqrt 128)⁻¹ * (Real.log 2)⁻¹ : ℝ) : EReal) rfl

/-- The same for the forgetting queries. -/
theorem scale_fq : Cert.preserves_Kernel5_Kernel5Ideal :=
  IdealRules.named_const.statement Cert.Kernel5Ideal.κ "scale" .f32 0x3E0293EE#32 (((Real.sqrt 128)⁻¹ * (Real.log 2)⁻¹ : ℝ) : EReal) rfl

/-- The reference of call 6 runs, keeps its arguments and has no counter. -/
theorem frame_forget_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The precondition, read entry by entry. -/
theorem fin6 (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) : Cert.Kernel6Ideal.RefValue.Fin6 m c where
  x i := Cert.Finite.real_of_word _ (congrFun (h c).1 i)
  g i := Cert.Finite.real_of_word _ (congrFun (h c).2.1 i)
  w k e := Cert.Finite.real_of_word _ ((congrArg (fun z : EReal => Ideal.cmp .olt (max z (-z)) (Ideal.ofBits .f32 0x7F800000#32)) (by
    pointwise)).trans (congrFun (h c).2.2 (ix2 k e)))

/-- Both runs of the normalisation and the forget gates end with the same rows and logarithms. -/
theorem algebraic_forget : Cert.algebraic_Kernel6Ideal_Reference6Ideal_pre_finite6 := by
  intro m ρ m' ρ' hpre hagree
  refine ⟨fun c => Cert.Kernel6Ideal.RefValue.main0 m c, fun c => Cert.Kernel6Ideal.RefValue.main1 m c, ?_, ?_⟩
  · refine (θ_run _ _ _).mono (fun r h c => ⟨(h c).1.trans (Cert.Kernel6Ideal.RefValue.final5 m c),
      (h c).2.1.trans (Cert.Kernel6Ideal.RefValue.final6 m c (fin6 m hpre c)), (h c).2.2⟩) (Cert.Kernel6Ideal.Value.run_blocks m ρ)
  · refine (θ_run _ _ _).mono (fun r h c => ⟨?_, ?_, (h c).2.2⟩) (Cert.Reference6Ideal.RefValue.run m' ρ')
    · funext i
      refine ((h c).1 i).trans ?_
      rw [(hagree c).1, (hagree c).2.1]
      rfl
    · funext i
      obtain ⟨a, e, rfl⟩ : ∃ (a : Fin 8192) (e : Fin 16), i = ix2 a e := ⟨i 0, i 1, by funext b; match b with | ⟨0, _⟩ => rfl | ⟨1, _⟩ => rfl⟩
      refine ((h c).2.1 a e).trans ?_
      rw [(hagree c).1, (hagree c).2.1, (hagree c).2.2.1, (hagree c).2.2.2]
      rfl

/-- The mask's name: the literal of large magnitude stands for minus infinity. -/
theorem mask_fox : Cert.preserves_Kernel7_Kernel7Ideal :=
  IdealRules.named_const.statement Cert.Kernel7Ideal.κ "masked" .f32 0xF149F2CA#32 ⊥ rfl

/-- The attention's reference runs, keeps its arguments and has no counter. -/
theorem frame_fox_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The attention's precondition, read entry by entry. -/
theorem fin7 (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) :
    Cert.FoxRow.Fin7 (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4)) where
  q i := Cert.Finite.real_of_word _ (congrFun (h c).1 i)
  kv k e := Cert.Finite.real_of_word _ ((congrArg (fun z : EReal => Ideal.cmp .olt (max z (-z)) (Ideal.ofBits .f32 0x7F800000#32)) (by
    pointwise)).trans (congrFun (h c).2.1 (ix2 k e)))
  aux k e := Cert.Finite.real_of_word _ ((congrArg (fun z : EReal => Ideal.cmp .olt (max z (-z)) (Ideal.ofBits .f32 0x7F800000#32)) (by
    pointwise)).trans (congrFun (h c).2.2.1 (ix2 k e)))
  cm b e k := Cert.Finite.real_of_word _ ((congrArg (fun z : EReal => Ideal.cmp .olt (max z (-z)) (Ideal.ofBits .f32 0x7F800000#32)) (by
    pointwise)).trans (congrFun (h c).2.2.2.1 (ix3 b e k)))
  ck i := Cert.Finite.real_of_word _ (congrFun (h c).2.2.2.2 i)

/-- Both runs of the attention end with the same gated rows. -/
theorem algebraic_fox : Cert.algebraic_Kernel7Ideal_Reference7Ideal_pre_finite7 := by
  intro m ρ m' ρ' hpre hagree
  refine ⟨fun c => (Cert.Kernel7Ideal.Gen.dats m 0 c).arrAt 9 Cert.Kernel7Ideal.cfg0.N, Cert.Kernel7Ideal.Value.run_blocks m ρ, ?_⟩
  refine (θ_run _ _ _).mono (fun r h c => ⟨(h c).1.trans ?_, (h c).2⟩) (Cert.Reference7Ideal.Value.run (F := Ideal) m' ρ')
  obtain ⟨h0, h1, h2, h3, h4, h5, h6⟩ := hagree c
  exact Cert.Kernel7Ideal.Fox.same m c (fin7 m hpre c) m' c h0 h1 h2 h3 h4 h5 h6

/-- The reference of call 8 runs, keeps its arguments and has no counter. -/
theorem frame_forget_aux_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The precondition of call 8, read entry by entry. -/
theorem fin8 (m : (ℓ : Loc Cert.Kernel8Ideal.nD Cert.Kernel8Ideal.τ Cert.Kernel8Ideal.sig) → Buf (Elt Ideal) ℓ)
    (h : Cert.Pre_Kernel8Ideal_finite8 m) (c : Dev Cert.Kernel8Ideal.nD) : Cert.Kernel8Ideal.RefValue.Fin8 m c where
  x i := Cert.Finite.real_of_word _ (congrFun (h c).1 i)
  g i := Cert.Finite.real_of_word _ (congrFun (h c).2.1 i)
  w k e := Cert.Finite.real_of_word _ ((congrArg (fun z : EReal => Ideal.cmp .olt (max z (-z)) (Ideal.ofBits .f32 0x7F800000#32)) (by
    pointwise)).trans (congrFun (h c).2.2 (ix2 k e)))

/-- Both runs of the normalisation and the forget gates end with the same rows and logarithms, on the auxiliary rows. -/
theorem algebraic_forget_aux : Cert.algebraic_Kernel8Ideal_Reference8Ideal_pre_finite8 := by
  intro m ρ m' ρ' hpre hagree
  refine ⟨fun c => Cert.Kernel8Ideal.RefValue.main0 m c, fun c => Cert.Kernel8Ideal.RefValue.main1 m c, ?_, ?_⟩
  · refine (θ_run _ _ _).mono (fun r h c => ⟨(h c).1.trans (Cert.Kernel8Ideal.RefValue.final5 m c),
      (h c).2.1.trans (Cert.Kernel8Ideal.RefValue.final6 m c (fin8 m hpre c)), (h c).2.2⟩) (Cert.Kernel8Ideal.Value.run_blocks m ρ)
  · refine (θ_run _ _ _).mono (fun r h c => ⟨?_, ?_, (h c).2.2⟩) (Cert.Reference8Ideal.RefValue.run m' ρ')
    · funext i
      refine ((h c).1 i).trans ?_
      rw [(hagree c).1, (hagree c).2.1]
      rfl
    · funext i
      obtain ⟨a, e, rfl⟩ : ∃ (a : Fin 32) (e : Fin 16), i = ix2 a e := ⟨i 0, i 1, by funext b; match b with | ⟨0, _⟩ => rfl | ⟨1, _⟩ => rfl⟩
      refine ((h c).2.1 a e).trans ?_
      rw [(hagree c).1, (hagree c).2.1, (hagree c).2.2.1, (hagree c).2.2.2]
      rfl

/-- Every claim of this certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite6.Gen.facts, Cert.Pre_finite7.Gen.facts, Cert.Pre_finite8.Gen.facts,
  fun m ρ _ => Cert.Kernel.Gen.frame m ρ, fun m ρ _ => Cert.KernelIdeal.Gen.frame m ρ, frame_gates_ref,
  frame_ffn, fun m ρ _ => Cert.Kernel2Ideal.FfnRun.frame m ρ, frame_ffn_ref,
  fun m ρ _ => Cert.Kernel3.Gen.frame m ρ, fun m ρ _ => Cert.Kernel3Ideal.Gen.frame m ρ, frame_out_proj_ref,
  fun m ρ _ => Cert.Kernel4.Gen.frame m ρ, fun m ρ _ => Cert.Kernel4Ideal.Gen.frame m ρ, frame_proj_sq_ref,
  fun m ρ _ => Cert.Kernel5.Gen.frame m ρ, fun m ρ _ => Cert.Kernel5Ideal.Gen.frame m ρ, frame_proj_fq_ref,
  fun m ρ _ => Cert.Kernel6.Gen.frame m ρ, fun m ρ _ => Cert.Kernel6Ideal.Gen.frame m ρ, fun m ρ _ => Cert.Kernel6Ideal.Gen.frame m ρ,
  frame_forget_ref, fun m ρ _ => frame_forget_ref m ρ trivial,
  fun m ρ _ => Cert.Kernel7.Gen.frame m ρ, fun m ρ _ => Cert.Kernel7Ideal.Gen.frame m ρ, fun m ρ _ => Cert.Kernel7Ideal.Gen.frame m ρ,
  frame_fox_ref, fun m ρ _ => frame_fox_ref m ρ trivial,
  fun m ρ _ => Cert.Kernel8.Gen.frame m ρ, fun m ρ _ => Cert.Kernel8Ideal.Gen.frame m ρ, fun m ρ _ => Cert.Kernel8Ideal.Gen.frame m ρ,
  frame_forget_aux_ref, fun m ρ _ => frame_forget_aux_ref m ρ trivial,
  trivial, algebraic_gates, trivial, algebraic_ffn, trivial, algebraic_out_proj, scale_sq, algebraic_proj_sq, scale_fq, algebraic_proj_fq,
  trivial, algebraic_forget, mask_fox, algebraic_fox, trivial, algebraic_forget_aux⟩

end Cert.Proof

end
